-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v416) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_finite_in_range : Cert.Pre_finite_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S4x96x224x224 : Shape := ⟨4, ![4, 96, 224, 224]⟩
abbrev S96x7x16 : Shape := ⟨3, ![96, 7, 16]⟩
abbrev S96x8 : Shape := ⟨2, ![96, 8]⟩
abbrev S_ : Shape := ⟨0, ![]⟩

class Facts : Prop where
  bcast_S_S96x8 : S_.BroadcastsInDim S96x8 (![] : Fin 0 → Fin S96x8.rank)
  reducesTo_S96x8_S_d0_1 : S96x8.ReducesTo [0, 1] S_
  h_S_ : 0 < S_.numel
  bcast_S_S4x96x224x224 : S_.BroadcastsInDim S4x96x224x224 (![] : Fin 0 → Fin S4x96x224x224.rank)
  reducesTo_S4x96x224x224_S_d0_1_2_3 : S4x96x224x224.ReducesTo [0, 1, 2, 3] S_
  bcast_S_S96x7x16 : S_.BroadcastsInDim S96x7x16 (![] : Fin 0 → Fin S96x7x16.rank)
  reducesTo_S96x7x16_S_d0_1_2 : S96x7x16.ReducesTo [0, 1, 2] S_

variable [Facts]

def fn_part1 {F : FTy → Type} [FloatOps F] (main_arg1 : FVec F S96x7x16 .f32) (main_v12 : IVec S_ 1) (main_v14 : IVec S96x7x16 1) (main_v15 : FVec F S96x7x16 .f32) : IVec S_ 1 :=
  let main_v16 : IVec S96x7x16 1 := cmpf .olt main_arg1 main_v15
  let main_v17 : IVec S96x7x16 1 := andi main_v14 main_v16
  let main_c_6 : IVec S_ 1 := constantI S_ 1 1#1
  let main_v18 : IVec S_ 1 := (fun x v => Host.reduce IntOp.andi x v reducesTo_S96x7x16_S_d0_1_2 h_S_) main_v17 main_c_6
  let main_v19 : IVec S_ 1 := andi main_v12 main_v18
  main_v19

def fn {F : FTy → Type} [FloatOps F] (main_arg0 : FVec F S4x96x224x224 .f32) (main_arg1 : FVec F S96x7x16 .f32) (main_arg2 : IVec S96x8 32) : IVec S_ 1 :=
  let main_c : IVec S_ 32 := constantI S_ 32 0#32
  let main_v0 : IVec S96x8 32 := broadcastInDim S96x8 ![] bcast_S_S96x8 main_c
  let main_v1 : IVec S96x8 1 := cmpi .sge main_arg2 main_v0
  let main_c_0 : IVec S_ 32 := constantI S_ 32 864#32
  let main_v2 : IVec S96x8 32 := broadcastInDim S96x8 ![] bcast_S_S96x8 main_c_0
  let main_v3 : IVec S96x8 1 := cmpi .slt main_arg2 main_v2
  let main_v4 : IVec S96x8 1 := andi main_v1 main_v3
  let main_c_1 : IVec S_ 1 := constantI S_ 1 1#1
  let main_v5 : IVec S_ 1 := (fun x v => Host.reduce IntOp.andi x v reducesTo_S96x8_S_d0_1 h_S_) main_v4 main_c_1
  let main_cst : FVec F S_ .f32 := constant S_ .f32 0xFF800000#32
  let main_v6 : FVec F S4x96x224x224 .f32 := broadcastInDim S4x96x224x224 ![] bcast_S_S4x96x224x224 main_cst
  let main_v7 : IVec S4x96x224x224 1 := cmpf .ogt main_arg0 main_v6
  let main_cst_2 : FVec F S_ .f32 := constant S_ .f32 0x7F800000#32
  let main_v8 : FVec F S4x96x224x224 .f32 := broadcastInDim S4x96x224x224 ![] bcast_S_S4x96x224x224 main_cst_2
  let main_v9 : IVec S4x96x224x224 1 := cmpf .olt main_arg0 main_v8
  let main_v10 : IVec S4x96x224x224 1 := andi main_v7 main_v9
  let main_c_3 : IVec S_ 1 := constantI S_ 1 1#1
  let main_v11 : IVec S_ 1 := (fun x v => Host.reduce IntOp.andi x v reducesTo_S4x96x224x224_S_d0_1_2_3 h_S_) main_v10 main_c_3
  let main_v12 : IVec S_ 1 := andi main_v5 main_v11
  let main_cst_4 : FVec F S_ .f32 := constant S_ .f32 0xFF800000#32
  let main_v13 : FVec F S96x7x16 .f32 := broadcastInDim S96x7x16 ![] bcast_S_S96x7x16 main_cst_4
  let main_v14 : IVec S96x7x16 1 := cmpf .ogt main_arg1 main_v13
  let main_cst_5 : FVec F S_ .f32 := constant S_ .f32 0x7F800000#32
  let main_v15 : FVec F S96x7x16 .f32 := broadcastInDim S96x7x16 ![] bcast_S_S96x7x16 main_cst_5
  fn_part1 (F := F) main_arg1 main_v12 main_v14 main_v15
-- ==== Pre_indices_in_range.lean ====
abbrev S4x96x224x224 : Shape := ⟨4, ![4, 96, 224, 224]⟩
abbrev S96x7x16 : Shape := ⟨3, ![96, 7, 16]⟩
abbrev S96x8 : Shape := ⟨2, ![96, 8]⟩
abbrev S_ : Shape := ⟨0, ![]⟩

class Facts : Prop where
  bcast_S_S96x8 : S_.BroadcastsInDim S96x8 (![] : Fin 0 → Fin S96x8.rank)
  reducesTo_S96x8_S_d0_1 : S96x8.ReducesTo [0, 1] S_
  h_S_ : 0 < S_.numel

variable [Facts]

def fn {F : FTy → Type} [FloatOps F] (main_arg0 : FVec F S4x96x224x224 .f32) (main_arg1 : FVec F S96x7x16 .f32) (main_arg2 : IVec S96x8 32) : IVec S_ 1 :=
  let main_c : IVec S_ 32 := constantI S_ 32 0#32
  let main_v0 : IVec S96x8 32 := broadcastInDim S96x8 ![] bcast_S_S96x8 main_c
  let main_v1 : IVec S96x8 1 := cmpi .sge main_arg2 main_v0
  let main_c_0 : IVec S_ 32 := constantI S_ 32 864#32
  let main_v2 : IVec S96x8 32 := broadcastInDim S96x8 ![] bcast_S_S96x8 main_c_0
  let main_v3 : IVec S96x8 1 := cmpi .slt main_arg2 main_v2
  let main_v4 : IVec S96x8 1 := andi main_v1 main_v3
  let main_c_1 : IVec S_ 1 := constantI S_ 1 1#1
  let main_v5 : IVec S_ 1 := (fun x v => Host.reduce IntOp.andi x v reducesTo_S96x8_S_d0_1 h_S_) main_v4 main_c_1
  main_v5
-- ==== Kernel.lean ====
abbrev S4x96x224x224 : Shape := ⟨4, ![4, 96, 224, 224]⟩
abbrev S96x7x16 : Shape := ⟨3, ![96, 7, 16]⟩
abbrev S96x8 : Shape := ⟨2, ![96, 8]⟩
abbrev S16x4 : Shape := ⟨2, ![16, 4]⟩
abbrev S_ : Shape := ⟨0, ![]⟩
abbrev S96x7 : Shape := ⟨2, ![96, 7]⟩
abbrev S96x7x1 : Shape := ⟨3, ![96, 7, 1]⟩
abbrev S96x7x16x1 : Shape := ⟨4, ![96, 7, 16, 1]⟩
abbrev S1x1x16x4 : Shape := ⟨4, ![1, 1, 16, 4]⟩
abbrev S96x7x16x4 : Shape := ⟨4, ![96, 7, 16, 4]⟩
abbrev S96x7x4 : Shape := ⟨3, ![96, 7, 4]⟩
abbrev S1x96x8 : Shape := ⟨3, ![1, 96, 8]⟩
abbrev S3x96x8 : Shape := ⟨3, ![3, 96, 8]⟩
abbrev S4x96x112x112 : Shape := ⟨4, ![4, 96, 112, 112]⟩
abbrev S1x24x224x224 : Shape := ⟨4, ![1, 24, 224, 224]⟩
abbrev S1x96x112x112 : Shape := ⟨4, ![1, 96, 112, 112]⟩
abbrev S3x96x232x128 : Shape := ⟨4, ![3, 96, 232, 128]⟩
abbrev S3x96x8x128 : Shape := ⟨4, ![3, 96, 8, 128]⟩
abbrev S224x256 : Shape := ⟨2, ![224, 256]⟩
abbrev S1x1x224x224 : Shape := ⟨4, ![1, 1, 224, 224]⟩
abbrev S224x224 : Shape := ⟨2, ![224, 224]⟩
abbrev S224x128 : Shape := ⟨2, ![224, 128]⟩
abbrev S1x1x224x128 : Shape := ⟨4, ![1, 1, 224, 128]⟩
abbrev S224x1 : Shape := ⟨2, ![224, 1]⟩
abbrev S224x127 : Shape := ⟨2, ![224, 127]⟩
abbrev S1x1x1 : Shape := ⟨3, ![1, 1, 1]⟩
abbrev S1x1x112x128 : Shape := ⟨4, ![1, 1, 112, 128]⟩
abbrev S112x128 : Shape := ⟨2, ![112, 128]⟩
abbrev S112x112 : Shape := ⟨2, ![112, 112]⟩
abbrev S1x1x112x112 : Shape := ⟨4, ![1, 1, 112, 112]⟩

abbrev nBuf : Space → Nat
  | .hbm => 110
  | .vmem => 5
  | .smem => 2
  | _ => 0

abbrev bufTy : (tb : Table) → Fin (tcTables nBuf tb) → BufTy
  | .hbm, ⟨0, _⟩ => ⟨S4x96x224x224, .f32⟩
  | .hbm, ⟨1, _⟩ => ⟨S96x7x16, .f32⟩
  | .hbm, ⟨2, _⟩ => ⟨S96x8, .i32⟩
  | .hbm, ⟨3, _⟩ => ⟨S16x4, .f32⟩
  | .hbm, ⟨4, _⟩ => ⟨S_, .f32⟩
  | .hbm, ⟨5, _⟩ => ⟨S96x7, .f32⟩
  | .hbm, ⟨6, _⟩ => ⟨S_, .f32⟩
  | .hbm, ⟨7, _⟩ => ⟨S96x7, .f32⟩
  | .hbm, ⟨8, _⟩ => ⟨S96x7, .f32⟩
  | .hbm, ⟨9, _⟩ => ⟨S96x7x1, .f32⟩
  | .hbm, ⟨10, _⟩ => ⟨S96x7x16, .f32⟩
  | .hbm, ⟨11, _⟩ => ⟨S96x7x16, .f32⟩
  | .hbm, ⟨12, _⟩ => ⟨S96x7x16, .f32⟩
  | .hbm, ⟨13, _⟩ => ⟨S_, .f32⟩
  | .hbm, ⟨14, _⟩ => ⟨S96x7, .f32⟩
  | .hbm, ⟨15, _⟩ => ⟨S96x7x1, .f32⟩
  | .hbm, ⟨16, _⟩ => ⟨S96x7x16, .f32⟩
  | .hbm, ⟨17, _⟩ => ⟨S96x7x16, .f32⟩
  | .hbm, ⟨18, _⟩ => ⟨S96x7x16x1, .f32⟩
  | .hbm, ⟨19, _⟩ => ⟨S1x1x16x4, .f32⟩
  | .hbm, ⟨20, _⟩ => ⟨S96x7x16x4, .f32⟩
  | .hbm, ⟨21, _⟩ => ⟨S96x7x16x4, .f32⟩
  | .hbm, ⟨22, _⟩ => ⟨S96x7x16x4, .f32⟩
  | .hbm, ⟨23, _⟩ => ⟨S_, .f32⟩
  | .hbm, ⟨24, _⟩ => ⟨S96x7x4, .f32⟩
  | .hbm, ⟨25, _⟩ => ⟨S_, .i32⟩
  | .hbm, ⟨26, _⟩ => ⟨S_, .i32⟩
  | .hbm, ⟨27, _⟩ => ⟨S96x8, .i32⟩
  | .hbm, ⟨28, _⟩ => ⟨S96x8, .i32⟩
  | .hbm, ⟨29, _⟩ => ⟨S96x8, .i32⟩
  | .hbm, ⟨30, _⟩ => ⟨S_, .i32⟩
  | .hbm, ⟨31, _⟩ => ⟨S96x8, .i32⟩
  | .hbm, ⟨32, _⟩ => ⟨S96x8, .i1⟩
  | .hbm, ⟨33, _⟩ => ⟨S96x8, .i32⟩
  | .hbm, ⟨34, _⟩ => ⟨S96x8, .i32⟩
  | .hbm, ⟨35, _⟩ => ⟨S_, .i32⟩
  | .hbm, ⟨36, _⟩ => ⟨S96x8, .i32⟩
  | .hbm, ⟨37, _⟩ => ⟨S96x8, .i1⟩
  | .hbm, ⟨38, _⟩ => ⟨S96x8, .i1⟩
  | .hbm, ⟨39, _⟩ => ⟨S_, .i32⟩
  | .hbm, ⟨40, _⟩ => ⟨S96x8, .i32⟩
  | .hbm, ⟨41, _⟩ => ⟨S96x8, .i32⟩
  | .hbm, ⟨42, _⟩ => ⟨S96x8, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S96x8, .i32⟩
  | .hbm, ⟨50, _⟩ => ⟨S96x8, .i32⟩
  | .hbm, ⟨51, _⟩ => ⟨S_, .i32⟩
  | .hbm, ⟨52, _⟩ => ⟨S96x8, .i32⟩
  | .hbm, ⟨53, _⟩ => ⟨S96x8, .i1⟩
  | .hbm, ⟨54, _⟩ => ⟨S_, .i32⟩
  | .hbm, ⟨55, _⟩ => ⟨S96x8, .i32⟩
  | .hbm, ⟨56, _⟩ => ⟨S96x8, .i1⟩
  | .hbm, ⟨57, _⟩ => ⟨S_, .i32⟩
  | .hbm, ⟨58, _⟩ => ⟨S_, .i1⟩
  | .hbm, ⟨59, _⟩ => ⟨S96x8, .i1⟩
  | .hbm, ⟨60, _⟩ => ⟨S96x8, .i1⟩
  | .hbm, ⟨61, _⟩ => ⟨S96x8, .i1⟩
  | .hbm, ⟨62, _⟩ => ⟨S96x8, .i32⟩
  | .hbm, ⟨63, _⟩ => ⟨S96x8, .i32⟩
  | .hbm, ⟨64, _⟩ => ⟨S96x8, .i32⟩
  | .hbm, ⟨65, _⟩ => ⟨S_, .i32⟩
  | .hbm, ⟨66, _⟩ => ⟨S_, .i32⟩
  | .hbm, ⟨67, _⟩ => ⟨S96x8, .i32⟩
  | .hbm, ⟨68, _⟩ => ⟨S96x8, .i32⟩
  | .hbm, ⟨69, _⟩ => ⟨S96x8, .i32⟩
  | .hbm, ⟨70, _⟩ => ⟨S_, .i32⟩
  | .hbm, ⟨71, _⟩ => ⟨S96x8, .i32⟩
  | .hbm, ⟨72, _⟩ => ⟨S96x8, .i1⟩
  | .hbm, ⟨73, _⟩ => ⟨S96x8, .i32⟩
  | .hbm, ⟨74, _⟩ => ⟨S96x8, .i32⟩
  | .hbm, ⟨75, _⟩ => ⟨S_, .i32⟩
  | .hbm, ⟨76, _⟩ => ⟨S96x8, .i32⟩
  | .hbm, ⟨77, _⟩ => ⟨S96x8, .i1⟩
  | .hbm, ⟨78, _⟩ => ⟨S96x8, .i1⟩
  | .hbm, ⟨79, _⟩ => ⟨S_, .i32⟩
  | .hbm, ⟨80, _⟩ => ⟨S96x8, .i32⟩
  | .hbm, ⟨81, _⟩ => ⟨S96x8, .i32⟩
  | .hbm, ⟨82, _⟩ => ⟨S96x8, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S96x8, .i32⟩
  | .hbm, ⟨90, _⟩ => ⟨S96x8, .i32⟩
  | .hbm, ⟨91, _⟩ => ⟨S_, .i32⟩
  | .hbm, ⟨92, _⟩ => ⟨S96x8, .i32⟩
  | .hbm, ⟨93, _⟩ => ⟨S96x8, .i1⟩
  | .hbm, ⟨94, _⟩ => ⟨S_, .i32⟩
  | .hbm, ⟨95, _⟩ => ⟨S96x8, .i32⟩
  | .hbm, ⟨96, _⟩ => ⟨S96x8, .i1⟩
  | .hbm, ⟨97, _⟩ => ⟨S_, .i32⟩
  | .hbm, ⟨98, _⟩ => ⟨S_, .i1⟩
  | .hbm, ⟨99, _⟩ => ⟨S96x8, .i1⟩
  | .hbm, ⟨100, _⟩ => ⟨S96x8, .i1⟩
  | .hbm, ⟨101, _⟩ => ⟨S96x8, .i1⟩
  | .hbm, ⟨102, _⟩ => ⟨S96x8, .i32⟩
  | .hbm, ⟨103, _⟩ => ⟨S96x8, .i32⟩
  | .hbm, ⟨104, _⟩ => ⟨S96x8, .i32⟩
  | .hbm, ⟨105, _⟩ => ⟨S1x96x8, .i32⟩
  | .hbm, ⟨106, _⟩ => ⟨S1x96x8, .i32⟩
  | .hbm, ⟨107, _⟩ => ⟨S1x96x8, .i32⟩
  | .hbm, ⟨108, _⟩ => ⟨S3x96x8, .i32⟩
  | .hbm, ⟨109, _⟩ => ⟨S4x96x112x112, .f32⟩
  | .local _ .vmem, ⟨0, _⟩ => ⟨S1x24x224x224, .f32⟩
  | .local _ .vmem, ⟨1, _⟩ => ⟨S1x24x224x224, .f32⟩
  | .local _ .vmem, ⟨2, _⟩ => ⟨S1x96x112x112, .f32⟩
  | .local _ .vmem, ⟨3, _⟩ => ⟨S1x96x112x112, .f32⟩
  | .local _ .vmem, ⟨4, _⟩ => ⟨S3x96x232x128, .f32⟩
  | .local _ .smem, ⟨0, _⟩ => ⟨S3x96x8, .i32⟩
  | .local _ .smem, ⟨1, _⟩ => ⟨S96x7x4, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v17 : Ref sig .tc := ⟨.hbm, 42, rfl⟩
abbrev main_c_4 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v18 : Ref sig .tc := ⟨.hbm, 64, rfl⟩
abbrev main_c_5 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_c : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_0 : Ref sig .tc := ⟨.hbm, 79, rfl⟩
abbrev main_call2_v12 : Ref sig .tc := ⟨.hbm, 80, rfl⟩
abbrev main_call2_v13 : Ref sig .tc := ⟨.hbm, 81, rfl⟩
abbrev main_v19 : Ref sig .tc := ⟨.hbm, 82, rfl⟩
abbrev main_c_6 : Ref sig .tc := ⟨.hbm, 83, rfl⟩
abbrev main_call3_v0 : Ref sig .tc := ⟨.hbm, 84, rfl⟩
abbrev main_call3_c : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_c_1 : Ref sig .tc := ⟨.hbm, 91, rfl⟩
abbrev main_call3_v5 : Ref sig .tc := ⟨.hbm, 92, rfl⟩
abbrev main_call3_v6 : Ref sig .tc := ⟨.hbm, 93, rfl⟩
abbrev main_call3_c_2 : Ref sig .tc := ⟨.hbm, 94, rfl⟩
abbrev main_call3_v7 : Ref sig .tc := ⟨.hbm, 95, rfl⟩
abbrev main_call3_v8 : Ref sig .tc := ⟨.hbm, 96, rfl⟩
abbrev main_call3_c_3 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def k0_off1 (c0_i32_3 : BitVec 32) : Fin 4 → Nat :=
  let c0 : Index := 0#32
  let c24_i32 : BitVec 32 := 24#32
  let c0_i32_2 : BitVec 32 := 0#32
  let v18 : BitVec 32 := Scalar.muli c24_i32 c0_i32_2
  let v19 : BitVec 32 := Scalar.addi v18 c0_i32_3
  let v20 : Index := Scalar.indexCast v19
  let c0_4 : Index := 0#32
  let c0_5 : Index := 0#32
  ![0, v20.toNat, 0, 0]
def k0_off2 (i : grid0.Coords) (c0_i32_8 : BitVec 32) : Fin 4 → Nat :=
  let c1 : Index := 1#32
  let arg1 : BitVec 32 := BitVec.ofNat 32 (i 1).val
  let c24_i32_6 : BitVec 32 := 24#32
  let v23 : BitVec 32 := Scalar.muli arg1 c24_i32_6
  let c24_i32_7 : BitVec 32 := 24#32
  let c0_i32_2 : BitVec 32 := 0#32
  let v24 : BitVec 32 := Scalar.muli c24_i32_7 c0_i32_2
  let v25 : BitVec 32 := Scalar.addi v23 v24
  let v26 : BitVec 32 := Scalar.addi v25 c0_i32_8
  let v36 : Index := Scalar.indexCast v26
  let c8 : Index := 8#32
  let c0_10 : Index := 0#32
  ![1, v36.toNat, 8, 0]
def k0_off3 (i : grid0.Coords) (c0_i32_8 : BitVec 32) : Fin 4 → Nat :=
  let c2 : Index := 2#32
  let arg1 : BitVec 32 := BitVec.ofNat 32 (i 1).val
  let c24_i32_6 : BitVec 32 := 24#32
  let v23 : BitVec 32 := Scalar.muli arg1 c24_i32_6
  let c24_i32_7 : BitVec 32 := 24#32
  let c0_i32_2 : BitVec 32 := 0#32
  let v24 : BitVec 32 := Scalar.muli c24_i32_7 c0_i32_2
  let v25 : BitVec 32 := Scalar.addi v23 v24
  let v26 : BitVec 32 := Scalar.addi v25 c0_i32_8
  let v40 : Index := Scalar.indexCast v26
  let c8_11 : Index := 8#32
  let c0_12 : Index := 0#32
  ![2, v40.toNat, 8, 0]
def k0_off4 (i : grid0.Coords) (c0_i32_8 : BitVec 32) : Fin 4 → Nat :=
  let c0_14 : Index := 0#32
  let arg1 : BitVec 32 := BitVec.ofNat 32 (i 1).val
  let c24_i32_6 : BitVec 32 := 24#32
  let v23 : BitVec 32 := Scalar.muli arg1 c24_i32_6
  let c24_i32_7 : BitVec 32 := 24#32
  let c0_i32_2 : BitVec 32 := 0#32
  let v24 : BitVec 32 := Scalar.muli c24_i32_7 c0_i32_2
  let v25 : BitVec 32 := Scalar.addi v23 v24
  let v26 : BitVec 32 := Scalar.addi v25 c0_i32_8
  let v47 : Index := Scalar.indexCast v26
  let c8_15 : Index := 8#32
  let c0_16 : Index := 0#32
  ![0, v47.toNat, 8, 0]
def k0_cond2 (i : grid0.Coords) : BitVec 1 :=
  let arg1 : BitVec 32 := BitVec.ofNat 32 (i 1).val
  let c3_i32_457 : BitVec 32 := 3#32
  let v810 : BitVec 1 := Scalar.cmpi .eq arg1 c3_i32_457
  let v811 : BitVec 32 := Scalar.extui v810
  let c0_i32_458 : BitVec 32 := 0#32
  let v812 : BitVec 1 := Scalar.cmpi .ne v811 c0_i32_458
  v812

@[reducible] def k0_t1_loop : Scf.Loop 32 :=
  let c0_i32_459 : BitVec 32 := 0#32
  let c6_i32_460 : BitVec 32 := 6#32
  let v813 : BitVec 32 := Scalar.addi c0_i32_459 c6_i32_460
  let c1_i32_461 : BitVec 32 := 1#32
  ⟨c0_i32_459, v813, c1_i32_461⟩
def k0_off5 (k0_t1 : Fin k0_t1_loop.trips) : Fin 3 → Nat :=
  let c0_465 : Index := 0#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v816 : Index := Scalar.indexCast v815
  let c0_466 : Index := 0#32
  ![0, v816.toNat, 0]
def k0_off6 (k0_t1 : Fin k0_t1_loop.trips) : Fin 3 → Nat :=
  let c1_467 : Index := 1#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v818 : Index := Scalar.indexCast v815
  let c0_468 : Index := 0#32
  ![1, v818.toNat, 0]
def k0_off7 (k0_t1 : Fin k0_t1_loop.trips) : Fin 3 → Nat :=
  let c2_469 : Index := 2#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v820 : Index := Scalar.indexCast v815
  let c0_470 : Index := 0#32
  ![2, v820.toNat, 0]
def k0_off8 (v817 : BitVec 32) (v819 : BitVec 32) (v821 : BitVec 32) : Fin 4 → Nat :=
  let v823 : Index := Scalar.indexCast v821
  let v824 : Index := Scalar.indexCast v817
  let c7_i32_471 : BitVec 32 := 7#32
  let v822 : BitVec 32 := Scalar.addi v819 c7_i32_471
  let v825 : Index := Scalar.indexCast v822
  let c0_472 : Index := 0#32
  ![v823.toNat, v824.toNat, v825.toNat, 0]

def k0_chk1 (i : grid0.Coords) (v817 : BitVec 32) (v819 : BitVec 32) (v821 : BitVec 32) : Prop :=
  (∀ (k0_h2 : k0_cond2 i = 1#1), ∀ a, S1x1x112x128.size a = 0 ∨ (k0_off8 v817 v819 v821) a + (![1, 1, 2, 1] : Fin 4 → Nat) a * (S1x1x112x128.size a - 1) < S3x96x232x128.size a)
theorem k0_off8_inb : ∀ (i : grid0.Coords) (v817 : BitVec 32) (v819 : BitVec 32) (v821 : BitVec 32) (k0_hw1 : k0_chk1 i v817 v819 v821), ∀ (k0_h2 : k0_cond2 i = 1#1), ∀ a, S1x1x112x128.size a = 0 ∨ (k0_off8 v817 v819 v821) a + (![1, 1, 2, 1] : Fin 4 → Nat) a * (S1x1x112x128.size a - 1) < S3x96x232x128.size a := fun i v817 v819 v821 k0_hw1 k0_h2 => k0_hw1 k0_h2

def k0_off9 (k0_t1 : Fin k0_t1_loop.trips) : Fin 3 → Nat :=
  let c0_473 : Index := 0#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v828 : Index := Scalar.indexCast v815
  let c1_474 : Index := 1#32
  ![0, v828.toNat, 1]
def k0_off10 (k0_t1 : Fin k0_t1_loop.trips) : Fin 3 → Nat :=
  let c1_475 : Index := 1#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v830 : Index := Scalar.indexCast v815
  let c1_476 : Index := 1#32
  ![1, v830.toNat, 1]
def k0_off11 (k0_t1 : Fin k0_t1_loop.trips) : Fin 3 → Nat :=
  let c2_477 : Index := 2#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v832 : Index := Scalar.indexCast v815
  let c1_478 : Index := 1#32
  ![2, v832.toNat, 1]
def k0_off12 (v829 : BitVec 32) (v831 : BitVec 32) (v833 : BitVec 32) : Fin 4 → Nat :=
  let v835 : Index := Scalar.indexCast v833
  let v836 : Index := Scalar.indexCast v829
  let c7_i32_479 : BitVec 32 := 7#32
  let v834 : BitVec 32 := Scalar.addi v831 c7_i32_479
  let v837 : Index := Scalar.indexCast v834
  let c0_480 : Index := 0#32
  ![v835.toNat, v836.toNat, v837.toNat, 0]

def k0_chk2 (i : grid0.Coords) (v829 : BitVec 32) (v831 : BitVec 32) (v833 : BitVec 32) : Prop :=
  (∀ (k0_h2 : k0_cond2 i = 1#1), ∀ a, S1x1x112x128.size a = 0 ∨ (k0_off12 v829 v831 v833) a + (![1, 1, 2, 1] : Fin 4 → Nat) a * (S1x1x112x128.size a - 1) < S3x96x232x128.size a)
theorem k0_off12_inb : ∀ (i : grid0.Coords) (v829 : BitVec 32) (v831 : BitVec 32) (v833 : BitVec 32) (k0_hw2 : k0_chk2 i v829 v831 v833), ∀ (k0_h2 : k0_cond2 i = 1#1), ∀ a, S1x1x112x128.size a = 0 ∨ (k0_off12 v829 v831 v833) a + (![1, 1, 2, 1] : Fin 4 → Nat) a * (S1x1x112x128.size a - 1) < S3x96x232x128.size a := fun i v829 v831 v833 k0_hw2 k0_h2 => k0_hw2 k0_h2

def k0_off13 (k0_t1 : Fin k0_t1_loop.trips) : Fin 3 → Nat :=
  let c0_481 : Index := 0#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v840 : Index := Scalar.indexCast v815
  let c2_482 : Index := 2#32
  ![0, v840.toNat, 2]
def k0_off14 (k0_t1 : Fin k0_t1_loop.trips) : Fin 3 → Nat :=
  let c1_483 : Index := 1#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v842 : Index := Scalar.indexCast v815
  let c2_484 : Index := 2#32
  ![1, v842.toNat, 2]
def k0_off15 (k0_t1 : Fin k0_t1_loop.trips) : Fin 3 → Nat :=
  let c2_485 : Index := 2#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v844 : Index := Scalar.indexCast v815
  let c2_486 : Index := 2#32
  ![2, v844.toNat, 2]
def k0_off16 (v841 : BitVec 32) (v843 : BitVec 32) (v845 : BitVec 32) : Fin 4 → Nat :=
  let v847 : Index := Scalar.indexCast v845
  let v848 : Index := Scalar.indexCast v841
  let c7_i32_487 : BitVec 32 := 7#32
  let v846 : BitVec 32 := Scalar.addi v843 c7_i32_487
  let v849 : Index := Scalar.indexCast v846
  let c0_488 : Index := 0#32
  ![v847.toNat, v848.toNat, v849.toNat, 0]

def k0_chk3 (i : grid0.Coords) (v841 : BitVec 32) (v843 : BitVec 32) (v845 : BitVec 32) : Prop :=
  (∀ (k0_h2 : k0_cond2 i = 1#1), ∀ a, S1x1x112x128.size a = 0 ∨ (k0_off16 v841 v843 v845) a + (![1, 1, 2, 1] : Fin 4 → Nat) a * (S1x1x112x128.size a - 1) < S3x96x232x128.size a)
theorem k0_off16_inb : ∀ (i : grid0.Coords) (v841 : BitVec 32) (v843 : BitVec 32) (v845 : BitVec 32) (k0_hw3 : k0_chk3 i v841 v843 v845), ∀ (k0_h2 : k0_cond2 i = 1#1), ∀ a, S1x1x112x128.size a = 0 ∨ (k0_off16 v841 v843 v845) a + (![1, 1, 2, 1] : Fin 4 → Nat) a * (S1x1x112x128.size a - 1) < S3x96x232x128.size a := fun i v841 v843 v845 k0_hw3 k0_h2 => k0_hw3 k0_h2

def k0_off17 (k0_t1 : Fin k0_t1_loop.trips) : Fin 3 → Nat :=
  let c0_489 : Index := 0#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v852 : Index := Scalar.indexCast v815
  let c3 : Index := 3#32
  ![0, v852.toNat, 3]
def k0_off18 (k0_t1 : Fin k0_t1_loop.trips) : Fin 3 → Nat :=
  let c1_490 : Index := 1#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v854 : Index := Scalar.indexCast v815
  let c3_491 : Index := 3#32
  ![1, v854.toNat, 3]
def k0_off19 (k0_t1 : Fin k0_t1_loop.trips) : Fin 3 → Nat :=
  let c2_492 : Index := 2#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v856 : Index := Scalar.indexCast v815
  let c3_493 : Index := 3#32
  ![2, v856.toNat, 3]
def k0_off20 (v853 : BitVec 32) (v855 : BitVec 32) (v857 : BitVec 32) : Fin 4 → Nat :=
  let v859 : Index := Scalar.indexCast v857
  let v860 : Index := Scalar.indexCast v853
  let c7_i32_494 : BitVec 32 := 7#32
  let v858 : BitVec 32 := Scalar.addi v855 c7_i32_494
  let v861 : Index := Scalar.indexCast v858
  let c0_495 : Index := 0#32
  ![v859.toNat, v860.toNat, v861.toNat, 0]

def k0_chk4 (i : grid0.Coords) (v853 : BitVec 32) (v855 : BitVec 32) (v857 : BitVec 32) : Prop :=
  (∀ (k0_h2 : k0_cond2 i = 1#1), ∀ a, S1x1x112x128.size a = 0 ∨ (k0_off20 v853 v855 v857) a + (![1, 1, 2, 1] : Fin 4 → Nat) a * (S1x1x112x128.size a - 1) < S3x96x232x128.size a)
theorem k0_off20_inb : ∀ (i : grid0.Coords) (v853 : BitVec 32) (v855 : BitVec 32) (v857 : BitVec 32) (k0_hw4 : k0_chk4 i v853 v855 v857), ∀ (k0_h2 : k0_cond2 i = 1#1), ∀ a, S1x1x112x128.size a = 0 ∨ (k0_off20 v853 v855 v857) a + (![1, 1, 2, 1] : Fin 4 → Nat) a * (S1x1x112x128.size a - 1) < S3x96x232x128.size a := fun i v853 v855 v857 k0_hw4 k0_h2 => k0_hw4 k0_h2

def k0_off21 (k0_t1 : Fin k0_t1_loop.trips) : Fin 3 → Nat :=
  let c0_496 : Index := 0#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v864 : Index := Scalar.indexCast v815
  let c4 : Index := 4#32
  ![0, v864.toNat, 4]
def k0_off22 (k0_t1 : Fin k0_t1_loop.trips) : Fin 3 → Nat :=
  let c1_497 : Index := 1#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v866 : Index := Scalar.indexCast v815
  let c4_498 : Index := 4#32
  ![1, v866.toNat, 4]
def k0_off23 (k0_t1 : Fin k0_t1_loop.trips) : Fin 3 → Nat :=
  let c2_499 : Index := 2#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v868 : Index := Scalar.indexCast v815
  let c4_500 : Index := 4#32
  ![2, v868.toNat, 4]
def k0_off24 (v865 : BitVec 32) (v867 : BitVec 32) (v869 : BitVec 32) : Fin 4 → Nat :=
  let v871 : Index := Scalar.indexCast v869
  let v872 : Index := Scalar.indexCast v865
  let c7_i32_501 : BitVec 32 := 7#32
  let v870 : BitVec 32 := Scalar.addi v867 c7_i32_501
  let v873 : Index := Scalar.indexCast v870
  let c0_502 : Index := 0#32
  ![v871.toNat, v872.toNat, v873.toNat, 0]

def k0_chk5 (i : grid0.Coords) (v865 : BitVec 32) (v867 : BitVec 32) (v869 : BitVec 32) : Prop :=
  (∀ (k0_h2 : k0_cond2 i = 1#1), ∀ a, S1x1x112x128.size a = 0 ∨ (k0_off24 v865 v867 v869) a + (![1, 1, 2, 1] : Fin 4 → Nat) a * (S1x1x112x128.size a - 1) < S3x96x232x128.size a)
theorem k0_off24_inb : ∀ (i : grid0.Coords) (v865 : BitVec 32) (v867 : BitVec 32) (v869 : BitVec 32) (k0_hw5 : k0_chk5 i v865 v867 v869), ∀ (k0_h2 : k0_cond2 i = 1#1), ∀ a, S1x1x112x128.size a = 0 ∨ (k0_off24 v865 v867 v869) a + (![1, 1, 2, 1] : Fin 4 → Nat) a * (S1x1x112x128.size a - 1) < S3x96x232x128.size a := fun i v865 v867 v869 k0_hw5 k0_h2 => k0_hw5 k0_h2

def k0_off25 (k0_t1 : Fin k0_t1_loop.trips) : Fin 3 → Nat :=
  let c0_503 : Index := 0#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v876 : Index := Scalar.indexCast v815
  let c5 : Index := 5#32
  ![0, v876.toNat, 5]
def k0_off26 (k0_t1 : Fin k0_t1_loop.trips) : Fin 3 → Nat :=
  let c1_504 : Index := 1#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v878 : Index := Scalar.indexCast v815
  let c5_505 : Index := 5#32
  ![1, v878.toNat, 5]
def k0_off27 (k0_t1 : Fin k0_t1_loop.trips) : Fin 3 → Nat :=
  let c2_506 : Index := 2#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v880 : Index := Scalar.indexCast v815
  let c5_507 : Index := 5#32
  ![2, v880.toNat, 5]
def k0_off28 (v877 : BitVec 32) (v879 : BitVec 32) (v881 : BitVec 32) : Fin 4 → Nat :=
  let v883 : Index := Scalar.indexCast v881
  let v884 : Index := Scalar.indexCast v877
  let c7_i32_508 : BitVec 32 := 7#32
  let v882 : BitVec 32 := Scalar.addi v879 c7_i32_508
  let v885 : Index := Scalar.indexCast v882
  let c0_509 : Index := 0#32
  ![v883.toNat, v884.toNat, v885.toNat, 0]

def k0_chk6 (i : grid0.Coords) (v877 : BitVec 32) (v879 : BitVec 32) (v881 : BitVec 32) : Prop :=
  (∀ (k0_h2 : k0_cond2 i = 1#1), ∀ a, S1x1x112x128.size a = 0 ∨ (k0_off28 v877 v879 v881) a + (![1, 1, 2, 1] : Fin 4 → Nat) a * (S1x1x112x128.size a - 1) < S3x96x232x128.size a)
theorem k0_off28_inb : ∀ (i : grid0.Coords) (v877 : BitVec 32) (v879 : BitVec 32) (v881 : BitVec 32) (k0_hw6 : k0_chk6 i v877 v879 v881), ∀ (k0_h2 : k0_cond2 i = 1#1), ∀ a, S1x1x112x128.size a = 0 ∨ (k0_off28 v877 v879 v881) a + (![1, 1, 2, 1] : Fin 4 → Nat) a * (S1x1x112x128.size a - 1) < S3x96x232x128.size a := fun i v877 v879 v881 k0_hw6 k0_h2 => k0_hw6 k0_h2

def k0_off29 (k0_t1 : Fin k0_t1_loop.trips) : Fin 3 → Nat :=
  let c0_510 : Index := 0#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v888 : Index := Scalar.indexCast v815
  let c6 : Index := 6#32
  ![0, v888.toNat, 6]
def k0_off30 (k0_t1 : Fin k0_t1_loop.trips) : Fin 3 → Nat :=
  let c1_511 : Index := 1#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v890 : Index := Scalar.indexCast v815
  let c6_512 : Index := 6#32
  ![1, v890.toNat, 6]
def k0_off31 (k0_t1 : Fin k0_t1_loop.trips) : Fin 3 → Nat :=
  let c2_513 : Index := 2#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v892 : Index := Scalar.indexCast v815
  let c6_514 : Index := 6#32
  ![2, v892.toNat, 6]
def k0_off32 (v889 : BitVec 32) (v891 : BitVec 32) (v893 : BitVec 32) : Fin 4 → Nat :=
  let v895 : Index := Scalar.indexCast v893
  let v896 : Index := Scalar.indexCast v889
  let c7_i32_515 : BitVec 32 := 7#32
  let v894 : BitVec 32 := Scalar.addi v891 c7_i32_515
  let v897 : Index := Scalar.indexCast v894
  let c0_516 : Index := 0#32
  ![v895.toNat, v896.toNat, v897.toNat, 0]

def k0_chk7 (i : grid0.Coords) (v889 : BitVec 32) (v891 : BitVec 32) (v893 : BitVec 32) : Prop :=
  (∀ (k0_h2 : k0_cond2 i = 1#1), ∀ a, S1x1x112x128.size a = 0 ∨ (k0_off32 v889 v891 v893) a + (![1, 1, 2, 1] : Fin 4 → Nat) a * (S1x1x112x128.size a - 1) < S3x96x232x128.size a)
theorem k0_off32_inb : ∀ (i : grid0.Coords) (v889 : BitVec 32) (v891 : BitVec 32) (v893 : BitVec 32) (k0_hw7 : k0_chk7 i v889 v891 v893), ∀ (k0_h2 : k0_cond2 i = 1#1), ∀ a, S1x1x112x128.size a = 0 ∨ (k0_off32 v889 v891 v893) a + (![1, 1, 2, 1] : Fin 4 → Nat) a * (S1x1x112x128.size a - 1) < S3x96x232x128.size a := fun i v889 v891 v893 k0_hw7 k0_h2 => k0_hw7 k0_h2

def k0_off33 (k0_t1 : Fin k0_t1_loop.trips) : Fin 3 → Nat :=
  let c0_517 : Index := 0#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v900 : Index := Scalar.indexCast v815
  let c7 : Index := 7#32
  ![0, v900.toNat, 7]
def k0_off34 (k0_t1 : Fin k0_t1_loop.trips) : Fin 3 → Nat :=
  let c1_518 : Index := 1#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v902 : Index := Scalar.indexCast v815
  let c7_519 : Index := 7#32
  ![1, v902.toNat, 7]
def k0_off35 (k0_t1 : Fin k0_t1_loop.trips) : Fin 3 → Nat :=
  let c2_520 : Index := 2#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v904 : Index := Scalar.indexCast v815
  let c7_521 : Index := 7#32
  ![2, v904.toNat, 7]
def k0_off36 (v901 : BitVec 32) (v903 : BitVec 32) (v905 : BitVec 32) : Fin 4 → Nat :=
  let v907 : Index := Scalar.indexCast v905
  let v908 : Index := Scalar.indexCast v901
  let c7_i32_522 : BitVec 32 := 7#32
  let v906 : BitVec 32 := Scalar.addi v903 c7_i32_522
  let v909 : Index := Scalar.indexCast v906
  let c0_523 : Index := 0#32
  ![v907.toNat, v908.toNat, v909.toNat, 0]

def k0_chk8 (i : grid0.Coords) (v901 : BitVec 32) (v903 : BitVec 32) (v905 : BitVec 32) : Prop :=
  (∀ (k0_h2 : k0_cond2 i = 1#1), ∀ a, S1x1x112x128.size a = 0 ∨ (k0_off36 v901 v903 v905) a + (![1, 1, 2, 1] : Fin 4 → Nat) a * (S1x1x112x128.size a - 1) < S3x96x232x128.size a)
theorem k0_off36_inb : ∀ (i : grid0.Coords) (v901 : BitVec 32) (v903 : BitVec 32) (v905 : BitVec 32) (k0_hw8 : k0_chk8 i v901 v903 v905), ∀ (k0_h2 : k0_cond2 i = 1#1), ∀ a, S1x1x112x128.size a = 0 ∨ (k0_off36 v901 v903 v905) a + (![1, 1, 2, 1] : Fin 4 → Nat) a * (S1x1x112x128.size a - 1) < S3x96x232x128.size a := fun i v901 v903 v905 k0_hw8 k0_h2 => k0_hw8 k0_h2

def k0_off37 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v912 : Index := Scalar.indexCast v815
  let c0_524 : Index := 0#32
  let c0_525 : Index := 0#32
  ![v912.toNat, 0, 0]
def k0_off38 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v914 : Index := Scalar.indexCast v815
  let c0_526 : Index := 0#32
  let c1_527 : Index := 1#32
  ![v914.toNat, 0, 1]
def k0_off39 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v916 : Index := Scalar.indexCast v815
  let c0_528 : Index := 0#32
  let c2_529 : Index := 2#32
  ![v916.toNat, 0, 2]
def k0_off40 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v918 : Index := Scalar.indexCast v815
  let c0_530 : Index := 0#32
  let c3_531 : Index := 3#32
  ![v918.toNat, 0, 3]
def k0_off41 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v931 : Index := Scalar.indexCast v815
  let c1_532 : Index := 1#32
  let c0_533 : Index := 0#32
  ![v931.toNat, 1, 0]
def k0_off42 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v933 : Index := Scalar.indexCast v815
  let c1_534 : Index := 1#32
  let c1_535 : Index := 1#32
  ![v933.toNat, 1, 1]
def k0_off43 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v935 : Index := Scalar.indexCast v815
  let c1_536 : Index := 1#32
  let c2_537 : Index := 2#32
  ![v935.toNat, 1, 2]
def k0_off44 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v937 : Index := Scalar.indexCast v815
  let c1_538 : Index := 1#32
  let c3_539 : Index := 3#32
  ![v937.toNat, 1, 3]
def k0_off45 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v950 : Index := Scalar.indexCast v815
  let c2_540 : Index := 2#32
  let c0_541 : Index := 0#32
  ![v950.toNat, 2, 0]
def k0_off46 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v952 : Index := Scalar.indexCast v815
  let c2_542 : Index := 2#32
  let c1_543 : Index := 1#32
  ![v952.toNat, 2, 1]
def k0_off47 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v954 : Index := Scalar.indexCast v815
  let c2_544 : Index := 2#32
  let c2_545 : Index := 2#32
  ![v954.toNat, 2, 2]
def k0_off48 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v956 : Index := Scalar.indexCast v815
  let c2_546 : Index := 2#32
  let c3_547 : Index := 3#32
  ![v956.toNat, 2, 3]
def k0_off49 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v969 : Index := Scalar.indexCast v815
  let c3_548 : Index := 3#32
  let c0_549 : Index := 0#32
  ![v969.toNat, 3, 0]
def k0_off50 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v971 : Index := Scalar.indexCast v815
  let c3_550 : Index := 3#32
  let c1_551 : Index := 1#32
  ![v971.toNat, 3, 1]
def k0_off51 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v973 : Index := Scalar.indexCast v815
  let c3_552 : Index := 3#32
  let c2_553 : Index := 2#32
  ![v973.toNat, 3, 2]
def k0_off52 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v975 : Index := Scalar.indexCast v815
  let c3_554 : Index := 3#32
  let c3_555 : Index := 3#32
  ![v975.toNat, 3, 3]
def k0_off53 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v988 : Index := Scalar.indexCast v815
  let c4_556 : Index := 4#32
  let c0_557 : Index := 0#32
  ![v988.toNat, 4, 0]
def k0_off54 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v990 : Index := Scalar.indexCast v815
  let c4_558 : Index := 4#32
  let c1_559 : Index := 1#32
  ![v990.toNat, 4, 1]
def k0_off55 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v992 : Index := Scalar.indexCast v815
  let c4_560 : Index := 4#32
  let c2_561 : Index := 2#32
  ![v992.toNat, 4, 2]
def k0_off56 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v994 : Index := Scalar.indexCast v815
  let c4_562 : Index := 4#32
  let c3_563 : Index := 3#32
  ![v994.toNat, 4, 3]
def k0_off57 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v1007 : Index := Scalar.indexCast v815
  let c5_564 : Index := 5#32
  let c0_565 : Index := 0#32
  ![v1007.toNat, 5, 0]
def k0_off58 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v1009 : Index := Scalar.indexCast v815
  let c5_566 : Index := 5#32
  let c1_567 : Index := 1#32
  ![v1009.toNat, 5, 1]
def k0_off59 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v1011 : Index := Scalar.indexCast v815
  let c5_568 : Index := 5#32
  let c2_569 : Index := 2#32
  ![v1011.toNat, 5, 2]
def k0_off60 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v1013 : Index := Scalar.indexCast v815
  let c5_570 : Index := 5#32
  let c3_571 : Index := 3#32
  ![v1013.toNat, 5, 3]
def k0_off61 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v1026 : Index := Scalar.indexCast v815
  let c6_572 : Index := 6#32
  let c0_573 : Index := 0#32
  ![v1026.toNat, 6, 0]
def k0_off62 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v1028 : Index := Scalar.indexCast v815
  let c6_574 : Index := 6#32
  let c1_575 : Index := 1#32
  ![v1028.toNat, 6, 1]
def k0_off63 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v1030 : Index := Scalar.indexCast v815
  let c6_576 : Index := 6#32
  let c2_577 : Index := 2#32
  ![v1030.toNat, 6, 2]
def k0_off64 (k0_t1 : Fin k0_t1_loop.trips) : Fin 3 → Nat :=
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v1032 : Index := Scalar.indexCast v815
  let c6_578 : Index := 6#32
  let c3_579 : Index := 3#32
  ![v1032.toNat, 6, 3]
def k0_off65 (k0_t1 : Fin k0_t1_loop.trips) : Fin 4 → Nat :=
  let c0_580 : Index := 0#32
  let c16_i32_463 : BitVec 32 := 16#32
  let c0_i32_459 : BitVec 32 := 0#32
  let c1_i32_461 : BitVec 32 := 1#32
  let arg7 : BitVec 32 := Scf.iv c0_i32_459 c1_i32_461 k0_t1
  let v814 : BitVec 32 := Scalar.muli c16_i32_463 arg7
  let c0_i32_464 : BitVec 32 := 0#32
  let v815 : BitVec 32 := Scalar.addi v814 c0_i32_464
  let v1046 : Index := Scalar.indexCast v815
  let c0_581 : Index := 0#32
  let c0_582 : Index := 0#32
  ![0, v1046.toNat, 0, 0]
def k0_off66 (k0_t1 : Fin k0_t1_loop.trips) : Fin 3 → Nat :=
  let c0_585 : Index := 0#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1052 : Index := Scalar.indexCast v1051
  let c0_586 : Index := 0#32
  ![0, v1052.toNat, 0]
def k0_off67 (k0_t1 : Fin k0_t1_loop.trips) : Fin 3 → Nat :=
  let c1_587 : Index := 1#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1054 : Index := Scalar.indexCast v1051
  let c0_588 : Index := 0#32
  ![1, v1054.toNat, 0]
def k0_off68 (k0_t1 : Fin k0_t1_loop.trips) : Fin 3 → Nat :=
  let c2_589 : Index := 2#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1056 : Index := Scalar.indexCast v1051
  let c0_590 : Index := 0#32
  ![2, v1056.toNat, 0]
def k0_off69 (v1053 : BitVec 32) (v1055 : BitVec 32) (v1057 : BitVec 32) : Fin 4 → Nat :=
  let v1059 : Index := Scalar.indexCast v1057
  let v1060 : Index := Scalar.indexCast v1053
  let c7_i32_591 : BitVec 32 := 7#32
  let v1058 : BitVec 32 := Scalar.addi v1055 c7_i32_591
  let v1061 : Index := Scalar.indexCast v1058
  let c0_592 : Index := 0#32
  ![v1059.toNat, v1060.toNat, v1061.toNat, 0]

def k0_chk9 (i : grid0.Coords) (v1053 : BitVec 32) (v1055 : BitVec 32) (v1057 : BitVec 32) : Prop :=
  (∀ (k0_h2 : k0_cond2 i = 1#1), ∀ a, S1x1x112x128.size a = 0 ∨ (k0_off69 v1053 v1055 v1057) a + (![1, 1, 2, 1] : Fin 4 → Nat) a * (S1x1x112x128.size a - 1) < S3x96x232x128.size a)
theorem k0_off69_inb : ∀ (i : grid0.Coords) (v1053 : BitVec 32) (v1055 : BitVec 32) (v1057 : BitVec 32) (k0_hw9 : k0_chk9 i v1053 v1055 v1057), ∀ (k0_h2 : k0_cond2 i = 1#1), ∀ a, S1x1x112x128.size a = 0 ∨ (k0_off69 v1053 v1055 v1057) a + (![1, 1, 2, 1] : Fin 4 → Nat) a * (S1x1x112x128.size a - 1) < S3x96x232x128.size a := fun i v1053 v1055 v1057 k0_hw9 k0_h2 => k0_hw9 k0_h2

def k0_off70 (k0_t1 : Fin k0_t1_loop.trips) : Fin 3 → Nat :=
  let c0_593 : Index := 0#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1064 : Index := Scalar.indexCast v1051
  let c1_594 : Index := 1#32
  ![0, v1064.toNat, 1]
def k0_off71 (k0_t1 : Fin k0_t1_loop.trips) : Fin 3 → Nat :=
  let c1_595 : Index := 1#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1066 : Index := Scalar.indexCast v1051
  let c1_596 : Index := 1#32
  ![1, v1066.toNat, 1]
def k0_off72 (k0_t1 : Fin k0_t1_loop.trips) : Fin 3 → Nat :=
  let c2_597 : Index := 2#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1068 : Index := Scalar.indexCast v1051
  let c1_598 : Index := 1#32
  ![2, v1068.toNat, 1]
def k0_off73 (v1065 : BitVec 32) (v1067 : BitVec 32) (v1069 : BitVec 32) : Fin 4 → Nat :=
  let v1071 : Index := Scalar.indexCast v1069
  let v1072 : Index := Scalar.indexCast v1065
  let c7_i32_599 : BitVec 32 := 7#32
  let v1070 : BitVec 32 := Scalar.addi v1067 c7_i32_599
  let v1073 : Index := Scalar.indexCast v1070
  let c0_600 : Index := 0#32
  ![v1071.toNat, v1072.toNat, v1073.toNat, 0]

def k0_chk10 (i : grid0.Coords) (v1065 : BitVec 32) (v1067 : BitVec 32) (v1069 : BitVec 32) : Prop :=
  (∀ (k0_h2 : k0_cond2 i = 1#1), ∀ a, S1x1x112x128.size a = 0 ∨ (k0_off73 v1065 v1067 v1069) a + (![1, 1, 2, 1] : Fin 4 → Nat) a * (S1x1x112x128.size a - 1) < S3x96x232x128.size a)
theorem k0_off73_inb : ∀ (i : grid0.Coords) (v1065 : BitVec 32) (v1067 : BitVec 32) (v1069 : BitVec 32) (k0_hw10 : k0_chk10 i v1065 v1067 v1069), ∀ (k0_h2 : k0_cond2 i = 1#1), ∀ a, S1x1x112x128.size a = 0 ∨ (k0_off73 v1065 v1067 v1069) a + (![1, 1, 2, 1] : Fin 4 → Nat) a * (S1x1x112x128.size a - 1) < S3x96x232x128.size a := fun i v1065 v1067 v1069 k0_hw10 k0_h2 => k0_hw10 k0_h2

def k0_off74 (k0_t1 : Fin k0_t1_loop.trips) : Fin 3 → Nat :=
  let c0_601 : Index := 0#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1076 : Index := Scalar.indexCast v1051
  let c2_602 : Index := 2#32
  ![0, v1076.toNat, 2]
def k0_off75 (k0_t1 : Fin k0_t1_loop.trips) : Fin 3 → Nat :=
  let c1_603 : Index := 1#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1078 : Index := Scalar.indexCast v1051
  let c2_604 : Index := 2#32
  ![1, v1078.toNat, 2]
def k0_off76 (k0_t1 : Fin k0_t1_loop.trips) : Fin 3 → Nat :=
  let c2_605 : Index := 2#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1080 : Index := Scalar.indexCast v1051
  let c2_606 : Index := 2#32
  ![2, v1080.toNat, 2]
def k0_off77 (v1077 : BitVec 32) (v1079 : BitVec 32) (v1081 : BitVec 32) : Fin 4 → Nat :=
  let v1083 : Index := Scalar.indexCast v1081
  let v1084 : Index := Scalar.indexCast v1077
  let c7_i32_607 : BitVec 32 := 7#32
  let v1082 : BitVec 32 := Scalar.addi v1079 c7_i32_607
  let v1085 : Index := Scalar.indexCast v1082
  let c0_608 : Index := 0#32
  ![v1083.toNat, v1084.toNat, v1085.toNat, 0]

def k0_chk11 (i : grid0.Coords) (v1077 : BitVec 32) (v1079 : BitVec 32) (v1081 : BitVec 32) : Prop :=
  (∀ (k0_h2 : k0_cond2 i = 1#1), ∀ a, S1x1x112x128.size a = 0 ∨ (k0_off77 v1077 v1079 v1081) a + (![1, 1, 2, 1] : Fin 4 → Nat) a * (S1x1x112x128.size a - 1) < S3x96x232x128.size a)
theorem k0_off77_inb : ∀ (i : grid0.Coords) (v1077 : BitVec 32) (v1079 : BitVec 32) (v1081 : BitVec 32) (k0_hw11 : k0_chk11 i v1077 v1079 v1081), ∀ (k0_h2 : k0_cond2 i = 1#1), ∀ a, S1x1x112x128.size a = 0 ∨ (k0_off77 v1077 v1079 v1081) a + (![1, 1, 2, 1] : Fin 4 → Nat) a * (S1x1x112x128.size a - 1) < S3x96x232x128.size a := fun i v1077 v1079 v1081 k0_hw11 k0_h2 => k0_hw11 k0_h2

def k0_off78 (k0_t1 : Fin k0_t1_loop.trips) : Fin 3 → Nat :=
  let c0_609 : Index := 0#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1088 : Index := Scalar.indexCast v1051
  let c3_610 : Index := 3#32
  ![0, v1088.toNat, 3]
def k0_off79 (k0_t1 : Fin k0_t1_loop.trips) : Fin 3 → Nat :=
  let c1_611 : Index := 1#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1090 : Index := Scalar.indexCast v1051
  let c3_612 : Index := 3#32
  ![1, v1090.toNat, 3]
def k0_off80 (k0_t1 : Fin k0_t1_loop.trips) : Fin 3 → Nat :=
  let c2_613 : Index := 2#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1092 : Index := Scalar.indexCast v1051
  let c3_614 : Index := 3#32
  ![2, v1092.toNat, 3]
def k0_off81 (v1089 : BitVec 32) (v1091 : BitVec 32) (v1093 : BitVec 32) : Fin 4 → Nat :=
  let v1095 : Index := Scalar.indexCast v1093
  let v1096 : Index := Scalar.indexCast v1089
  let c7_i32_615 : BitVec 32 := 7#32
  let v1094 : BitVec 32 := Scalar.addi v1091 c7_i32_615
  let v1097 : Index := Scalar.indexCast v1094
  let c0_616 : Index := 0#32
  ![v1095.toNat, v1096.toNat, v1097.toNat, 0]

def k0_chk12 (i : grid0.Coords) (v1089 : BitVec 32) (v1091 : BitVec 32) (v1093 : BitVec 32) : Prop :=
  (∀ (k0_h2 : k0_cond2 i = 1#1), ∀ a, S1x1x112x128.size a = 0 ∨ (k0_off81 v1089 v1091 v1093) a + (![1, 1, 2, 1] : Fin 4 → Nat) a * (S1x1x112x128.size a - 1) < S3x96x232x128.size a)
theorem k0_off81_inb : ∀ (i : grid0.Coords) (v1089 : BitVec 32) (v1091 : BitVec 32) (v1093 : BitVec 32) (k0_hw12 : k0_chk12 i v1089 v1091 v1093), ∀ (k0_h2 : k0_cond2 i = 1#1), ∀ a, S1x1x112x128.size a = 0 ∨ (k0_off81 v1089 v1091 v1093) a + (![1, 1, 2, 1] : Fin 4 → Nat) a * (S1x1x112x128.size a - 1) < S3x96x232x128.size a := fun i v1089 v1091 v1093 k0_hw12 k0_h2 => k0_hw12 k0_h2

def k0_off82 (k0_t1 : Fin k0_t1_loop.trips) : Fin 3 → Nat :=
  let c0_617 : Index := 0#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1100 : Index := Scalar.indexCast v1051
  let c4_618 : Index := 4#32
  ![0, v1100.toNat, 4]
def k0_off83 (k0_t1 : Fin k0_t1_loop.trips) : Fin 3 → Nat :=
  let c1_619 : Index := 1#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1102 : Index := Scalar.indexCast v1051
  let c4_620 : Index := 4#32
  ![1, v1102.toNat, 4]
def k0_off84 (k0_t1 : Fin k0_t1_loop.trips) : Fin 3 → Nat :=
  let c2_621 : Index := 2#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1104 : Index := Scalar.indexCast v1051
  let c4_622 : Index := 4#32
  ![2, v1104.toNat, 4]
def k0_off85 (v1101 : BitVec 32) (v1103 : BitVec 32) (v1105 : BitVec 32) : Fin 4 → Nat :=
  let v1107 : Index := Scalar.indexCast v1105
  let v1108 : Index := Scalar.indexCast v1101
  let c7_i32_623 : BitVec 32 := 7#32
  let v1106 : BitVec 32 := Scalar.addi v1103 c7_i32_623
  let v1109 : Index := Scalar.indexCast v1106
  let c0_624 : Index := 0#32
  ![v1107.toNat, v1108.toNat, v1109.toNat, 0]

def k0_chk13 (i : grid0.Coords) (v1101 : BitVec 32) (v1103 : BitVec 32) (v1105 : BitVec 32) : Prop :=
  (∀ (k0_h2 : k0_cond2 i = 1#1), ∀ a, S1x1x112x128.size a = 0 ∨ (k0_off85 v1101 v1103 v1105) a + (![1, 1, 2, 1] : Fin 4 → Nat) a * (S1x1x112x128.size a - 1) < S3x96x232x128.size a)
theorem k0_off85_inb : ∀ (i : grid0.Coords) (v1101 : BitVec 32) (v1103 : BitVec 32) (v1105 : BitVec 32) (k0_hw13 : k0_chk13 i v1101 v1103 v1105), ∀ (k0_h2 : k0_cond2 i = 1#1), ∀ a, S1x1x112x128.size a = 0 ∨ (k0_off85 v1101 v1103 v1105) a + (![1, 1, 2, 1] : Fin 4 → Nat) a * (S1x1x112x128.size a - 1) < S3x96x232x128.size a := fun i v1101 v1103 v1105 k0_hw13 k0_h2 => k0_hw13 k0_h2

def k0_off86 (k0_t1 : Fin k0_t1_loop.trips) : Fin 3 → Nat :=
  let c0_625 : Index := 0#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1112 : Index := Scalar.indexCast v1051
  let c5_626 : Index := 5#32
  ![0, v1112.toNat, 5]
def k0_off87 (k0_t1 : Fin k0_t1_loop.trips) : Fin 3 → Nat :=
  let c1_627 : Index := 1#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1114 : Index := Scalar.indexCast v1051
  let c5_628 : Index := 5#32
  ![1, v1114.toNat, 5]
def k0_off88 (k0_t1 : Fin k0_t1_loop.trips) : Fin 3 → Nat :=
  let c2_629 : Index := 2#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1116 : Index := Scalar.indexCast v1051
  let c5_630 : Index := 5#32
  ![2, v1116.toNat, 5]
def k0_off89 (v1113 : BitVec 32) (v1115 : BitVec 32) (v1117 : BitVec 32) : Fin 4 → Nat :=
  let v1119 : Index := Scalar.indexCast v1117
  let v1120 : Index := Scalar.indexCast v1113
  let c7_i32_631 : BitVec 32 := 7#32
  let v1118 : BitVec 32 := Scalar.addi v1115 c7_i32_631
  let v1121 : Index := Scalar.indexCast v1118
  let c0_632 : Index := 0#32
  ![v1119.toNat, v1120.toNat, v1121.toNat, 0]

def k0_chk14 (i : grid0.Coords) (v1113 : BitVec 32) (v1115 : BitVec 32) (v1117 : BitVec 32) : Prop :=
  (∀ (k0_h2 : k0_cond2 i = 1#1), ∀ a, S1x1x112x128.size a = 0 ∨ (k0_off89 v1113 v1115 v1117) a + (![1, 1, 2, 1] : Fin 4 → Nat) a * (S1x1x112x128.size a - 1) < S3x96x232x128.size a)
theorem k0_off89_inb : ∀ (i : grid0.Coords) (v1113 : BitVec 32) (v1115 : BitVec 32) (v1117 : BitVec 32) (k0_hw14 : k0_chk14 i v1113 v1115 v1117), ∀ (k0_h2 : k0_cond2 i = 1#1), ∀ a, S1x1x112x128.size a = 0 ∨ (k0_off89 v1113 v1115 v1117) a + (![1, 1, 2, 1] : Fin 4 → Nat) a * (S1x1x112x128.size a - 1) < S3x96x232x128.size a := fun i v1113 v1115 v1117 k0_hw14 k0_h2 => k0_hw14 k0_h2

def k0_off90 (k0_t1 : Fin k0_t1_loop.trips) : Fin 3 → Nat :=
  let c0_633 : Index := 0#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1124 : Index := Scalar.indexCast v1051
  let c6_634 : Index := 6#32
  ![0, v1124.toNat, 6]
def k0_off91 (k0_t1 : Fin k0_t1_loop.trips) : Fin 3 → Nat :=
  let c1_635 : Index := 1#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1126 : Index := Scalar.indexCast v1051
  let c6_636 : Index := 6#32
  ![1, v1126.toNat, 6]
def k0_off92 (k0_t1 : Fin k0_t1_loop.trips) : Fin 3 → Nat :=
  let c2_637 : Index := 2#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1128 : Index := Scalar.indexCast v1051
  let c6_638 : Index := 6#32
  ![2, v1128.toNat, 6]
def k0_off93 (v1125 : BitVec 32) (v1127 : BitVec 32) (v1129 : BitVec 32) : Fin 4 → Nat :=
  let v1131 : Index := Scalar.indexCast v1129
  let v1132 : Index := Scalar.indexCast v1125
  let c7_i32_639 : BitVec 32 := 7#32
  let v1130 : BitVec 32 := Scalar.addi v1127 c7_i32_639
  let v1133 : Index := Scalar.indexCast v1130
  let c0_640 : Index := 0#32
  ![v1131.toNat, v1132.toNat, v1133.toNat, 0]

def k0_chk15 (i : grid0.Coords) (v1125 : BitVec 32) (v1127 : BitVec 32) (v1129 : BitVec 32) : Prop :=
  (∀ (k0_h2 : k0_cond2 i = 1#1), ∀ a, S1x1x112x128.size a = 0 ∨ (k0_off93 v1125 v1127 v1129) a + (![1, 1, 2, 1] : Fin 4 → Nat) a * (S1x1x112x128.size a - 1) < S3x96x232x128.size a)
theorem k0_off93_inb : ∀ (i : grid0.Coords) (v1125 : BitVec 32) (v1127 : BitVec 32) (v1129 : BitVec 32) (k0_hw15 : k0_chk15 i v1125 v1127 v1129), ∀ (k0_h2 : k0_cond2 i = 1#1), ∀ a, S1x1x112x128.size a = 0 ∨ (k0_off93 v1125 v1127 v1129) a + (![1, 1, 2, 1] : Fin 4 → Nat) a * (S1x1x112x128.size a - 1) < S3x96x232x128.size a := fun i v1125 v1127 v1129 k0_hw15 k0_h2 => k0_hw15 k0_h2

def k0_off94 (k0_t1 : Fin k0_t1_loop.trips) : Fin 3 → Nat :=
  let c0_641 : Index := 0#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1136 : Index := Scalar.indexCast v1051
  let c7_642 : Index := 7#32
  ![0, v1136.toNat, 7]
def k0_off95 (k0_t1 : Fin k0_t1_loop.trips) : Fin 3 → Nat :=
  let c1_643 : Index := 1#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1138 : Index := Scalar.indexCast v1051
  let c7_644 : Index := 7#32
  ![1, v1138.toNat, 7]
def k0_off96 (k0_t1 : Fin k0_t1_loop.trips) : Fin 3 → Nat :=
  let c2_645 : Index := 2#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1140 : Index := Scalar.indexCast v1051
  let c7_646 : Index := 7#32
  ![2, v1140.toNat, 7]
def k0_off97 (v1137 : BitVec 32) (v1139 : BitVec 32) (v1141 : BitVec 32) : Fin 4 → Nat :=
  let v1143 : Index := Scalar.indexCast v1141
  let v1144 : Index := Scalar.indexCast v1137
  let c7_i32_647 : BitVec 32 := 7#32
  let v1142 : BitVec 32 := Scalar.addi v1139 c7_i32_647
  let v1145 : Index := Scalar.indexCast v1142
  let c0_648 : Index := 0#32
  ![v1143.toNat, v1144.toNat, v1145.toNat, 0]

def k0_chk16 (i : grid0.Coords) (v1137 : BitVec 32) (v1139 : BitVec 32) (v1141 : BitVec 32) : Prop :=
  (∀ (k0_h2 : k0_cond2 i = 1#1), ∀ a, S1x1x112x128.size a = 0 ∨ (k0_off97 v1137 v1139 v1141) a + (![1, 1, 2, 1] : Fin 4 → Nat) a * (S1x1x112x128.size a - 1) < S3x96x232x128.size a)
theorem k0_off97_inb : ∀ (i : grid0.Coords) (v1137 : BitVec 32) (v1139 : BitVec 32) (v1141 : BitVec 32) (k0_hw16 : k0_chk16 i v1137 v1139 v1141), ∀ (k0_h2 : k0_cond2 i = 1#1), ∀ a, S1x1x112x128.size a = 0 ∨ (k0_off97 v1137 v1139 v1141) a + (![1, 1, 2, 1] : Fin 4 → Nat) a * (S1x1x112x128.size a - 1) < S3x96x232x128.size a := fun i v1137 v1139 v1141 k0_hw16 k0_h2 => k0_hw16 k0_h2

def k0_off98 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1148 : Index := Scalar.indexCast v1051
  let c0_649 : Index := 0#32
  let c0_650 : Index := 0#32
  ![v1148.toNat, 0, 0]
def k0_off99 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1150 : Index := Scalar.indexCast v1051
  let c0_651 : Index := 0#32
  let c1_652 : Index := 1#32
  ![v1150.toNat, 0, 1]
def k0_off100 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1152 : Index := Scalar.indexCast v1051
  let c0_653 : Index := 0#32
  let c2_654 : Index := 2#32
  ![v1152.toNat, 0, 2]
def k0_off101 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1154 : Index := Scalar.indexCast v1051
  let c0_655 : Index := 0#32
  let c3_656 : Index := 3#32
  ![v1154.toNat, 0, 3]
def k0_off102 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1167 : Index := Scalar.indexCast v1051
  let c1_657 : Index := 1#32
  let c0_658 : Index := 0#32
  ![v1167.toNat, 1, 0]
def k0_off103 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1169 : Index := Scalar.indexCast v1051
  let c1_659 : Index := 1#32
  let c1_660 : Index := 1#32
  ![v1169.toNat, 1, 1]
def k0_off104 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1171 : Index := Scalar.indexCast v1051
  let c1_661 : Index := 1#32
  let c2_662 : Index := 2#32
  ![v1171.toNat, 1, 2]
def k0_off105 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1173 : Index := Scalar.indexCast v1051
  let c1_663 : Index := 1#32
  let c3_664 : Index := 3#32
  ![v1173.toNat, 1, 3]
def k0_off106 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1186 : Index := Scalar.indexCast v1051
  let c2_665 : Index := 2#32
  let c0_666 : Index := 0#32
  ![v1186.toNat, 2, 0]
def k0_off107 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1188 : Index := Scalar.indexCast v1051
  let c2_667 : Index := 2#32
  let c1_668 : Index := 1#32
  ![v1188.toNat, 2, 1]
def k0_off108 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1190 : Index := Scalar.indexCast v1051
  let c2_669 : Index := 2#32
  let c2_670 : Index := 2#32
  ![v1190.toNat, 2, 2]
def k0_off109 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1192 : Index := Scalar.indexCast v1051
  let c2_671 : Index := 2#32
  let c3_672 : Index := 3#32
  ![v1192.toNat, 2, 3]
def k0_off110 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1205 : Index := Scalar.indexCast v1051
  let c3_673 : Index := 3#32
  let c0_674 : Index := 0#32
  ![v1205.toNat, 3, 0]
def k0_off111 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1207 : Index := Scalar.indexCast v1051
  let c3_675 : Index := 3#32
  let c1_676 : Index := 1#32
  ![v1207.toNat, 3, 1]
def k0_off112 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1209 : Index := Scalar.indexCast v1051
  let c3_677 : Index := 3#32
  let c2_678 : Index := 2#32
  ![v1209.toNat, 3, 2]
def k0_off113 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1211 : Index := Scalar.indexCast v1051
  let c3_679 : Index := 3#32
  let c3_680 : Index := 3#32
  ![v1211.toNat, 3, 3]
def k0_off114 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1224 : Index := Scalar.indexCast v1051
  let c4_681 : Index := 4#32
  let c0_682 : Index := 0#32
  ![v1224.toNat, 4, 0]
def k0_off115 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1226 : Index := Scalar.indexCast v1051
  let c4_683 : Index := 4#32
  let c1_684 : Index := 1#32
  ![v1226.toNat, 4, 1]
def k0_off116 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1228 : Index := Scalar.indexCast v1051
  let c4_685 : Index := 4#32
  let c2_686 : Index := 2#32
  ![v1228.toNat, 4, 2]
def k0_off117 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1230 : Index := Scalar.indexCast v1051
  let c4_687 : Index := 4#32
  let c3_688 : Index := 3#32
  ![v1230.toNat, 4, 3]
def k0_off118 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1243 : Index := Scalar.indexCast v1051
  let c5_689 : Index := 5#32
  let c0_690 : Index := 0#32
  ![v1243.toNat, 5, 0]
def k0_off119 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1245 : Index := Scalar.indexCast v1051
  let c5_691 : Index := 5#32
  let c1_692 : Index := 1#32
  ![v1245.toNat, 5, 1]
def k0_off120 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1247 : Index := Scalar.indexCast v1051
  let c5_693 : Index := 5#32
  let c2_694 : Index := 2#32
  ![v1247.toNat, 5, 2]
def k0_off121 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1249 : Index := Scalar.indexCast v1051
  let c5_695 : Index := 5#32
  let c3_696 : Index := 3#32
  ![v1249.toNat, 5, 3]
def k0_off122 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1262 : Index := Scalar.indexCast v1051
  let c6_697 : Index := 6#32
  let c0_698 : Index := 0#32
  ![v1262.toNat, 6, 0]
def k0_off123 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1264 : Index := Scalar.indexCast v1051
  let c6_699 : Index := 6#32
  let c1_700 : Index := 1#32
  ![v1264.toNat, 6, 1]
def k0_off124 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1266 : Index := Scalar.indexCast v1051
  let c6_701 : Index := 6#32
  let c2_702 : Index := 2#32
  ![v1266.toNat, 6, 2]
def k0_off125 (k0_t1 : Fin k0_t1_loop.trips) : Fin 3 → Nat :=
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1268 : Index := Scalar.indexCast v1051
  let c6_703 : Index := 6#32
  let c3_704 : Index := 3#32
  ![v1268.toNat, 6, 3]
def k0_off126 (k0_t1 : Fin k0_t1_loop.trips) : Fin 4 → Nat :=
  let c0_705 : Index := 0#32
  let c16_i32_583 : BitVec 32 := 16#32
  let c0_i32_459 : BitVec 32 := 0#32
  let c1_i32_461 : BitVec 32 := 1#32
  let arg7 : BitVec 32 := Scf.iv c0_i32_459 c1_i32_461 k0_t1
  let v1050 : BitVec 32 := Scalar.muli c16_i32_583 arg7
  let c1_i32_584 : BitVec 32 := 1#32
  let v1051 : BitVec 32 := Scalar.addi v1050 c1_i32_584
  let v1282 : Index := Scalar.indexCast v1051
  let c0_706 : Index := 0#32
  let c0_707 : Index := 0#32
  ![0, v1282.toNat, 0, 0]
def k0_off127 (k0_t1 : Fin k0_t1_loop.trips) : Fin 3 → Nat :=
  let c0_710 : Index := 0#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1288 : Index := Scalar.indexCast v1287
  let c0_711 : Index := 0#32
  ![0, v1288.toNat, 0]
def k0_off128 (k0_t1 : Fin k0_t1_loop.trips) : Fin 3 → Nat :=
  let c1_712 : Index := 1#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1290 : Index := Scalar.indexCast v1287
  let c0_713 : Index := 0#32
  ![1, v1290.toNat, 0]
def k0_off129 (k0_t1 : Fin k0_t1_loop.trips) : Fin 3 → Nat :=
  let c2_714 : Index := 2#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1292 : Index := Scalar.indexCast v1287
  let c0_715 : Index := 0#32
  ![2, v1292.toNat, 0]
def k0_off130 (v1289 : BitVec 32) (v1291 : BitVec 32) (v1293 : BitVec 32) : Fin 4 → Nat :=
  let v1295 : Index := Scalar.indexCast v1293
  let v1296 : Index := Scalar.indexCast v1289
  let c7_i32_716 : BitVec 32 := 7#32
  let v1294 : BitVec 32 := Scalar.addi v1291 c7_i32_716
  let v1297 : Index := Scalar.indexCast v1294
  let c0_717 : Index := 0#32
  ![v1295.toNat, v1296.toNat, v1297.toNat, 0]

def k0_chk17 (i : grid0.Coords) (v1289 : BitVec 32) (v1291 : BitVec 32) (v1293 : BitVec 32) : Prop :=
  (∀ (k0_h2 : k0_cond2 i = 1#1), ∀ a, S1x1x112x128.size a = 0 ∨ (k0_off130 v1289 v1291 v1293) a + (![1, 1, 2, 1] : Fin 4 → Nat) a * (S1x1x112x128.size a - 1) < S3x96x232x128.size a)
theorem k0_off130_inb : ∀ (i : grid0.Coords) (v1289 : BitVec 32) (v1291 : BitVec 32) (v1293 : BitVec 32) (k0_hw17 : k0_chk17 i v1289 v1291 v1293), ∀ (k0_h2 : k0_cond2 i = 1#1), ∀ a, S1x1x112x128.size a = 0 ∨ (k0_off130 v1289 v1291 v1293) a + (![1, 1, 2, 1] : Fin 4 → Nat) a * (S1x1x112x128.size a - 1) < S3x96x232x128.size a := fun i v1289 v1291 v1293 k0_hw17 k0_h2 => k0_hw17 k0_h2

def k0_off131 (k0_t1 : Fin k0_t1_loop.trips) : Fin 3 → Nat :=
  let c0_718 : Index := 0#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1300 : Index := Scalar.indexCast v1287
  let c1_719 : Index := 1#32
  ![0, v1300.toNat, 1]
def k0_off132 (k0_t1 : Fin k0_t1_loop.trips) : Fin 3 → Nat :=
  let c1_720 : Index := 1#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1302 : Index := Scalar.indexCast v1287
  let c1_721 : Index := 1#32
  ![1, v1302.toNat, 1]
def k0_off133 (k0_t1 : Fin k0_t1_loop.trips) : Fin 3 → Nat :=
  let c2_722 : Index := 2#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1304 : Index := Scalar.indexCast v1287
  let c1_723 : Index := 1#32
  ![2, v1304.toNat, 1]
def k0_off134 (v1301 : BitVec 32) (v1303 : BitVec 32) (v1305 : BitVec 32) : Fin 4 → Nat :=
  let v1307 : Index := Scalar.indexCast v1305
  let v1308 : Index := Scalar.indexCast v1301
  let c7_i32_724 : BitVec 32 := 7#32
  let v1306 : BitVec 32 := Scalar.addi v1303 c7_i32_724
  let v1309 : Index := Scalar.indexCast v1306
  let c0_725 : Index := 0#32
  ![v1307.toNat, v1308.toNat, v1309.toNat, 0]

def k0_chk18 (i : grid0.Coords) (v1301 : BitVec 32) (v1303 : BitVec 32) (v1305 : BitVec 32) : Prop :=
  (∀ (k0_h2 : k0_cond2 i = 1#1), ∀ a, S1x1x112x128.size a = 0 ∨ (k0_off134 v1301 v1303 v1305) a + (![1, 1, 2, 1] : Fin 4 → Nat) a * (S1x1x112x128.size a - 1) < S3x96x232x128.size a)
theorem k0_off134_inb : ∀ (i : grid0.Coords) (v1301 : BitVec 32) (v1303 : BitVec 32) (v1305 : BitVec 32) (k0_hw18 : k0_chk18 i v1301 v1303 v1305), ∀ (k0_h2 : k0_cond2 i = 1#1), ∀ a, S1x1x112x128.size a = 0 ∨ (k0_off134 v1301 v1303 v1305) a + (![1, 1, 2, 1] : Fin 4 → Nat) a * (S1x1x112x128.size a - 1) < S3x96x232x128.size a := fun i v1301 v1303 v1305 k0_hw18 k0_h2 => k0_hw18 k0_h2

def k0_off135 (k0_t1 : Fin k0_t1_loop.trips) : Fin 3 → Nat :=
  let c0_726 : Index := 0#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1312 : Index := Scalar.indexCast v1287
  let c2_727 : Index := 2#32
  ![0, v1312.toNat, 2]
def k0_off136 (k0_t1 : Fin k0_t1_loop.trips) : Fin 3 → Nat :=
  let c1_728 : Index := 1#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1314 : Index := Scalar.indexCast v1287
  let c2_729 : Index := 2#32
  ![1, v1314.toNat, 2]
def k0_off137 (k0_t1 : Fin k0_t1_loop.trips) : Fin 3 → Nat :=
  let c2_730 : Index := 2#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1316 : Index := Scalar.indexCast v1287
  let c2_731 : Index := 2#32
  ![2, v1316.toNat, 2]
def k0_off138 (v1313 : BitVec 32) (v1315 : BitVec 32) (v1317 : BitVec 32) : Fin 4 → Nat :=
  let v1319 : Index := Scalar.indexCast v1317
  let v1320 : Index := Scalar.indexCast v1313
  let c7_i32_732 : BitVec 32 := 7#32
  let v1318 : BitVec 32 := Scalar.addi v1315 c7_i32_732
  let v1321 : Index := Scalar.indexCast v1318
  let c0_733 : Index := 0#32
  ![v1319.toNat, v1320.toNat, v1321.toNat, 0]

def k0_chk19 (i : grid0.Coords) (v1313 : BitVec 32) (v1315 : BitVec 32) (v1317 : BitVec 32) : Prop :=
  (∀ (k0_h2 : k0_cond2 i = 1#1), ∀ a, S1x1x112x128.size a = 0 ∨ (k0_off138 v1313 v1315 v1317) a + (![1, 1, 2, 1] : Fin 4 → Nat) a * (S1x1x112x128.size a - 1) < S3x96x232x128.size a)
theorem k0_off138_inb : ∀ (i : grid0.Coords) (v1313 : BitVec 32) (v1315 : BitVec 32) (v1317 : BitVec 32) (k0_hw19 : k0_chk19 i v1313 v1315 v1317), ∀ (k0_h2 : k0_cond2 i = 1#1), ∀ a, S1x1x112x128.size a = 0 ∨ (k0_off138 v1313 v1315 v1317) a + (![1, 1, 2, 1] : Fin 4 → Nat) a * (S1x1x112x128.size a - 1) < S3x96x232x128.size a := fun i v1313 v1315 v1317 k0_hw19 k0_h2 => k0_hw19 k0_h2

def k0_off139 (k0_t1 : Fin k0_t1_loop.trips) : Fin 3 → Nat :=
  let c0_734 : Index := 0#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1324 : Index := Scalar.indexCast v1287
  let c3_735 : Index := 3#32
  ![0, v1324.toNat, 3]
def k0_off140 (k0_t1 : Fin k0_t1_loop.trips) : Fin 3 → Nat :=
  let c1_736 : Index := 1#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1326 : Index := Scalar.indexCast v1287
  let c3_737 : Index := 3#32
  ![1, v1326.toNat, 3]
def k0_off141 (k0_t1 : Fin k0_t1_loop.trips) : Fin 3 → Nat :=
  let c2_738 : Index := 2#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1328 : Index := Scalar.indexCast v1287
  let c3_739 : Index := 3#32
  ![2, v1328.toNat, 3]
def k0_off142 (v1325 : BitVec 32) (v1327 : BitVec 32) (v1329 : BitVec 32) : Fin 4 → Nat :=
  let v1331 : Index := Scalar.indexCast v1329
  let v1332 : Index := Scalar.indexCast v1325
  let c7_i32_740 : BitVec 32 := 7#32
  let v1330 : BitVec 32 := Scalar.addi v1327 c7_i32_740
  let v1333 : Index := Scalar.indexCast v1330
  let c0_741 : Index := 0#32
  ![v1331.toNat, v1332.toNat, v1333.toNat, 0]

def k0_chk20 (i : grid0.Coords) (v1325 : BitVec 32) (v1327 : BitVec 32) (v1329 : BitVec 32) : Prop :=
  (∀ (k0_h2 : k0_cond2 i = 1#1), ∀ a, S1x1x112x128.size a = 0 ∨ (k0_off142 v1325 v1327 v1329) a + (![1, 1, 2, 1] : Fin 4 → Nat) a * (S1x1x112x128.size a - 1) < S3x96x232x128.size a)
theorem k0_off142_inb : ∀ (i : grid0.Coords) (v1325 : BitVec 32) (v1327 : BitVec 32) (v1329 : BitVec 32) (k0_hw20 : k0_chk20 i v1325 v1327 v1329), ∀ (k0_h2 : k0_cond2 i = 1#1), ∀ a, S1x1x112x128.size a = 0 ∨ (k0_off142 v1325 v1327 v1329) a + (![1, 1, 2, 1] : Fin 4 → Nat) a * (S1x1x112x128.size a - 1) < S3x96x232x128.size a := fun i v1325 v1327 v1329 k0_hw20 k0_h2 => k0_hw20 k0_h2

def k0_off143 (k0_t1 : Fin k0_t1_loop.trips) : Fin 3 → Nat :=
  let c0_742 : Index := 0#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1336 : Index := Scalar.indexCast v1287
  let c4_743 : Index := 4#32
  ![0, v1336.toNat, 4]
def k0_off144 (k0_t1 : Fin k0_t1_loop.trips) : Fin 3 → Nat :=
  let c1_744 : Index := 1#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1338 : Index := Scalar.indexCast v1287
  let c4_745 : Index := 4#32
  ![1, v1338.toNat, 4]
def k0_off145 (k0_t1 : Fin k0_t1_loop.trips) : Fin 3 → Nat :=
  let c2_746 : Index := 2#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1340 : Index := Scalar.indexCast v1287
  let c4_747 : Index := 4#32
  ![2, v1340.toNat, 4]
def k0_off146 (v1337 : BitVec 32) (v1339 : BitVec 32) (v1341 : BitVec 32) : Fin 4 → Nat :=
  let v1343 : Index := Scalar.indexCast v1341
  let v1344 : Index := Scalar.indexCast v1337
  let c7_i32_748 : BitVec 32 := 7#32
  let v1342 : BitVec 32 := Scalar.addi v1339 c7_i32_748
  let v1345 : Index := Scalar.indexCast v1342
  let c0_749 : Index := 0#32
  ![v1343.toNat, v1344.toNat, v1345.toNat, 0]

def k0_chk21 (i : grid0.Coords) (v1337 : BitVec 32) (v1339 : BitVec 32) (v1341 : BitVec 32) : Prop :=
  (∀ (k0_h2 : k0_cond2 i = 1#1), ∀ a, S1x1x112x128.size a = 0 ∨ (k0_off146 v1337 v1339 v1341) a + (![1, 1, 2, 1] : Fin 4 → Nat) a * (S1x1x112x128.size a - 1) < S3x96x232x128.size a)
theorem k0_off146_inb : ∀ (i : grid0.Coords) (v1337 : BitVec 32) (v1339 : BitVec 32) (v1341 : BitVec 32) (k0_hw21 : k0_chk21 i v1337 v1339 v1341), ∀ (k0_h2 : k0_cond2 i = 1#1), ∀ a, S1x1x112x128.size a = 0 ∨ (k0_off146 v1337 v1339 v1341) a + (![1, 1, 2, 1] : Fin 4 → Nat) a * (S1x1x112x128.size a - 1) < S3x96x232x128.size a := fun i v1337 v1339 v1341 k0_hw21 k0_h2 => k0_hw21 k0_h2

def k0_off147 (k0_t1 : Fin k0_t1_loop.trips) : Fin 3 → Nat :=
  let c0_750 : Index := 0#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1348 : Index := Scalar.indexCast v1287
  let c5_751 : Index := 5#32
  ![0, v1348.toNat, 5]
def k0_off148 (k0_t1 : Fin k0_t1_loop.trips) : Fin 3 → Nat :=
  let c1_752 : Index := 1#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1350 : Index := Scalar.indexCast v1287
  let c5_753 : Index := 5#32
  ![1, v1350.toNat, 5]
def k0_off149 (k0_t1 : Fin k0_t1_loop.trips) : Fin 3 → Nat :=
  let c2_754 : Index := 2#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1352 : Index := Scalar.indexCast v1287
  let c5_755 : Index := 5#32
  ![2, v1352.toNat, 5]
def k0_off150 (v1349 : BitVec 32) (v1351 : BitVec 32) (v1353 : BitVec 32) : Fin 4 → Nat :=
  let v1355 : Index := Scalar.indexCast v1353
  let v1356 : Index := Scalar.indexCast v1349
  let c7_i32_756 : BitVec 32 := 7#32
  let v1354 : BitVec 32 := Scalar.addi v1351 c7_i32_756
  let v1357 : Index := Scalar.indexCast v1354
  let c0_757 : Index := 0#32
  ![v1355.toNat, v1356.toNat, v1357.toNat, 0]

def k0_chk22 (i : grid0.Coords) (v1349 : BitVec 32) (v1351 : BitVec 32) (v1353 : BitVec 32) : Prop :=
  (∀ (k0_h2 : k0_cond2 i = 1#1), ∀ a, S1x1x112x128.size a = 0 ∨ (k0_off150 v1349 v1351 v1353) a + (![1, 1, 2, 1] : Fin 4 → Nat) a * (S1x1x112x128.size a - 1) < S3x96x232x128.size a)
theorem k0_off150_inb : ∀ (i : grid0.Coords) (v1349 : BitVec 32) (v1351 : BitVec 32) (v1353 : BitVec 32) (k0_hw22 : k0_chk22 i v1349 v1351 v1353), ∀ (k0_h2 : k0_cond2 i = 1#1), ∀ a, S1x1x112x128.size a = 0 ∨ (k0_off150 v1349 v1351 v1353) a + (![1, 1, 2, 1] : Fin 4 → Nat) a * (S1x1x112x128.size a - 1) < S3x96x232x128.size a := fun i v1349 v1351 v1353 k0_hw22 k0_h2 => k0_hw22 k0_h2

def k0_off151 (k0_t1 : Fin k0_t1_loop.trips) : Fin 3 → Nat :=
  let c0_758 : Index := 0#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1360 : Index := Scalar.indexCast v1287
  let c6_759 : Index := 6#32
  ![0, v1360.toNat, 6]
def k0_off152 (k0_t1 : Fin k0_t1_loop.trips) : Fin 3 → Nat :=
  let c1_760 : Index := 1#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1362 : Index := Scalar.indexCast v1287
  let c6_761 : Index := 6#32
  ![1, v1362.toNat, 6]
def k0_off153 (k0_t1 : Fin k0_t1_loop.trips) : Fin 3 → Nat :=
  let c2_762 : Index := 2#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1364 : Index := Scalar.indexCast v1287
  let c6_763 : Index := 6#32
  ![2, v1364.toNat, 6]
def k0_off154 (v1361 : BitVec 32) (v1363 : BitVec 32) (v1365 : BitVec 32) : Fin 4 → Nat :=
  let v1367 : Index := Scalar.indexCast v1365
  let v1368 : Index := Scalar.indexCast v1361
  let c7_i32_764 : BitVec 32 := 7#32
  let v1366 : BitVec 32 := Scalar.addi v1363 c7_i32_764
  let v1369 : Index := Scalar.indexCast v1366
  let c0_765 : Index := 0#32
  ![v1367.toNat, v1368.toNat, v1369.toNat, 0]

def k0_chk23 (i : grid0.Coords) (v1361 : BitVec 32) (v1363 : BitVec 32) (v1365 : BitVec 32) : Prop :=
  (∀ (k0_h2 : k0_cond2 i = 1#1), ∀ a, S1x1x112x128.size a = 0 ∨ (k0_off154 v1361 v1363 v1365) a + (![1, 1, 2, 1] : Fin 4 → Nat) a * (S1x1x112x128.size a - 1) < S3x96x232x128.size a)
theorem k0_off154_inb : ∀ (i : grid0.Coords) (v1361 : BitVec 32) (v1363 : BitVec 32) (v1365 : BitVec 32) (k0_hw23 : k0_chk23 i v1361 v1363 v1365), ∀ (k0_h2 : k0_cond2 i = 1#1), ∀ a, S1x1x112x128.size a = 0 ∨ (k0_off154 v1361 v1363 v1365) a + (![1, 1, 2, 1] : Fin 4 → Nat) a * (S1x1x112x128.size a - 1) < S3x96x232x128.size a := fun i v1361 v1363 v1365 k0_hw23 k0_h2 => k0_hw23 k0_h2

def k0_off155 (k0_t1 : Fin k0_t1_loop.trips) : Fin 3 → Nat :=
  let c0_766 : Index := 0#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1372 : Index := Scalar.indexCast v1287
  let c7_767 : Index := 7#32
  ![0, v1372.toNat, 7]
def k0_off156 (k0_t1 : Fin k0_t1_loop.trips) : Fin 3 → Nat :=
  let c1_768 : Index := 1#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1374 : Index := Scalar.indexCast v1287
  let c7_769 : Index := 7#32
  ![1, v1374.toNat, 7]
def k0_off157 (k0_t1 : Fin k0_t1_loop.trips) : Fin 3 → Nat :=
  let c2_770 : Index := 2#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1376 : Index := Scalar.indexCast v1287
  let c7_771 : Index := 7#32
  ![2, v1376.toNat, 7]
def k0_off158 (v1373 : BitVec 32) (v1375 : BitVec 32) (v1377 : BitVec 32) : Fin 4 → Nat :=
  let v1379 : Index := Scalar.indexCast v1377
  let v1380 : Index := Scalar.indexCast v1373
  let c7_i32_772 : BitVec 32 := 7#32
  let v1378 : BitVec 32 := Scalar.addi v1375 c7_i32_772
  let v1381 : Index := Scalar.indexCast v1378
  let c0_773 : Index := 0#32
  ![v1379.toNat, v1380.toNat, v1381.toNat, 0]

def k0_chk24 (i : grid0.Coords) (v1373 : BitVec 32) (v1375 : BitVec 32) (v1377 : BitVec 32) : Prop :=
  (∀ (k0_h2 : k0_cond2 i = 1#1), ∀ a, S1x1x112x128.size a = 0 ∨ (k0_off158 v1373 v1375 v1377) a + (![1, 1, 2, 1] : Fin 4 → Nat) a * (S1x1x112x128.size a - 1) < S3x96x232x128.size a)
theorem k0_off158_inb : ∀ (i : grid0.Coords) (v1373 : BitVec 32) (v1375 : BitVec 32) (v1377 : BitVec 32) (k0_hw24 : k0_chk24 i v1373 v1375 v1377), ∀ (k0_h2 : k0_cond2 i = 1#1), ∀ a, S1x1x112x128.size a = 0 ∨ (k0_off158 v1373 v1375 v1377) a + (![1, 1, 2, 1] : Fin 4 → Nat) a * (S1x1x112x128.size a - 1) < S3x96x232x128.size a := fun i v1373 v1375 v1377 k0_hw24 k0_h2 => k0_hw24 k0_h2

def k0_off159 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1384 : Index := Scalar.indexCast v1287
  let c0_774 : Index := 0#32
  let c0_775 : Index := 0#32
  ![v1384.toNat, 0, 0]
def k0_off160 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1386 : Index := Scalar.indexCast v1287
  let c0_776 : Index := 0#32
  let c1_777 : Index := 1#32
  ![v1386.toNat, 0, 1]
def k0_off161 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1388 : Index := Scalar.indexCast v1287
  let c0_778 : Index := 0#32
  let c2_779 : Index := 2#32
  ![v1388.toNat, 0, 2]
def k0_off162 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1390 : Index := Scalar.indexCast v1287
  let c0_780 : Index := 0#32
  let c3_781 : Index := 3#32
  ![v1390.toNat, 0, 3]
def k0_off163 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1403 : Index := Scalar.indexCast v1287
  let c1_782 : Index := 1#32
  let c0_783 : Index := 0#32
  ![v1403.toNat, 1, 0]
def k0_off164 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1405 : Index := Scalar.indexCast v1287
  let c1_784 : Index := 1#32
  let c1_785 : Index := 1#32
  ![v1405.toNat, 1, 1]
def k0_off165 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1407 : Index := Scalar.indexCast v1287
  let c1_786 : Index := 1#32
  let c2_787 : Index := 2#32
  ![v1407.toNat, 1, 2]
def k0_off166 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1409 : Index := Scalar.indexCast v1287
  let c1_788 : Index := 1#32
  let c3_789 : Index := 3#32
  ![v1409.toNat, 1, 3]
def k0_off167 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1422 : Index := Scalar.indexCast v1287
  let c2_790 : Index := 2#32
  let c0_791 : Index := 0#32
  ![v1422.toNat, 2, 0]
def k0_off168 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1424 : Index := Scalar.indexCast v1287
  let c2_792 : Index := 2#32
  let c1_793 : Index := 1#32
  ![v1424.toNat, 2, 1]
def k0_off169 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1426 : Index := Scalar.indexCast v1287
  let c2_794 : Index := 2#32
  let c2_795 : Index := 2#32
  ![v1426.toNat, 2, 2]
def k0_off170 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1428 : Index := Scalar.indexCast v1287
  let c2_796 : Index := 2#32
  let c3_797 : Index := 3#32
  ![v1428.toNat, 2, 3]
def k0_off171 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1441 : Index := Scalar.indexCast v1287
  let c3_798 : Index := 3#32
  let c0_799 : Index := 0#32
  ![v1441.toNat, 3, 0]
def k0_off172 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1443 : Index := Scalar.indexCast v1287
  let c3_800 : Index := 3#32
  let c1_801 : Index := 1#32
  ![v1443.toNat, 3, 1]
def k0_off173 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1445 : Index := Scalar.indexCast v1287
  let c3_802 : Index := 3#32
  let c2_803 : Index := 2#32
  ![v1445.toNat, 3, 2]
def k0_off174 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1447 : Index := Scalar.indexCast v1287
  let c3_804 : Index := 3#32
  let c3_805 : Index := 3#32
  ![v1447.toNat, 3, 3]
def k0_off175 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1460 : Index := Scalar.indexCast v1287
  let c4_806 : Index := 4#32
  let c0_807 : Index := 0#32
  ![v1460.toNat, 4, 0]
def k0_off176 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1462 : Index := Scalar.indexCast v1287
  let c4_808 : Index := 4#32
  let c1_809 : Index := 1#32
  ![v1462.toNat, 4, 1]
def k0_off177 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1464 : Index := Scalar.indexCast v1287
  let c4_810 : Index := 4#32
  let c2_811 : Index := 2#32
  ![v1464.toNat, 4, 2]
def k0_off178 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1466 : Index := Scalar.indexCast v1287
  let c4_812 : Index := 4#32
  let c3_813 : Index := 3#32
  ![v1466.toNat, 4, 3]
def k0_off179 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1479 : Index := Scalar.indexCast v1287
  let c5_814 : Index := 5#32
  let c0_815 : Index := 0#32
  ![v1479.toNat, 5, 0]
def k0_off180 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1481 : Index := Scalar.indexCast v1287
  let c5_816 : Index := 5#32
  let c1_817 : Index := 1#32
  ![v1481.toNat, 5, 1]
def k0_off181 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1483 : Index := Scalar.indexCast v1287
  let c5_818 : Index := 5#32
  let c2_819 : Index := 2#32
  ![v1483.toNat, 5, 2]
def k0_off182 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1485 : Index := Scalar.indexCast v1287
  let c5_820 : Index := 5#32
  let c3_821 : Index := 3#32
  ![v1485.toNat, 5, 3]
def k0_off183 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1498 : Index := Scalar.indexCast v1287
  let c6_822 : Index := 6#32
  let c0_823 : Index := 0#32
  ![v1498.toNat, 6, 0]
def k0_off184 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1500 : Index := Scalar.indexCast v1287
  let c6_824 : Index := 6#32
  let c1_825 : Index := 1#32
  ![v1500.toNat, 6, 1]
def k0_off185 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1502 : Index := Scalar.indexCast v1287
  let c6_826 : Index := 6#32
  let c2_827 : Index := 2#32
  ![v1502.toNat, 6, 2]
def k0_off186 (k0_t1 : Fin k0_t1_loop.trips) : Fin 3 → Nat :=
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1504 : Index := Scalar.indexCast v1287
  let c6_828 : Index := 6#32
  let c3_829 : Index := 3#32
  ![v1504.toNat, 6, 3]
def k0_off187 (k0_t1 : Fin k0_t1_loop.trips) : Fin 4 → Nat :=
  let c0_830 : Index := 0#32
  let c16_i32_708 : BitVec 32 := 16#32
  let c0_i32_459 : BitVec 32 := 0#32
  let c1_i32_461 : BitVec 32 := 1#32
  let arg7 : BitVec 32 := Scf.iv c0_i32_459 c1_i32_461 k0_t1
  let v1286 : BitVec 32 := Scalar.muli c16_i32_708 arg7
  let c2_i32_709 : BitVec 32 := 2#32
  let v1287 : BitVec 32 := Scalar.addi v1286 c2_i32_709
  let v1518 : Index := Scalar.indexCast v1287
  let c0_831 : Index := 0#32
  let c0_832 : Index := 0#32
  ![0, v1518.toNat, 0, 0]
def k0_off188 (k0_t1 : Fin k0_t1_loop.trips) : Fin 3 → Nat :=
  let c0_835 : Index := 0#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1524 : Index := Scalar.indexCast v1523
  let c0_836 : Index := 0#32
  ![0, v1524.toNat, 0]
def k0_off189 (k0_t1 : Fin k0_t1_loop.trips) : Fin 3 → Nat :=
  let c1_837 : Index := 1#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1526 : Index := Scalar.indexCast v1523
  let c0_838 : Index := 0#32
  ![1, v1526.toNat, 0]
def k0_off190 (k0_t1 : Fin k0_t1_loop.trips) : Fin 3 → Nat :=
  let c2_839 : Index := 2#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1528 : Index := Scalar.indexCast v1523
  let c0_840 : Index := 0#32
  ![2, v1528.toNat, 0]
def k0_off191 (v1525 : BitVec 32) (v1527 : BitVec 32) (v1529 : BitVec 32) : Fin 4 → Nat :=
  let v1531 : Index := Scalar.indexCast v1529
  let v1532 : Index := Scalar.indexCast v1525
  let c7_i32_841 : BitVec 32 := 7#32
  let v1530 : BitVec 32 := Scalar.addi v1527 c7_i32_841
  let v1533 : Index := Scalar.indexCast v1530
  let c0_842 : Index := 0#32
  ![v1531.toNat, v1532.toNat, v1533.toNat, 0]

def k0_chk25 (i : grid0.Coords) (v1525 : BitVec 32) (v1527 : BitVec 32) (v1529 : BitVec 32) : Prop :=
  (∀ (k0_h2 : k0_cond2 i = 1#1), ∀ a, S1x1x112x128.size a = 0 ∨ (k0_off191 v1525 v1527 v1529) a + (![1, 1, 2, 1] : Fin 4 → Nat) a * (S1x1x112x128.size a - 1) < S3x96x232x128.size a)
theorem k0_off191_inb : ∀ (i : grid0.Coords) (v1525 : BitVec 32) (v1527 : BitVec 32) (v1529 : BitVec 32) (k0_hw25 : k0_chk25 i v1525 v1527 v1529), ∀ (k0_h2 : k0_cond2 i = 1#1), ∀ a, S1x1x112x128.size a = 0 ∨ (k0_off191 v1525 v1527 v1529) a + (![1, 1, 2, 1] : Fin 4 → Nat) a * (S1x1x112x128.size a - 1) < S3x96x232x128.size a := fun i v1525 v1527 v1529 k0_hw25 k0_h2 => k0_hw25 k0_h2

def k0_off192 (k0_t1 : Fin k0_t1_loop.trips) : Fin 3 → Nat :=
  let c0_843 : Index := 0#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1536 : Index := Scalar.indexCast v1523
  let c1_844 : Index := 1#32
  ![0, v1536.toNat, 1]
def k0_off193 (k0_t1 : Fin k0_t1_loop.trips) : Fin 3 → Nat :=
  let c1_845 : Index := 1#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1538 : Index := Scalar.indexCast v1523
  let c1_846 : Index := 1#32
  ![1, v1538.toNat, 1]
def k0_off194 (k0_t1 : Fin k0_t1_loop.trips) : Fin 3 → Nat :=
  let c2_847 : Index := 2#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1540 : Index := Scalar.indexCast v1523
  let c1_848 : Index := 1#32
  ![2, v1540.toNat, 1]
def k0_off195 (v1537 : BitVec 32) (v1539 : BitVec 32) (v1541 : BitVec 32) : Fin 4 → Nat :=
  let v1543 : Index := Scalar.indexCast v1541
  let v1544 : Index := Scalar.indexCast v1537
  let c7_i32_849 : BitVec 32 := 7#32
  let v1542 : BitVec 32 := Scalar.addi v1539 c7_i32_849
  let v1545 : Index := Scalar.indexCast v1542
  let c0_850 : Index := 0#32
  ![v1543.toNat, v1544.toNat, v1545.toNat, 0]

def k0_chk26 (i : grid0.Coords) (v1537 : BitVec 32) (v1539 : BitVec 32) (v1541 : BitVec 32) : Prop :=
  (∀ (k0_h2 : k0_cond2 i = 1#1), ∀ a, S1x1x112x128.size a = 0 ∨ (k0_off195 v1537 v1539 v1541) a + (![1, 1, 2, 1] : Fin 4 → Nat) a * (S1x1x112x128.size a - 1) < S3x96x232x128.size a)
theorem k0_off195_inb : ∀ (i : grid0.Coords) (v1537 : BitVec 32) (v1539 : BitVec 32) (v1541 : BitVec 32) (k0_hw26 : k0_chk26 i v1537 v1539 v1541), ∀ (k0_h2 : k0_cond2 i = 1#1), ∀ a, S1x1x112x128.size a = 0 ∨ (k0_off195 v1537 v1539 v1541) a + (![1, 1, 2, 1] : Fin 4 → Nat) a * (S1x1x112x128.size a - 1) < S3x96x232x128.size a := fun i v1537 v1539 v1541 k0_hw26 k0_h2 => k0_hw26 k0_h2

def k0_off196 (k0_t1 : Fin k0_t1_loop.trips) : Fin 3 → Nat :=
  let c0_851 : Index := 0#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1548 : Index := Scalar.indexCast v1523
  let c2_852 : Index := 2#32
  ![0, v1548.toNat, 2]
def k0_off197 (k0_t1 : Fin k0_t1_loop.trips) : Fin 3 → Nat :=
  let c1_853 : Index := 1#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1550 : Index := Scalar.indexCast v1523
  let c2_854 : Index := 2#32
  ![1, v1550.toNat, 2]
def k0_off198 (k0_t1 : Fin k0_t1_loop.trips) : Fin 3 → Nat :=
  let c2_855 : Index := 2#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1552 : Index := Scalar.indexCast v1523
  let c2_856 : Index := 2#32
  ![2, v1552.toNat, 2]
def k0_off199 (v1549 : BitVec 32) (v1551 : BitVec 32) (v1553 : BitVec 32) : Fin 4 → Nat :=
  let v1555 : Index := Scalar.indexCast v1553
  let v1556 : Index := Scalar.indexCast v1549
  let c7_i32_857 : BitVec 32 := 7#32
  let v1554 : BitVec 32 := Scalar.addi v1551 c7_i32_857
  let v1557 : Index := Scalar.indexCast v1554
  let c0_858 : Index := 0#32
  ![v1555.toNat, v1556.toNat, v1557.toNat, 0]

def k0_chk27 (i : grid0.Coords) (v1549 : BitVec 32) (v1551 : BitVec 32) (v1553 : BitVec 32) : Prop :=
  (∀ (k0_h2 : k0_cond2 i = 1#1), ∀ a, S1x1x112x128.size a = 0 ∨ (k0_off199 v1549 v1551 v1553) a + (![1, 1, 2, 1] : Fin 4 → Nat) a * (S1x1x112x128.size a - 1) < S3x96x232x128.size a)
theorem k0_off199_inb : ∀ (i : grid0.Coords) (v1549 : BitVec 32) (v1551 : BitVec 32) (v1553 : BitVec 32) (k0_hw27 : k0_chk27 i v1549 v1551 v1553), ∀ (k0_h2 : k0_cond2 i = 1#1), ∀ a, S1x1x112x128.size a = 0 ∨ (k0_off199 v1549 v1551 v1553) a + (![1, 1, 2, 1] : Fin 4 → Nat) a * (S1x1x112x128.size a - 1) < S3x96x232x128.size a := fun i v1549 v1551 v1553 k0_hw27 k0_h2 => k0_hw27 k0_h2

def k0_off200 (k0_t1 : Fin k0_t1_loop.trips) : Fin 3 → Nat :=
  let c0_859 : Index := 0#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1560 : Index := Scalar.indexCast v1523
  let c3_860 : Index := 3#32
  ![0, v1560.toNat, 3]
def k0_off201 (k0_t1 : Fin k0_t1_loop.trips) : Fin 3 → Nat :=
  let c1_861 : Index := 1#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1562 : Index := Scalar.indexCast v1523
  let c3_862 : Index := 3#32
  ![1, v1562.toNat, 3]
def k0_off202 (k0_t1 : Fin k0_t1_loop.trips) : Fin 3 → Nat :=
  let c2_863 : Index := 2#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1564 : Index := Scalar.indexCast v1523
  let c3_864 : Index := 3#32
  ![2, v1564.toNat, 3]
def k0_off203 (v1561 : BitVec 32) (v1563 : BitVec 32) (v1565 : BitVec 32) : Fin 4 → Nat :=
  let v1567 : Index := Scalar.indexCast v1565
  let v1568 : Index := Scalar.indexCast v1561
  let c7_i32_865 : BitVec 32 := 7#32
  let v1566 : BitVec 32 := Scalar.addi v1563 c7_i32_865
  let v1569 : Index := Scalar.indexCast v1566
  let c0_866 : Index := 0#32
  ![v1567.toNat, v1568.toNat, v1569.toNat, 0]

def k0_chk28 (i : grid0.Coords) (v1561 : BitVec 32) (v1563 : BitVec 32) (v1565 : BitVec 32) : Prop :=
  (∀ (k0_h2 : k0_cond2 i = 1#1), ∀ a, S1x1x112x128.size a = 0 ∨ (k0_off203 v1561 v1563 v1565) a + (![1, 1, 2, 1] : Fin 4 → Nat) a * (S1x1x112x128.size a - 1) < S3x96x232x128.size a)
theorem k0_off203_inb : ∀ (i : grid0.Coords) (v1561 : BitVec 32) (v1563 : BitVec 32) (v1565 : BitVec 32) (k0_hw28 : k0_chk28 i v1561 v1563 v1565), ∀ (k0_h2 : k0_cond2 i = 1#1), ∀ a, S1x1x112x128.size a = 0 ∨ (k0_off203 v1561 v1563 v1565) a + (![1, 1, 2, 1] : Fin 4 → Nat) a * (S1x1x112x128.size a - 1) < S3x96x232x128.size a := fun i v1561 v1563 v1565 k0_hw28 k0_h2 => k0_hw28 k0_h2

def k0_off204 (k0_t1 : Fin k0_t1_loop.trips) : Fin 3 → Nat :=
  let c0_867 : Index := 0#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1572 : Index := Scalar.indexCast v1523
  let c4_868 : Index := 4#32
  ![0, v1572.toNat, 4]
def k0_off205 (k0_t1 : Fin k0_t1_loop.trips) : Fin 3 → Nat :=
  let c1_869 : Index := 1#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1574 : Index := Scalar.indexCast v1523
  let c4_870 : Index := 4#32
  ![1, v1574.toNat, 4]
def k0_off206 (k0_t1 : Fin k0_t1_loop.trips) : Fin 3 → Nat :=
  let c2_871 : Index := 2#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1576 : Index := Scalar.indexCast v1523
  let c4_872 : Index := 4#32
  ![2, v1576.toNat, 4]
def k0_off207 (v1573 : BitVec 32) (v1575 : BitVec 32) (v1577 : BitVec 32) : Fin 4 → Nat :=
  let v1579 : Index := Scalar.indexCast v1577
  let v1580 : Index := Scalar.indexCast v1573
  let c7_i32_873 : BitVec 32 := 7#32
  let v1578 : BitVec 32 := Scalar.addi v1575 c7_i32_873
  let v1581 : Index := Scalar.indexCast v1578
  let c0_874 : Index := 0#32
  ![v1579.toNat, v1580.toNat, v1581.toNat, 0]

def k0_chk29 (i : grid0.Coords) (v1573 : BitVec 32) (v1575 : BitVec 32) (v1577 : BitVec 32) : Prop :=
  (∀ (k0_h2 : k0_cond2 i = 1#1), ∀ a, S1x1x112x128.size a = 0 ∨ (k0_off207 v1573 v1575 v1577) a + (![1, 1, 2, 1] : Fin 4 → Nat) a * (S1x1x112x128.size a - 1) < S3x96x232x128.size a)
theorem k0_off207_inb : ∀ (i : grid0.Coords) (v1573 : BitVec 32) (v1575 : BitVec 32) (v1577 : BitVec 32) (k0_hw29 : k0_chk29 i v1573 v1575 v1577), ∀ (k0_h2 : k0_cond2 i = 1#1), ∀ a, S1x1x112x128.size a = 0 ∨ (k0_off207 v1573 v1575 v1577) a + (![1, 1, 2, 1] : Fin 4 → Nat) a * (S1x1x112x128.size a - 1) < S3x96x232x128.size a := fun i v1573 v1575 v1577 k0_hw29 k0_h2 => k0_hw29 k0_h2

def k0_off208 (k0_t1 : Fin k0_t1_loop.trips) : Fin 3 → Nat :=
  let c0_875 : Index := 0#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1584 : Index := Scalar.indexCast v1523
  let c5_876 : Index := 5#32
  ![0, v1584.toNat, 5]
def k0_off209 (k0_t1 : Fin k0_t1_loop.trips) : Fin 3 → Nat :=
  let c1_877 : Index := 1#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1586 : Index := Scalar.indexCast v1523
  let c5_878 : Index := 5#32
  ![1, v1586.toNat, 5]
def k0_off210 (k0_t1 : Fin k0_t1_loop.trips) : Fin 3 → Nat :=
  let c2_879 : Index := 2#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1588 : Index := Scalar.indexCast v1523
  let c5_880 : Index := 5#32
  ![2, v1588.toNat, 5]
def k0_off211 (v1585 : BitVec 32) (v1587 : BitVec 32) (v1589 : BitVec 32) : Fin 4 → Nat :=
  let v1591 : Index := Scalar.indexCast v1589
  let v1592 : Index := Scalar.indexCast v1585
  let c7_i32_881 : BitVec 32 := 7#32
  let v1590 : BitVec 32 := Scalar.addi v1587 c7_i32_881
  let v1593 : Index := Scalar.indexCast v1590
  let c0_882 : Index := 0#32
  ![v1591.toNat, v1592.toNat, v1593.toNat, 0]

def k0_chk30 (i : grid0.Coords) (v1585 : BitVec 32) (v1587 : BitVec 32) (v1589 : BitVec 32) : Prop :=
  (∀ (k0_h2 : k0_cond2 i = 1#1), ∀ a, S1x1x112x128.size a = 0 ∨ (k0_off211 v1585 v1587 v1589) a + (![1, 1, 2, 1] : Fin 4 → Nat) a * (S1x1x112x128.size a - 1) < S3x96x232x128.size a)
theorem k0_off211_inb : ∀ (i : grid0.Coords) (v1585 : BitVec 32) (v1587 : BitVec 32) (v1589 : BitVec 32) (k0_hw30 : k0_chk30 i v1585 v1587 v1589), ∀ (k0_h2 : k0_cond2 i = 1#1), ∀ a, S1x1x112x128.size a = 0 ∨ (k0_off211 v1585 v1587 v1589) a + (![1, 1, 2, 1] : Fin 4 → Nat) a * (S1x1x112x128.size a - 1) < S3x96x232x128.size a := fun i v1585 v1587 v1589 k0_hw30 k0_h2 => k0_hw30 k0_h2

def k0_off212 (k0_t1 : Fin k0_t1_loop.trips) : Fin 3 → Nat :=
  let c0_883 : Index := 0#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1596 : Index := Scalar.indexCast v1523
  let c6_884 : Index := 6#32
  ![0, v1596.toNat, 6]
def k0_off213 (k0_t1 : Fin k0_t1_loop.trips) : Fin 3 → Nat :=
  let c1_885 : Index := 1#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1598 : Index := Scalar.indexCast v1523
  let c6_886 : Index := 6#32
  ![1, v1598.toNat, 6]
def k0_off214 (k0_t1 : Fin k0_t1_loop.trips) : Fin 3 → Nat :=
  let c2_887 : Index := 2#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1600 : Index := Scalar.indexCast v1523
  let c6_888 : Index := 6#32
  ![2, v1600.toNat, 6]
def k0_off215 (v1597 : BitVec 32) (v1599 : BitVec 32) (v1601 : BitVec 32) : Fin 4 → Nat :=
  let v1603 : Index := Scalar.indexCast v1601
  let v1604 : Index := Scalar.indexCast v1597
  let c7_i32_889 : BitVec 32 := 7#32
  let v1602 : BitVec 32 := Scalar.addi v1599 c7_i32_889
  let v1605 : Index := Scalar.indexCast v1602
  let c0_890 : Index := 0#32
  ![v1603.toNat, v1604.toNat, v1605.toNat, 0]

def k0_chk31 (i : grid0.Coords) (v1597 : BitVec 32) (v1599 : BitVec 32) (v1601 : BitVec 32) : Prop :=
  (∀ (k0_h2 : k0_cond2 i = 1#1), ∀ a, S1x1x112x128.size a = 0 ∨ (k0_off215 v1597 v1599 v1601) a + (![1, 1, 2, 1] : Fin 4 → Nat) a * (S1x1x112x128.size a - 1) < S3x96x232x128.size a)
theorem k0_off215_inb : ∀ (i : grid0.Coords) (v1597 : BitVec 32) (v1599 : BitVec 32) (v1601 : BitVec 32) (k0_hw31 : k0_chk31 i v1597 v1599 v1601), ∀ (k0_h2 : k0_cond2 i = 1#1), ∀ a, S1x1x112x128.size a = 0 ∨ (k0_off215 v1597 v1599 v1601) a + (![1, 1, 2, 1] : Fin 4 → Nat) a * (S1x1x112x128.size a - 1) < S3x96x232x128.size a := fun i v1597 v1599 v1601 k0_hw31 k0_h2 => k0_hw31 k0_h2

def k0_off216 (k0_t1 : Fin k0_t1_loop.trips) : Fin 3 → Nat :=
  let c0_891 : Index := 0#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1608 : Index := Scalar.indexCast v1523
  let c7_892 : Index := 7#32
  ![0, v1608.toNat, 7]
def k0_off217 (k0_t1 : Fin k0_t1_loop.trips) : Fin 3 → Nat :=
  let c1_893 : Index := 1#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1610 : Index := Scalar.indexCast v1523
  let c7_894 : Index := 7#32
  ![1, v1610.toNat, 7]
def k0_off218 (k0_t1 : Fin k0_t1_loop.trips) : Fin 3 → Nat :=
  let c2_895 : Index := 2#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1612 : Index := Scalar.indexCast v1523
  let c7_896 : Index := 7#32
  ![2, v1612.toNat, 7]
def k0_off219 (v1609 : BitVec 32) (v1611 : BitVec 32) (v1613 : BitVec 32) : Fin 4 → Nat :=
  let v1615 : Index := Scalar.indexCast v1613
  let v1616 : Index := Scalar.indexCast v1609
  let c7_i32_897 : BitVec 32 := 7#32
  let v1614 : BitVec 32 := Scalar.addi v1611 c7_i32_897
  let v1617 : Index := Scalar.indexCast v1614
  let c0_898 : Index := 0#32
  ![v1615.toNat, v1616.toNat, v1617.toNat, 0]

def k0_chk32 (i : grid0.Coords) (v1609 : BitVec 32) (v1611 : BitVec 32) (v1613 : BitVec 32) : Prop :=
  (∀ (k0_h2 : k0_cond2 i = 1#1), ∀ a, S1x1x112x128.size a = 0 ∨ (k0_off219 v1609 v1611 v1613) a + (![1, 1, 2, 1] : Fin 4 → Nat) a * (S1x1x112x128.size a - 1) < S3x96x232x128.size a)
theorem k0_off219_inb : ∀ (i : grid0.Coords) (v1609 : BitVec 32) (v1611 : BitVec 32) (v1613 : BitVec 32) (k0_hw32 : k0_chk32 i v1609 v1611 v1613), ∀ (k0_h2 : k0_cond2 i = 1#1), ∀ a, S1x1x112x128.size a = 0 ∨ (k0_off219 v1609 v1611 v1613) a + (![1, 1, 2, 1] : Fin 4 → Nat) a * (S1x1x112x128.size a - 1) < S3x96x232x128.size a := fun i v1609 v1611 v1613 k0_hw32 k0_h2 => k0_hw32 k0_h2

def k0_off220 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1620 : Index := Scalar.indexCast v1523
  let c0_899 : Index := 0#32
  let c0_900 : Index := 0#32
  ![v1620.toNat, 0, 0]
def k0_off221 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1622 : Index := Scalar.indexCast v1523
  let c0_901 : Index := 0#32
  let c1_902 : Index := 1#32
  ![v1622.toNat, 0, 1]
def k0_off222 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1624 : Index := Scalar.indexCast v1523
  let c0_903 : Index := 0#32
  let c2_904 : Index := 2#32
  ![v1624.toNat, 0, 2]
def k0_off223 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1626 : Index := Scalar.indexCast v1523
  let c0_905 : Index := 0#32
  let c3_906 : Index := 3#32
  ![v1626.toNat, 0, 3]
def k0_off224 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1639 : Index := Scalar.indexCast v1523
  let c1_907 : Index := 1#32
  let c0_908 : Index := 0#32
  ![v1639.toNat, 1, 0]
def k0_off225 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1641 : Index := Scalar.indexCast v1523
  let c1_909 : Index := 1#32
  let c1_910 : Index := 1#32
  ![v1641.toNat, 1, 1]
def k0_off226 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1643 : Index := Scalar.indexCast v1523
  let c1_911 : Index := 1#32
  let c2_912 : Index := 2#32
  ![v1643.toNat, 1, 2]
def k0_off227 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1645 : Index := Scalar.indexCast v1523
  let c1_913 : Index := 1#32
  let c3_914 : Index := 3#32
  ![v1645.toNat, 1, 3]
def k0_off228 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1658 : Index := Scalar.indexCast v1523
  let c2_915 : Index := 2#32
  let c0_916 : Index := 0#32
  ![v1658.toNat, 2, 0]
def k0_off229 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1660 : Index := Scalar.indexCast v1523
  let c2_917 : Index := 2#32
  let c1_918 : Index := 1#32
  ![v1660.toNat, 2, 1]
def k0_off230 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1662 : Index := Scalar.indexCast v1523
  let c2_919 : Index := 2#32
  let c2_920 : Index := 2#32
  ![v1662.toNat, 2, 2]
def k0_off231 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1664 : Index := Scalar.indexCast v1523
  let c2_921 : Index := 2#32
  let c3_922 : Index := 3#32
  ![v1664.toNat, 2, 3]
def k0_off232 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1677 : Index := Scalar.indexCast v1523
  let c3_923 : Index := 3#32
  let c0_924 : Index := 0#32
  ![v1677.toNat, 3, 0]
def k0_off233 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1679 : Index := Scalar.indexCast v1523
  let c3_925 : Index := 3#32
  let c1_926 : Index := 1#32
  ![v1679.toNat, 3, 1]
def k0_off234 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1681 : Index := Scalar.indexCast v1523
  let c3_927 : Index := 3#32
  let c2_928 : Index := 2#32
  ![v1681.toNat, 3, 2]
def k0_off235 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1683 : Index := Scalar.indexCast v1523
  let c3_929 : Index := 3#32
  let c3_930 : Index := 3#32
  ![v1683.toNat, 3, 3]
def k0_off236 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1696 : Index := Scalar.indexCast v1523
  let c4_931 : Index := 4#32
  let c0_932 : Index := 0#32
  ![v1696.toNat, 4, 0]
def k0_off237 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1698 : Index := Scalar.indexCast v1523
  let c4_933 : Index := 4#32
  let c1_934 : Index := 1#32
  ![v1698.toNat, 4, 1]
def k0_off238 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1700 : Index := Scalar.indexCast v1523
  let c4_935 : Index := 4#32
  let c2_936 : Index := 2#32
  ![v1700.toNat, 4, 2]
def k0_off239 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1702 : Index := Scalar.indexCast v1523
  let c4_937 : Index := 4#32
  let c3_938 : Index := 3#32
  ![v1702.toNat, 4, 3]
def k0_off240 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1715 : Index := Scalar.indexCast v1523
  let c5_939 : Index := 5#32
  let c0_940 : Index := 0#32
  ![v1715.toNat, 5, 0]
def k0_off241 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1717 : Index := Scalar.indexCast v1523
  let c5_941 : Index := 5#32
  let c1_942 : Index := 1#32
  ![v1717.toNat, 5, 1]
def k0_off242 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1719 : Index := Scalar.indexCast v1523
  let c5_943 : Index := 5#32
  let c2_944 : Index := 2#32
  ![v1719.toNat, 5, 2]
def k0_off243 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1721 : Index := Scalar.indexCast v1523
  let c5_945 : Index := 5#32
  let c3_946 : Index := 3#32
  ![v1721.toNat, 5, 3]
def k0_off244 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1734 : Index := Scalar.indexCast v1523
  let c6_947 : Index := 6#32
  let c0_948 : Index := 0#32
  ![v1734.toNat, 6, 0]
def k0_off245 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1736 : Index := Scalar.indexCast v1523
  let c6_949 : Index := 6#32
  let c1_950 : Index := 1#32
  ![v1736.toNat, 6, 1]
def k0_off246 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1738 : Index := Scalar.indexCast v1523
  let c6_951 : Index := 6#32
  let c2_952 : Index := 2#32
  ![v1738.toNat, 6, 2]
def k0_off247 (k0_t1 : Fin k0_t1_loop.trips) : Fin 3 → Nat :=
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1740 : Index := Scalar.indexCast v1523
  let c6_953 : Index := 6#32
  let c3_954 : Index := 3#32
  ![v1740.toNat, 6, 3]
def k0_off248 (k0_t1 : Fin k0_t1_loop.trips) : Fin 4 → Nat :=
  let c0_955 : Index := 0#32
  let c16_i32_833 : BitVec 32 := 16#32
  let c0_i32_459 : BitVec 32 := 0#32
  let c1_i32_461 : BitVec 32 := 1#32
  let arg7 : BitVec 32 := Scf.iv c0_i32_459 c1_i32_461 k0_t1
  let v1522 : BitVec 32 := Scalar.muli c16_i32_833 arg7
  let c3_i32_834 : BitVec 32 := 3#32
  let v1523 : BitVec 32 := Scalar.addi v1522 c3_i32_834
  let v1754 : Index := Scalar.indexCast v1523
  let c0_956 : Index := 0#32
  let c0_957 : Index := 0#32
  ![0, v1754.toNat, 0, 0]
def k0_off249 (k0_t1 : Fin k0_t1_loop.trips) : Fin 3 → Nat :=
  let c0_960 : Index := 0#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1760 : Index := Scalar.indexCast v1759
  let c0_961 : Index := 0#32
  ![0, v1760.toNat, 0]
def k0_off250 (k0_t1 : Fin k0_t1_loop.trips) : Fin 3 → Nat :=
  let c1_962 : Index := 1#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1762 : Index := Scalar.indexCast v1759
  let c0_963 : Index := 0#32
  ![1, v1762.toNat, 0]
def k0_off251 (k0_t1 : Fin k0_t1_loop.trips) : Fin 3 → Nat :=
  let c2_964 : Index := 2#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1764 : Index := Scalar.indexCast v1759
  let c0_965 : Index := 0#32
  ![2, v1764.toNat, 0]
def k0_off252 (v1761 : BitVec 32) (v1763 : BitVec 32) (v1765 : BitVec 32) : Fin 4 → Nat :=
  let v1767 : Index := Scalar.indexCast v1765
  let v1768 : Index := Scalar.indexCast v1761
  let c7_i32_966 : BitVec 32 := 7#32
  let v1766 : BitVec 32 := Scalar.addi v1763 c7_i32_966
  let v1769 : Index := Scalar.indexCast v1766
  let c0_967 : Index := 0#32
  ![v1767.toNat, v1768.toNat, v1769.toNat, 0]

def k0_chk33 (i : grid0.Coords) (v1761 : BitVec 32) (v1763 : BitVec 32) (v1765 : BitVec 32) : Prop :=
  (∀ (k0_h2 : k0_cond2 i = 1#1), ∀ a, S1x1x112x128.size a = 0 ∨ (k0_off252 v1761 v1763 v1765) a + (![1, 1, 2, 1] : Fin 4 → Nat) a * (S1x1x112x128.size a - 1) < S3x96x232x128.size a)
theorem k0_off252_inb : ∀ (i : grid0.Coords) (v1761 : BitVec 32) (v1763 : BitVec 32) (v1765 : BitVec 32) (k0_hw33 : k0_chk33 i v1761 v1763 v1765), ∀ (k0_h2 : k0_cond2 i = 1#1), ∀ a, S1x1x112x128.size a = 0 ∨ (k0_off252 v1761 v1763 v1765) a + (![1, 1, 2, 1] : Fin 4 → Nat) a * (S1x1x112x128.size a - 1) < S3x96x232x128.size a := fun i v1761 v1763 v1765 k0_hw33 k0_h2 => k0_hw33 k0_h2

def k0_off253 (k0_t1 : Fin k0_t1_loop.trips) : Fin 3 → Nat :=
  let c0_968 : Index := 0#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1772 : Index := Scalar.indexCast v1759
  let c1_969 : Index := 1#32
  ![0, v1772.toNat, 1]
def k0_off254 (k0_t1 : Fin k0_t1_loop.trips) : Fin 3 → Nat :=
  let c1_970 : Index := 1#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1774 : Index := Scalar.indexCast v1759
  let c1_971 : Index := 1#32
  ![1, v1774.toNat, 1]
def k0_off255 (k0_t1 : Fin k0_t1_loop.trips) : Fin 3 → Nat :=
  let c2_972 : Index := 2#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1776 : Index := Scalar.indexCast v1759
  let c1_973 : Index := 1#32
  ![2, v1776.toNat, 1]
def k0_off256 (v1773 : BitVec 32) (v1775 : BitVec 32) (v1777 : BitVec 32) : Fin 4 → Nat :=
  let v1779 : Index := Scalar.indexCast v1777
  let v1780 : Index := Scalar.indexCast v1773
  let c7_i32_974 : BitVec 32 := 7#32
  let v1778 : BitVec 32 := Scalar.addi v1775 c7_i32_974
  let v1781 : Index := Scalar.indexCast v1778
  let c0_975 : Index := 0#32
  ![v1779.toNat, v1780.toNat, v1781.toNat, 0]

def k0_chk34 (i : grid0.Coords) (v1773 : BitVec 32) (v1775 : BitVec 32) (v1777 : BitVec 32) : Prop :=
  (∀ (k0_h2 : k0_cond2 i = 1#1), ∀ a, S1x1x112x128.size a = 0 ∨ (k0_off256 v1773 v1775 v1777) a + (![1, 1, 2, 1] : Fin 4 → Nat) a * (S1x1x112x128.size a - 1) < S3x96x232x128.size a)
theorem k0_off256_inb : ∀ (i : grid0.Coords) (v1773 : BitVec 32) (v1775 : BitVec 32) (v1777 : BitVec 32) (k0_hw34 : k0_chk34 i v1773 v1775 v1777), ∀ (k0_h2 : k0_cond2 i = 1#1), ∀ a, S1x1x112x128.size a = 0 ∨ (k0_off256 v1773 v1775 v1777) a + (![1, 1, 2, 1] : Fin 4 → Nat) a * (S1x1x112x128.size a - 1) < S3x96x232x128.size a := fun i v1773 v1775 v1777 k0_hw34 k0_h2 => k0_hw34 k0_h2

def k0_off257 (k0_t1 : Fin k0_t1_loop.trips) : Fin 3 → Nat :=
  let c0_976 : Index := 0#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1784 : Index := Scalar.indexCast v1759
  let c2_977 : Index := 2#32
  ![0, v1784.toNat, 2]
def k0_off258 (k0_t1 : Fin k0_t1_loop.trips) : Fin 3 → Nat :=
  let c1_978 : Index := 1#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1786 : Index := Scalar.indexCast v1759
  let c2_979 : Index := 2#32
  ![1, v1786.toNat, 2]
def k0_off259 (k0_t1 : Fin k0_t1_loop.trips) : Fin 3 → Nat :=
  let c2_980 : Index := 2#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1788 : Index := Scalar.indexCast v1759
  let c2_981 : Index := 2#32
  ![2, v1788.toNat, 2]
def k0_off260 (v1785 : BitVec 32) (v1787 : BitVec 32) (v1789 : BitVec 32) : Fin 4 → Nat :=
  let v1791 : Index := Scalar.indexCast v1789
  let v1792 : Index := Scalar.indexCast v1785
  let c7_i32_982 : BitVec 32 := 7#32
  let v1790 : BitVec 32 := Scalar.addi v1787 c7_i32_982
  let v1793 : Index := Scalar.indexCast v1790
  let c0_983 : Index := 0#32
  ![v1791.toNat, v1792.toNat, v1793.toNat, 0]

def k0_chk35 (i : grid0.Coords) (v1785 : BitVec 32) (v1787 : BitVec 32) (v1789 : BitVec 32) : Prop :=
  (∀ (k0_h2 : k0_cond2 i = 1#1), ∀ a, S1x1x112x128.size a = 0 ∨ (k0_off260 v1785 v1787 v1789) a + (![1, 1, 2, 1] : Fin 4 → Nat) a * (S1x1x112x128.size a - 1) < S3x96x232x128.size a)
theorem k0_off260_inb : ∀ (i : grid0.Coords) (v1785 : BitVec 32) (v1787 : BitVec 32) (v1789 : BitVec 32) (k0_hw35 : k0_chk35 i v1785 v1787 v1789), ∀ (k0_h2 : k0_cond2 i = 1#1), ∀ a, S1x1x112x128.size a = 0 ∨ (k0_off260 v1785 v1787 v1789) a + (![1, 1, 2, 1] : Fin 4 → Nat) a * (S1x1x112x128.size a - 1) < S3x96x232x128.size a := fun i v1785 v1787 v1789 k0_hw35 k0_h2 => k0_hw35 k0_h2

def k0_off261 (k0_t1 : Fin k0_t1_loop.trips) : Fin 3 → Nat :=
  let c0_984 : Index := 0#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1796 : Index := Scalar.indexCast v1759
  let c3_985 : Index := 3#32
  ![0, v1796.toNat, 3]
def k0_off262 (k0_t1 : Fin k0_t1_loop.trips) : Fin 3 → Nat :=
  let c1_986 : Index := 1#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1798 : Index := Scalar.indexCast v1759
  let c3_987 : Index := 3#32
  ![1, v1798.toNat, 3]
def k0_off263 (k0_t1 : Fin k0_t1_loop.trips) : Fin 3 → Nat :=
  let c2_988 : Index := 2#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1800 : Index := Scalar.indexCast v1759
  let c3_989 : Index := 3#32
  ![2, v1800.toNat, 3]
def k0_off264 (v1797 : BitVec 32) (v1799 : BitVec 32) (v1801 : BitVec 32) : Fin 4 → Nat :=
  let v1803 : Index := Scalar.indexCast v1801
  let v1804 : Index := Scalar.indexCast v1797
  let c7_i32_990 : BitVec 32 := 7#32
  let v1802 : BitVec 32 := Scalar.addi v1799 c7_i32_990
  let v1805 : Index := Scalar.indexCast v1802
  let c0_991 : Index := 0#32
  ![v1803.toNat, v1804.toNat, v1805.toNat, 0]

def k0_chk36 (i : grid0.Coords) (v1797 : BitVec 32) (v1799 : BitVec 32) (v1801 : BitVec 32) : Prop :=
  (∀ (k0_h2 : k0_cond2 i = 1#1), ∀ a, S1x1x112x128.size a = 0 ∨ (k0_off264 v1797 v1799 v1801) a + (![1, 1, 2, 1] : Fin 4 → Nat) a * (S1x1x112x128.size a - 1) < S3x96x232x128.size a)
theorem k0_off264_inb : ∀ (i : grid0.Coords) (v1797 : BitVec 32) (v1799 : BitVec 32) (v1801 : BitVec 32) (k0_hw36 : k0_chk36 i v1797 v1799 v1801), ∀ (k0_h2 : k0_cond2 i = 1#1), ∀ a, S1x1x112x128.size a = 0 ∨ (k0_off264 v1797 v1799 v1801) a + (![1, 1, 2, 1] : Fin 4 → Nat) a * (S1x1x112x128.size a - 1) < S3x96x232x128.size a := fun i v1797 v1799 v1801 k0_hw36 k0_h2 => k0_hw36 k0_h2

def k0_off265 (k0_t1 : Fin k0_t1_loop.trips) : Fin 3 → Nat :=
  let c0_992 : Index := 0#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1808 : Index := Scalar.indexCast v1759
  let c4_993 : Index := 4#32
  ![0, v1808.toNat, 4]
def k0_off266 (k0_t1 : Fin k0_t1_loop.trips) : Fin 3 → Nat :=
  let c1_994 : Index := 1#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1810 : Index := Scalar.indexCast v1759
  let c4_995 : Index := 4#32
  ![1, v1810.toNat, 4]
def k0_off267 (k0_t1 : Fin k0_t1_loop.trips) : Fin 3 → Nat :=
  let c2_996 : Index := 2#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1812 : Index := Scalar.indexCast v1759
  let c4_997 : Index := 4#32
  ![2, v1812.toNat, 4]
def k0_off268 (v1809 : BitVec 32) (v1811 : BitVec 32) (v1813 : BitVec 32) : Fin 4 → Nat :=
  let v1815 : Index := Scalar.indexCast v1813
  let v1816 : Index := Scalar.indexCast v1809
  let c7_i32_998 : BitVec 32 := 7#32
  let v1814 : BitVec 32 := Scalar.addi v1811 c7_i32_998
  let v1817 : Index := Scalar.indexCast v1814
  let c0_999 : Index := 0#32
  ![v1815.toNat, v1816.toNat, v1817.toNat, 0]

def k0_chk37 (i : grid0.Coords) (v1809 : BitVec 32) (v1811 : BitVec 32) (v1813 : BitVec 32) : Prop :=
  (∀ (k0_h2 : k0_cond2 i = 1#1), ∀ a, S1x1x112x128.size a = 0 ∨ (k0_off268 v1809 v1811 v1813) a + (![1, 1, 2, 1] : Fin 4 → Nat) a * (S1x1x112x128.size a - 1) < S3x96x232x128.size a)
theorem k0_off268_inb : ∀ (i : grid0.Coords) (v1809 : BitVec 32) (v1811 : BitVec 32) (v1813 : BitVec 32) (k0_hw37 : k0_chk37 i v1809 v1811 v1813), ∀ (k0_h2 : k0_cond2 i = 1#1), ∀ a, S1x1x112x128.size a = 0 ∨ (k0_off268 v1809 v1811 v1813) a + (![1, 1, 2, 1] : Fin 4 → Nat) a * (S1x1x112x128.size a - 1) < S3x96x232x128.size a := fun i v1809 v1811 v1813 k0_hw37 k0_h2 => k0_hw37 k0_h2

def k0_off269 (k0_t1 : Fin k0_t1_loop.trips) : Fin 3 → Nat :=
  let c0_1000 : Index := 0#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1820 : Index := Scalar.indexCast v1759
  let c5_1001 : Index := 5#32
  ![0, v1820.toNat, 5]
def k0_off270 (k0_t1 : Fin k0_t1_loop.trips) : Fin 3 → Nat :=
  let c1_1002 : Index := 1#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1822 : Index := Scalar.indexCast v1759
  let c5_1003 : Index := 5#32
  ![1, v1822.toNat, 5]
def k0_off271 (k0_t1 : Fin k0_t1_loop.trips) : Fin 3 → Nat :=
  let c2_1004 : Index := 2#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1824 : Index := Scalar.indexCast v1759
  let c5_1005 : Index := 5#32
  ![2, v1824.toNat, 5]
def k0_off272 (v1821 : BitVec 32) (v1823 : BitVec 32) (v1825 : BitVec 32) : Fin 4 → Nat :=
  let v1827 : Index := Scalar.indexCast v1825
  let v1828 : Index := Scalar.indexCast v1821
  let c7_i32_1006 : BitVec 32 := 7#32
  let v1826 : BitVec 32 := Scalar.addi v1823 c7_i32_1006
  let v1829 : Index := Scalar.indexCast v1826
  let c0_1007 : Index := 0#32
  ![v1827.toNat, v1828.toNat, v1829.toNat, 0]

def k0_chk38 (i : grid0.Coords) (v1821 : BitVec 32) (v1823 : BitVec 32) (v1825 : BitVec 32) : Prop :=
  (∀ (k0_h2 : k0_cond2 i = 1#1), ∀ a, S1x1x112x128.size a = 0 ∨ (k0_off272 v1821 v1823 v1825) a + (![1, 1, 2, 1] : Fin 4 → Nat) a * (S1x1x112x128.size a - 1) < S3x96x232x128.size a)
theorem k0_off272_inb : ∀ (i : grid0.Coords) (v1821 : BitVec 32) (v1823 : BitVec 32) (v1825 : BitVec 32) (k0_hw38 : k0_chk38 i v1821 v1823 v1825), ∀ (k0_h2 : k0_cond2 i = 1#1), ∀ a, S1x1x112x128.size a = 0 ∨ (k0_off272 v1821 v1823 v1825) a + (![1, 1, 2, 1] : Fin 4 → Nat) a * (S1x1x112x128.size a - 1) < S3x96x232x128.size a := fun i v1821 v1823 v1825 k0_hw38 k0_h2 => k0_hw38 k0_h2

def k0_off273 (k0_t1 : Fin k0_t1_loop.trips) : Fin 3 → Nat :=
  let c0_1008 : Index := 0#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1832 : Index := Scalar.indexCast v1759
  let c6_1009 : Index := 6#32
  ![0, v1832.toNat, 6]
def k0_off274 (k0_t1 : Fin k0_t1_loop.trips) : Fin 3 → Nat :=
  let c1_1010 : Index := 1#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1834 : Index := Scalar.indexCast v1759
  let c6_1011 : Index := 6#32
  ![1, v1834.toNat, 6]
def k0_off275 (k0_t1 : Fin k0_t1_loop.trips) : Fin 3 → Nat :=
  let c2_1012 : Index := 2#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1836 : Index := Scalar.indexCast v1759
  let c6_1013 : Index := 6#32
  ![2, v1836.toNat, 6]
def k0_off276 (v1833 : BitVec 32) (v1835 : BitVec 32) (v1837 : BitVec 32) : Fin 4 → Nat :=
  let v1839 : Index := Scalar.indexCast v1837
  let v1840 : Index := Scalar.indexCast v1833
  let c7_i32_1014 : BitVec 32 := 7#32
  let v1838 : BitVec 32 := Scalar.addi v1835 c7_i32_1014
  let v1841 : Index := Scalar.indexCast v1838
  let c0_1015 : Index := 0#32
  ![v1839.toNat, v1840.toNat, v1841.toNat, 0]

def k0_chk39 (i : grid0.Coords) (v1833 : BitVec 32) (v1835 : BitVec 32) (v1837 : BitVec 32) : Prop :=
  (∀ (k0_h2 : k0_cond2 i = 1#1), ∀ a, S1x1x112x128.size a = 0 ∨ (k0_off276 v1833 v1835 v1837) a + (![1, 1, 2, 1] : Fin 4 → Nat) a * (S1x1x112x128.size a - 1) < S3x96x232x128.size a)
theorem k0_off276_inb : ∀ (i : grid0.Coords) (v1833 : BitVec 32) (v1835 : BitVec 32) (v1837 : BitVec 32) (k0_hw39 : k0_chk39 i v1833 v1835 v1837), ∀ (k0_h2 : k0_cond2 i = 1#1), ∀ a, S1x1x112x128.size a = 0 ∨ (k0_off276 v1833 v1835 v1837) a + (![1, 1, 2, 1] : Fin 4 → Nat) a * (S1x1x112x128.size a - 1) < S3x96x232x128.size a := fun i v1833 v1835 v1837 k0_hw39 k0_h2 => k0_hw39 k0_h2

def k0_off277 (k0_t1 : Fin k0_t1_loop.trips) : Fin 3 → Nat :=
  let c0_1016 : Index := 0#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1844 : Index := Scalar.indexCast v1759
  let c7_1017 : Index := 7#32
  ![0, v1844.toNat, 7]
def k0_off278 (k0_t1 : Fin k0_t1_loop.trips) : Fin 3 → Nat :=
  let c1_1018 : Index := 1#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1846 : Index := Scalar.indexCast v1759
  let c7_1019 : Index := 7#32
  ![1, v1846.toNat, 7]
def k0_off279 (k0_t1 : Fin k0_t1_loop.trips) : Fin 3 → Nat :=
  let c2_1020 : Index := 2#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1848 : Index := Scalar.indexCast v1759
  let c7_1021 : Index := 7#32
  ![2, v1848.toNat, 7]
def k0_off280 (v1845 : BitVec 32) (v1847 : BitVec 32) (v1849 : BitVec 32) : Fin 4 → Nat :=
  let v1851 : Index := Scalar.indexCast v1849
  let v1852 : Index := Scalar.indexCast v1845
  let c7_i32_1022 : BitVec 32 := 7#32
  let v1850 : BitVec 32 := Scalar.addi v1847 c7_i32_1022
  let v1853 : Index := Scalar.indexCast v1850
  let c0_1023 : Index := 0#32
  ![v1851.toNat, v1852.toNat, v1853.toNat, 0]

def k0_chk40 (i : grid0.Coords) (v1845 : BitVec 32) (v1847 : BitVec 32) (v1849 : BitVec 32) : Prop :=
  (∀ (k0_h2 : k0_cond2 i = 1#1), ∀ a, S1x1x112x128.size a = 0 ∨ (k0_off280 v1845 v1847 v1849) a + (![1, 1, 2, 1] : Fin 4 → Nat) a * (S1x1x112x128.size a - 1) < S3x96x232x128.size a)
theorem k0_off280_inb : ∀ (i : grid0.Coords) (v1845 : BitVec 32) (v1847 : BitVec 32) (v1849 : BitVec 32) (k0_hw40 : k0_chk40 i v1845 v1847 v1849), ∀ (k0_h2 : k0_cond2 i = 1#1), ∀ a, S1x1x112x128.size a = 0 ∨ (k0_off280 v1845 v1847 v1849) a + (![1, 1, 2, 1] : Fin 4 → Nat) a * (S1x1x112x128.size a - 1) < S3x96x232x128.size a := fun i v1845 v1847 v1849 k0_hw40 k0_h2 => k0_hw40 k0_h2

def k0_off281 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1856 : Index := Scalar.indexCast v1759
  let c0_1024 : Index := 0#32
  let c0_1025 : Index := 0#32
  ![v1856.toNat, 0, 0]
def k0_off282 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1858 : Index := Scalar.indexCast v1759
  let c0_1026 : Index := 0#32
  let c1_1027 : Index := 1#32
  ![v1858.toNat, 0, 1]
def k0_off283 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1860 : Index := Scalar.indexCast v1759
  let c0_1028 : Index := 0#32
  let c2_1029 : Index := 2#32
  ![v1860.toNat, 0, 2]
def k0_off284 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1862 : Index := Scalar.indexCast v1759
  let c0_1030 : Index := 0#32
  let c3_1031 : Index := 3#32
  ![v1862.toNat, 0, 3]
def k0_off285 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1875 : Index := Scalar.indexCast v1759
  let c1_1032 : Index := 1#32
  let c0_1033 : Index := 0#32
  ![v1875.toNat, 1, 0]
def k0_off286 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1877 : Index := Scalar.indexCast v1759
  let c1_1034 : Index := 1#32
  let c1_1035 : Index := 1#32
  ![v1877.toNat, 1, 1]
def k0_off287 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1879 : Index := Scalar.indexCast v1759
  let c1_1036 : Index := 1#32
  let c2_1037 : Index := 2#32
  ![v1879.toNat, 1, 2]
def k0_off288 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1881 : Index := Scalar.indexCast v1759
  let c1_1038 : Index := 1#32
  let c3_1039 : Index := 3#32
  ![v1881.toNat, 1, 3]
def k0_off289 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1894 : Index := Scalar.indexCast v1759
  let c2_1040 : Index := 2#32
  let c0_1041 : Index := 0#32
  ![v1894.toNat, 2, 0]
def k0_off290 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1896 : Index := Scalar.indexCast v1759
  let c2_1042 : Index := 2#32
  let c1_1043 : Index := 1#32
  ![v1896.toNat, 2, 1]
def k0_off291 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1898 : Index := Scalar.indexCast v1759
  let c2_1044 : Index := 2#32
  let c2_1045 : Index := 2#32
  ![v1898.toNat, 2, 2]
def k0_off292 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1900 : Index := Scalar.indexCast v1759
  let c2_1046 : Index := 2#32
  let c3_1047 : Index := 3#32
  ![v1900.toNat, 2, 3]
def k0_off293 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1913 : Index := Scalar.indexCast v1759
  let c3_1048 : Index := 3#32
  let c0_1049 : Index := 0#32
  ![v1913.toNat, 3, 0]
def k0_off294 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1915 : Index := Scalar.indexCast v1759
  let c3_1050 : Index := 3#32
  let c1_1051 : Index := 1#32
  ![v1915.toNat, 3, 1]
def k0_off295 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1917 : Index := Scalar.indexCast v1759
  let c3_1052 : Index := 3#32
  let c2_1053 : Index := 2#32
  ![v1917.toNat, 3, 2]
def k0_off296 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1919 : Index := Scalar.indexCast v1759
  let c3_1054 : Index := 3#32
  let c3_1055 : Index := 3#32
  ![v1919.toNat, 3, 3]
def k0_off297 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1932 : Index := Scalar.indexCast v1759
  let c4_1056 : Index := 4#32
  let c0_1057 : Index := 0#32
  ![v1932.toNat, 4, 0]
def k0_off298 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1934 : Index := Scalar.indexCast v1759
  let c4_1058 : Index := 4#32
  let c1_1059 : Index := 1#32
  ![v1934.toNat, 4, 1]
def k0_off299 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1936 : Index := Scalar.indexCast v1759
  let c4_1060 : Index := 4#32
  let c2_1061 : Index := 2#32
  ![v1936.toNat, 4, 2]
def k0_off300 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1938 : Index := Scalar.indexCast v1759
  let c4_1062 : Index := 4#32
  let c3_1063 : Index := 3#32
  ![v1938.toNat, 4, 3]
def k0_off301 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1951 : Index := Scalar.indexCast v1759
  let c5_1064 : Index := 5#32
  let c0_1065 : Index := 0#32
  ![v1951.toNat, 5, 0]
def k0_off302 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1953 : Index := Scalar.indexCast v1759
  let c5_1066 : Index := 5#32
  let c1_1067 : Index := 1#32
  ![v1953.toNat, 5, 1]
def k0_off303 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1955 : Index := Scalar.indexCast v1759
  let c5_1068 : Index := 5#32
  let c2_1069 : Index := 2#32
  ![v1955.toNat, 5, 2]
def k0_off304 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1957 : Index := Scalar.indexCast v1759
  let c5_1070 : Index := 5#32
  let c3_1071 : Index := 3#32
  ![v1957.toNat, 5, 3]
def k0_off305 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1970 : Index := Scalar.indexCast v1759
  let c6_1072 : Index := 6#32
  let c0_1073 : Index := 0#32
  ![v1970.toNat, 6, 0]
def k0_off306 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1972 : Index := Scalar.indexCast v1759
  let c6_1074 : Index := 6#32
  let c1_1075 : Index := 1#32
  ![v1972.toNat, 6, 1]
def k0_off307 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1974 : Index := Scalar.indexCast v1759
  let c6_1076 : Index := 6#32
  let c2_1077 : Index := 2#32
  ![v1974.toNat, 6, 2]
def k0_off308 (k0_t1 : Fin k0_t1_loop.trips) : Fin 3 → Nat :=
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1976 : Index := Scalar.indexCast v1759
  let c6_1078 : Index := 6#32
  let c3_1079 : Index := 3#32
  ![v1976.toNat, 6, 3]
def k0_off309 (k0_t1 : Fin k0_t1_loop.trips) : Fin 4 → Nat :=
  let c0_1080 : Index := 0#32
  let c16_i32_958 : BitVec 32 := 16#32
  let c0_i32_459 : BitVec 32 := 0#32
  let c1_i32_461 : BitVec 32 := 1#32
  let arg7 : BitVec 32 := Scf.iv c0_i32_459 c1_i32_461 k0_t1
  let v1758 : BitVec 32 := Scalar.muli c16_i32_958 arg7
  let c4_i32_959 : BitVec 32 := 4#32
  let v1759 : BitVec 32 := Scalar.addi v1758 c4_i32_959
  let v1990 : Index := Scalar.indexCast v1759
  let c0_1081 : Index := 0#32
  let c0_1082 : Index := 0#32
  ![0, v1990.toNat, 0, 0]
def k0_off310 (k0_t1 : Fin k0_t1_loop.trips) : Fin 3 → Nat :=
  let c0_1085 : Index := 0#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v1996 : Index := Scalar.indexCast v1995
  let c0_1086 : Index := 0#32
  ![0, v1996.toNat, 0]
def k0_off311 (k0_t1 : Fin k0_t1_loop.trips) : Fin 3 → Nat :=
  let c1_1087 : Index := 1#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v1998 : Index := Scalar.indexCast v1995
  let c0_1088 : Index := 0#32
  ![1, v1998.toNat, 0]
def k0_off312 (k0_t1 : Fin k0_t1_loop.trips) : Fin 3 → Nat :=
  let c2_1089 : Index := 2#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2000 : Index := Scalar.indexCast v1995
  let c0_1090 : Index := 0#32
  ![2, v2000.toNat, 0]
def k0_off313 (v1997 : BitVec 32) (v1999 : BitVec 32) (v2001 : BitVec 32) : Fin 4 → Nat :=
  let v2003 : Index := Scalar.indexCast v2001
  let v2004 : Index := Scalar.indexCast v1997
  let c7_i32_1091 : BitVec 32 := 7#32
  let v2002 : BitVec 32 := Scalar.addi v1999 c7_i32_1091
  let v2005 : Index := Scalar.indexCast v2002
  let c0_1092 : Index := 0#32
  ![v2003.toNat, v2004.toNat, v2005.toNat, 0]

def k0_chk41 (i : grid0.Coords) (v1997 : BitVec 32) (v1999 : BitVec 32) (v2001 : BitVec 32) : Prop :=
  (∀ (k0_h2 : k0_cond2 i = 1#1), ∀ a, S1x1x112x128.size a = 0 ∨ (k0_off313 v1997 v1999 v2001) a + (![1, 1, 2, 1] : Fin 4 → Nat) a * (S1x1x112x128.size a - 1) < S3x96x232x128.size a)
theorem k0_off313_inb : ∀ (i : grid0.Coords) (v1997 : BitVec 32) (v1999 : BitVec 32) (v2001 : BitVec 32) (k0_hw41 : k0_chk41 i v1997 v1999 v2001), ∀ (k0_h2 : k0_cond2 i = 1#1), ∀ a, S1x1x112x128.size a = 0 ∨ (k0_off313 v1997 v1999 v2001) a + (![1, 1, 2, 1] : Fin 4 → Nat) a * (S1x1x112x128.size a - 1) < S3x96x232x128.size a := fun i v1997 v1999 v2001 k0_hw41 k0_h2 => k0_hw41 k0_h2

def k0_off314 (k0_t1 : Fin k0_t1_loop.trips) : Fin 3 → Nat :=
  let c0_1093 : Index := 0#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2008 : Index := Scalar.indexCast v1995
  let c1_1094 : Index := 1#32
  ![0, v2008.toNat, 1]
def k0_off315 (k0_t1 : Fin k0_t1_loop.trips) : Fin 3 → Nat :=
  let c1_1095 : Index := 1#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2010 : Index := Scalar.indexCast v1995
  let c1_1096 : Index := 1#32
  ![1, v2010.toNat, 1]
def k0_off316 (k0_t1 : Fin k0_t1_loop.trips) : Fin 3 → Nat :=
  let c2_1097 : Index := 2#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2012 : Index := Scalar.indexCast v1995
  let c1_1098 : Index := 1#32
  ![2, v2012.toNat, 1]
def k0_off317 (v2009 : BitVec 32) (v2011 : BitVec 32) (v2013 : BitVec 32) : Fin 4 → Nat :=
  let v2015 : Index := Scalar.indexCast v2013
  let v2016 : Index := Scalar.indexCast v2009
  let c7_i32_1099 : BitVec 32 := 7#32
  let v2014 : BitVec 32 := Scalar.addi v2011 c7_i32_1099
  let v2017 : Index := Scalar.indexCast v2014
  let c0_1100 : Index := 0#32
  ![v2015.toNat, v2016.toNat, v2017.toNat, 0]

def k0_chk42 (i : grid0.Coords) (v2009 : BitVec 32) (v2011 : BitVec 32) (v2013 : BitVec 32) : Prop :=
  (∀ (k0_h2 : k0_cond2 i = 1#1), ∀ a, S1x1x112x128.size a = 0 ∨ (k0_off317 v2009 v2011 v2013) a + (![1, 1, 2, 1] : Fin 4 → Nat) a * (S1x1x112x128.size a - 1) < S3x96x232x128.size a)
theorem k0_off317_inb : ∀ (i : grid0.Coords) (v2009 : BitVec 32) (v2011 : BitVec 32) (v2013 : BitVec 32) (k0_hw42 : k0_chk42 i v2009 v2011 v2013), ∀ (k0_h2 : k0_cond2 i = 1#1), ∀ a, S1x1x112x128.size a = 0 ∨ (k0_off317 v2009 v2011 v2013) a + (![1, 1, 2, 1] : Fin 4 → Nat) a * (S1x1x112x128.size a - 1) < S3x96x232x128.size a := fun i v2009 v2011 v2013 k0_hw42 k0_h2 => k0_hw42 k0_h2

def k0_off318 (k0_t1 : Fin k0_t1_loop.trips) : Fin 3 → Nat :=
  let c0_1101 : Index := 0#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2020 : Index := Scalar.indexCast v1995
  let c2_1102 : Index := 2#32
  ![0, v2020.toNat, 2]
def k0_off319 (k0_t1 : Fin k0_t1_loop.trips) : Fin 3 → Nat :=
  let c1_1103 : Index := 1#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2022 : Index := Scalar.indexCast v1995
  let c2_1104 : Index := 2#32
  ![1, v2022.toNat, 2]
def k0_off320 (k0_t1 : Fin k0_t1_loop.trips) : Fin 3 → Nat :=
  let c2_1105 : Index := 2#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2024 : Index := Scalar.indexCast v1995
  let c2_1106 : Index := 2#32
  ![2, v2024.toNat, 2]
def k0_off321 (v2021 : BitVec 32) (v2023 : BitVec 32) (v2025 : BitVec 32) : Fin 4 → Nat :=
  let v2027 : Index := Scalar.indexCast v2025
  let v2028 : Index := Scalar.indexCast v2021
  let c7_i32_1107 : BitVec 32 := 7#32
  let v2026 : BitVec 32 := Scalar.addi v2023 c7_i32_1107
  let v2029 : Index := Scalar.indexCast v2026
  let c0_1108 : Index := 0#32
  ![v2027.toNat, v2028.toNat, v2029.toNat, 0]

def k0_chk43 (i : grid0.Coords) (v2021 : BitVec 32) (v2023 : BitVec 32) (v2025 : BitVec 32) : Prop :=
  (∀ (k0_h2 : k0_cond2 i = 1#1), ∀ a, S1x1x112x128.size a = 0 ∨ (k0_off321 v2021 v2023 v2025) a + (![1, 1, 2, 1] : Fin 4 → Nat) a * (S1x1x112x128.size a - 1) < S3x96x232x128.size a)
theorem k0_off321_inb : ∀ (i : grid0.Coords) (v2021 : BitVec 32) (v2023 : BitVec 32) (v2025 : BitVec 32) (k0_hw43 : k0_chk43 i v2021 v2023 v2025), ∀ (k0_h2 : k0_cond2 i = 1#1), ∀ a, S1x1x112x128.size a = 0 ∨ (k0_off321 v2021 v2023 v2025) a + (![1, 1, 2, 1] : Fin 4 → Nat) a * (S1x1x112x128.size a - 1) < S3x96x232x128.size a := fun i v2021 v2023 v2025 k0_hw43 k0_h2 => k0_hw43 k0_h2

def k0_off322 (k0_t1 : Fin k0_t1_loop.trips) : Fin 3 → Nat :=
  let c0_1109 : Index := 0#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2032 : Index := Scalar.indexCast v1995
  let c3_1110 : Index := 3#32
  ![0, v2032.toNat, 3]
def k0_off323 (k0_t1 : Fin k0_t1_loop.trips) : Fin 3 → Nat :=
  let c1_1111 : Index := 1#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2034 : Index := Scalar.indexCast v1995
  let c3_1112 : Index := 3#32
  ![1, v2034.toNat, 3]
def k0_off324 (k0_t1 : Fin k0_t1_loop.trips) : Fin 3 → Nat :=
  let c2_1113 : Index := 2#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2036 : Index := Scalar.indexCast v1995
  let c3_1114 : Index := 3#32
  ![2, v2036.toNat, 3]
def k0_off325 (v2033 : BitVec 32) (v2035 : BitVec 32) (v2037 : BitVec 32) : Fin 4 → Nat :=
  let v2039 : Index := Scalar.indexCast v2037
  let v2040 : Index := Scalar.indexCast v2033
  let c7_i32_1115 : BitVec 32 := 7#32
  let v2038 : BitVec 32 := Scalar.addi v2035 c7_i32_1115
  let v2041 : Index := Scalar.indexCast v2038
  let c0_1116 : Index := 0#32
  ![v2039.toNat, v2040.toNat, v2041.toNat, 0]

def k0_chk44 (i : grid0.Coords) (v2033 : BitVec 32) (v2035 : BitVec 32) (v2037 : BitVec 32) : Prop :=
  (∀ (k0_h2 : k0_cond2 i = 1#1), ∀ a, S1x1x112x128.size a = 0 ∨ (k0_off325 v2033 v2035 v2037) a + (![1, 1, 2, 1] : Fin 4 → Nat) a * (S1x1x112x128.size a - 1) < S3x96x232x128.size a)
theorem k0_off325_inb : ∀ (i : grid0.Coords) (v2033 : BitVec 32) (v2035 : BitVec 32) (v2037 : BitVec 32) (k0_hw44 : k0_chk44 i v2033 v2035 v2037), ∀ (k0_h2 : k0_cond2 i = 1#1), ∀ a, S1x1x112x128.size a = 0 ∨ (k0_off325 v2033 v2035 v2037) a + (![1, 1, 2, 1] : Fin 4 → Nat) a * (S1x1x112x128.size a - 1) < S3x96x232x128.size a := fun i v2033 v2035 v2037 k0_hw44 k0_h2 => k0_hw44 k0_h2

def k0_off326 (k0_t1 : Fin k0_t1_loop.trips) : Fin 3 → Nat :=
  let c0_1117 : Index := 0#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2044 : Index := Scalar.indexCast v1995
  let c4_1118 : Index := 4#32
  ![0, v2044.toNat, 4]
def k0_off327 (k0_t1 : Fin k0_t1_loop.trips) : Fin 3 → Nat :=
  let c1_1119 : Index := 1#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2046 : Index := Scalar.indexCast v1995
  let c4_1120 : Index := 4#32
  ![1, v2046.toNat, 4]
def k0_off328 (k0_t1 : Fin k0_t1_loop.trips) : Fin 3 → Nat :=
  let c2_1121 : Index := 2#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2048 : Index := Scalar.indexCast v1995
  let c4_1122 : Index := 4#32
  ![2, v2048.toNat, 4]
def k0_off329 (v2045 : BitVec 32) (v2047 : BitVec 32) (v2049 : BitVec 32) : Fin 4 → Nat :=
  let v2051 : Index := Scalar.indexCast v2049
  let v2052 : Index := Scalar.indexCast v2045
  let c7_i32_1123 : BitVec 32 := 7#32
  let v2050 : BitVec 32 := Scalar.addi v2047 c7_i32_1123
  let v2053 : Index := Scalar.indexCast v2050
  let c0_1124 : Index := 0#32
  ![v2051.toNat, v2052.toNat, v2053.toNat, 0]

def k0_chk45 (i : grid0.Coords) (v2045 : BitVec 32) (v2047 : BitVec 32) (v2049 : BitVec 32) : Prop :=
  (∀ (k0_h2 : k0_cond2 i = 1#1), ∀ a, S1x1x112x128.size a = 0 ∨ (k0_off329 v2045 v2047 v2049) a + (![1, 1, 2, 1] : Fin 4 → Nat) a * (S1x1x112x128.size a - 1) < S3x96x232x128.size a)
theorem k0_off329_inb : ∀ (i : grid0.Coords) (v2045 : BitVec 32) (v2047 : BitVec 32) (v2049 : BitVec 32) (k0_hw45 : k0_chk45 i v2045 v2047 v2049), ∀ (k0_h2 : k0_cond2 i = 1#1), ∀ a, S1x1x112x128.size a = 0 ∨ (k0_off329 v2045 v2047 v2049) a + (![1, 1, 2, 1] : Fin 4 → Nat) a * (S1x1x112x128.size a - 1) < S3x96x232x128.size a := fun i v2045 v2047 v2049 k0_hw45 k0_h2 => k0_hw45 k0_h2

def k0_off330 (k0_t1 : Fin k0_t1_loop.trips) : Fin 3 → Nat :=
  let c0_1125 : Index := 0#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2056 : Index := Scalar.indexCast v1995
  let c5_1126 : Index := 5#32
  ![0, v2056.toNat, 5]
def k0_off331 (k0_t1 : Fin k0_t1_loop.trips) : Fin 3 → Nat :=
  let c1_1127 : Index := 1#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2058 : Index := Scalar.indexCast v1995
  let c5_1128 : Index := 5#32
  ![1, v2058.toNat, 5]
def k0_off332 (k0_t1 : Fin k0_t1_loop.trips) : Fin 3 → Nat :=
  let c2_1129 : Index := 2#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2060 : Index := Scalar.indexCast v1995
  let c5_1130 : Index := 5#32
  ![2, v2060.toNat, 5]
def k0_off333 (v2057 : BitVec 32) (v2059 : BitVec 32) (v2061 : BitVec 32) : Fin 4 → Nat :=
  let v2063 : Index := Scalar.indexCast v2061
  let v2064 : Index := Scalar.indexCast v2057
  let c7_i32_1131 : BitVec 32 := 7#32
  let v2062 : BitVec 32 := Scalar.addi v2059 c7_i32_1131
  let v2065 : Index := Scalar.indexCast v2062
  let c0_1132 : Index := 0#32
  ![v2063.toNat, v2064.toNat, v2065.toNat, 0]

def k0_chk46 (i : grid0.Coords) (v2057 : BitVec 32) (v2059 : BitVec 32) (v2061 : BitVec 32) : Prop :=
  (∀ (k0_h2 : k0_cond2 i = 1#1), ∀ a, S1x1x112x128.size a = 0 ∨ (k0_off333 v2057 v2059 v2061) a + (![1, 1, 2, 1] : Fin 4 → Nat) a * (S1x1x112x128.size a - 1) < S3x96x232x128.size a)
theorem k0_off333_inb : ∀ (i : grid0.Coords) (v2057 : BitVec 32) (v2059 : BitVec 32) (v2061 : BitVec 32) (k0_hw46 : k0_chk46 i v2057 v2059 v2061), ∀ (k0_h2 : k0_cond2 i = 1#1), ∀ a, S1x1x112x128.size a = 0 ∨ (k0_off333 v2057 v2059 v2061) a + (![1, 1, 2, 1] : Fin 4 → Nat) a * (S1x1x112x128.size a - 1) < S3x96x232x128.size a := fun i v2057 v2059 v2061 k0_hw46 k0_h2 => k0_hw46 k0_h2

def k0_off334 (k0_t1 : Fin k0_t1_loop.trips) : Fin 3 → Nat :=
  let c0_1133 : Index := 0#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2068 : Index := Scalar.indexCast v1995
  let c6_1134 : Index := 6#32
  ![0, v2068.toNat, 6]
def k0_off335 (k0_t1 : Fin k0_t1_loop.trips) : Fin 3 → Nat :=
  let c1_1135 : Index := 1#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2070 : Index := Scalar.indexCast v1995
  let c6_1136 : Index := 6#32
  ![1, v2070.toNat, 6]
def k0_off336 (k0_t1 : Fin k0_t1_loop.trips) : Fin 3 → Nat :=
  let c2_1137 : Index := 2#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2072 : Index := Scalar.indexCast v1995
  let c6_1138 : Index := 6#32
  ![2, v2072.toNat, 6]
def k0_off337 (v2069 : BitVec 32) (v2071 : BitVec 32) (v2073 : BitVec 32) : Fin 4 → Nat :=
  let v2075 : Index := Scalar.indexCast v2073
  let v2076 : Index := Scalar.indexCast v2069
  let c7_i32_1139 : BitVec 32 := 7#32
  let v2074 : BitVec 32 := Scalar.addi v2071 c7_i32_1139
  let v2077 : Index := Scalar.indexCast v2074
  let c0_1140 : Index := 0#32
  ![v2075.toNat, v2076.toNat, v2077.toNat, 0]

def k0_chk47 (i : grid0.Coords) (v2069 : BitVec 32) (v2071 : BitVec 32) (v2073 : BitVec 32) : Prop :=
  (∀ (k0_h2 : k0_cond2 i = 1#1), ∀ a, S1x1x112x128.size a = 0 ∨ (k0_off337 v2069 v2071 v2073) a + (![1, 1, 2, 1] : Fin 4 → Nat) a * (S1x1x112x128.size a - 1) < S3x96x232x128.size a)
theorem k0_off337_inb : ∀ (i : grid0.Coords) (v2069 : BitVec 32) (v2071 : BitVec 32) (v2073 : BitVec 32) (k0_hw47 : k0_chk47 i v2069 v2071 v2073), ∀ (k0_h2 : k0_cond2 i = 1#1), ∀ a, S1x1x112x128.size a = 0 ∨ (k0_off337 v2069 v2071 v2073) a + (![1, 1, 2, 1] : Fin 4 → Nat) a * (S1x1x112x128.size a - 1) < S3x96x232x128.size a := fun i v2069 v2071 v2073 k0_hw47 k0_h2 => k0_hw47 k0_h2

def k0_off338 (k0_t1 : Fin k0_t1_loop.trips) : Fin 3 → Nat :=
  let c0_1141 : Index := 0#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2080 : Index := Scalar.indexCast v1995
  let c7_1142 : Index := 7#32
  ![0, v2080.toNat, 7]
def k0_off339 (k0_t1 : Fin k0_t1_loop.trips) : Fin 3 → Nat :=
  let c1_1143 : Index := 1#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2082 : Index := Scalar.indexCast v1995
  let c7_1144 : Index := 7#32
  ![1, v2082.toNat, 7]
def k0_off340 (k0_t1 : Fin k0_t1_loop.trips) : Fin 3 → Nat :=
  let c2_1145 : Index := 2#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2084 : Index := Scalar.indexCast v1995
  let c7_1146 : Index := 7#32
  ![2, v2084.toNat, 7]
def k0_off341 (v2081 : BitVec 32) (v2083 : BitVec 32) (v2085 : BitVec 32) : Fin 4 → Nat :=
  let v2087 : Index := Scalar.indexCast v2085
  let v2088 : Index := Scalar.indexCast v2081
  let c7_i32_1147 : BitVec 32 := 7#32
  let v2086 : BitVec 32 := Scalar.addi v2083 c7_i32_1147
  let v2089 : Index := Scalar.indexCast v2086
  let c0_1148 : Index := 0#32
  ![v2087.toNat, v2088.toNat, v2089.toNat, 0]

def k0_chk48 (i : grid0.Coords) (v2081 : BitVec 32) (v2083 : BitVec 32) (v2085 : BitVec 32) : Prop :=
  (∀ (k0_h2 : k0_cond2 i = 1#1), ∀ a, S1x1x112x128.size a = 0 ∨ (k0_off341 v2081 v2083 v2085) a + (![1, 1, 2, 1] : Fin 4 → Nat) a * (S1x1x112x128.size a - 1) < S3x96x232x128.size a)
theorem k0_off341_inb : ∀ (i : grid0.Coords) (v2081 : BitVec 32) (v2083 : BitVec 32) (v2085 : BitVec 32) (k0_hw48 : k0_chk48 i v2081 v2083 v2085), ∀ (k0_h2 : k0_cond2 i = 1#1), ∀ a, S1x1x112x128.size a = 0 ∨ (k0_off341 v2081 v2083 v2085) a + (![1, 1, 2, 1] : Fin 4 → Nat) a * (S1x1x112x128.size a - 1) < S3x96x232x128.size a := fun i v2081 v2083 v2085 k0_hw48 k0_h2 => k0_hw48 k0_h2

def k0_off342 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2092 : Index := Scalar.indexCast v1995
  let c0_1149 : Index := 0#32
  let c0_1150 : Index := 0#32
  ![v2092.toNat, 0, 0]
def k0_off343 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2094 : Index := Scalar.indexCast v1995
  let c0_1151 : Index := 0#32
  let c1_1152 : Index := 1#32
  ![v2094.toNat, 0, 1]
def k0_off344 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2096 : Index := Scalar.indexCast v1995
  let c0_1153 : Index := 0#32
  let c2_1154 : Index := 2#32
  ![v2096.toNat, 0, 2]
def k0_off345 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2098 : Index := Scalar.indexCast v1995
  let c0_1155 : Index := 0#32
  let c3_1156 : Index := 3#32
  ![v2098.toNat, 0, 3]
def k0_off346 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2111 : Index := Scalar.indexCast v1995
  let c1_1157 : Index := 1#32
  let c0_1158 : Index := 0#32
  ![v2111.toNat, 1, 0]
def k0_off347 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2113 : Index := Scalar.indexCast v1995
  let c1_1159 : Index := 1#32
  let c1_1160 : Index := 1#32
  ![v2113.toNat, 1, 1]
def k0_off348 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2115 : Index := Scalar.indexCast v1995
  let c1_1161 : Index := 1#32
  let c2_1162 : Index := 2#32
  ![v2115.toNat, 1, 2]
def k0_off349 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2117 : Index := Scalar.indexCast v1995
  let c1_1163 : Index := 1#32
  let c3_1164 : Index := 3#32
  ![v2117.toNat, 1, 3]
def k0_off350 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2130 : Index := Scalar.indexCast v1995
  let c2_1165 : Index := 2#32
  let c0_1166 : Index := 0#32
  ![v2130.toNat, 2, 0]
def k0_off351 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2132 : Index := Scalar.indexCast v1995
  let c2_1167 : Index := 2#32
  let c1_1168 : Index := 1#32
  ![v2132.toNat, 2, 1]
def k0_off352 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2134 : Index := Scalar.indexCast v1995
  let c2_1169 : Index := 2#32
  let c2_1170 : Index := 2#32
  ![v2134.toNat, 2, 2]
def k0_off353 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2136 : Index := Scalar.indexCast v1995
  let c2_1171 : Index := 2#32
  let c3_1172 : Index := 3#32
  ![v2136.toNat, 2, 3]
def k0_off354 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2149 : Index := Scalar.indexCast v1995
  let c3_1173 : Index := 3#32
  let c0_1174 : Index := 0#32
  ![v2149.toNat, 3, 0]
def k0_off355 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2151 : Index := Scalar.indexCast v1995
  let c3_1175 : Index := 3#32
  let c1_1176 : Index := 1#32
  ![v2151.toNat, 3, 1]
def k0_off356 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2153 : Index := Scalar.indexCast v1995
  let c3_1177 : Index := 3#32
  let c2_1178 : Index := 2#32
  ![v2153.toNat, 3, 2]
def k0_off357 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2155 : Index := Scalar.indexCast v1995
  let c3_1179 : Index := 3#32
  let c3_1180 : Index := 3#32
  ![v2155.toNat, 3, 3]
def k0_off358 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2168 : Index := Scalar.indexCast v1995
  let c4_1181 : Index := 4#32
  let c0_1182 : Index := 0#32
  ![v2168.toNat, 4, 0]
def k0_off359 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2170 : Index := Scalar.indexCast v1995
  let c4_1183 : Index := 4#32
  let c1_1184 : Index := 1#32
  ![v2170.toNat, 4, 1]
def k0_off360 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2172 : Index := Scalar.indexCast v1995
  let c4_1185 : Index := 4#32
  let c2_1186 : Index := 2#32
  ![v2172.toNat, 4, 2]
def k0_off361 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2174 : Index := Scalar.indexCast v1995
  let c4_1187 : Index := 4#32
  let c3_1188 : Index := 3#32
  ![v2174.toNat, 4, 3]
def k0_off362 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2187 : Index := Scalar.indexCast v1995
  let c5_1189 : Index := 5#32
  let c0_1190 : Index := 0#32
  ![v2187.toNat, 5, 0]
def k0_off363 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2189 : Index := Scalar.indexCast v1995
  let c5_1191 : Index := 5#32
  let c1_1192 : Index := 1#32
  ![v2189.toNat, 5, 1]
def k0_off364 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2191 : Index := Scalar.indexCast v1995
  let c5_1193 : Index := 5#32
  let c2_1194 : Index := 2#32
  ![v2191.toNat, 5, 2]
def k0_off365 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2193 : Index := Scalar.indexCast v1995
  let c5_1195 : Index := 5#32
  let c3_1196 : Index := 3#32
  ![v2193.toNat, 5, 3]
def k0_off366 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2206 : Index := Scalar.indexCast v1995
  let c6_1197 : Index := 6#32
  let c0_1198 : Index := 0#32
  ![v2206.toNat, 6, 0]
def k0_off367 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2208 : Index := Scalar.indexCast v1995
  let c6_1199 : Index := 6#32
  let c1_1200 : Index := 1#32
  ![v2208.toNat, 6, 1]
def k0_off368 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2210 : Index := Scalar.indexCast v1995
  let c6_1201 : Index := 6#32
  let c2_1202 : Index := 2#32
  ![v2210.toNat, 6, 2]
def k0_off369 (k0_t1 : Fin k0_t1_loop.trips) : Fin 3 → Nat :=
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2212 : Index := Scalar.indexCast v1995
  let c6_1203 : Index := 6#32
  let c3_1204 : Index := 3#32
  ![v2212.toNat, 6, 3]
def k0_off370 (k0_t1 : Fin k0_t1_loop.trips) : Fin 4 → Nat :=
  let c0_1205 : Index := 0#32
  let c16_i32_1083 : BitVec 32 := 16#32
  let c0_i32_459 : BitVec 32 := 0#32
  let c1_i32_461 : BitVec 32 := 1#32
  let arg7 : BitVec 32 := Scf.iv c0_i32_459 c1_i32_461 k0_t1
  let v1994 : BitVec 32 := Scalar.muli c16_i32_1083 arg7
  let c5_i32_1084 : BitVec 32 := 5#32
  let v1995 : BitVec 32 := Scalar.addi v1994 c5_i32_1084
  let v2226 : Index := Scalar.indexCast v1995
  let c0_1206 : Index := 0#32
  let c0_1207 : Index := 0#32
  ![0, v2226.toNat, 0, 0]
def k0_off371 (k0_t1 : Fin k0_t1_loop.trips) : Fin 3 → Nat :=
  let c0_1210 : Index := 0#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2232 : Index := Scalar.indexCast v2231
  let c0_1211 : Index := 0#32
  ![0, v2232.toNat, 0]
def k0_off372 (k0_t1 : Fin k0_t1_loop.trips) : Fin 3 → Nat :=
  let c1_1212 : Index := 1#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2234 : Index := Scalar.indexCast v2231
  let c0_1213 : Index := 0#32
  ![1, v2234.toNat, 0]
def k0_off373 (k0_t1 : Fin k0_t1_loop.trips) : Fin 3 → Nat :=
  let c2_1214 : Index := 2#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2236 : Index := Scalar.indexCast v2231
  let c0_1215 : Index := 0#32
  ![2, v2236.toNat, 0]
def k0_off374 (v2233 : BitVec 32) (v2235 : BitVec 32) (v2237 : BitVec 32) : Fin 4 → Nat :=
  let v2239 : Index := Scalar.indexCast v2237
  let v2240 : Index := Scalar.indexCast v2233
  let c7_i32_1216 : BitVec 32 := 7#32
  let v2238 : BitVec 32 := Scalar.addi v2235 c7_i32_1216
  let v2241 : Index := Scalar.indexCast v2238
  let c0_1217 : Index := 0#32
  ![v2239.toNat, v2240.toNat, v2241.toNat, 0]

def k0_chk49 (i : grid0.Coords) (v2233 : BitVec 32) (v2235 : BitVec 32) (v2237 : BitVec 32) : Prop :=
  (∀ (k0_h2 : k0_cond2 i = 1#1), ∀ a, S1x1x112x128.size a = 0 ∨ (k0_off374 v2233 v2235 v2237) a + (![1, 1, 2, 1] : Fin 4 → Nat) a * (S1x1x112x128.size a - 1) < S3x96x232x128.size a)
theorem k0_off374_inb : ∀ (i : grid0.Coords) (v2233 : BitVec 32) (v2235 : BitVec 32) (v2237 : BitVec 32) (k0_hw49 : k0_chk49 i v2233 v2235 v2237), ∀ (k0_h2 : k0_cond2 i = 1#1), ∀ a, S1x1x112x128.size a = 0 ∨ (k0_off374 v2233 v2235 v2237) a + (![1, 1, 2, 1] : Fin 4 → Nat) a * (S1x1x112x128.size a - 1) < S3x96x232x128.size a := fun i v2233 v2235 v2237 k0_hw49 k0_h2 => k0_hw49 k0_h2

def k0_off375 (k0_t1 : Fin k0_t1_loop.trips) : Fin 3 → Nat :=
  let c0_1218 : Index := 0#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2244 : Index := Scalar.indexCast v2231
  let c1_1219 : Index := 1#32
  ![0, v2244.toNat, 1]
def k0_off376 (k0_t1 : Fin k0_t1_loop.trips) : Fin 3 → Nat :=
  let c1_1220 : Index := 1#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2246 : Index := Scalar.indexCast v2231
  let c1_1221 : Index := 1#32
  ![1, v2246.toNat, 1]
def k0_off377 (k0_t1 : Fin k0_t1_loop.trips) : Fin 3 → Nat :=
  let c2_1222 : Index := 2#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2248 : Index := Scalar.indexCast v2231
  let c1_1223 : Index := 1#32
  ![2, v2248.toNat, 1]
def k0_off378 (v2245 : BitVec 32) (v2247 : BitVec 32) (v2249 : BitVec 32) : Fin 4 → Nat :=
  let v2251 : Index := Scalar.indexCast v2249
  let v2252 : Index := Scalar.indexCast v2245
  let c7_i32_1224 : BitVec 32 := 7#32
  let v2250 : BitVec 32 := Scalar.addi v2247 c7_i32_1224
  let v2253 : Index := Scalar.indexCast v2250
  let c0_1225 : Index := 0#32
  ![v2251.toNat, v2252.toNat, v2253.toNat, 0]

def k0_chk50 (i : grid0.Coords) (v2245 : BitVec 32) (v2247 : BitVec 32) (v2249 : BitVec 32) : Prop :=
  (∀ (k0_h2 : k0_cond2 i = 1#1), ∀ a, S1x1x112x128.size a = 0 ∨ (k0_off378 v2245 v2247 v2249) a + (![1, 1, 2, 1] : Fin 4 → Nat) a * (S1x1x112x128.size a - 1) < S3x96x232x128.size a)
theorem k0_off378_inb : ∀ (i : grid0.Coords) (v2245 : BitVec 32) (v2247 : BitVec 32) (v2249 : BitVec 32) (k0_hw50 : k0_chk50 i v2245 v2247 v2249), ∀ (k0_h2 : k0_cond2 i = 1#1), ∀ a, S1x1x112x128.size a = 0 ∨ (k0_off378 v2245 v2247 v2249) a + (![1, 1, 2, 1] : Fin 4 → Nat) a * (S1x1x112x128.size a - 1) < S3x96x232x128.size a := fun i v2245 v2247 v2249 k0_hw50 k0_h2 => k0_hw50 k0_h2

def k0_off379 (k0_t1 : Fin k0_t1_loop.trips) : Fin 3 → Nat :=
  let c0_1226 : Index := 0#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2256 : Index := Scalar.indexCast v2231
  let c2_1227 : Index := 2#32
  ![0, v2256.toNat, 2]
def k0_off380 (k0_t1 : Fin k0_t1_loop.trips) : Fin 3 → Nat :=
  let c1_1228 : Index := 1#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2258 : Index := Scalar.indexCast v2231
  let c2_1229 : Index := 2#32
  ![1, v2258.toNat, 2]
def k0_off381 (k0_t1 : Fin k0_t1_loop.trips) : Fin 3 → Nat :=
  let c2_1230 : Index := 2#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2260 : Index := Scalar.indexCast v2231
  let c2_1231 : Index := 2#32
  ![2, v2260.toNat, 2]
def k0_off382 (v2257 : BitVec 32) (v2259 : BitVec 32) (v2261 : BitVec 32) : Fin 4 → Nat :=
  let v2263 : Index := Scalar.indexCast v2261
  let v2264 : Index := Scalar.indexCast v2257
  let c7_i32_1232 : BitVec 32 := 7#32
  let v2262 : BitVec 32 := Scalar.addi v2259 c7_i32_1232
  let v2265 : Index := Scalar.indexCast v2262
  let c0_1233 : Index := 0#32
  ![v2263.toNat, v2264.toNat, v2265.toNat, 0]

def k0_chk51 (i : grid0.Coords) (v2257 : BitVec 32) (v2259 : BitVec 32) (v2261 : BitVec 32) : Prop :=
  (∀ (k0_h2 : k0_cond2 i = 1#1), ∀ a, S1x1x112x128.size a = 0 ∨ (k0_off382 v2257 v2259 v2261) a + (![1, 1, 2, 1] : Fin 4 → Nat) a * (S1x1x112x128.size a - 1) < S3x96x232x128.size a)
theorem k0_off382_inb : ∀ (i : grid0.Coords) (v2257 : BitVec 32) (v2259 : BitVec 32) (v2261 : BitVec 32) (k0_hw51 : k0_chk51 i v2257 v2259 v2261), ∀ (k0_h2 : k0_cond2 i = 1#1), ∀ a, S1x1x112x128.size a = 0 ∨ (k0_off382 v2257 v2259 v2261) a + (![1, 1, 2, 1] : Fin 4 → Nat) a * (S1x1x112x128.size a - 1) < S3x96x232x128.size a := fun i v2257 v2259 v2261 k0_hw51 k0_h2 => k0_hw51 k0_h2

def k0_off383 (k0_t1 : Fin k0_t1_loop.trips) : Fin 3 → Nat :=
  let c0_1234 : Index := 0#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2268 : Index := Scalar.indexCast v2231
  let c3_1235 : Index := 3#32
  ![0, v2268.toNat, 3]
def k0_off384 (k0_t1 : Fin k0_t1_loop.trips) : Fin 3 → Nat :=
  let c1_1236 : Index := 1#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2270 : Index := Scalar.indexCast v2231
  let c3_1237 : Index := 3#32
  ![1, v2270.toNat, 3]
def k0_off385 (k0_t1 : Fin k0_t1_loop.trips) : Fin 3 → Nat :=
  let c2_1238 : Index := 2#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2272 : Index := Scalar.indexCast v2231
  let c3_1239 : Index := 3#32
  ![2, v2272.toNat, 3]
def k0_off386 (v2269 : BitVec 32) (v2271 : BitVec 32) (v2273 : BitVec 32) : Fin 4 → Nat :=
  let v2275 : Index := Scalar.indexCast v2273
  let v2276 : Index := Scalar.indexCast v2269
  let c7_i32_1240 : BitVec 32 := 7#32
  let v2274 : BitVec 32 := Scalar.addi v2271 c7_i32_1240
  let v2277 : Index := Scalar.indexCast v2274
  let c0_1241 : Index := 0#32
  ![v2275.toNat, v2276.toNat, v2277.toNat, 0]

def k0_chk52 (i : grid0.Coords) (v2269 : BitVec 32) (v2271 : BitVec 32) (v2273 : BitVec 32) : Prop :=
  (∀ (k0_h2 : k0_cond2 i = 1#1), ∀ a, S1x1x112x128.size a = 0 ∨ (k0_off386 v2269 v2271 v2273) a + (![1, 1, 2, 1] : Fin 4 → Nat) a * (S1x1x112x128.size a - 1) < S3x96x232x128.size a)
theorem k0_off386_inb : ∀ (i : grid0.Coords) (v2269 : BitVec 32) (v2271 : BitVec 32) (v2273 : BitVec 32) (k0_hw52 : k0_chk52 i v2269 v2271 v2273), ∀ (k0_h2 : k0_cond2 i = 1#1), ∀ a, S1x1x112x128.size a = 0 ∨ (k0_off386 v2269 v2271 v2273) a + (![1, 1, 2, 1] : Fin 4 → Nat) a * (S1x1x112x128.size a - 1) < S3x96x232x128.size a := fun i v2269 v2271 v2273 k0_hw52 k0_h2 => k0_hw52 k0_h2

def k0_off387 (k0_t1 : Fin k0_t1_loop.trips) : Fin 3 → Nat :=
  let c0_1242 : Index := 0#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2280 : Index := Scalar.indexCast v2231
  let c4_1243 : Index := 4#32
  ![0, v2280.toNat, 4]
def k0_off388 (k0_t1 : Fin k0_t1_loop.trips) : Fin 3 → Nat :=
  let c1_1244 : Index := 1#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2282 : Index := Scalar.indexCast v2231
  let c4_1245 : Index := 4#32
  ![1, v2282.toNat, 4]
def k0_off389 (k0_t1 : Fin k0_t1_loop.trips) : Fin 3 → Nat :=
  let c2_1246 : Index := 2#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2284 : Index := Scalar.indexCast v2231
  let c4_1247 : Index := 4#32
  ![2, v2284.toNat, 4]
def k0_off390 (v2281 : BitVec 32) (v2283 : BitVec 32) (v2285 : BitVec 32) : Fin 4 → Nat :=
  let v2287 : Index := Scalar.indexCast v2285
  let v2288 : Index := Scalar.indexCast v2281
  let c7_i32_1248 : BitVec 32 := 7#32
  let v2286 : BitVec 32 := Scalar.addi v2283 c7_i32_1248
  let v2289 : Index := Scalar.indexCast v2286
  let c0_1249 : Index := 0#32
  ![v2287.toNat, v2288.toNat, v2289.toNat, 0]

def k0_chk53 (i : grid0.Coords) (v2281 : BitVec 32) (v2283 : BitVec 32) (v2285 : BitVec 32) : Prop :=
  (∀ (k0_h2 : k0_cond2 i = 1#1), ∀ a, S1x1x112x128.size a = 0 ∨ (k0_off390 v2281 v2283 v2285) a + (![1, 1, 2, 1] : Fin 4 → Nat) a * (S1x1x112x128.size a - 1) < S3x96x232x128.size a)
theorem k0_off390_inb : ∀ (i : grid0.Coords) (v2281 : BitVec 32) (v2283 : BitVec 32) (v2285 : BitVec 32) (k0_hw53 : k0_chk53 i v2281 v2283 v2285), ∀ (k0_h2 : k0_cond2 i = 1#1), ∀ a, S1x1x112x128.size a = 0 ∨ (k0_off390 v2281 v2283 v2285) a + (![1, 1, 2, 1] : Fin 4 → Nat) a * (S1x1x112x128.size a - 1) < S3x96x232x128.size a := fun i v2281 v2283 v2285 k0_hw53 k0_h2 => k0_hw53 k0_h2

def k0_off391 (k0_t1 : Fin k0_t1_loop.trips) : Fin 3 → Nat :=
  let c0_1250 : Index := 0#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2292 : Index := Scalar.indexCast v2231
  let c5_1251 : Index := 5#32
  ![0, v2292.toNat, 5]
def k0_off392 (k0_t1 : Fin k0_t1_loop.trips) : Fin 3 → Nat :=
  let c1_1252 : Index := 1#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2294 : Index := Scalar.indexCast v2231
  let c5_1253 : Index := 5#32
  ![1, v2294.toNat, 5]
def k0_off393 (k0_t1 : Fin k0_t1_loop.trips) : Fin 3 → Nat :=
  let c2_1254 : Index := 2#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2296 : Index := Scalar.indexCast v2231
  let c5_1255 : Index := 5#32
  ![2, v2296.toNat, 5]
def k0_off394 (v2293 : BitVec 32) (v2295 : BitVec 32) (v2297 : BitVec 32) : Fin 4 → Nat :=
  let v2299 : Index := Scalar.indexCast v2297
  let v2300 : Index := Scalar.indexCast v2293
  let c7_i32_1256 : BitVec 32 := 7#32
  let v2298 : BitVec 32 := Scalar.addi v2295 c7_i32_1256
  let v2301 : Index := Scalar.indexCast v2298
  let c0_1257 : Index := 0#32
  ![v2299.toNat, v2300.toNat, v2301.toNat, 0]

def k0_chk54 (i : grid0.Coords) (v2293 : BitVec 32) (v2295 : BitVec 32) (v2297 : BitVec 32) : Prop :=
  (∀ (k0_h2 : k0_cond2 i = 1#1), ∀ a, S1x1x112x128.size a = 0 ∨ (k0_off394 v2293 v2295 v2297) a + (![1, 1, 2, 1] : Fin 4 → Nat) a * (S1x1x112x128.size a - 1) < S3x96x232x128.size a)
theorem k0_off394_inb : ∀ (i : grid0.Coords) (v2293 : BitVec 32) (v2295 : BitVec 32) (v2297 : BitVec 32) (k0_hw54 : k0_chk54 i v2293 v2295 v2297), ∀ (k0_h2 : k0_cond2 i = 1#1), ∀ a, S1x1x112x128.size a = 0 ∨ (k0_off394 v2293 v2295 v2297) a + (![1, 1, 2, 1] : Fin 4 → Nat) a * (S1x1x112x128.size a - 1) < S3x96x232x128.size a := fun i v2293 v2295 v2297 k0_hw54 k0_h2 => k0_hw54 k0_h2

def k0_off395 (k0_t1 : Fin k0_t1_loop.trips) : Fin 3 → Nat :=
  let c0_1258 : Index := 0#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2304 : Index := Scalar.indexCast v2231
  let c6_1259 : Index := 6#32
  ![0, v2304.toNat, 6]
def k0_off396 (k0_t1 : Fin k0_t1_loop.trips) : Fin 3 → Nat :=
  let c1_1260 : Index := 1#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2306 : Index := Scalar.indexCast v2231
  let c6_1261 : Index := 6#32
  ![1, v2306.toNat, 6]
def k0_off397 (k0_t1 : Fin k0_t1_loop.trips) : Fin 3 → Nat :=
  let c2_1262 : Index := 2#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2308 : Index := Scalar.indexCast v2231
  let c6_1263 : Index := 6#32
  ![2, v2308.toNat, 6]
def k0_off398 (v2305 : BitVec 32) (v2307 : BitVec 32) (v2309 : BitVec 32) : Fin 4 → Nat :=
  let v2311 : Index := Scalar.indexCast v2309
  let v2312 : Index := Scalar.indexCast v2305
  let c7_i32_1264 : BitVec 32 := 7#32
  let v2310 : BitVec 32 := Scalar.addi v2307 c7_i32_1264
  let v2313 : Index := Scalar.indexCast v2310
  let c0_1265 : Index := 0#32
  ![v2311.toNat, v2312.toNat, v2313.toNat, 0]

def k0_chk55 (i : grid0.Coords) (v2305 : BitVec 32) (v2307 : BitVec 32) (v2309 : BitVec 32) : Prop :=
  (∀ (k0_h2 : k0_cond2 i = 1#1), ∀ a, S1x1x112x128.size a = 0 ∨ (k0_off398 v2305 v2307 v2309) a + (![1, 1, 2, 1] : Fin 4 → Nat) a * (S1x1x112x128.size a - 1) < S3x96x232x128.size a)
theorem k0_off398_inb : ∀ (i : grid0.Coords) (v2305 : BitVec 32) (v2307 : BitVec 32) (v2309 : BitVec 32) (k0_hw55 : k0_chk55 i v2305 v2307 v2309), ∀ (k0_h2 : k0_cond2 i = 1#1), ∀ a, S1x1x112x128.size a = 0 ∨ (k0_off398 v2305 v2307 v2309) a + (![1, 1, 2, 1] : Fin 4 → Nat) a * (S1x1x112x128.size a - 1) < S3x96x232x128.size a := fun i v2305 v2307 v2309 k0_hw55 k0_h2 => k0_hw55 k0_h2

def k0_off399 (k0_t1 : Fin k0_t1_loop.trips) : Fin 3 → Nat :=
  let c0_1266 : Index := 0#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2316 : Index := Scalar.indexCast v2231
  let c7_1267 : Index := 7#32
  ![0, v2316.toNat, 7]
def k0_off400 (k0_t1 : Fin k0_t1_loop.trips) : Fin 3 → Nat :=
  let c1_1268 : Index := 1#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2318 : Index := Scalar.indexCast v2231
  let c7_1269 : Index := 7#32
  ![1, v2318.toNat, 7]
def k0_off401 (k0_t1 : Fin k0_t1_loop.trips) : Fin 3 → Nat :=
  let c2_1270 : Index := 2#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2320 : Index := Scalar.indexCast v2231
  let c7_1271 : Index := 7#32
  ![2, v2320.toNat, 7]
def k0_off402 (v2317 : BitVec 32) (v2319 : BitVec 32) (v2321 : BitVec 32) : Fin 4 → Nat :=
  let v2323 : Index := Scalar.indexCast v2321
  let v2324 : Index := Scalar.indexCast v2317
  let c7_i32_1272 : BitVec 32 := 7#32
  let v2322 : BitVec 32 := Scalar.addi v2319 c7_i32_1272
  let v2325 : Index := Scalar.indexCast v2322
  let c0_1273 : Index := 0#32
  ![v2323.toNat, v2324.toNat, v2325.toNat, 0]

def k0_chk56 (i : grid0.Coords) (v2317 : BitVec 32) (v2319 : BitVec 32) (v2321 : BitVec 32) : Prop :=
  (∀ (k0_h2 : k0_cond2 i = 1#1), ∀ a, S1x1x112x128.size a = 0 ∨ (k0_off402 v2317 v2319 v2321) a + (![1, 1, 2, 1] : Fin 4 → Nat) a * (S1x1x112x128.size a - 1) < S3x96x232x128.size a)
theorem k0_off402_inb : ∀ (i : grid0.Coords) (v2317 : BitVec 32) (v2319 : BitVec 32) (v2321 : BitVec 32) (k0_hw56 : k0_chk56 i v2317 v2319 v2321), ∀ (k0_h2 : k0_cond2 i = 1#1), ∀ a, S1x1x112x128.size a = 0 ∨ (k0_off402 v2317 v2319 v2321) a + (![1, 1, 2, 1] : Fin 4 → Nat) a * (S1x1x112x128.size a - 1) < S3x96x232x128.size a := fun i v2317 v2319 v2321 k0_hw56 k0_h2 => k0_hw56 k0_h2

def k0_off403 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2328 : Index := Scalar.indexCast v2231
  let c0_1274 : Index := 0#32
  let c0_1275 : Index := 0#32
  ![v2328.toNat, 0, 0]
def k0_off404 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2330 : Index := Scalar.indexCast v2231
  let c0_1276 : Index := 0#32
  let c1_1277 : Index := 1#32
  ![v2330.toNat, 0, 1]
def k0_off405 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2332 : Index := Scalar.indexCast v2231
  let c0_1278 : Index := 0#32
  let c2_1279 : Index := 2#32
  ![v2332.toNat, 0, 2]
def k0_off406 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2334 : Index := Scalar.indexCast v2231
  let c0_1280 : Index := 0#32
  let c3_1281 : Index := 3#32
  ![v2334.toNat, 0, 3]
def k0_off407 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2347 : Index := Scalar.indexCast v2231
  let c1_1282 : Index := 1#32
  let c0_1283 : Index := 0#32
  ![v2347.toNat, 1, 0]
def k0_off408 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2349 : Index := Scalar.indexCast v2231
  let c1_1284 : Index := 1#32
  let c1_1285 : Index := 1#32
  ![v2349.toNat, 1, 1]
def k0_off409 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2351 : Index := Scalar.indexCast v2231
  let c1_1286 : Index := 1#32
  let c2_1287 : Index := 2#32
  ![v2351.toNat, 1, 2]
def k0_off410 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2353 : Index := Scalar.indexCast v2231
  let c1_1288 : Index := 1#32
  let c3_1289 : Index := 3#32
  ![v2353.toNat, 1, 3]
def k0_off411 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2366 : Index := Scalar.indexCast v2231
  let c2_1290 : Index := 2#32
  let c0_1291 : Index := 0#32
  ![v2366.toNat, 2, 0]
def k0_off412 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2368 : Index := Scalar.indexCast v2231
  let c2_1292 : Index := 2#32
  let c1_1293 : Index := 1#32
  ![v2368.toNat, 2, 1]
def k0_off413 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2370 : Index := Scalar.indexCast v2231
  let c2_1294 : Index := 2#32
  let c2_1295 : Index := 2#32
  ![v2370.toNat, 2, 2]
def k0_off414 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2372 : Index := Scalar.indexCast v2231
  let c2_1296 : Index := 2#32
  let c3_1297 : Index := 3#32
  ![v2372.toNat, 2, 3]
def k0_off415 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2385 : Index := Scalar.indexCast v2231
  let c3_1298 : Index := 3#32
  let c0_1299 : Index := 0#32
  ![v2385.toNat, 3, 0]
def k0_off416 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2387 : Index := Scalar.indexCast v2231
  let c3_1300 : Index := 3#32
  let c1_1301 : Index := 1#32
  ![v2387.toNat, 3, 1]
def k0_off417 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2389 : Index := Scalar.indexCast v2231
  let c3_1302 : Index := 3#32
  let c2_1303 : Index := 2#32
  ![v2389.toNat, 3, 2]
def k0_off418 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2391 : Index := Scalar.indexCast v2231
  let c3_1304 : Index := 3#32
  let c3_1305 : Index := 3#32
  ![v2391.toNat, 3, 3]
def k0_off419 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2404 : Index := Scalar.indexCast v2231
  let c4_1306 : Index := 4#32
  let c0_1307 : Index := 0#32
  ![v2404.toNat, 4, 0]
def k0_off420 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2406 : Index := Scalar.indexCast v2231
  let c4_1308 : Index := 4#32
  let c1_1309 : Index := 1#32
  ![v2406.toNat, 4, 1]
def k0_off421 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2408 : Index := Scalar.indexCast v2231
  let c4_1310 : Index := 4#32
  let c2_1311 : Index := 2#32
  ![v2408.toNat, 4, 2]
def k0_off422 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2410 : Index := Scalar.indexCast v2231
  let c4_1312 : Index := 4#32
  let c3_1313 : Index := 3#32
  ![v2410.toNat, 4, 3]
def k0_off423 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2423 : Index := Scalar.indexCast v2231
  let c5_1314 : Index := 5#32
  let c0_1315 : Index := 0#32
  ![v2423.toNat, 5, 0]
def k0_off424 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2425 : Index := Scalar.indexCast v2231
  let c5_1316 : Index := 5#32
  let c1_1317 : Index := 1#32
  ![v2425.toNat, 5, 1]
def k0_off425 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2427 : Index := Scalar.indexCast v2231
  let c5_1318 : Index := 5#32
  let c2_1319 : Index := 2#32
  ![v2427.toNat, 5, 2]
def k0_off426 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2429 : Index := Scalar.indexCast v2231
  let c5_1320 : Index := 5#32
  let c3_1321 : Index := 3#32
  ![v2429.toNat, 5, 3]
def k0_off427 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2442 : Index := Scalar.indexCast v2231
  let c6_1322 : Index := 6#32
  let c0_1323 : Index := 0#32
  ![v2442.toNat, 6, 0]
def k0_off428 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2444 : Index := Scalar.indexCast v2231
  let c6_1324 : Index := 6#32
  let c1_1325 : Index := 1#32
  ![v2444.toNat, 6, 1]
def k0_off429 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2446 : Index := Scalar.indexCast v2231
  let c6_1326 : Index := 6#32
  let c2_1327 : Index := 2#32
  ![v2446.toNat, 6, 2]
def k0_off430 (k0_t1 : Fin k0_t1_loop.trips) : Fin 3 → Nat :=
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2448 : Index := Scalar.indexCast v2231
  let c6_1328 : Index := 6#32
  let c3_1329 : Index := 3#32
  ![v2448.toNat, 6, 3]
def k0_off431 (k0_t1 : Fin k0_t1_loop.trips) : Fin 4 → Nat :=
  let c0_1330 : Index := 0#32
  let c16_i32_1208 : BitVec 32 := 16#32
  let c0_i32_459 : BitVec 32 := 0#32
  let c1_i32_461 : BitVec 32 := 1#32
  let arg7 : BitVec 32 := Scf.iv c0_i32_459 c1_i32_461 k0_t1
  let v2230 : BitVec 32 := Scalar.muli c16_i32_1208 arg7
  let c6_i32_1209 : BitVec 32 := 6#32
  let v2231 : BitVec 32 := Scalar.addi v2230 c6_i32_1209
  let v2462 : Index := Scalar.indexCast v2231
  let c0_1331 : Index := 0#32
  let c0_1332 : Index := 0#32
  ![0, v2462.toNat, 0, 0]
def k0_off432 (k0_t1 : Fin k0_t1_loop.trips) : Fin 3 → Nat :=
  let c0_1335 : Index := 0#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2468 : Index := Scalar.indexCast v2467
  let c0_1336 : Index := 0#32
  ![0, v2468.toNat, 0]
def k0_off433 (k0_t1 : Fin k0_t1_loop.trips) : Fin 3 → Nat :=
  let c1_1337 : Index := 1#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2470 : Index := Scalar.indexCast v2467
  let c0_1338 : Index := 0#32
  ![1, v2470.toNat, 0]
def k0_off434 (k0_t1 : Fin k0_t1_loop.trips) : Fin 3 → Nat :=
  let c2_1339 : Index := 2#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2472 : Index := Scalar.indexCast v2467
  let c0_1340 : Index := 0#32
  ![2, v2472.toNat, 0]
def k0_off435 (v2469 : BitVec 32) (v2471 : BitVec 32) (v2473 : BitVec 32) : Fin 4 → Nat :=
  let v2475 : Index := Scalar.indexCast v2473
  let v2476 : Index := Scalar.indexCast v2469
  let c7_i32_1341 : BitVec 32 := 7#32
  let v2474 : BitVec 32 := Scalar.addi v2471 c7_i32_1341
  let v2477 : Index := Scalar.indexCast v2474
  let c0_1342 : Index := 0#32
  ![v2475.toNat, v2476.toNat, v2477.toNat, 0]

def k0_chk57 (i : grid0.Coords) (v2469 : BitVec 32) (v2471 : BitVec 32) (v2473 : BitVec 32) : Prop :=
  (∀ (k0_h2 : k0_cond2 i = 1#1), ∀ a, S1x1x112x128.size a = 0 ∨ (k0_off435 v2469 v2471 v2473) a + (![1, 1, 2, 1] : Fin 4 → Nat) a * (S1x1x112x128.size a - 1) < S3x96x232x128.size a)
theorem k0_off435_inb : ∀ (i : grid0.Coords) (v2469 : BitVec 32) (v2471 : BitVec 32) (v2473 : BitVec 32) (k0_hw57 : k0_chk57 i v2469 v2471 v2473), ∀ (k0_h2 : k0_cond2 i = 1#1), ∀ a, S1x1x112x128.size a = 0 ∨ (k0_off435 v2469 v2471 v2473) a + (![1, 1, 2, 1] : Fin 4 → Nat) a * (S1x1x112x128.size a - 1) < S3x96x232x128.size a := fun i v2469 v2471 v2473 k0_hw57 k0_h2 => k0_hw57 k0_h2

def k0_off436 (k0_t1 : Fin k0_t1_loop.trips) : Fin 3 → Nat :=
  let c0_1343 : Index := 0#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2480 : Index := Scalar.indexCast v2467
  let c1_1344 : Index := 1#32
  ![0, v2480.toNat, 1]
def k0_off437 (k0_t1 : Fin k0_t1_loop.trips) : Fin 3 → Nat :=
  let c1_1345 : Index := 1#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2482 : Index := Scalar.indexCast v2467
  let c1_1346 : Index := 1#32
  ![1, v2482.toNat, 1]
def k0_off438 (k0_t1 : Fin k0_t1_loop.trips) : Fin 3 → Nat :=
  let c2_1347 : Index := 2#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2484 : Index := Scalar.indexCast v2467
  let c1_1348 : Index := 1#32
  ![2, v2484.toNat, 1]
def k0_off439 (v2481 : BitVec 32) (v2483 : BitVec 32) (v2485 : BitVec 32) : Fin 4 → Nat :=
  let v2487 : Index := Scalar.indexCast v2485
  let v2488 : Index := Scalar.indexCast v2481
  let c7_i32_1349 : BitVec 32 := 7#32
  let v2486 : BitVec 32 := Scalar.addi v2483 c7_i32_1349
  let v2489 : Index := Scalar.indexCast v2486
  let c0_1350 : Index := 0#32
  ![v2487.toNat, v2488.toNat, v2489.toNat, 0]

def k0_chk58 (i : grid0.Coords) (v2481 : BitVec 32) (v2483 : BitVec 32) (v2485 : BitVec 32) : Prop :=
  (∀ (k0_h2 : k0_cond2 i = 1#1), ∀ a, S1x1x112x128.size a = 0 ∨ (k0_off439 v2481 v2483 v2485) a + (![1, 1, 2, 1] : Fin 4 → Nat) a * (S1x1x112x128.size a - 1) < S3x96x232x128.size a)
theorem k0_off439_inb : ∀ (i : grid0.Coords) (v2481 : BitVec 32) (v2483 : BitVec 32) (v2485 : BitVec 32) (k0_hw58 : k0_chk58 i v2481 v2483 v2485), ∀ (k0_h2 : k0_cond2 i = 1#1), ∀ a, S1x1x112x128.size a = 0 ∨ (k0_off439 v2481 v2483 v2485) a + (![1, 1, 2, 1] : Fin 4 → Nat) a * (S1x1x112x128.size a - 1) < S3x96x232x128.size a := fun i v2481 v2483 v2485 k0_hw58 k0_h2 => k0_hw58 k0_h2

def k0_off440 (k0_t1 : Fin k0_t1_loop.trips) : Fin 3 → Nat :=
  let c0_1351 : Index := 0#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2492 : Index := Scalar.indexCast v2467
  let c2_1352 : Index := 2#32
  ![0, v2492.toNat, 2]
def k0_off441 (k0_t1 : Fin k0_t1_loop.trips) : Fin 3 → Nat :=
  let c1_1353 : Index := 1#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2494 : Index := Scalar.indexCast v2467
  let c2_1354 : Index := 2#32
  ![1, v2494.toNat, 2]
def k0_off442 (k0_t1 : Fin k0_t1_loop.trips) : Fin 3 → Nat :=
  let c2_1355 : Index := 2#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2496 : Index := Scalar.indexCast v2467
  let c2_1356 : Index := 2#32
  ![2, v2496.toNat, 2]
def k0_off443 (v2493 : BitVec 32) (v2495 : BitVec 32) (v2497 : BitVec 32) : Fin 4 → Nat :=
  let v2499 : Index := Scalar.indexCast v2497
  let v2500 : Index := Scalar.indexCast v2493
  let c7_i32_1357 : BitVec 32 := 7#32
  let v2498 : BitVec 32 := Scalar.addi v2495 c7_i32_1357
  let v2501 : Index := Scalar.indexCast v2498
  let c0_1358 : Index := 0#32
  ![v2499.toNat, v2500.toNat, v2501.toNat, 0]

def k0_chk59 (i : grid0.Coords) (v2493 : BitVec 32) (v2495 : BitVec 32) (v2497 : BitVec 32) : Prop :=
  (∀ (k0_h2 : k0_cond2 i = 1#1), ∀ a, S1x1x112x128.size a = 0 ∨ (k0_off443 v2493 v2495 v2497) a + (![1, 1, 2, 1] : Fin 4 → Nat) a * (S1x1x112x128.size a - 1) < S3x96x232x128.size a)
theorem k0_off443_inb : ∀ (i : grid0.Coords) (v2493 : BitVec 32) (v2495 : BitVec 32) (v2497 : BitVec 32) (k0_hw59 : k0_chk59 i v2493 v2495 v2497), ∀ (k0_h2 : k0_cond2 i = 1#1), ∀ a, S1x1x112x128.size a = 0 ∨ (k0_off443 v2493 v2495 v2497) a + (![1, 1, 2, 1] : Fin 4 → Nat) a * (S1x1x112x128.size a - 1) < S3x96x232x128.size a := fun i v2493 v2495 v2497 k0_hw59 k0_h2 => k0_hw59 k0_h2

def k0_off444 (k0_t1 : Fin k0_t1_loop.trips) : Fin 3 → Nat :=
  let c0_1359 : Index := 0#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2504 : Index := Scalar.indexCast v2467
  let c3_1360 : Index := 3#32
  ![0, v2504.toNat, 3]
def k0_off445 (k0_t1 : Fin k0_t1_loop.trips) : Fin 3 → Nat :=
  let c1_1361 : Index := 1#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2506 : Index := Scalar.indexCast v2467
  let c3_1362 : Index := 3#32
  ![1, v2506.toNat, 3]
def k0_off446 (k0_t1 : Fin k0_t1_loop.trips) : Fin 3 → Nat :=
  let c2_1363 : Index := 2#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2508 : Index := Scalar.indexCast v2467
  let c3_1364 : Index := 3#32
  ![2, v2508.toNat, 3]
def k0_off447 (v2505 : BitVec 32) (v2507 : BitVec 32) (v2509 : BitVec 32) : Fin 4 → Nat :=
  let v2511 : Index := Scalar.indexCast v2509
  let v2512 : Index := Scalar.indexCast v2505
  let c7_i32_1365 : BitVec 32 := 7#32
  let v2510 : BitVec 32 := Scalar.addi v2507 c7_i32_1365
  let v2513 : Index := Scalar.indexCast v2510
  let c0_1366 : Index := 0#32
  ![v2511.toNat, v2512.toNat, v2513.toNat, 0]

def k0_chk60 (i : grid0.Coords) (v2505 : BitVec 32) (v2507 : BitVec 32) (v2509 : BitVec 32) : Prop :=
  (∀ (k0_h2 : k0_cond2 i = 1#1), ∀ a, S1x1x112x128.size a = 0 ∨ (k0_off447 v2505 v2507 v2509) a + (![1, 1, 2, 1] : Fin 4 → Nat) a * (S1x1x112x128.size a - 1) < S3x96x232x128.size a)
theorem k0_off447_inb : ∀ (i : grid0.Coords) (v2505 : BitVec 32) (v2507 : BitVec 32) (v2509 : BitVec 32) (k0_hw60 : k0_chk60 i v2505 v2507 v2509), ∀ (k0_h2 : k0_cond2 i = 1#1), ∀ a, S1x1x112x128.size a = 0 ∨ (k0_off447 v2505 v2507 v2509) a + (![1, 1, 2, 1] : Fin 4 → Nat) a * (S1x1x112x128.size a - 1) < S3x96x232x128.size a := fun i v2505 v2507 v2509 k0_hw60 k0_h2 => k0_hw60 k0_h2

def k0_off448 (k0_t1 : Fin k0_t1_loop.trips) : Fin 3 → Nat :=
  let c0_1367 : Index := 0#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2516 : Index := Scalar.indexCast v2467
  let c4_1368 : Index := 4#32
  ![0, v2516.toNat, 4]
def k0_off449 (k0_t1 : Fin k0_t1_loop.trips) : Fin 3 → Nat :=
  let c1_1369 : Index := 1#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2518 : Index := Scalar.indexCast v2467
  let c4_1370 : Index := 4#32
  ![1, v2518.toNat, 4]
def k0_off450 (k0_t1 : Fin k0_t1_loop.trips) : Fin 3 → Nat :=
  let c2_1371 : Index := 2#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2520 : Index := Scalar.indexCast v2467
  let c4_1372 : Index := 4#32
  ![2, v2520.toNat, 4]
def k0_off451 (v2517 : BitVec 32) (v2519 : BitVec 32) (v2521 : BitVec 32) : Fin 4 → Nat :=
  let v2523 : Index := Scalar.indexCast v2521
  let v2524 : Index := Scalar.indexCast v2517
  let c7_i32_1373 : BitVec 32 := 7#32
  let v2522 : BitVec 32 := Scalar.addi v2519 c7_i32_1373
  let v2525 : Index := Scalar.indexCast v2522
  let c0_1374 : Index := 0#32
  ![v2523.toNat, v2524.toNat, v2525.toNat, 0]

def k0_chk61 (i : grid0.Coords) (v2517 : BitVec 32) (v2519 : BitVec 32) (v2521 : BitVec 32) : Prop :=
  (∀ (k0_h2 : k0_cond2 i = 1#1), ∀ a, S1x1x112x128.size a = 0 ∨ (k0_off451 v2517 v2519 v2521) a + (![1, 1, 2, 1] : Fin 4 → Nat) a * (S1x1x112x128.size a - 1) < S3x96x232x128.size a)
theorem k0_off451_inb : ∀ (i : grid0.Coords) (v2517 : BitVec 32) (v2519 : BitVec 32) (v2521 : BitVec 32) (k0_hw61 : k0_chk61 i v2517 v2519 v2521), ∀ (k0_h2 : k0_cond2 i = 1#1), ∀ a, S1x1x112x128.size a = 0 ∨ (k0_off451 v2517 v2519 v2521) a + (![1, 1, 2, 1] : Fin 4 → Nat) a * (S1x1x112x128.size a - 1) < S3x96x232x128.size a := fun i v2517 v2519 v2521 k0_hw61 k0_h2 => k0_hw61 k0_h2

def k0_off452 (k0_t1 : Fin k0_t1_loop.trips) : Fin 3 → Nat :=
  let c0_1375 : Index := 0#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2528 : Index := Scalar.indexCast v2467
  let c5_1376 : Index := 5#32
  ![0, v2528.toNat, 5]
def k0_off453 (k0_t1 : Fin k0_t1_loop.trips) : Fin 3 → Nat :=
  let c1_1377 : Index := 1#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2530 : Index := Scalar.indexCast v2467
  let c5_1378 : Index := 5#32
  ![1, v2530.toNat, 5]
def k0_off454 (k0_t1 : Fin k0_t1_loop.trips) : Fin 3 → Nat :=
  let c2_1379 : Index := 2#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2532 : Index := Scalar.indexCast v2467
  let c5_1380 : Index := 5#32
  ![2, v2532.toNat, 5]
def k0_off455 (v2529 : BitVec 32) (v2531 : BitVec 32) (v2533 : BitVec 32) : Fin 4 → Nat :=
  let v2535 : Index := Scalar.indexCast v2533
  let v2536 : Index := Scalar.indexCast v2529
  let c7_i32_1381 : BitVec 32 := 7#32
  let v2534 : BitVec 32 := Scalar.addi v2531 c7_i32_1381
  let v2537 : Index := Scalar.indexCast v2534
  let c0_1382 : Index := 0#32
  ![v2535.toNat, v2536.toNat, v2537.toNat, 0]

def k0_chk62 (i : grid0.Coords) (v2529 : BitVec 32) (v2531 : BitVec 32) (v2533 : BitVec 32) : Prop :=
  (∀ (k0_h2 : k0_cond2 i = 1#1), ∀ a, S1x1x112x128.size a = 0 ∨ (k0_off455 v2529 v2531 v2533) a + (![1, 1, 2, 1] : Fin 4 → Nat) a * (S1x1x112x128.size a - 1) < S3x96x232x128.size a)
theorem k0_off455_inb : ∀ (i : grid0.Coords) (v2529 : BitVec 32) (v2531 : BitVec 32) (v2533 : BitVec 32) (k0_hw62 : k0_chk62 i v2529 v2531 v2533), ∀ (k0_h2 : k0_cond2 i = 1#1), ∀ a, S1x1x112x128.size a = 0 ∨ (k0_off455 v2529 v2531 v2533) a + (![1, 1, 2, 1] : Fin 4 → Nat) a * (S1x1x112x128.size a - 1) < S3x96x232x128.size a := fun i v2529 v2531 v2533 k0_hw62 k0_h2 => k0_hw62 k0_h2

def k0_off456 (k0_t1 : Fin k0_t1_loop.trips) : Fin 3 → Nat :=
  let c0_1383 : Index := 0#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2540 : Index := Scalar.indexCast v2467
  let c6_1384 : Index := 6#32
  ![0, v2540.toNat, 6]
def k0_off457 (k0_t1 : Fin k0_t1_loop.trips) : Fin 3 → Nat :=
  let c1_1385 : Index := 1#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2542 : Index := Scalar.indexCast v2467
  let c6_1386 : Index := 6#32
  ![1, v2542.toNat, 6]
def k0_off458 (k0_t1 : Fin k0_t1_loop.trips) : Fin 3 → Nat :=
  let c2_1387 : Index := 2#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2544 : Index := Scalar.indexCast v2467
  let c6_1388 : Index := 6#32
  ![2, v2544.toNat, 6]
def k0_off459 (v2541 : BitVec 32) (v2543 : BitVec 32) (v2545 : BitVec 32) : Fin 4 → Nat :=
  let v2547 : Index := Scalar.indexCast v2545
  let v2548 : Index := Scalar.indexCast v2541
  let c7_i32_1389 : BitVec 32 := 7#32
  let v2546 : BitVec 32 := Scalar.addi v2543 c7_i32_1389
  let v2549 : Index := Scalar.indexCast v2546
  let c0_1390 : Index := 0#32
  ![v2547.toNat, v2548.toNat, v2549.toNat, 0]

def k0_chk63 (i : grid0.Coords) (v2541 : BitVec 32) (v2543 : BitVec 32) (v2545 : BitVec 32) : Prop :=
  (∀ (k0_h2 : k0_cond2 i = 1#1), ∀ a, S1x1x112x128.size a = 0 ∨ (k0_off459 v2541 v2543 v2545) a + (![1, 1, 2, 1] : Fin 4 → Nat) a * (S1x1x112x128.size a - 1) < S3x96x232x128.size a)
theorem k0_off459_inb : ∀ (i : grid0.Coords) (v2541 : BitVec 32) (v2543 : BitVec 32) (v2545 : BitVec 32) (k0_hw63 : k0_chk63 i v2541 v2543 v2545), ∀ (k0_h2 : k0_cond2 i = 1#1), ∀ a, S1x1x112x128.size a = 0 ∨ (k0_off459 v2541 v2543 v2545) a + (![1, 1, 2, 1] : Fin 4 → Nat) a * (S1x1x112x128.size a - 1) < S3x96x232x128.size a := fun i v2541 v2543 v2545 k0_hw63 k0_h2 => k0_hw63 k0_h2

def k0_off460 (k0_t1 : Fin k0_t1_loop.trips) : Fin 3 → Nat :=
  let c0_1391 : Index := 0#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2552 : Index := Scalar.indexCast v2467
  let c7_1392 : Index := 7#32
  ![0, v2552.toNat, 7]
def k0_off461 (k0_t1 : Fin k0_t1_loop.trips) : Fin 3 → Nat :=
  let c1_1393 : Index := 1#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2554 : Index := Scalar.indexCast v2467
  let c7_1394 : Index := 7#32
  ![1, v2554.toNat, 7]
def k0_off462 (k0_t1 : Fin k0_t1_loop.trips) : Fin 3 → Nat :=
  let c2_1395 : Index := 2#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2556 : Index := Scalar.indexCast v2467
  let c7_1396 : Index := 7#32
  ![2, v2556.toNat, 7]
def k0_off463 (v2553 : BitVec 32) (v2555 : BitVec 32) (v2557 : BitVec 32) : Fin 4 → Nat :=
  let v2559 : Index := Scalar.indexCast v2557
  let v2560 : Index := Scalar.indexCast v2553
  let c7_i32_1397 : BitVec 32 := 7#32
  let v2558 : BitVec 32 := Scalar.addi v2555 c7_i32_1397
  let v2561 : Index := Scalar.indexCast v2558
  let c0_1398 : Index := 0#32
  ![v2559.toNat, v2560.toNat, v2561.toNat, 0]

def k0_chk64 (i : grid0.Coords) (v2553 : BitVec 32) (v2555 : BitVec 32) (v2557 : BitVec 32) : Prop :=
  (∀ (k0_h2 : k0_cond2 i = 1#1), ∀ a, S1x1x112x128.size a = 0 ∨ (k0_off463 v2553 v2555 v2557) a + (![1, 1, 2, 1] : Fin 4 → Nat) a * (S1x1x112x128.size a - 1) < S3x96x232x128.size a)
theorem k0_off463_inb : ∀ (i : grid0.Coords) (v2553 : BitVec 32) (v2555 : BitVec 32) (v2557 : BitVec 32) (k0_hw64 : k0_chk64 i v2553 v2555 v2557), ∀ (k0_h2 : k0_cond2 i = 1#1), ∀ a, S1x1x112x128.size a = 0 ∨ (k0_off463 v2553 v2555 v2557) a + (![1, 1, 2, 1] : Fin 4 → Nat) a * (S1x1x112x128.size a - 1) < S3x96x232x128.size a := fun i v2553 v2555 v2557 k0_hw64 k0_h2 => k0_hw64 k0_h2

def k0_off464 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2564 : Index := Scalar.indexCast v2467
  let c0_1399 : Index := 0#32
  let c0_1400 : Index := 0#32
  ![v2564.toNat, 0, 0]
def k0_off465 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2566 : Index := Scalar.indexCast v2467
  let c0_1401 : Index := 0#32
  let c1_1402 : Index := 1#32
  ![v2566.toNat, 0, 1]
def k0_off466 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2568 : Index := Scalar.indexCast v2467
  let c0_1403 : Index := 0#32
  let c2_1404 : Index := 2#32
  ![v2568.toNat, 0, 2]
def k0_off467 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2570 : Index := Scalar.indexCast v2467
  let c0_1405 : Index := 0#32
  let c3_1406 : Index := 3#32
  ![v2570.toNat, 0, 3]
def k0_off468 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2583 : Index := Scalar.indexCast v2467
  let c1_1407 : Index := 1#32
  let c0_1408 : Index := 0#32
  ![v2583.toNat, 1, 0]
def k0_off469 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2585 : Index := Scalar.indexCast v2467
  let c1_1409 : Index := 1#32
  let c1_1410 : Index := 1#32
  ![v2585.toNat, 1, 1]
def k0_off470 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2587 : Index := Scalar.indexCast v2467
  let c1_1411 : Index := 1#32
  let c2_1412 : Index := 2#32
  ![v2587.toNat, 1, 2]
def k0_off471 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2589 : Index := Scalar.indexCast v2467
  let c1_1413 : Index := 1#32
  let c3_1414 : Index := 3#32
  ![v2589.toNat, 1, 3]
def k0_off472 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2602 : Index := Scalar.indexCast v2467
  let c2_1415 : Index := 2#32
  let c0_1416 : Index := 0#32
  ![v2602.toNat, 2, 0]
def k0_off473 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2604 : Index := Scalar.indexCast v2467
  let c2_1417 : Index := 2#32
  let c1_1418 : Index := 1#32
  ![v2604.toNat, 2, 1]
def k0_off474 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2606 : Index := Scalar.indexCast v2467
  let c2_1419 : Index := 2#32
  let c2_1420 : Index := 2#32
  ![v2606.toNat, 2, 2]
def k0_off475 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2608 : Index := Scalar.indexCast v2467
  let c2_1421 : Index := 2#32
  let c3_1422 : Index := 3#32
  ![v2608.toNat, 2, 3]
def k0_off476 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2621 : Index := Scalar.indexCast v2467
  let c3_1423 : Index := 3#32
  let c0_1424 : Index := 0#32
  ![v2621.toNat, 3, 0]
def k0_off477 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2623 : Index := Scalar.indexCast v2467
  let c3_1425 : Index := 3#32
  let c1_1426 : Index := 1#32
  ![v2623.toNat, 3, 1]
def k0_off478 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2625 : Index := Scalar.indexCast v2467
  let c3_1427 : Index := 3#32
  let c2_1428 : Index := 2#32
  ![v2625.toNat, 3, 2]
def k0_off479 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2627 : Index := Scalar.indexCast v2467
  let c3_1429 : Index := 3#32
  let c3_1430 : Index := 3#32
  ![v2627.toNat, 3, 3]
def k0_off480 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2640 : Index := Scalar.indexCast v2467
  let c4_1431 : Index := 4#32
  let c0_1432 : Index := 0#32
  ![v2640.toNat, 4, 0]
def k0_off481 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2642 : Index := Scalar.indexCast v2467
  let c4_1433 : Index := 4#32
  let c1_1434 : Index := 1#32
  ![v2642.toNat, 4, 1]
def k0_off482 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2644 : Index := Scalar.indexCast v2467
  let c4_1435 : Index := 4#32
  let c2_1436 : Index := 2#32
  ![v2644.toNat, 4, 2]
def k0_off483 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2646 : Index := Scalar.indexCast v2467
  let c4_1437 : Index := 4#32
  let c3_1438 : Index := 3#32
  ![v2646.toNat, 4, 3]
def k0_off484 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2659 : Index := Scalar.indexCast v2467
  let c5_1439 : Index := 5#32
  let c0_1440 : Index := 0#32
  ![v2659.toNat, 5, 0]
def k0_off485 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2661 : Index := Scalar.indexCast v2467
  let c5_1441 : Index := 5#32
  let c1_1442 : Index := 1#32
  ![v2661.toNat, 5, 1]
def k0_off486 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2663 : Index := Scalar.indexCast v2467
  let c5_1443 : Index := 5#32
  let c2_1444 : Index := 2#32
  ![v2663.toNat, 5, 2]
def k0_off487 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2665 : Index := Scalar.indexCast v2467
  let c5_1445 : Index := 5#32
  let c3_1446 : Index := 3#32
  ![v2665.toNat, 5, 3]
def k0_off488 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2678 : Index := Scalar.indexCast v2467
  let c6_1447 : Index := 6#32
  let c0_1448 : Index := 0#32
  ![v2678.toNat, 6, 0]
def k0_off489 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2680 : Index := Scalar.indexCast v2467
  let c6_1449 : Index := 6#32
  let c1_1450 : Index := 1#32
  ![v2680.toNat, 6, 1]
def k0_off490 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2682 : Index := Scalar.indexCast v2467
  let c6_1451 : Index := 6#32
  let c2_1452 : Index := 2#32
  ![v2682.toNat, 6, 2]
def k0_off491 (k0_t1 : Fin k0_t1_loop.trips) : Fin 3 → Nat :=
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2684 : Index := Scalar.indexCast v2467
  let c6_1453 : Index := 6#32
  let c3_1454 : Index := 3#32
  ![v2684.toNat, 6, 3]
def k0_off492 (k0_t1 : Fin k0_t1_loop.trips) : Fin 4 → Nat :=
  let c0_1455 : Index := 0#32
  let c16_i32_1333 : BitVec 32 := 16#32
  let c0_i32_459 : BitVec 32 := 0#32
  let c1_i32_461 : BitVec 32 := 1#32
  let arg7 : BitVec 32 := Scf.iv c0_i32_459 c1_i32_461 k0_t1
  let v2466 : BitVec 32 := Scalar.muli c16_i32_1333 arg7
  let c7_i32_1334 : BitVec 32 := 7#32
  let v2467 : BitVec 32 := Scalar.addi v2466 c7_i32_1334
  let v2698 : Index := Scalar.indexCast v2467
  let c0_1456 : Index := 0#32
  let c0_1457 : Index := 0#32
  ![0, v2698.toNat, 0, 0]
def k0_off493 (k0_t1 : Fin k0_t1_loop.trips) : Fin 3 → Nat :=
  let c0_1460 : Index := 0#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2704 : Index := Scalar.indexCast v2703
  let c0_1461 : Index := 0#32
  ![0, v2704.toNat, 0]
def k0_off494 (k0_t1 : Fin k0_t1_loop.trips) : Fin 3 → Nat :=
  let c1_1462 : Index := 1#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2706 : Index := Scalar.indexCast v2703
  let c0_1463 : Index := 0#32
  ![1, v2706.toNat, 0]
def k0_off495 (k0_t1 : Fin k0_t1_loop.trips) : Fin 3 → Nat :=
  let c2_1464 : Index := 2#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2708 : Index := Scalar.indexCast v2703
  let c0_1465 : Index := 0#32
  ![2, v2708.toNat, 0]
def k0_off496 (v2705 : BitVec 32) (v2707 : BitVec 32) (v2709 : BitVec 32) : Fin 4 → Nat :=
  let v2711 : Index := Scalar.indexCast v2709
  let v2712 : Index := Scalar.indexCast v2705
  let c7_i32_1466 : BitVec 32 := 7#32
  let v2710 : BitVec 32 := Scalar.addi v2707 c7_i32_1466
  let v2713 : Index := Scalar.indexCast v2710
  let c0_1467 : Index := 0#32
  ![v2711.toNat, v2712.toNat, v2713.toNat, 0]

def k0_chk65 (i : grid0.Coords) (v2705 : BitVec 32) (v2707 : BitVec 32) (v2709 : BitVec 32) : Prop :=
  (∀ (k0_h2 : k0_cond2 i = 1#1), ∀ a, S1x1x112x128.size a = 0 ∨ (k0_off496 v2705 v2707 v2709) a + (![1, 1, 2, 1] : Fin 4 → Nat) a * (S1x1x112x128.size a - 1) < S3x96x232x128.size a)
theorem k0_off496_inb : ∀ (i : grid0.Coords) (v2705 : BitVec 32) (v2707 : BitVec 32) (v2709 : BitVec 32) (k0_hw65 : k0_chk65 i v2705 v2707 v2709), ∀ (k0_h2 : k0_cond2 i = 1#1), ∀ a, S1x1x112x128.size a = 0 ∨ (k0_off496 v2705 v2707 v2709) a + (![1, 1, 2, 1] : Fin 4 → Nat) a * (S1x1x112x128.size a - 1) < S3x96x232x128.size a := fun i v2705 v2707 v2709 k0_hw65 k0_h2 => k0_hw65 k0_h2

def k0_off497 (k0_t1 : Fin k0_t1_loop.trips) : Fin 3 → Nat :=
  let c0_1468 : Index := 0#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2716 : Index := Scalar.indexCast v2703
  let c1_1469 : Index := 1#32
  ![0, v2716.toNat, 1]
def k0_off498 (k0_t1 : Fin k0_t1_loop.trips) : Fin 3 → Nat :=
  let c1_1470 : Index := 1#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2718 : Index := Scalar.indexCast v2703
  let c1_1471 : Index := 1#32
  ![1, v2718.toNat, 1]
def k0_off499 (k0_t1 : Fin k0_t1_loop.trips) : Fin 3 → Nat :=
  let c2_1472 : Index := 2#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2720 : Index := Scalar.indexCast v2703
  let c1_1473 : Index := 1#32
  ![2, v2720.toNat, 1]
def k0_off500 (v2717 : BitVec 32) (v2719 : BitVec 32) (v2721 : BitVec 32) : Fin 4 → Nat :=
  let v2723 : Index := Scalar.indexCast v2721
  let v2724 : Index := Scalar.indexCast v2717
  let c7_i32_1474 : BitVec 32 := 7#32
  let v2722 : BitVec 32 := Scalar.addi v2719 c7_i32_1474
  let v2725 : Index := Scalar.indexCast v2722
  let c0_1475 : Index := 0#32
  ![v2723.toNat, v2724.toNat, v2725.toNat, 0]

def k0_chk66 (i : grid0.Coords) (v2717 : BitVec 32) (v2719 : BitVec 32) (v2721 : BitVec 32) : Prop :=
  (∀ (k0_h2 : k0_cond2 i = 1#1), ∀ a, S1x1x112x128.size a = 0 ∨ (k0_off500 v2717 v2719 v2721) a + (![1, 1, 2, 1] : Fin 4 → Nat) a * (S1x1x112x128.size a - 1) < S3x96x232x128.size a)
theorem k0_off500_inb : ∀ (i : grid0.Coords) (v2717 : BitVec 32) (v2719 : BitVec 32) (v2721 : BitVec 32) (k0_hw66 : k0_chk66 i v2717 v2719 v2721), ∀ (k0_h2 : k0_cond2 i = 1#1), ∀ a, S1x1x112x128.size a = 0 ∨ (k0_off500 v2717 v2719 v2721) a + (![1, 1, 2, 1] : Fin 4 → Nat) a * (S1x1x112x128.size a - 1) < S3x96x232x128.size a := fun i v2717 v2719 v2721 k0_hw66 k0_h2 => k0_hw66 k0_h2

def k0_off501 (k0_t1 : Fin k0_t1_loop.trips) : Fin 3 → Nat :=
  let c0_1476 : Index := 0#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2728 : Index := Scalar.indexCast v2703
  let c2_1477 : Index := 2#32
  ![0, v2728.toNat, 2]
def k0_off502 (k0_t1 : Fin k0_t1_loop.trips) : Fin 3 → Nat :=
  let c1_1478 : Index := 1#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2730 : Index := Scalar.indexCast v2703
  let c2_1479 : Index := 2#32
  ![1, v2730.toNat, 2]
def k0_off503 (k0_t1 : Fin k0_t1_loop.trips) : Fin 3 → Nat :=
  let c2_1480 : Index := 2#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2732 : Index := Scalar.indexCast v2703
  let c2_1481 : Index := 2#32
  ![2, v2732.toNat, 2]
def k0_off504 (v2729 : BitVec 32) (v2731 : BitVec 32) (v2733 : BitVec 32) : Fin 4 → Nat :=
  let v2735 : Index := Scalar.indexCast v2733
  let v2736 : Index := Scalar.indexCast v2729
  let c7_i32_1482 : BitVec 32 := 7#32
  let v2734 : BitVec 32 := Scalar.addi v2731 c7_i32_1482
  let v2737 : Index := Scalar.indexCast v2734
  let c0_1483 : Index := 0#32
  ![v2735.toNat, v2736.toNat, v2737.toNat, 0]

def k0_chk67 (i : grid0.Coords) (v2729 : BitVec 32) (v2731 : BitVec 32) (v2733 : BitVec 32) : Prop :=
  (∀ (k0_h2 : k0_cond2 i = 1#1), ∀ a, S1x1x112x128.size a = 0 ∨ (k0_off504 v2729 v2731 v2733) a + (![1, 1, 2, 1] : Fin 4 → Nat) a * (S1x1x112x128.size a - 1) < S3x96x232x128.size a)
theorem k0_off504_inb : ∀ (i : grid0.Coords) (v2729 : BitVec 32) (v2731 : BitVec 32) (v2733 : BitVec 32) (k0_hw67 : k0_chk67 i v2729 v2731 v2733), ∀ (k0_h2 : k0_cond2 i = 1#1), ∀ a, S1x1x112x128.size a = 0 ∨ (k0_off504 v2729 v2731 v2733) a + (![1, 1, 2, 1] : Fin 4 → Nat) a * (S1x1x112x128.size a - 1) < S3x96x232x128.size a := fun i v2729 v2731 v2733 k0_hw67 k0_h2 => k0_hw67 k0_h2

def k0_off505 (k0_t1 : Fin k0_t1_loop.trips) : Fin 3 → Nat :=
  let c0_1484 : Index := 0#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2740 : Index := Scalar.indexCast v2703
  let c3_1485 : Index := 3#32
  ![0, v2740.toNat, 3]
def k0_off506 (k0_t1 : Fin k0_t1_loop.trips) : Fin 3 → Nat :=
  let c1_1486 : Index := 1#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2742 : Index := Scalar.indexCast v2703
  let c3_1487 : Index := 3#32
  ![1, v2742.toNat, 3]
def k0_off507 (k0_t1 : Fin k0_t1_loop.trips) : Fin 3 → Nat :=
  let c2_1488 : Index := 2#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2744 : Index := Scalar.indexCast v2703
  let c3_1489 : Index := 3#32
  ![2, v2744.toNat, 3]
def k0_off508 (v2741 : BitVec 32) (v2743 : BitVec 32) (v2745 : BitVec 32) : Fin 4 → Nat :=
  let v2747 : Index := Scalar.indexCast v2745
  let v2748 : Index := Scalar.indexCast v2741
  let c7_i32_1490 : BitVec 32 := 7#32
  let v2746 : BitVec 32 := Scalar.addi v2743 c7_i32_1490
  let v2749 : Index := Scalar.indexCast v2746
  let c0_1491 : Index := 0#32
  ![v2747.toNat, v2748.toNat, v2749.toNat, 0]

def k0_chk68 (i : grid0.Coords) (v2741 : BitVec 32) (v2743 : BitVec 32) (v2745 : BitVec 32) : Prop :=
  (∀ (k0_h2 : k0_cond2 i = 1#1), ∀ a, S1x1x112x128.size a = 0 ∨ (k0_off508 v2741 v2743 v2745) a + (![1, 1, 2, 1] : Fin 4 → Nat) a * (S1x1x112x128.size a - 1) < S3x96x232x128.size a)
theorem k0_off508_inb : ∀ (i : grid0.Coords) (v2741 : BitVec 32) (v2743 : BitVec 32) (v2745 : BitVec 32) (k0_hw68 : k0_chk68 i v2741 v2743 v2745), ∀ (k0_h2 : k0_cond2 i = 1#1), ∀ a, S1x1x112x128.size a = 0 ∨ (k0_off508 v2741 v2743 v2745) a + (![1, 1, 2, 1] : Fin 4 → Nat) a * (S1x1x112x128.size a - 1) < S3x96x232x128.size a := fun i v2741 v2743 v2745 k0_hw68 k0_h2 => k0_hw68 k0_h2

def k0_off509 (k0_t1 : Fin k0_t1_loop.trips) : Fin 3 → Nat :=
  let c0_1492 : Index := 0#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2752 : Index := Scalar.indexCast v2703
  let c4_1493 : Index := 4#32
  ![0, v2752.toNat, 4]
def k0_off510 (k0_t1 : Fin k0_t1_loop.trips) : Fin 3 → Nat :=
  let c1_1494 : Index := 1#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2754 : Index := Scalar.indexCast v2703
  let c4_1495 : Index := 4#32
  ![1, v2754.toNat, 4]
def k0_off511 (k0_t1 : Fin k0_t1_loop.trips) : Fin 3 → Nat :=
  let c2_1496 : Index := 2#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2756 : Index := Scalar.indexCast v2703
  let c4_1497 : Index := 4#32
  ![2, v2756.toNat, 4]
def k0_off512 (v2753 : BitVec 32) (v2755 : BitVec 32) (v2757 : BitVec 32) : Fin 4 → Nat :=
  let v2759 : Index := Scalar.indexCast v2757
  let v2760 : Index := Scalar.indexCast v2753
  let c7_i32_1498 : BitVec 32 := 7#32
  let v2758 : BitVec 32 := Scalar.addi v2755 c7_i32_1498
  let v2761 : Index := Scalar.indexCast v2758
  let c0_1499 : Index := 0#32
  ![v2759.toNat, v2760.toNat, v2761.toNat, 0]

def k0_chk69 (i : grid0.Coords) (v2753 : BitVec 32) (v2755 : BitVec 32) (v2757 : BitVec 32) : Prop :=
  (∀ (k0_h2 : k0_cond2 i = 1#1), ∀ a, S1x1x112x128.size a = 0 ∨ (k0_off512 v2753 v2755 v2757) a + (![1, 1, 2, 1] : Fin 4 → Nat) a * (S1x1x112x128.size a - 1) < S3x96x232x128.size a)
theorem k0_off512_inb : ∀ (i : grid0.Coords) (v2753 : BitVec 32) (v2755 : BitVec 32) (v2757 : BitVec 32) (k0_hw69 : k0_chk69 i v2753 v2755 v2757), ∀ (k0_h2 : k0_cond2 i = 1#1), ∀ a, S1x1x112x128.size a = 0 ∨ (k0_off512 v2753 v2755 v2757) a + (![1, 1, 2, 1] : Fin 4 → Nat) a * (S1x1x112x128.size a - 1) < S3x96x232x128.size a := fun i v2753 v2755 v2757 k0_hw69 k0_h2 => k0_hw69 k0_h2

def k0_off513 (k0_t1 : Fin k0_t1_loop.trips) : Fin 3 → Nat :=
  let c0_1500 : Index := 0#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2764 : Index := Scalar.indexCast v2703
  let c5_1501 : Index := 5#32
  ![0, v2764.toNat, 5]
def k0_off514 (k0_t1 : Fin k0_t1_loop.trips) : Fin 3 → Nat :=
  let c1_1502 : Index := 1#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2766 : Index := Scalar.indexCast v2703
  let c5_1503 : Index := 5#32
  ![1, v2766.toNat, 5]
def k0_off515 (k0_t1 : Fin k0_t1_loop.trips) : Fin 3 → Nat :=
  let c2_1504 : Index := 2#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2768 : Index := Scalar.indexCast v2703
  let c5_1505 : Index := 5#32
  ![2, v2768.toNat, 5]
def k0_off516 (v2765 : BitVec 32) (v2767 : BitVec 32) (v2769 : BitVec 32) : Fin 4 → Nat :=
  let v2771 : Index := Scalar.indexCast v2769
  let v2772 : Index := Scalar.indexCast v2765
  let c7_i32_1506 : BitVec 32 := 7#32
  let v2770 : BitVec 32 := Scalar.addi v2767 c7_i32_1506
  let v2773 : Index := Scalar.indexCast v2770
  let c0_1507 : Index := 0#32
  ![v2771.toNat, v2772.toNat, v2773.toNat, 0]

def k0_chk70 (i : grid0.Coords) (v2765 : BitVec 32) (v2767 : BitVec 32) (v2769 : BitVec 32) : Prop :=
  (∀ (k0_h2 : k0_cond2 i = 1#1), ∀ a, S1x1x112x128.size a = 0 ∨ (k0_off516 v2765 v2767 v2769) a + (![1, 1, 2, 1] : Fin 4 → Nat) a * (S1x1x112x128.size a - 1) < S3x96x232x128.size a)
theorem k0_off516_inb : ∀ (i : grid0.Coords) (v2765 : BitVec 32) (v2767 : BitVec 32) (v2769 : BitVec 32) (k0_hw70 : k0_chk70 i v2765 v2767 v2769), ∀ (k0_h2 : k0_cond2 i = 1#1), ∀ a, S1x1x112x128.size a = 0 ∨ (k0_off516 v2765 v2767 v2769) a + (![1, 1, 2, 1] : Fin 4 → Nat) a * (S1x1x112x128.size a - 1) < S3x96x232x128.size a := fun i v2765 v2767 v2769 k0_hw70 k0_h2 => k0_hw70 k0_h2

def k0_off517 (k0_t1 : Fin k0_t1_loop.trips) : Fin 3 → Nat :=
  let c0_1508 : Index := 0#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2776 : Index := Scalar.indexCast v2703
  let c6_1509 : Index := 6#32
  ![0, v2776.toNat, 6]
def k0_off518 (k0_t1 : Fin k0_t1_loop.trips) : Fin 3 → Nat :=
  let c1_1510 : Index := 1#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2778 : Index := Scalar.indexCast v2703
  let c6_1511 : Index := 6#32
  ![1, v2778.toNat, 6]
def k0_off519 (k0_t1 : Fin k0_t1_loop.trips) : Fin 3 → Nat :=
  let c2_1512 : Index := 2#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2780 : Index := Scalar.indexCast v2703
  let c6_1513 : Index := 6#32
  ![2, v2780.toNat, 6]
def k0_off520 (v2777 : BitVec 32) (v2779 : BitVec 32) (v2781 : BitVec 32) : Fin 4 → Nat :=
  let v2783 : Index := Scalar.indexCast v2781
  let v2784 : Index := Scalar.indexCast v2777
  let c7_i32_1514 : BitVec 32 := 7#32
  let v2782 : BitVec 32 := Scalar.addi v2779 c7_i32_1514
  let v2785 : Index := Scalar.indexCast v2782
  let c0_1515 : Index := 0#32
  ![v2783.toNat, v2784.toNat, v2785.toNat, 0]

def k0_chk71 (i : grid0.Coords) (v2777 : BitVec 32) (v2779 : BitVec 32) (v2781 : BitVec 32) : Prop :=
  (∀ (k0_h2 : k0_cond2 i = 1#1), ∀ a, S1x1x112x128.size a = 0 ∨ (k0_off520 v2777 v2779 v2781) a + (![1, 1, 2, 1] : Fin 4 → Nat) a * (S1x1x112x128.size a - 1) < S3x96x232x128.size a)
theorem k0_off520_inb : ∀ (i : grid0.Coords) (v2777 : BitVec 32) (v2779 : BitVec 32) (v2781 : BitVec 32) (k0_hw71 : k0_chk71 i v2777 v2779 v2781), ∀ (k0_h2 : k0_cond2 i = 1#1), ∀ a, S1x1x112x128.size a = 0 ∨ (k0_off520 v2777 v2779 v2781) a + (![1, 1, 2, 1] : Fin 4 → Nat) a * (S1x1x112x128.size a - 1) < S3x96x232x128.size a := fun i v2777 v2779 v2781 k0_hw71 k0_h2 => k0_hw71 k0_h2

def k0_off521 (k0_t1 : Fin k0_t1_loop.trips) : Fin 3 → Nat :=
  let c0_1516 : Index := 0#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2788 : Index := Scalar.indexCast v2703
  let c7_1517 : Index := 7#32
  ![0, v2788.toNat, 7]
def k0_off522 (k0_t1 : Fin k0_t1_loop.trips) : Fin 3 → Nat :=
  let c1_1518 : Index := 1#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2790 : Index := Scalar.indexCast v2703
  let c7_1519 : Index := 7#32
  ![1, v2790.toNat, 7]
def k0_off523 (k0_t1 : Fin k0_t1_loop.trips) : Fin 3 → Nat :=
  let c2_1520 : Index := 2#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2792 : Index := Scalar.indexCast v2703
  let c7_1521 : Index := 7#32
  ![2, v2792.toNat, 7]
def k0_off524 (v2789 : BitVec 32) (v2791 : BitVec 32) (v2793 : BitVec 32) : Fin 4 → Nat :=
  let v2795 : Index := Scalar.indexCast v2793
  let v2796 : Index := Scalar.indexCast v2789
  let c7_i32_1522 : BitVec 32 := 7#32
  let v2794 : BitVec 32 := Scalar.addi v2791 c7_i32_1522
  let v2797 : Index := Scalar.indexCast v2794
  let c0_1523 : Index := 0#32
  ![v2795.toNat, v2796.toNat, v2797.toNat, 0]

def k0_chk72 (i : grid0.Coords) (v2789 : BitVec 32) (v2791 : BitVec 32) (v2793 : BitVec 32) : Prop :=
  (∀ (k0_h2 : k0_cond2 i = 1#1), ∀ a, S1x1x112x128.size a = 0 ∨ (k0_off524 v2789 v2791 v2793) a + (![1, 1, 2, 1] : Fin 4 → Nat) a * (S1x1x112x128.size a - 1) < S3x96x232x128.size a)
theorem k0_off524_inb : ∀ (i : grid0.Coords) (v2789 : BitVec 32) (v2791 : BitVec 32) (v2793 : BitVec 32) (k0_hw72 : k0_chk72 i v2789 v2791 v2793), ∀ (k0_h2 : k0_cond2 i = 1#1), ∀ a, S1x1x112x128.size a = 0 ∨ (k0_off524 v2789 v2791 v2793) a + (![1, 1, 2, 1] : Fin 4 → Nat) a * (S1x1x112x128.size a - 1) < S3x96x232x128.size a := fun i v2789 v2791 v2793 k0_hw72 k0_h2 => k0_hw72 k0_h2

def k0_off525 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2800 : Index := Scalar.indexCast v2703
  let c0_1524 : Index := 0#32
  let c0_1525 : Index := 0#32
  ![v2800.toNat, 0, 0]
def k0_off526 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2802 : Index := Scalar.indexCast v2703
  let c0_1526 : Index := 0#32
  let c1_1527 : Index := 1#32
  ![v2802.toNat, 0, 1]
def k0_off527 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2804 : Index := Scalar.indexCast v2703
  let c0_1528 : Index := 0#32
  let c2_1529 : Index := 2#32
  ![v2804.toNat, 0, 2]
def k0_off528 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2806 : Index := Scalar.indexCast v2703
  let c0_1530 : Index := 0#32
  let c3_1531 : Index := 3#32
  ![v2806.toNat, 0, 3]
def k0_off529 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2819 : Index := Scalar.indexCast v2703
  let c1_1532 : Index := 1#32
  let c0_1533 : Index := 0#32
  ![v2819.toNat, 1, 0]
def k0_off530 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2821 : Index := Scalar.indexCast v2703
  let c1_1534 : Index := 1#32
  let c1_1535 : Index := 1#32
  ![v2821.toNat, 1, 1]
def k0_off531 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2823 : Index := Scalar.indexCast v2703
  let c1_1536 : Index := 1#32
  let c2_1537 : Index := 2#32
  ![v2823.toNat, 1, 2]
def k0_off532 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2825 : Index := Scalar.indexCast v2703
  let c1_1538 : Index := 1#32
  let c3_1539 : Index := 3#32
  ![v2825.toNat, 1, 3]
def k0_off533 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2838 : Index := Scalar.indexCast v2703
  let c2_1540 : Index := 2#32
  let c0_1541 : Index := 0#32
  ![v2838.toNat, 2, 0]
def k0_off534 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2840 : Index := Scalar.indexCast v2703
  let c2_1542 : Index := 2#32
  let c1_1543 : Index := 1#32
  ![v2840.toNat, 2, 1]
def k0_off535 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2842 : Index := Scalar.indexCast v2703
  let c2_1544 : Index := 2#32
  let c2_1545 : Index := 2#32
  ![v2842.toNat, 2, 2]
def k0_off536 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2844 : Index := Scalar.indexCast v2703
  let c2_1546 : Index := 2#32
  let c3_1547 : Index := 3#32
  ![v2844.toNat, 2, 3]
def k0_off537 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2857 : Index := Scalar.indexCast v2703
  let c3_1548 : Index := 3#32
  let c0_1549 : Index := 0#32
  ![v2857.toNat, 3, 0]
def k0_off538 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2859 : Index := Scalar.indexCast v2703
  let c3_1550 : Index := 3#32
  let c1_1551 : Index := 1#32
  ![v2859.toNat, 3, 1]
def k0_off539 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2861 : Index := Scalar.indexCast v2703
  let c3_1552 : Index := 3#32
  let c2_1553 : Index := 2#32
  ![v2861.toNat, 3, 2]
def k0_off540 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2863 : Index := Scalar.indexCast v2703
  let c3_1554 : Index := 3#32
  let c3_1555 : Index := 3#32
  ![v2863.toNat, 3, 3]
def k0_off541 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2876 : Index := Scalar.indexCast v2703
  let c4_1556 : Index := 4#32
  let c0_1557 : Index := 0#32
  ![v2876.toNat, 4, 0]
def k0_off542 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2878 : Index := Scalar.indexCast v2703
  let c4_1558 : Index := 4#32
  let c1_1559 : Index := 1#32
  ![v2878.toNat, 4, 1]
def k0_off543 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2880 : Index := Scalar.indexCast v2703
  let c4_1560 : Index := 4#32
  let c2_1561 : Index := 2#32
  ![v2880.toNat, 4, 2]
def k0_off544 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2882 : Index := Scalar.indexCast v2703
  let c4_1562 : Index := 4#32
  let c3_1563 : Index := 3#32
  ![v2882.toNat, 4, 3]
def k0_off545 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2895 : Index := Scalar.indexCast v2703
  let c5_1564 : Index := 5#32
  let c0_1565 : Index := 0#32
  ![v2895.toNat, 5, 0]
def k0_off546 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2897 : Index := Scalar.indexCast v2703
  let c5_1566 : Index := 5#32
  let c1_1567 : Index := 1#32
  ![v2897.toNat, 5, 1]
def k0_off547 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2899 : Index := Scalar.indexCast v2703
  let c5_1568 : Index := 5#32
  let c2_1569 : Index := 2#32
  ![v2899.toNat, 5, 2]
def k0_off548 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2901 : Index := Scalar.indexCast v2703
  let c5_1570 : Index := 5#32
  let c3_1571 : Index := 3#32
  ![v2901.toNat, 5, 3]
def k0_off549 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2914 : Index := Scalar.indexCast v2703
  let c6_1572 : Index := 6#32
  let c0_1573 : Index := 0#32
  ![v2914.toNat, 6, 0]
def k0_off550 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2916 : Index := Scalar.indexCast v2703
  let c6_1574 : Index := 6#32
  let c1_1575 : Index := 1#32
  ![v2916.toNat, 6, 1]
def k0_off551 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2918 : Index := Scalar.indexCast v2703
  let c6_1576 : Index := 6#32
  let c2_1577 : Index := 2#32
  ![v2918.toNat, 6, 2]
def k0_off552 (k0_t1 : Fin k0_t1_loop.trips) : Fin 3 → Nat :=
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2920 : Index := Scalar.indexCast v2703
  let c6_1578 : Index := 6#32
  let c3_1579 : Index := 3#32
  ![v2920.toNat, 6, 3]
def k0_off553 (k0_t1 : Fin k0_t1_loop.trips) : Fin 4 → Nat :=
  let c0_1580 : Index := 0#32
  let c16_i32_1458 : BitVec 32 := 16#32
  let c0_i32_459 : BitVec 32 := 0#32
  let c1_i32_461 : BitVec 32 := 1#32
  let arg7 : BitVec 32 := Scf.iv c0_i32_459 c1_i32_461 k0_t1
  let v2702 : BitVec 32 := Scalar.muli c16_i32_1458 arg7
  let c8_i32_1459 : BitVec 32 := 8#32
  let v2703 : BitVec 32 := Scalar.addi v2702 c8_i32_1459
  let v2934 : Index := Scalar.indexCast v2703
  let c0_1581 : Index := 0#32
  let c0_1582 : Index := 0#32
  ![0, v2934.toNat, 0, 0]
def k0_off554 (k0_t1 : Fin k0_t1_loop.trips) : Fin 3 → Nat :=
  let c0_1585 : Index := 0#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2940 : Index := Scalar.indexCast v2939
  let c0_1586 : Index := 0#32
  ![0, v2940.toNat, 0]
def k0_off555 (k0_t1 : Fin k0_t1_loop.trips) : Fin 3 → Nat :=
  let c1_1587 : Index := 1#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2942 : Index := Scalar.indexCast v2939
  let c0_1588 : Index := 0#32
  ![1, v2942.toNat, 0]
def k0_off556 (k0_t1 : Fin k0_t1_loop.trips) : Fin 3 → Nat :=
  let c2_1589 : Index := 2#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2944 : Index := Scalar.indexCast v2939
  let c0_1590 : Index := 0#32
  ![2, v2944.toNat, 0]
def k0_off557 (v2941 : BitVec 32) (v2943 : BitVec 32) (v2945 : BitVec 32) : Fin 4 → Nat :=
  let v2947 : Index := Scalar.indexCast v2945
  let v2948 : Index := Scalar.indexCast v2941
  let c7_i32_1591 : BitVec 32 := 7#32
  let v2946 : BitVec 32 := Scalar.addi v2943 c7_i32_1591
  let v2949 : Index := Scalar.indexCast v2946
  let c0_1592 : Index := 0#32
  ![v2947.toNat, v2948.toNat, v2949.toNat, 0]

def k0_chk73 (i : grid0.Coords) (v2941 : BitVec 32) (v2943 : BitVec 32) (v2945 : BitVec 32) : Prop :=
  (∀ (k0_h2 : k0_cond2 i = 1#1), ∀ a, S1x1x112x128.size a = 0 ∨ (k0_off557 v2941 v2943 v2945) a + (![1, 1, 2, 1] : Fin 4 → Nat) a * (S1x1x112x128.size a - 1) < S3x96x232x128.size a)
theorem k0_off557_inb : ∀ (i : grid0.Coords) (v2941 : BitVec 32) (v2943 : BitVec 32) (v2945 : BitVec 32) (k0_hw73 : k0_chk73 i v2941 v2943 v2945), ∀ (k0_h2 : k0_cond2 i = 1#1), ∀ a, S1x1x112x128.size a = 0 ∨ (k0_off557 v2941 v2943 v2945) a + (![1, 1, 2, 1] : Fin 4 → Nat) a * (S1x1x112x128.size a - 1) < S3x96x232x128.size a := fun i v2941 v2943 v2945 k0_hw73 k0_h2 => k0_hw73 k0_h2

def k0_off558 (k0_t1 : Fin k0_t1_loop.trips) : Fin 3 → Nat :=
  let c0_1593 : Index := 0#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2952 : Index := Scalar.indexCast v2939
  let c1_1594 : Index := 1#32
  ![0, v2952.toNat, 1]
def k0_off559 (k0_t1 : Fin k0_t1_loop.trips) : Fin 3 → Nat :=
  let c1_1595 : Index := 1#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2954 : Index := Scalar.indexCast v2939
  let c1_1596 : Index := 1#32
  ![1, v2954.toNat, 1]
def k0_off560 (k0_t1 : Fin k0_t1_loop.trips) : Fin 3 → Nat :=
  let c2_1597 : Index := 2#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2956 : Index := Scalar.indexCast v2939
  let c1_1598 : Index := 1#32
  ![2, v2956.toNat, 1]
def k0_off561 (v2953 : BitVec 32) (v2955 : BitVec 32) (v2957 : BitVec 32) : Fin 4 → Nat :=
  let v2959 : Index := Scalar.indexCast v2957
  let v2960 : Index := Scalar.indexCast v2953
  let c7_i32_1599 : BitVec 32 := 7#32
  let v2958 : BitVec 32 := Scalar.addi v2955 c7_i32_1599
  let v2961 : Index := Scalar.indexCast v2958
  let c0_1600 : Index := 0#32
  ![v2959.toNat, v2960.toNat, v2961.toNat, 0]

def k0_chk74 (i : grid0.Coords) (v2953 : BitVec 32) (v2955 : BitVec 32) (v2957 : BitVec 32) : Prop :=
  (∀ (k0_h2 : k0_cond2 i = 1#1), ∀ a, S1x1x112x128.size a = 0 ∨ (k0_off561 v2953 v2955 v2957) a + (![1, 1, 2, 1] : Fin 4 → Nat) a * (S1x1x112x128.size a - 1) < S3x96x232x128.size a)
theorem k0_off561_inb : ∀ (i : grid0.Coords) (v2953 : BitVec 32) (v2955 : BitVec 32) (v2957 : BitVec 32) (k0_hw74 : k0_chk74 i v2953 v2955 v2957), ∀ (k0_h2 : k0_cond2 i = 1#1), ∀ a, S1x1x112x128.size a = 0 ∨ (k0_off561 v2953 v2955 v2957) a + (![1, 1, 2, 1] : Fin 4 → Nat) a * (S1x1x112x128.size a - 1) < S3x96x232x128.size a := fun i v2953 v2955 v2957 k0_hw74 k0_h2 => k0_hw74 k0_h2

def k0_off562 (k0_t1 : Fin k0_t1_loop.trips) : Fin 3 → Nat :=
  let c0_1601 : Index := 0#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2964 : Index := Scalar.indexCast v2939
  let c2_1602 : Index := 2#32
  ![0, v2964.toNat, 2]
def k0_off563 (k0_t1 : Fin k0_t1_loop.trips) : Fin 3 → Nat :=
  let c1_1603 : Index := 1#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2966 : Index := Scalar.indexCast v2939
  let c2_1604 : Index := 2#32
  ![1, v2966.toNat, 2]
def k0_off564 (k0_t1 : Fin k0_t1_loop.trips) : Fin 3 → Nat :=
  let c2_1605 : Index := 2#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2968 : Index := Scalar.indexCast v2939
  let c2_1606 : Index := 2#32
  ![2, v2968.toNat, 2]
def k0_off565 (v2965 : BitVec 32) (v2967 : BitVec 32) (v2969 : BitVec 32) : Fin 4 → Nat :=
  let v2971 : Index := Scalar.indexCast v2969
  let v2972 : Index := Scalar.indexCast v2965
  let c7_i32_1607 : BitVec 32 := 7#32
  let v2970 : BitVec 32 := Scalar.addi v2967 c7_i32_1607
  let v2973 : Index := Scalar.indexCast v2970
  let c0_1608 : Index := 0#32
  ![v2971.toNat, v2972.toNat, v2973.toNat, 0]

def k0_chk75 (i : grid0.Coords) (v2965 : BitVec 32) (v2967 : BitVec 32) (v2969 : BitVec 32) : Prop :=
  (∀ (k0_h2 : k0_cond2 i = 1#1), ∀ a, S1x1x112x128.size a = 0 ∨ (k0_off565 v2965 v2967 v2969) a + (![1, 1, 2, 1] : Fin 4 → Nat) a * (S1x1x112x128.size a - 1) < S3x96x232x128.size a)
theorem k0_off565_inb : ∀ (i : grid0.Coords) (v2965 : BitVec 32) (v2967 : BitVec 32) (v2969 : BitVec 32) (k0_hw75 : k0_chk75 i v2965 v2967 v2969), ∀ (k0_h2 : k0_cond2 i = 1#1), ∀ a, S1x1x112x128.size a = 0 ∨ (k0_off565 v2965 v2967 v2969) a + (![1, 1, 2, 1] : Fin 4 → Nat) a * (S1x1x112x128.size a - 1) < S3x96x232x128.size a := fun i v2965 v2967 v2969 k0_hw75 k0_h2 => k0_hw75 k0_h2

def k0_off566 (k0_t1 : Fin k0_t1_loop.trips) : Fin 3 → Nat :=
  let c0_1609 : Index := 0#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2976 : Index := Scalar.indexCast v2939
  let c3_1610 : Index := 3#32
  ![0, v2976.toNat, 3]
def k0_off567 (k0_t1 : Fin k0_t1_loop.trips) : Fin 3 → Nat :=
  let c1_1611 : Index := 1#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2978 : Index := Scalar.indexCast v2939
  let c3_1612 : Index := 3#32
  ![1, v2978.toNat, 3]
def k0_off568 (k0_t1 : Fin k0_t1_loop.trips) : Fin 3 → Nat :=
  let c2_1613 : Index := 2#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2980 : Index := Scalar.indexCast v2939
  let c3_1614 : Index := 3#32
  ![2, v2980.toNat, 3]
def k0_off569 (v2977 : BitVec 32) (v2979 : BitVec 32) (v2981 : BitVec 32) : Fin 4 → Nat :=
  let v2983 : Index := Scalar.indexCast v2981
  let v2984 : Index := Scalar.indexCast v2977
  let c7_i32_1615 : BitVec 32 := 7#32
  let v2982 : BitVec 32 := Scalar.addi v2979 c7_i32_1615
  let v2985 : Index := Scalar.indexCast v2982
  let c0_1616 : Index := 0#32
  ![v2983.toNat, v2984.toNat, v2985.toNat, 0]

def k0_chk76 (i : grid0.Coords) (v2977 : BitVec 32) (v2979 : BitVec 32) (v2981 : BitVec 32) : Prop :=
  (∀ (k0_h2 : k0_cond2 i = 1#1), ∀ a, S1x1x112x128.size a = 0 ∨ (k0_off569 v2977 v2979 v2981) a + (![1, 1, 2, 1] : Fin 4 → Nat) a * (S1x1x112x128.size a - 1) < S3x96x232x128.size a)
theorem k0_off569_inb : ∀ (i : grid0.Coords) (v2977 : BitVec 32) (v2979 : BitVec 32) (v2981 : BitVec 32) (k0_hw76 : k0_chk76 i v2977 v2979 v2981), ∀ (k0_h2 : k0_cond2 i = 1#1), ∀ a, S1x1x112x128.size a = 0 ∨ (k0_off569 v2977 v2979 v2981) a + (![1, 1, 2, 1] : Fin 4 → Nat) a * (S1x1x112x128.size a - 1) < S3x96x232x128.size a := fun i v2977 v2979 v2981 k0_hw76 k0_h2 => k0_hw76 k0_h2

def k0_off570 (k0_t1 : Fin k0_t1_loop.trips) : Fin 3 → Nat :=
  let c0_1617 : Index := 0#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2988 : Index := Scalar.indexCast v2939
  let c4_1618 : Index := 4#32
  ![0, v2988.toNat, 4]
def k0_off571 (k0_t1 : Fin k0_t1_loop.trips) : Fin 3 → Nat :=
  let c1_1619 : Index := 1#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2990 : Index := Scalar.indexCast v2939
  let c4_1620 : Index := 4#32
  ![1, v2990.toNat, 4]
def k0_off572 (k0_t1 : Fin k0_t1_loop.trips) : Fin 3 → Nat :=
  let c2_1621 : Index := 2#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v2992 : Index := Scalar.indexCast v2939
  let c4_1622 : Index := 4#32
  ![2, v2992.toNat, 4]
def k0_off573 (v2989 : BitVec 32) (v2991 : BitVec 32) (v2993 : BitVec 32) : Fin 4 → Nat :=
  let v2995 : Index := Scalar.indexCast v2993
  let v2996 : Index := Scalar.indexCast v2989
  let c7_i32_1623 : BitVec 32 := 7#32
  let v2994 : BitVec 32 := Scalar.addi v2991 c7_i32_1623
  let v2997 : Index := Scalar.indexCast v2994
  let c0_1624 : Index := 0#32
  ![v2995.toNat, v2996.toNat, v2997.toNat, 0]

def k0_chk77 (i : grid0.Coords) (v2989 : BitVec 32) (v2991 : BitVec 32) (v2993 : BitVec 32) : Prop :=
  (∀ (k0_h2 : k0_cond2 i = 1#1), ∀ a, S1x1x112x128.size a = 0 ∨ (k0_off573 v2989 v2991 v2993) a + (![1, 1, 2, 1] : Fin 4 → Nat) a * (S1x1x112x128.size a - 1) < S3x96x232x128.size a)
theorem k0_off573_inb : ∀ (i : grid0.Coords) (v2989 : BitVec 32) (v2991 : BitVec 32) (v2993 : BitVec 32) (k0_hw77 : k0_chk77 i v2989 v2991 v2993), ∀ (k0_h2 : k0_cond2 i = 1#1), ∀ a, S1x1x112x128.size a = 0 ∨ (k0_off573 v2989 v2991 v2993) a + (![1, 1, 2, 1] : Fin 4 → Nat) a * (S1x1x112x128.size a - 1) < S3x96x232x128.size a := fun i v2989 v2991 v2993 k0_hw77 k0_h2 => k0_hw77 k0_h2

def k0_off574 (k0_t1 : Fin k0_t1_loop.trips) : Fin 3 → Nat :=
  let c0_1625 : Index := 0#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3000 : Index := Scalar.indexCast v2939
  let c5_1626 : Index := 5#32
  ![0, v3000.toNat, 5]
def k0_off575 (k0_t1 : Fin k0_t1_loop.trips) : Fin 3 → Nat :=
  let c1_1627 : Index := 1#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3002 : Index := Scalar.indexCast v2939
  let c5_1628 : Index := 5#32
  ![1, v3002.toNat, 5]
def k0_off576 (k0_t1 : Fin k0_t1_loop.trips) : Fin 3 → Nat :=
  let c2_1629 : Index := 2#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3004 : Index := Scalar.indexCast v2939
  let c5_1630 : Index := 5#32
  ![2, v3004.toNat, 5]
def k0_off577 (v3001 : BitVec 32) (v3003 : BitVec 32) (v3005 : BitVec 32) : Fin 4 → Nat :=
  let v3007 : Index := Scalar.indexCast v3005
  let v3008 : Index := Scalar.indexCast v3001
  let c7_i32_1631 : BitVec 32 := 7#32
  let v3006 : BitVec 32 := Scalar.addi v3003 c7_i32_1631
  let v3009 : Index := Scalar.indexCast v3006
  let c0_1632 : Index := 0#32
  ![v3007.toNat, v3008.toNat, v3009.toNat, 0]

def k0_chk78 (i : grid0.Coords) (v3001 : BitVec 32) (v3003 : BitVec 32) (v3005 : BitVec 32) : Prop :=
  (∀ (k0_h2 : k0_cond2 i = 1#1), ∀ a, S1x1x112x128.size a = 0 ∨ (k0_off577 v3001 v3003 v3005) a + (![1, 1, 2, 1] : Fin 4 → Nat) a * (S1x1x112x128.size a - 1) < S3x96x232x128.size a)
theorem k0_off577_inb : ∀ (i : grid0.Coords) (v3001 : BitVec 32) (v3003 : BitVec 32) (v3005 : BitVec 32) (k0_hw78 : k0_chk78 i v3001 v3003 v3005), ∀ (k0_h2 : k0_cond2 i = 1#1), ∀ a, S1x1x112x128.size a = 0 ∨ (k0_off577 v3001 v3003 v3005) a + (![1, 1, 2, 1] : Fin 4 → Nat) a * (S1x1x112x128.size a - 1) < S3x96x232x128.size a := fun i v3001 v3003 v3005 k0_hw78 k0_h2 => k0_hw78 k0_h2

def k0_off578 (k0_t1 : Fin k0_t1_loop.trips) : Fin 3 → Nat :=
  let c0_1633 : Index := 0#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3012 : Index := Scalar.indexCast v2939
  let c6_1634 : Index := 6#32
  ![0, v3012.toNat, 6]
def k0_off579 (k0_t1 : Fin k0_t1_loop.trips) : Fin 3 → Nat :=
  let c1_1635 : Index := 1#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3014 : Index := Scalar.indexCast v2939
  let c6_1636 : Index := 6#32
  ![1, v3014.toNat, 6]
def k0_off580 (k0_t1 : Fin k0_t1_loop.trips) : Fin 3 → Nat :=
  let c2_1637 : Index := 2#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3016 : Index := Scalar.indexCast v2939
  let c6_1638 : Index := 6#32
  ![2, v3016.toNat, 6]
def k0_off581 (v3013 : BitVec 32) (v3015 : BitVec 32) (v3017 : BitVec 32) : Fin 4 → Nat :=
  let v3019 : Index := Scalar.indexCast v3017
  let v3020 : Index := Scalar.indexCast v3013
  let c7_i32_1639 : BitVec 32 := 7#32
  let v3018 : BitVec 32 := Scalar.addi v3015 c7_i32_1639
  let v3021 : Index := Scalar.indexCast v3018
  let c0_1640 : Index := 0#32
  ![v3019.toNat, v3020.toNat, v3021.toNat, 0]

def k0_chk79 (i : grid0.Coords) (v3013 : BitVec 32) (v3015 : BitVec 32) (v3017 : BitVec 32) : Prop :=
  (∀ (k0_h2 : k0_cond2 i = 1#1), ∀ a, S1x1x112x128.size a = 0 ∨ (k0_off581 v3013 v3015 v3017) a + (![1, 1, 2, 1] : Fin 4 → Nat) a * (S1x1x112x128.size a - 1) < S3x96x232x128.size a)
theorem k0_off581_inb : ∀ (i : grid0.Coords) (v3013 : BitVec 32) (v3015 : BitVec 32) (v3017 : BitVec 32) (k0_hw79 : k0_chk79 i v3013 v3015 v3017), ∀ (k0_h2 : k0_cond2 i = 1#1), ∀ a, S1x1x112x128.size a = 0 ∨ (k0_off581 v3013 v3015 v3017) a + (![1, 1, 2, 1] : Fin 4 → Nat) a * (S1x1x112x128.size a - 1) < S3x96x232x128.size a := fun i v3013 v3015 v3017 k0_hw79 k0_h2 => k0_hw79 k0_h2

def k0_off582 (k0_t1 : Fin k0_t1_loop.trips) : Fin 3 → Nat :=
  let c0_1641 : Index := 0#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3024 : Index := Scalar.indexCast v2939
  let c7_1642 : Index := 7#32
  ![0, v3024.toNat, 7]
def k0_off583 (k0_t1 : Fin k0_t1_loop.trips) : Fin 3 → Nat :=
  let c1_1643 : Index := 1#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3026 : Index := Scalar.indexCast v2939
  let c7_1644 : Index := 7#32
  ![1, v3026.toNat, 7]
def k0_off584 (k0_t1 : Fin k0_t1_loop.trips) : Fin 3 → Nat :=
  let c2_1645 : Index := 2#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3028 : Index := Scalar.indexCast v2939
  let c7_1646 : Index := 7#32
  ![2, v3028.toNat, 7]
def k0_off585 (v3025 : BitVec 32) (v3027 : BitVec 32) (v3029 : BitVec 32) : Fin 4 → Nat :=
  let v3031 : Index := Scalar.indexCast v3029
  let v3032 : Index := Scalar.indexCast v3025
  let c7_i32_1647 : BitVec 32 := 7#32
  let v3030 : BitVec 32 := Scalar.addi v3027 c7_i32_1647
  let v3033 : Index := Scalar.indexCast v3030
  let c0_1648 : Index := 0#32
  ![v3031.toNat, v3032.toNat, v3033.toNat, 0]

def k0_chk80 (i : grid0.Coords) (v3025 : BitVec 32) (v3027 : BitVec 32) (v3029 : BitVec 32) : Prop :=
  (∀ (k0_h2 : k0_cond2 i = 1#1), ∀ a, S1x1x112x128.size a = 0 ∨ (k0_off585 v3025 v3027 v3029) a + (![1, 1, 2, 1] : Fin 4 → Nat) a * (S1x1x112x128.size a - 1) < S3x96x232x128.size a)
theorem k0_off585_inb : ∀ (i : grid0.Coords) (v3025 : BitVec 32) (v3027 : BitVec 32) (v3029 : BitVec 32) (k0_hw80 : k0_chk80 i v3025 v3027 v3029), ∀ (k0_h2 : k0_cond2 i = 1#1), ∀ a, S1x1x112x128.size a = 0 ∨ (k0_off585 v3025 v3027 v3029) a + (![1, 1, 2, 1] : Fin 4 → Nat) a * (S1x1x112x128.size a - 1) < S3x96x232x128.size a := fun i v3025 v3027 v3029 k0_hw80 k0_h2 => k0_hw80 k0_h2

def k0_off586 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3036 : Index := Scalar.indexCast v2939
  let c0_1649 : Index := 0#32
  let c0_1650 : Index := 0#32
  ![v3036.toNat, 0, 0]
def k0_off587 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3038 : Index := Scalar.indexCast v2939
  let c0_1651 : Index := 0#32
  let c1_1652 : Index := 1#32
  ![v3038.toNat, 0, 1]
def k0_off588 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3040 : Index := Scalar.indexCast v2939
  let c0_1653 : Index := 0#32
  let c2_1654 : Index := 2#32
  ![v3040.toNat, 0, 2]
def k0_off589 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3042 : Index := Scalar.indexCast v2939
  let c0_1655 : Index := 0#32
  let c3_1656 : Index := 3#32
  ![v3042.toNat, 0, 3]
def k0_off590 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3055 : Index := Scalar.indexCast v2939
  let c1_1657 : Index := 1#32
  let c0_1658 : Index := 0#32
  ![v3055.toNat, 1, 0]
def k0_off591 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3057 : Index := Scalar.indexCast v2939
  let c1_1659 : Index := 1#32
  let c1_1660 : Index := 1#32
  ![v3057.toNat, 1, 1]
def k0_off592 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3059 : Index := Scalar.indexCast v2939
  let c1_1661 : Index := 1#32
  let c2_1662 : Index := 2#32
  ![v3059.toNat, 1, 2]
def k0_off593 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3061 : Index := Scalar.indexCast v2939
  let c1_1663 : Index := 1#32
  let c3_1664 : Index := 3#32
  ![v3061.toNat, 1, 3]
def k0_off594 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3074 : Index := Scalar.indexCast v2939
  let c2_1665 : Index := 2#32
  let c0_1666 : Index := 0#32
  ![v3074.toNat, 2, 0]
def k0_off595 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3076 : Index := Scalar.indexCast v2939
  let c2_1667 : Index := 2#32
  let c1_1668 : Index := 1#32
  ![v3076.toNat, 2, 1]
def k0_off596 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3078 : Index := Scalar.indexCast v2939
  let c2_1669 : Index := 2#32
  let c2_1670 : Index := 2#32
  ![v3078.toNat, 2, 2]
def k0_off597 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3080 : Index := Scalar.indexCast v2939
  let c2_1671 : Index := 2#32
  let c3_1672 : Index := 3#32
  ![v3080.toNat, 2, 3]
def k0_off598 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3093 : Index := Scalar.indexCast v2939
  let c3_1673 : Index := 3#32
  let c0_1674 : Index := 0#32
  ![v3093.toNat, 3, 0]
def k0_off599 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3095 : Index := Scalar.indexCast v2939
  let c3_1675 : Index := 3#32
  let c1_1676 : Index := 1#32
  ![v3095.toNat, 3, 1]
def k0_off600 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3097 : Index := Scalar.indexCast v2939
  let c3_1677 : Index := 3#32
  let c2_1678 : Index := 2#32
  ![v3097.toNat, 3, 2]
def k0_off601 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3099 : Index := Scalar.indexCast v2939
  let c3_1679 : Index := 3#32
  let c3_1680 : Index := 3#32
  ![v3099.toNat, 3, 3]
def k0_off602 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3112 : Index := Scalar.indexCast v2939
  let c4_1681 : Index := 4#32
  let c0_1682 : Index := 0#32
  ![v3112.toNat, 4, 0]
def k0_off603 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3114 : Index := Scalar.indexCast v2939
  let c4_1683 : Index := 4#32
  let c1_1684 : Index := 1#32
  ![v3114.toNat, 4, 1]
def k0_off604 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3116 : Index := Scalar.indexCast v2939
  let c4_1685 : Index := 4#32
  let c2_1686 : Index := 2#32
  ![v3116.toNat, 4, 2]
def k0_off605 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3118 : Index := Scalar.indexCast v2939
  let c4_1687 : Index := 4#32
  let c3_1688 : Index := 3#32
  ![v3118.toNat, 4, 3]
def k0_off606 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3131 : Index := Scalar.indexCast v2939
  let c5_1689 : Index := 5#32
  let c0_1690 : Index := 0#32
  ![v3131.toNat, 5, 0]
def k0_off607 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3133 : Index := Scalar.indexCast v2939
  let c5_1691 : Index := 5#32
  let c1_1692 : Index := 1#32
  ![v3133.toNat, 5, 1]
def k0_off608 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3135 : Index := Scalar.indexCast v2939
  let c5_1693 : Index := 5#32
  let c2_1694 : Index := 2#32
  ![v3135.toNat, 5, 2]
def k0_off609 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3137 : Index := Scalar.indexCast v2939
  let c5_1695 : Index := 5#32
  let c3_1696 : Index := 3#32
  ![v3137.toNat, 5, 3]
def k0_off610 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3150 : Index := Scalar.indexCast v2939
  let c6_1697 : Index := 6#32
  let c0_1698 : Index := 0#32
  ![v3150.toNat, 6, 0]
def k0_off611 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3152 : Index := Scalar.indexCast v2939
  let c6_1699 : Index := 6#32
  let c1_1700 : Index := 1#32
  ![v3152.toNat, 6, 1]
def k0_off612 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3154 : Index := Scalar.indexCast v2939
  let c6_1701 : Index := 6#32
  let c2_1702 : Index := 2#32
  ![v3154.toNat, 6, 2]
def k0_off613 (k0_t1 : Fin k0_t1_loop.trips) : Fin 3 → Nat :=
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3156 : Index := Scalar.indexCast v2939
  let c6_1703 : Index := 6#32
  let c3_1704 : Index := 3#32
  ![v3156.toNat, 6, 3]
def k0_off614 (k0_t1 : Fin k0_t1_loop.trips) : Fin 4 → Nat :=
  let c0_1705 : Index := 0#32
  let c16_i32_1583 : BitVec 32 := 16#32
  let c0_i32_459 : BitVec 32 := 0#32
  let c1_i32_461 : BitVec 32 := 1#32
  let arg7 : BitVec 32 := Scf.iv c0_i32_459 c1_i32_461 k0_t1
  let v2938 : BitVec 32 := Scalar.muli c16_i32_1583 arg7
  let c9_i32_1584 : BitVec 32 := 9#32
  let v2939 : BitVec 32 := Scalar.addi v2938 c9_i32_1584
  let v3170 : Index := Scalar.indexCast v2939
  let c0_1706 : Index := 0#32
  let c0_1707 : Index := 0#32
  ![0, v3170.toNat, 0, 0]
def k0_off615 (k0_t1 : Fin k0_t1_loop.trips) : Fin 3 → Nat :=
  let c0_1710 : Index := 0#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3176 : Index := Scalar.indexCast v3175
  let c0_1711 : Index := 0#32
  ![0, v3176.toNat, 0]
def k0_off616 (k0_t1 : Fin k0_t1_loop.trips) : Fin 3 → Nat :=
  let c1_1712 : Index := 1#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3178 : Index := Scalar.indexCast v3175
  let c0_1713 : Index := 0#32
  ![1, v3178.toNat, 0]
def k0_off617 (k0_t1 : Fin k0_t1_loop.trips) : Fin 3 → Nat :=
  let c2_1714 : Index := 2#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3180 : Index := Scalar.indexCast v3175
  let c0_1715 : Index := 0#32
  ![2, v3180.toNat, 0]
def k0_off618 (v3177 : BitVec 32) (v3179 : BitVec 32) (v3181 : BitVec 32) : Fin 4 → Nat :=
  let v3183 : Index := Scalar.indexCast v3181
  let v3184 : Index := Scalar.indexCast v3177
  let c7_i32_1716 : BitVec 32 := 7#32
  let v3182 : BitVec 32 := Scalar.addi v3179 c7_i32_1716
  let v3185 : Index := Scalar.indexCast v3182
  let c0_1717 : Index := 0#32
  ![v3183.toNat, v3184.toNat, v3185.toNat, 0]

def k0_chk81 (i : grid0.Coords) (v3177 : BitVec 32) (v3179 : BitVec 32) (v3181 : BitVec 32) : Prop :=
  (∀ (k0_h2 : k0_cond2 i = 1#1), ∀ a, S1x1x112x128.size a = 0 ∨ (k0_off618 v3177 v3179 v3181) a + (![1, 1, 2, 1] : Fin 4 → Nat) a * (S1x1x112x128.size a - 1) < S3x96x232x128.size a)
theorem k0_off618_inb : ∀ (i : grid0.Coords) (v3177 : BitVec 32) (v3179 : BitVec 32) (v3181 : BitVec 32) (k0_hw81 : k0_chk81 i v3177 v3179 v3181), ∀ (k0_h2 : k0_cond2 i = 1#1), ∀ a, S1x1x112x128.size a = 0 ∨ (k0_off618 v3177 v3179 v3181) a + (![1, 1, 2, 1] : Fin 4 → Nat) a * (S1x1x112x128.size a - 1) < S3x96x232x128.size a := fun i v3177 v3179 v3181 k0_hw81 k0_h2 => k0_hw81 k0_h2

def k0_off619 (k0_t1 : Fin k0_t1_loop.trips) : Fin 3 → Nat :=
  let c0_1718 : Index := 0#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3188 : Index := Scalar.indexCast v3175
  let c1_1719 : Index := 1#32
  ![0, v3188.toNat, 1]
def k0_off620 (k0_t1 : Fin k0_t1_loop.trips) : Fin 3 → Nat :=
  let c1_1720 : Index := 1#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3190 : Index := Scalar.indexCast v3175
  let c1_1721 : Index := 1#32
  ![1, v3190.toNat, 1]
def k0_off621 (k0_t1 : Fin k0_t1_loop.trips) : Fin 3 → Nat :=
  let c2_1722 : Index := 2#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3192 : Index := Scalar.indexCast v3175
  let c1_1723 : Index := 1#32
  ![2, v3192.toNat, 1]
def k0_off622 (v3189 : BitVec 32) (v3191 : BitVec 32) (v3193 : BitVec 32) : Fin 4 → Nat :=
  let v3195 : Index := Scalar.indexCast v3193
  let v3196 : Index := Scalar.indexCast v3189
  let c7_i32_1724 : BitVec 32 := 7#32
  let v3194 : BitVec 32 := Scalar.addi v3191 c7_i32_1724
  let v3197 : Index := Scalar.indexCast v3194
  let c0_1725 : Index := 0#32
  ![v3195.toNat, v3196.toNat, v3197.toNat, 0]

def k0_chk82 (i : grid0.Coords) (v3189 : BitVec 32) (v3191 : BitVec 32) (v3193 : BitVec 32) : Prop :=
  (∀ (k0_h2 : k0_cond2 i = 1#1), ∀ a, S1x1x112x128.size a = 0 ∨ (k0_off622 v3189 v3191 v3193) a + (![1, 1, 2, 1] : Fin 4 → Nat) a * (S1x1x112x128.size a - 1) < S3x96x232x128.size a)
theorem k0_off622_inb : ∀ (i : grid0.Coords) (v3189 : BitVec 32) (v3191 : BitVec 32) (v3193 : BitVec 32) (k0_hw82 : k0_chk82 i v3189 v3191 v3193), ∀ (k0_h2 : k0_cond2 i = 1#1), ∀ a, S1x1x112x128.size a = 0 ∨ (k0_off622 v3189 v3191 v3193) a + (![1, 1, 2, 1] : Fin 4 → Nat) a * (S1x1x112x128.size a - 1) < S3x96x232x128.size a := fun i v3189 v3191 v3193 k0_hw82 k0_h2 => k0_hw82 k0_h2

def k0_off623 (k0_t1 : Fin k0_t1_loop.trips) : Fin 3 → Nat :=
  let c0_1726 : Index := 0#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3200 : Index := Scalar.indexCast v3175
  let c2_1727 : Index := 2#32
  ![0, v3200.toNat, 2]
def k0_off624 (k0_t1 : Fin k0_t1_loop.trips) : Fin 3 → Nat :=
  let c1_1728 : Index := 1#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3202 : Index := Scalar.indexCast v3175
  let c2_1729 : Index := 2#32
  ![1, v3202.toNat, 2]
def k0_off625 (k0_t1 : Fin k0_t1_loop.trips) : Fin 3 → Nat :=
  let c2_1730 : Index := 2#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3204 : Index := Scalar.indexCast v3175
  let c2_1731 : Index := 2#32
  ![2, v3204.toNat, 2]
def k0_off626 (v3201 : BitVec 32) (v3203 : BitVec 32) (v3205 : BitVec 32) : Fin 4 → Nat :=
  let v3207 : Index := Scalar.indexCast v3205
  let v3208 : Index := Scalar.indexCast v3201
  let c7_i32_1732 : BitVec 32 := 7#32
  let v3206 : BitVec 32 := Scalar.addi v3203 c7_i32_1732
  let v3209 : Index := Scalar.indexCast v3206
  let c0_1733 : Index := 0#32
  ![v3207.toNat, v3208.toNat, v3209.toNat, 0]

def k0_chk83 (i : grid0.Coords) (v3201 : BitVec 32) (v3203 : BitVec 32) (v3205 : BitVec 32) : Prop :=
  (∀ (k0_h2 : k0_cond2 i = 1#1), ∀ a, S1x1x112x128.size a = 0 ∨ (k0_off626 v3201 v3203 v3205) a + (![1, 1, 2, 1] : Fin 4 → Nat) a * (S1x1x112x128.size a - 1) < S3x96x232x128.size a)
theorem k0_off626_inb : ∀ (i : grid0.Coords) (v3201 : BitVec 32) (v3203 : BitVec 32) (v3205 : BitVec 32) (k0_hw83 : k0_chk83 i v3201 v3203 v3205), ∀ (k0_h2 : k0_cond2 i = 1#1), ∀ a, S1x1x112x128.size a = 0 ∨ (k0_off626 v3201 v3203 v3205) a + (![1, 1, 2, 1] : Fin 4 → Nat) a * (S1x1x112x128.size a - 1) < S3x96x232x128.size a := fun i v3201 v3203 v3205 k0_hw83 k0_h2 => k0_hw83 k0_h2

def k0_off627 (k0_t1 : Fin k0_t1_loop.trips) : Fin 3 → Nat :=
  let c0_1734 : Index := 0#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3212 : Index := Scalar.indexCast v3175
  let c3_1735 : Index := 3#32
  ![0, v3212.toNat, 3]
def k0_off628 (k0_t1 : Fin k0_t1_loop.trips) : Fin 3 → Nat :=
  let c1_1736 : Index := 1#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3214 : Index := Scalar.indexCast v3175
  let c3_1737 : Index := 3#32
  ![1, v3214.toNat, 3]
def k0_off629 (k0_t1 : Fin k0_t1_loop.trips) : Fin 3 → Nat :=
  let c2_1738 : Index := 2#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3216 : Index := Scalar.indexCast v3175
  let c3_1739 : Index := 3#32
  ![2, v3216.toNat, 3]
def k0_off630 (v3213 : BitVec 32) (v3215 : BitVec 32) (v3217 : BitVec 32) : Fin 4 → Nat :=
  let v3219 : Index := Scalar.indexCast v3217
  let v3220 : Index := Scalar.indexCast v3213
  let c7_i32_1740 : BitVec 32 := 7#32
  let v3218 : BitVec 32 := Scalar.addi v3215 c7_i32_1740
  let v3221 : Index := Scalar.indexCast v3218
  let c0_1741 : Index := 0#32
  ![v3219.toNat, v3220.toNat, v3221.toNat, 0]

def k0_chk84 (i : grid0.Coords) (v3213 : BitVec 32) (v3215 : BitVec 32) (v3217 : BitVec 32) : Prop :=
  (∀ (k0_h2 : k0_cond2 i = 1#1), ∀ a, S1x1x112x128.size a = 0 ∨ (k0_off630 v3213 v3215 v3217) a + (![1, 1, 2, 1] : Fin 4 → Nat) a * (S1x1x112x128.size a - 1) < S3x96x232x128.size a)
theorem k0_off630_inb : ∀ (i : grid0.Coords) (v3213 : BitVec 32) (v3215 : BitVec 32) (v3217 : BitVec 32) (k0_hw84 : k0_chk84 i v3213 v3215 v3217), ∀ (k0_h2 : k0_cond2 i = 1#1), ∀ a, S1x1x112x128.size a = 0 ∨ (k0_off630 v3213 v3215 v3217) a + (![1, 1, 2, 1] : Fin 4 → Nat) a * (S1x1x112x128.size a - 1) < S3x96x232x128.size a := fun i v3213 v3215 v3217 k0_hw84 k0_h2 => k0_hw84 k0_h2

def k0_off631 (k0_t1 : Fin k0_t1_loop.trips) : Fin 3 → Nat :=
  let c0_1742 : Index := 0#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3224 : Index := Scalar.indexCast v3175
  let c4_1743 : Index := 4#32
  ![0, v3224.toNat, 4]
def k0_off632 (k0_t1 : Fin k0_t1_loop.trips) : Fin 3 → Nat :=
  let c1_1744 : Index := 1#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3226 : Index := Scalar.indexCast v3175
  let c4_1745 : Index := 4#32
  ![1, v3226.toNat, 4]
def k0_off633 (k0_t1 : Fin k0_t1_loop.trips) : Fin 3 → Nat :=
  let c2_1746 : Index := 2#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3228 : Index := Scalar.indexCast v3175
  let c4_1747 : Index := 4#32
  ![2, v3228.toNat, 4]
def k0_off634 (v3225 : BitVec 32) (v3227 : BitVec 32) (v3229 : BitVec 32) : Fin 4 → Nat :=
  let v3231 : Index := Scalar.indexCast v3229
  let v3232 : Index := Scalar.indexCast v3225
  let c7_i32_1748 : BitVec 32 := 7#32
  let v3230 : BitVec 32 := Scalar.addi v3227 c7_i32_1748
  let v3233 : Index := Scalar.indexCast v3230
  let c0_1749 : Index := 0#32
  ![v3231.toNat, v3232.toNat, v3233.toNat, 0]

def k0_chk85 (i : grid0.Coords) (v3225 : BitVec 32) (v3227 : BitVec 32) (v3229 : BitVec 32) : Prop :=
  (∀ (k0_h2 : k0_cond2 i = 1#1), ∀ a, S1x1x112x128.size a = 0 ∨ (k0_off634 v3225 v3227 v3229) a + (![1, 1, 2, 1] : Fin 4 → Nat) a * (S1x1x112x128.size a - 1) < S3x96x232x128.size a)
theorem k0_off634_inb : ∀ (i : grid0.Coords) (v3225 : BitVec 32) (v3227 : BitVec 32) (v3229 : BitVec 32) (k0_hw85 : k0_chk85 i v3225 v3227 v3229), ∀ (k0_h2 : k0_cond2 i = 1#1), ∀ a, S1x1x112x128.size a = 0 ∨ (k0_off634 v3225 v3227 v3229) a + (![1, 1, 2, 1] : Fin 4 → Nat) a * (S1x1x112x128.size a - 1) < S3x96x232x128.size a := fun i v3225 v3227 v3229 k0_hw85 k0_h2 => k0_hw85 k0_h2

def k0_off635 (k0_t1 : Fin k0_t1_loop.trips) : Fin 3 → Nat :=
  let c0_1750 : Index := 0#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3236 : Index := Scalar.indexCast v3175
  let c5_1751 : Index := 5#32
  ![0, v3236.toNat, 5]
def k0_off636 (k0_t1 : Fin k0_t1_loop.trips) : Fin 3 → Nat :=
  let c1_1752 : Index := 1#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3238 : Index := Scalar.indexCast v3175
  let c5_1753 : Index := 5#32
  ![1, v3238.toNat, 5]
def k0_off637 (k0_t1 : Fin k0_t1_loop.trips) : Fin 3 → Nat :=
  let c2_1754 : Index := 2#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3240 : Index := Scalar.indexCast v3175
  let c5_1755 : Index := 5#32
  ![2, v3240.toNat, 5]
def k0_off638 (v3237 : BitVec 32) (v3239 : BitVec 32) (v3241 : BitVec 32) : Fin 4 → Nat :=
  let v3243 : Index := Scalar.indexCast v3241
  let v3244 : Index := Scalar.indexCast v3237
  let c7_i32_1756 : BitVec 32 := 7#32
  let v3242 : BitVec 32 := Scalar.addi v3239 c7_i32_1756
  let v3245 : Index := Scalar.indexCast v3242
  let c0_1757 : Index := 0#32
  ![v3243.toNat, v3244.toNat, v3245.toNat, 0]

def k0_chk86 (i : grid0.Coords) (v3237 : BitVec 32) (v3239 : BitVec 32) (v3241 : BitVec 32) : Prop :=
  (∀ (k0_h2 : k0_cond2 i = 1#1), ∀ a, S1x1x112x128.size a = 0 ∨ (k0_off638 v3237 v3239 v3241) a + (![1, 1, 2, 1] : Fin 4 → Nat) a * (S1x1x112x128.size a - 1) < S3x96x232x128.size a)
theorem k0_off638_inb : ∀ (i : grid0.Coords) (v3237 : BitVec 32) (v3239 : BitVec 32) (v3241 : BitVec 32) (k0_hw86 : k0_chk86 i v3237 v3239 v3241), ∀ (k0_h2 : k0_cond2 i = 1#1), ∀ a, S1x1x112x128.size a = 0 ∨ (k0_off638 v3237 v3239 v3241) a + (![1, 1, 2, 1] : Fin 4 → Nat) a * (S1x1x112x128.size a - 1) < S3x96x232x128.size a := fun i v3237 v3239 v3241 k0_hw86 k0_h2 => k0_hw86 k0_h2

def k0_off639 (k0_t1 : Fin k0_t1_loop.trips) : Fin 3 → Nat :=
  let c0_1758 : Index := 0#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3248 : Index := Scalar.indexCast v3175
  let c6_1759 : Index := 6#32
  ![0, v3248.toNat, 6]
def k0_off640 (k0_t1 : Fin k0_t1_loop.trips) : Fin 3 → Nat :=
  let c1_1760 : Index := 1#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3250 : Index := Scalar.indexCast v3175
  let c6_1761 : Index := 6#32
  ![1, v3250.toNat, 6]
def k0_off641 (k0_t1 : Fin k0_t1_loop.trips) : Fin 3 → Nat :=
  let c2_1762 : Index := 2#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3252 : Index := Scalar.indexCast v3175
  let c6_1763 : Index := 6#32
  ![2, v3252.toNat, 6]
def k0_off642 (v3249 : BitVec 32) (v3251 : BitVec 32) (v3253 : BitVec 32) : Fin 4 → Nat :=
  let v3255 : Index := Scalar.indexCast v3253
  let v3256 : Index := Scalar.indexCast v3249
  let c7_i32_1764 : BitVec 32 := 7#32
  let v3254 : BitVec 32 := Scalar.addi v3251 c7_i32_1764
  let v3257 : Index := Scalar.indexCast v3254
  let c0_1765 : Index := 0#32
  ![v3255.toNat, v3256.toNat, v3257.toNat, 0]

def k0_chk87 (i : grid0.Coords) (v3249 : BitVec 32) (v3251 : BitVec 32) (v3253 : BitVec 32) : Prop :=
  (∀ (k0_h2 : k0_cond2 i = 1#1), ∀ a, S1x1x112x128.size a = 0 ∨ (k0_off642 v3249 v3251 v3253) a + (![1, 1, 2, 1] : Fin 4 → Nat) a * (S1x1x112x128.size a - 1) < S3x96x232x128.size a)
theorem k0_off642_inb : ∀ (i : grid0.Coords) (v3249 : BitVec 32) (v3251 : BitVec 32) (v3253 : BitVec 32) (k0_hw87 : k0_chk87 i v3249 v3251 v3253), ∀ (k0_h2 : k0_cond2 i = 1#1), ∀ a, S1x1x112x128.size a = 0 ∨ (k0_off642 v3249 v3251 v3253) a + (![1, 1, 2, 1] : Fin 4 → Nat) a * (S1x1x112x128.size a - 1) < S3x96x232x128.size a := fun i v3249 v3251 v3253 k0_hw87 k0_h2 => k0_hw87 k0_h2

def k0_off643 (k0_t1 : Fin k0_t1_loop.trips) : Fin 3 → Nat :=
  let c0_1766 : Index := 0#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3260 : Index := Scalar.indexCast v3175
  let c7_1767 : Index := 7#32
  ![0, v3260.toNat, 7]
def k0_off644 (k0_t1 : Fin k0_t1_loop.trips) : Fin 3 → Nat :=
  let c1_1768 : Index := 1#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3262 : Index := Scalar.indexCast v3175
  let c7_1769 : Index := 7#32
  ![1, v3262.toNat, 7]
def k0_off645 (k0_t1 : Fin k0_t1_loop.trips) : Fin 3 → Nat :=
  let c2_1770 : Index := 2#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3264 : Index := Scalar.indexCast v3175
  let c7_1771 : Index := 7#32
  ![2, v3264.toNat, 7]
def k0_off646 (v3261 : BitVec 32) (v3263 : BitVec 32) (v3265 : BitVec 32) : Fin 4 → Nat :=
  let v3267 : Index := Scalar.indexCast v3265
  let v3268 : Index := Scalar.indexCast v3261
  let c7_i32_1772 : BitVec 32 := 7#32
  let v3266 : BitVec 32 := Scalar.addi v3263 c7_i32_1772
  let v3269 : Index := Scalar.indexCast v3266
  let c0_1773 : Index := 0#32
  ![v3267.toNat, v3268.toNat, v3269.toNat, 0]

def k0_chk88 (i : grid0.Coords) (v3261 : BitVec 32) (v3263 : BitVec 32) (v3265 : BitVec 32) : Prop :=
  (∀ (k0_h2 : k0_cond2 i = 1#1), ∀ a, S1x1x112x128.size a = 0 ∨ (k0_off646 v3261 v3263 v3265) a + (![1, 1, 2, 1] : Fin 4 → Nat) a * (S1x1x112x128.size a - 1) < S3x96x232x128.size a)
theorem k0_off646_inb : ∀ (i : grid0.Coords) (v3261 : BitVec 32) (v3263 : BitVec 32) (v3265 : BitVec 32) (k0_hw88 : k0_chk88 i v3261 v3263 v3265), ∀ (k0_h2 : k0_cond2 i = 1#1), ∀ a, S1x1x112x128.size a = 0 ∨ (k0_off646 v3261 v3263 v3265) a + (![1, 1, 2, 1] : Fin 4 → Nat) a * (S1x1x112x128.size a - 1) < S3x96x232x128.size a := fun i v3261 v3263 v3265 k0_hw88 k0_h2 => k0_hw88 k0_h2

def k0_off647 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3272 : Index := Scalar.indexCast v3175
  let c0_1774 : Index := 0#32
  let c0_1775 : Index := 0#32
  ![v3272.toNat, 0, 0]
def k0_off648 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3274 : Index := Scalar.indexCast v3175
  let c0_1776 : Index := 0#32
  let c1_1777 : Index := 1#32
  ![v3274.toNat, 0, 1]
def k0_off649 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3276 : Index := Scalar.indexCast v3175
  let c0_1778 : Index := 0#32
  let c2_1779 : Index := 2#32
  ![v3276.toNat, 0, 2]
def k0_off650 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3278 : Index := Scalar.indexCast v3175
  let c0_1780 : Index := 0#32
  let c3_1781 : Index := 3#32
  ![v3278.toNat, 0, 3]
def k0_off651 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3291 : Index := Scalar.indexCast v3175
  let c1_1782 : Index := 1#32
  let c0_1783 : Index := 0#32
  ![v3291.toNat, 1, 0]
def k0_off652 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3293 : Index := Scalar.indexCast v3175
  let c1_1784 : Index := 1#32
  let c1_1785 : Index := 1#32
  ![v3293.toNat, 1, 1]
def k0_off653 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3295 : Index := Scalar.indexCast v3175
  let c1_1786 : Index := 1#32
  let c2_1787 : Index := 2#32
  ![v3295.toNat, 1, 2]
def k0_off654 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3297 : Index := Scalar.indexCast v3175
  let c1_1788 : Index := 1#32
  let c3_1789 : Index := 3#32
  ![v3297.toNat, 1, 3]
def k0_off655 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3310 : Index := Scalar.indexCast v3175
  let c2_1790 : Index := 2#32
  let c0_1791 : Index := 0#32
  ![v3310.toNat, 2, 0]
def k0_off656 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3312 : Index := Scalar.indexCast v3175
  let c2_1792 : Index := 2#32
  let c1_1793 : Index := 1#32
  ![v3312.toNat, 2, 1]
def k0_off657 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3314 : Index := Scalar.indexCast v3175
  let c2_1794 : Index := 2#32
  let c2_1795 : Index := 2#32
  ![v3314.toNat, 2, 2]
def k0_off658 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3316 : Index := Scalar.indexCast v3175
  let c2_1796 : Index := 2#32
  let c3_1797 : Index := 3#32
  ![v3316.toNat, 2, 3]
def k0_off659 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3329 : Index := Scalar.indexCast v3175
  let c3_1798 : Index := 3#32
  let c0_1799 : Index := 0#32
  ![v3329.toNat, 3, 0]
def k0_off660 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3331 : Index := Scalar.indexCast v3175
  let c3_1800 : Index := 3#32
  let c1_1801 : Index := 1#32
  ![v3331.toNat, 3, 1]
def k0_off661 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3333 : Index := Scalar.indexCast v3175
  let c3_1802 : Index := 3#32
  let c2_1803 : Index := 2#32
  ![v3333.toNat, 3, 2]
def k0_off662 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3335 : Index := Scalar.indexCast v3175
  let c3_1804 : Index := 3#32
  let c3_1805 : Index := 3#32
  ![v3335.toNat, 3, 3]
def k0_off663 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3348 : Index := Scalar.indexCast v3175
  let c4_1806 : Index := 4#32
  let c0_1807 : Index := 0#32
  ![v3348.toNat, 4, 0]
def k0_off664 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3350 : Index := Scalar.indexCast v3175
  let c4_1808 : Index := 4#32
  let c1_1809 : Index := 1#32
  ![v3350.toNat, 4, 1]
def k0_off665 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3352 : Index := Scalar.indexCast v3175
  let c4_1810 : Index := 4#32
  let c2_1811 : Index := 2#32
  ![v3352.toNat, 4, 2]
def k0_off666 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3354 : Index := Scalar.indexCast v3175
  let c4_1812 : Index := 4#32
  let c3_1813 : Index := 3#32
  ![v3354.toNat, 4, 3]
def k0_off667 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3367 : Index := Scalar.indexCast v3175
  let c5_1814 : Index := 5#32
  let c0_1815 : Index := 0#32
  ![v3367.toNat, 5, 0]
def k0_off668 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3369 : Index := Scalar.indexCast v3175
  let c5_1816 : Index := 5#32
  let c1_1817 : Index := 1#32
  ![v3369.toNat, 5, 1]
def k0_off669 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3371 : Index := Scalar.indexCast v3175
  let c5_1818 : Index := 5#32
  let c2_1819 : Index := 2#32
  ![v3371.toNat, 5, 2]
def k0_off670 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3373 : Index := Scalar.indexCast v3175
  let c5_1820 : Index := 5#32
  let c3_1821 : Index := 3#32
  ![v3373.toNat, 5, 3]
def k0_off671 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3386 : Index := Scalar.indexCast v3175
  let c6_1822 : Index := 6#32
  let c0_1823 : Index := 0#32
  ![v3386.toNat, 6, 0]
def k0_off672 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3388 : Index := Scalar.indexCast v3175
  let c6_1824 : Index := 6#32
  let c1_1825 : Index := 1#32
  ![v3388.toNat, 6, 1]
def k0_off673 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3390 : Index := Scalar.indexCast v3175
  let c6_1826 : Index := 6#32
  let c2_1827 : Index := 2#32
  ![v3390.toNat, 6, 2]
def k0_off674 (k0_t1 : Fin k0_t1_loop.trips) : Fin 3 → Nat :=
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3392 : Index := Scalar.indexCast v3175
  let c6_1828 : Index := 6#32
  let c3_1829 : Index := 3#32
  ![v3392.toNat, 6, 3]
def k0_off675 (k0_t1 : Fin k0_t1_loop.trips) : Fin 4 → Nat :=
  let c0_1830 : Index := 0#32
  let c16_i32_1708 : BitVec 32 := 16#32
  let c0_i32_459 : BitVec 32 := 0#32
  let c1_i32_461 : BitVec 32 := 1#32
  let arg7 : BitVec 32 := Scf.iv c0_i32_459 c1_i32_461 k0_t1
  let v3174 : BitVec 32 := Scalar.muli c16_i32_1708 arg7
  let c10_i32_1709 : BitVec 32 := 10#32
  let v3175 : BitVec 32 := Scalar.addi v3174 c10_i32_1709
  let v3406 : Index := Scalar.indexCast v3175
  let c0_1831 : Index := 0#32
  let c0_1832 : Index := 0#32
  ![0, v3406.toNat, 0, 0]
def k0_off676 (k0_t1 : Fin k0_t1_loop.trips) : Fin 3 → Nat :=
  let c0_1835 : Index := 0#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3412 : Index := Scalar.indexCast v3411
  let c0_1836 : Index := 0#32
  ![0, v3412.toNat, 0]
def k0_off677 (k0_t1 : Fin k0_t1_loop.trips) : Fin 3 → Nat :=
  let c1_1837 : Index := 1#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3414 : Index := Scalar.indexCast v3411
  let c0_1838 : Index := 0#32
  ![1, v3414.toNat, 0]
def k0_off678 (k0_t1 : Fin k0_t1_loop.trips) : Fin 3 → Nat :=
  let c2_1839 : Index := 2#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3416 : Index := Scalar.indexCast v3411
  let c0_1840 : Index := 0#32
  ![2, v3416.toNat, 0]
def k0_off679 (v3413 : BitVec 32) (v3415 : BitVec 32) (v3417 : BitVec 32) : Fin 4 → Nat :=
  let v3419 : Index := Scalar.indexCast v3417
  let v3420 : Index := Scalar.indexCast v3413
  let c7_i32_1841 : BitVec 32 := 7#32
  let v3418 : BitVec 32 := Scalar.addi v3415 c7_i32_1841
  let v3421 : Index := Scalar.indexCast v3418
  let c0_1842 : Index := 0#32
  ![v3419.toNat, v3420.toNat, v3421.toNat, 0]

def k0_chk89 (i : grid0.Coords) (v3413 : BitVec 32) (v3415 : BitVec 32) (v3417 : BitVec 32) : Prop :=
  (∀ (k0_h2 : k0_cond2 i = 1#1), ∀ a, S1x1x112x128.size a = 0 ∨ (k0_off679 v3413 v3415 v3417) a + (![1, 1, 2, 1] : Fin 4 → Nat) a * (S1x1x112x128.size a - 1) < S3x96x232x128.size a)
theorem k0_off679_inb : ∀ (i : grid0.Coords) (v3413 : BitVec 32) (v3415 : BitVec 32) (v3417 : BitVec 32) (k0_hw89 : k0_chk89 i v3413 v3415 v3417), ∀ (k0_h2 : k0_cond2 i = 1#1), ∀ a, S1x1x112x128.size a = 0 ∨ (k0_off679 v3413 v3415 v3417) a + (![1, 1, 2, 1] : Fin 4 → Nat) a * (S1x1x112x128.size a - 1) < S3x96x232x128.size a := fun i v3413 v3415 v3417 k0_hw89 k0_h2 => k0_hw89 k0_h2

def k0_off680 (k0_t1 : Fin k0_t1_loop.trips) : Fin 3 → Nat :=
  let c0_1843 : Index := 0#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3424 : Index := Scalar.indexCast v3411
  let c1_1844 : Index := 1#32
  ![0, v3424.toNat, 1]
def k0_off681 (k0_t1 : Fin k0_t1_loop.trips) : Fin 3 → Nat :=
  let c1_1845 : Index := 1#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3426 : Index := Scalar.indexCast v3411
  let c1_1846 : Index := 1#32
  ![1, v3426.toNat, 1]
def k0_off682 (k0_t1 : Fin k0_t1_loop.trips) : Fin 3 → Nat :=
  let c2_1847 : Index := 2#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3428 : Index := Scalar.indexCast v3411
  let c1_1848 : Index := 1#32
  ![2, v3428.toNat, 1]
def k0_off683 (v3425 : BitVec 32) (v3427 : BitVec 32) (v3429 : BitVec 32) : Fin 4 → Nat :=
  let v3431 : Index := Scalar.indexCast v3429
  let v3432 : Index := Scalar.indexCast v3425
  let c7_i32_1849 : BitVec 32 := 7#32
  let v3430 : BitVec 32 := Scalar.addi v3427 c7_i32_1849
  let v3433 : Index := Scalar.indexCast v3430
  let c0_1850 : Index := 0#32
  ![v3431.toNat, v3432.toNat, v3433.toNat, 0]

def k0_chk90 (i : grid0.Coords) (v3425 : BitVec 32) (v3427 : BitVec 32) (v3429 : BitVec 32) : Prop :=
  (∀ (k0_h2 : k0_cond2 i = 1#1), ∀ a, S1x1x112x128.size a = 0 ∨ (k0_off683 v3425 v3427 v3429) a + (![1, 1, 2, 1] : Fin 4 → Nat) a * (S1x1x112x128.size a - 1) < S3x96x232x128.size a)
theorem k0_off683_inb : ∀ (i : grid0.Coords) (v3425 : BitVec 32) (v3427 : BitVec 32) (v3429 : BitVec 32) (k0_hw90 : k0_chk90 i v3425 v3427 v3429), ∀ (k0_h2 : k0_cond2 i = 1#1), ∀ a, S1x1x112x128.size a = 0 ∨ (k0_off683 v3425 v3427 v3429) a + (![1, 1, 2, 1] : Fin 4 → Nat) a * (S1x1x112x128.size a - 1) < S3x96x232x128.size a := fun i v3425 v3427 v3429 k0_hw90 k0_h2 => k0_hw90 k0_h2

def k0_off684 (k0_t1 : Fin k0_t1_loop.trips) : Fin 3 → Nat :=
  let c0_1851 : Index := 0#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3436 : Index := Scalar.indexCast v3411
  let c2_1852 : Index := 2#32
  ![0, v3436.toNat, 2]
def k0_off685 (k0_t1 : Fin k0_t1_loop.trips) : Fin 3 → Nat :=
  let c1_1853 : Index := 1#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3438 : Index := Scalar.indexCast v3411
  let c2_1854 : Index := 2#32
  ![1, v3438.toNat, 2]
def k0_off686 (k0_t1 : Fin k0_t1_loop.trips) : Fin 3 → Nat :=
  let c2_1855 : Index := 2#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3440 : Index := Scalar.indexCast v3411
  let c2_1856 : Index := 2#32
  ![2, v3440.toNat, 2]
def k0_off687 (v3437 : BitVec 32) (v3439 : BitVec 32) (v3441 : BitVec 32) : Fin 4 → Nat :=
  let v3443 : Index := Scalar.indexCast v3441
  let v3444 : Index := Scalar.indexCast v3437
  let c7_i32_1857 : BitVec 32 := 7#32
  let v3442 : BitVec 32 := Scalar.addi v3439 c7_i32_1857
  let v3445 : Index := Scalar.indexCast v3442
  let c0_1858 : Index := 0#32
  ![v3443.toNat, v3444.toNat, v3445.toNat, 0]

def k0_chk91 (i : grid0.Coords) (v3437 : BitVec 32) (v3439 : BitVec 32) (v3441 : BitVec 32) : Prop :=
  (∀ (k0_h2 : k0_cond2 i = 1#1), ∀ a, S1x1x112x128.size a = 0 ∨ (k0_off687 v3437 v3439 v3441) a + (![1, 1, 2, 1] : Fin 4 → Nat) a * (S1x1x112x128.size a - 1) < S3x96x232x128.size a)
theorem k0_off687_inb : ∀ (i : grid0.Coords) (v3437 : BitVec 32) (v3439 : BitVec 32) (v3441 : BitVec 32) (k0_hw91 : k0_chk91 i v3437 v3439 v3441), ∀ (k0_h2 : k0_cond2 i = 1#1), ∀ a, S1x1x112x128.size a = 0 ∨ (k0_off687 v3437 v3439 v3441) a + (![1, 1, 2, 1] : Fin 4 → Nat) a * (S1x1x112x128.size a - 1) < S3x96x232x128.size a := fun i v3437 v3439 v3441 k0_hw91 k0_h2 => k0_hw91 k0_h2

def k0_off688 (k0_t1 : Fin k0_t1_loop.trips) : Fin 3 → Nat :=
  let c0_1859 : Index := 0#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3448 : Index := Scalar.indexCast v3411
  let c3_1860 : Index := 3#32
  ![0, v3448.toNat, 3]
def k0_off689 (k0_t1 : Fin k0_t1_loop.trips) : Fin 3 → Nat :=
  let c1_1861 : Index := 1#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3450 : Index := Scalar.indexCast v3411
  let c3_1862 : Index := 3#32
  ![1, v3450.toNat, 3]
def k0_off690 (k0_t1 : Fin k0_t1_loop.trips) : Fin 3 → Nat :=
  let c2_1863 : Index := 2#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3452 : Index := Scalar.indexCast v3411
  let c3_1864 : Index := 3#32
  ![2, v3452.toNat, 3]
def k0_off691 (v3449 : BitVec 32) (v3451 : BitVec 32) (v3453 : BitVec 32) : Fin 4 → Nat :=
  let v3455 : Index := Scalar.indexCast v3453
  let v3456 : Index := Scalar.indexCast v3449
  let c7_i32_1865 : BitVec 32 := 7#32
  let v3454 : BitVec 32 := Scalar.addi v3451 c7_i32_1865
  let v3457 : Index := Scalar.indexCast v3454
  let c0_1866 : Index := 0#32
  ![v3455.toNat, v3456.toNat, v3457.toNat, 0]

def k0_chk92 (i : grid0.Coords) (v3449 : BitVec 32) (v3451 : BitVec 32) (v3453 : BitVec 32) : Prop :=
  (∀ (k0_h2 : k0_cond2 i = 1#1), ∀ a, S1x1x112x128.size a = 0 ∨ (k0_off691 v3449 v3451 v3453) a + (![1, 1, 2, 1] : Fin 4 → Nat) a * (S1x1x112x128.size a - 1) < S3x96x232x128.size a)
theorem k0_off691_inb : ∀ (i : grid0.Coords) (v3449 : BitVec 32) (v3451 : BitVec 32) (v3453 : BitVec 32) (k0_hw92 : k0_chk92 i v3449 v3451 v3453), ∀ (k0_h2 : k0_cond2 i = 1#1), ∀ a, S1x1x112x128.size a = 0 ∨ (k0_off691 v3449 v3451 v3453) a + (![1, 1, 2, 1] : Fin 4 → Nat) a * (S1x1x112x128.size a - 1) < S3x96x232x128.size a := fun i v3449 v3451 v3453 k0_hw92 k0_h2 => k0_hw92 k0_h2

def k0_off692 (k0_t1 : Fin k0_t1_loop.trips) : Fin 3 → Nat :=
  let c0_1867 : Index := 0#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3460 : Index := Scalar.indexCast v3411
  let c4_1868 : Index := 4#32
  ![0, v3460.toNat, 4]
def k0_off693 (k0_t1 : Fin k0_t1_loop.trips) : Fin 3 → Nat :=
  let c1_1869 : Index := 1#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3462 : Index := Scalar.indexCast v3411
  let c4_1870 : Index := 4#32
  ![1, v3462.toNat, 4]
def k0_off694 (k0_t1 : Fin k0_t1_loop.trips) : Fin 3 → Nat :=
  let c2_1871 : Index := 2#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3464 : Index := Scalar.indexCast v3411
  let c4_1872 : Index := 4#32
  ![2, v3464.toNat, 4]
def k0_off695 (v3461 : BitVec 32) (v3463 : BitVec 32) (v3465 : BitVec 32) : Fin 4 → Nat :=
  let v3467 : Index := Scalar.indexCast v3465
  let v3468 : Index := Scalar.indexCast v3461
  let c7_i32_1873 : BitVec 32 := 7#32
  let v3466 : BitVec 32 := Scalar.addi v3463 c7_i32_1873
  let v3469 : Index := Scalar.indexCast v3466
  let c0_1874 : Index := 0#32
  ![v3467.toNat, v3468.toNat, v3469.toNat, 0]

def k0_chk93 (i : grid0.Coords) (v3461 : BitVec 32) (v3463 : BitVec 32) (v3465 : BitVec 32) : Prop :=
  (∀ (k0_h2 : k0_cond2 i = 1#1), ∀ a, S1x1x112x128.size a = 0 ∨ (k0_off695 v3461 v3463 v3465) a + (![1, 1, 2, 1] : Fin 4 → Nat) a * (S1x1x112x128.size a - 1) < S3x96x232x128.size a)
theorem k0_off695_inb : ∀ (i : grid0.Coords) (v3461 : BitVec 32) (v3463 : BitVec 32) (v3465 : BitVec 32) (k0_hw93 : k0_chk93 i v3461 v3463 v3465), ∀ (k0_h2 : k0_cond2 i = 1#1), ∀ a, S1x1x112x128.size a = 0 ∨ (k0_off695 v3461 v3463 v3465) a + (![1, 1, 2, 1] : Fin 4 → Nat) a * (S1x1x112x128.size a - 1) < S3x96x232x128.size a := fun i v3461 v3463 v3465 k0_hw93 k0_h2 => k0_hw93 k0_h2

def k0_off696 (k0_t1 : Fin k0_t1_loop.trips) : Fin 3 → Nat :=
  let c0_1875 : Index := 0#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3472 : Index := Scalar.indexCast v3411
  let c5_1876 : Index := 5#32
  ![0, v3472.toNat, 5]
def k0_off697 (k0_t1 : Fin k0_t1_loop.trips) : Fin 3 → Nat :=
  let c1_1877 : Index := 1#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3474 : Index := Scalar.indexCast v3411
  let c5_1878 : Index := 5#32
  ![1, v3474.toNat, 5]
def k0_off698 (k0_t1 : Fin k0_t1_loop.trips) : Fin 3 → Nat :=
  let c2_1879 : Index := 2#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3476 : Index := Scalar.indexCast v3411
  let c5_1880 : Index := 5#32
  ![2, v3476.toNat, 5]
def k0_off699 (v3473 : BitVec 32) (v3475 : BitVec 32) (v3477 : BitVec 32) : Fin 4 → Nat :=
  let v3479 : Index := Scalar.indexCast v3477
  let v3480 : Index := Scalar.indexCast v3473
  let c7_i32_1881 : BitVec 32 := 7#32
  let v3478 : BitVec 32 := Scalar.addi v3475 c7_i32_1881
  let v3481 : Index := Scalar.indexCast v3478
  let c0_1882 : Index := 0#32
  ![v3479.toNat, v3480.toNat, v3481.toNat, 0]

def k0_chk94 (i : grid0.Coords) (v3473 : BitVec 32) (v3475 : BitVec 32) (v3477 : BitVec 32) : Prop :=
  (∀ (k0_h2 : k0_cond2 i = 1#1), ∀ a, S1x1x112x128.size a = 0 ∨ (k0_off699 v3473 v3475 v3477) a + (![1, 1, 2, 1] : Fin 4 → Nat) a * (S1x1x112x128.size a - 1) < S3x96x232x128.size a)
theorem k0_off699_inb : ∀ (i : grid0.Coords) (v3473 : BitVec 32) (v3475 : BitVec 32) (v3477 : BitVec 32) (k0_hw94 : k0_chk94 i v3473 v3475 v3477), ∀ (k0_h2 : k0_cond2 i = 1#1), ∀ a, S1x1x112x128.size a = 0 ∨ (k0_off699 v3473 v3475 v3477) a + (![1, 1, 2, 1] : Fin 4 → Nat) a * (S1x1x112x128.size a - 1) < S3x96x232x128.size a := fun i v3473 v3475 v3477 k0_hw94 k0_h2 => k0_hw94 k0_h2

def k0_off700 (k0_t1 : Fin k0_t1_loop.trips) : Fin 3 → Nat :=
  let c0_1883 : Index := 0#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3484 : Index := Scalar.indexCast v3411
  let c6_1884 : Index := 6#32
  ![0, v3484.toNat, 6]
def k0_off701 (k0_t1 : Fin k0_t1_loop.trips) : Fin 3 → Nat :=
  let c1_1885 : Index := 1#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3486 : Index := Scalar.indexCast v3411
  let c6_1886 : Index := 6#32
  ![1, v3486.toNat, 6]
def k0_off702 (k0_t1 : Fin k0_t1_loop.trips) : Fin 3 → Nat :=
  let c2_1887 : Index := 2#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3488 : Index := Scalar.indexCast v3411
  let c6_1888 : Index := 6#32
  ![2, v3488.toNat, 6]
def k0_off703 (v3485 : BitVec 32) (v3487 : BitVec 32) (v3489 : BitVec 32) : Fin 4 → Nat :=
  let v3491 : Index := Scalar.indexCast v3489
  let v3492 : Index := Scalar.indexCast v3485
  let c7_i32_1889 : BitVec 32 := 7#32
  let v3490 : BitVec 32 := Scalar.addi v3487 c7_i32_1889
  let v3493 : Index := Scalar.indexCast v3490
  let c0_1890 : Index := 0#32
  ![v3491.toNat, v3492.toNat, v3493.toNat, 0]

def k0_chk95 (i : grid0.Coords) (v3485 : BitVec 32) (v3487 : BitVec 32) (v3489 : BitVec 32) : Prop :=
  (∀ (k0_h2 : k0_cond2 i = 1#1), ∀ a, S1x1x112x128.size a = 0 ∨ (k0_off703 v3485 v3487 v3489) a + (![1, 1, 2, 1] : Fin 4 → Nat) a * (S1x1x112x128.size a - 1) < S3x96x232x128.size a)
theorem k0_off703_inb : ∀ (i : grid0.Coords) (v3485 : BitVec 32) (v3487 : BitVec 32) (v3489 : BitVec 32) (k0_hw95 : k0_chk95 i v3485 v3487 v3489), ∀ (k0_h2 : k0_cond2 i = 1#1), ∀ a, S1x1x112x128.size a = 0 ∨ (k0_off703 v3485 v3487 v3489) a + (![1, 1, 2, 1] : Fin 4 → Nat) a * (S1x1x112x128.size a - 1) < S3x96x232x128.size a := fun i v3485 v3487 v3489 k0_hw95 k0_h2 => k0_hw95 k0_h2

def k0_off704 (k0_t1 : Fin k0_t1_loop.trips) : Fin 3 → Nat :=
  let c0_1891 : Index := 0#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3496 : Index := Scalar.indexCast v3411
  let c7_1892 : Index := 7#32
  ![0, v3496.toNat, 7]
def k0_off705 (k0_t1 : Fin k0_t1_loop.trips) : Fin 3 → Nat :=
  let c1_1893 : Index := 1#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3498 : Index := Scalar.indexCast v3411
  let c7_1894 : Index := 7#32
  ![1, v3498.toNat, 7]
def k0_off706 (k0_t1 : Fin k0_t1_loop.trips) : Fin 3 → Nat :=
  let c2_1895 : Index := 2#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3500 : Index := Scalar.indexCast v3411
  let c7_1896 : Index := 7#32
  ![2, v3500.toNat, 7]
def k0_off707 (v3497 : BitVec 32) (v3499 : BitVec 32) (v3501 : BitVec 32) : Fin 4 → Nat :=
  let v3503 : Index := Scalar.indexCast v3501
  let v3504 : Index := Scalar.indexCast v3497
  let c7_i32_1897 : BitVec 32 := 7#32
  let v3502 : BitVec 32 := Scalar.addi v3499 c7_i32_1897
  let v3505 : Index := Scalar.indexCast v3502
  let c0_1898 : Index := 0#32
  ![v3503.toNat, v3504.toNat, v3505.toNat, 0]

def k0_chk96 (i : grid0.Coords) (v3497 : BitVec 32) (v3499 : BitVec 32) (v3501 : BitVec 32) : Prop :=
  (∀ (k0_h2 : k0_cond2 i = 1#1), ∀ a, S1x1x112x128.size a = 0 ∨ (k0_off707 v3497 v3499 v3501) a + (![1, 1, 2, 1] : Fin 4 → Nat) a * (S1x1x112x128.size a - 1) < S3x96x232x128.size a)
theorem k0_off707_inb : ∀ (i : grid0.Coords) (v3497 : BitVec 32) (v3499 : BitVec 32) (v3501 : BitVec 32) (k0_hw96 : k0_chk96 i v3497 v3499 v3501), ∀ (k0_h2 : k0_cond2 i = 1#1), ∀ a, S1x1x112x128.size a = 0 ∨ (k0_off707 v3497 v3499 v3501) a + (![1, 1, 2, 1] : Fin 4 → Nat) a * (S1x1x112x128.size a - 1) < S3x96x232x128.size a := fun i v3497 v3499 v3501 k0_hw96 k0_h2 => k0_hw96 k0_h2

def k0_off708 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3508 : Index := Scalar.indexCast v3411
  let c0_1899 : Index := 0#32
  let c0_1900 : Index := 0#32
  ![v3508.toNat, 0, 0]
def k0_off709 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3510 : Index := Scalar.indexCast v3411
  let c0_1901 : Index := 0#32
  let c1_1902 : Index := 1#32
  ![v3510.toNat, 0, 1]
def k0_off710 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3512 : Index := Scalar.indexCast v3411
  let c0_1903 : Index := 0#32
  let c2_1904 : Index := 2#32
  ![v3512.toNat, 0, 2]
def k0_off711 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3514 : Index := Scalar.indexCast v3411
  let c0_1905 : Index := 0#32
  let c3_1906 : Index := 3#32
  ![v3514.toNat, 0, 3]
def k0_off712 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3527 : Index := Scalar.indexCast v3411
  let c1_1907 : Index := 1#32
  let c0_1908 : Index := 0#32
  ![v3527.toNat, 1, 0]
def k0_off713 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3529 : Index := Scalar.indexCast v3411
  let c1_1909 : Index := 1#32
  let c1_1910 : Index := 1#32
  ![v3529.toNat, 1, 1]
def k0_off714 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3531 : Index := Scalar.indexCast v3411
  let c1_1911 : Index := 1#32
  let c2_1912 : Index := 2#32
  ![v3531.toNat, 1, 2]
def k0_off715 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3533 : Index := Scalar.indexCast v3411
  let c1_1913 : Index := 1#32
  let c3_1914 : Index := 3#32
  ![v3533.toNat, 1, 3]
def k0_off716 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3546 : Index := Scalar.indexCast v3411
  let c2_1915 : Index := 2#32
  let c0_1916 : Index := 0#32
  ![v3546.toNat, 2, 0]
def k0_off717 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3548 : Index := Scalar.indexCast v3411
  let c2_1917 : Index := 2#32
  let c1_1918 : Index := 1#32
  ![v3548.toNat, 2, 1]
def k0_off718 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3550 : Index := Scalar.indexCast v3411
  let c2_1919 : Index := 2#32
  let c2_1920 : Index := 2#32
  ![v3550.toNat, 2, 2]
def k0_off719 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3552 : Index := Scalar.indexCast v3411
  let c2_1921 : Index := 2#32
  let c3_1922 : Index := 3#32
  ![v3552.toNat, 2, 3]
def k0_off720 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3565 : Index := Scalar.indexCast v3411
  let c3_1923 : Index := 3#32
  let c0_1924 : Index := 0#32
  ![v3565.toNat, 3, 0]
def k0_off721 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3567 : Index := Scalar.indexCast v3411
  let c3_1925 : Index := 3#32
  let c1_1926 : Index := 1#32
  ![v3567.toNat, 3, 1]
def k0_off722 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3569 : Index := Scalar.indexCast v3411
  let c3_1927 : Index := 3#32
  let c2_1928 : Index := 2#32
  ![v3569.toNat, 3, 2]
def k0_off723 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3571 : Index := Scalar.indexCast v3411
  let c3_1929 : Index := 3#32
  let c3_1930 : Index := 3#32
  ![v3571.toNat, 3, 3]
def k0_off724 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3584 : Index := Scalar.indexCast v3411
  let c4_1931 : Index := 4#32
  let c0_1932 : Index := 0#32
  ![v3584.toNat, 4, 0]
def k0_off725 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3586 : Index := Scalar.indexCast v3411
  let c4_1933 : Index := 4#32
  let c1_1934 : Index := 1#32
  ![v3586.toNat, 4, 1]
def k0_off726 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3588 : Index := Scalar.indexCast v3411
  let c4_1935 : Index := 4#32
  let c2_1936 : Index := 2#32
  ![v3588.toNat, 4, 2]
def k0_off727 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3590 : Index := Scalar.indexCast v3411
  let c4_1937 : Index := 4#32
  let c3_1938 : Index := 3#32
  ![v3590.toNat, 4, 3]
def k0_off728 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3603 : Index := Scalar.indexCast v3411
  let c5_1939 : Index := 5#32
  let c0_1940 : Index := 0#32
  ![v3603.toNat, 5, 0]
def k0_off729 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3605 : Index := Scalar.indexCast v3411
  let c5_1941 : Index := 5#32
  let c1_1942 : Index := 1#32
  ![v3605.toNat, 5, 1]
def k0_off730 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3607 : Index := Scalar.indexCast v3411
  let c5_1943 : Index := 5#32
  let c2_1944 : Index := 2#32
  ![v3607.toNat, 5, 2]
def k0_off731 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3609 : Index := Scalar.indexCast v3411
  let c5_1945 : Index := 5#32
  let c3_1946 : Index := 3#32
  ![v3609.toNat, 5, 3]
def k0_off732 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3622 : Index := Scalar.indexCast v3411
  let c6_1947 : Index := 6#32
  let c0_1948 : Index := 0#32
  ![v3622.toNat, 6, 0]
def k0_off733 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3624 : Index := Scalar.indexCast v3411
  let c6_1949 : Index := 6#32
  let c1_1950 : Index := 1#32
  ![v3624.toNat, 6, 1]
def k0_off734 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3626 : Index := Scalar.indexCast v3411
  let c6_1951 : Index := 6#32
  let c2_1952 : Index := 2#32
  ![v3626.toNat, 6, 2]
def k0_off735 (k0_t1 : Fin k0_t1_loop.trips) : Fin 3 → Nat :=
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3628 : Index := Scalar.indexCast v3411
  let c6_1953 : Index := 6#32
  let c3_1954 : Index := 3#32
  ![v3628.toNat, 6, 3]
def k0_off736 (k0_t1 : Fin k0_t1_loop.trips) : Fin 4 → Nat :=
  let c0_1955 : Index := 0#32
  let c16_i32_1833 : BitVec 32 := 16#32
  let c0_i32_459 : BitVec 32 := 0#32
  let c1_i32_461 : BitVec 32 := 1#32
  let arg7 : BitVec 32 := Scf.iv c0_i32_459 c1_i32_461 k0_t1
  let v3410 : BitVec 32 := Scalar.muli c16_i32_1833 arg7
  let c11_i32_1834 : BitVec 32 := 11#32
  let v3411 : BitVec 32 := Scalar.addi v3410 c11_i32_1834
  let v3642 : Index := Scalar.indexCast v3411
  let c0_1956 : Index := 0#32
  let c0_1957 : Index := 0#32
  ![0, v3642.toNat, 0, 0]
def k0_off737 (k0_t1 : Fin k0_t1_loop.trips) : Fin 3 → Nat :=
  let c0_1960 : Index := 0#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3648 : Index := Scalar.indexCast v3647
  let c0_1961 : Index := 0#32
  ![0, v3648.toNat, 0]
def k0_off738 (k0_t1 : Fin k0_t1_loop.trips) : Fin 3 → Nat :=
  let c1_1962 : Index := 1#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3650 : Index := Scalar.indexCast v3647
  let c0_1963 : Index := 0#32
  ![1, v3650.toNat, 0]
def k0_off739 (k0_t1 : Fin k0_t1_loop.trips) : Fin 3 → Nat :=
  let c2_1964 : Index := 2#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3652 : Index := Scalar.indexCast v3647
  let c0_1965 : Index := 0#32
  ![2, v3652.toNat, 0]
def k0_off740 (v3649 : BitVec 32) (v3651 : BitVec 32) (v3653 : BitVec 32) : Fin 4 → Nat :=
  let v3655 : Index := Scalar.indexCast v3653
  let v3656 : Index := Scalar.indexCast v3649
  let c7_i32_1966 : BitVec 32 := 7#32
  let v3654 : BitVec 32 := Scalar.addi v3651 c7_i32_1966
  let v3657 : Index := Scalar.indexCast v3654
  let c0_1967 : Index := 0#32
  ![v3655.toNat, v3656.toNat, v3657.toNat, 0]

def k0_chk97 (i : grid0.Coords) (v3649 : BitVec 32) (v3651 : BitVec 32) (v3653 : BitVec 32) : Prop :=
  (∀ (k0_h2 : k0_cond2 i = 1#1), ∀ a, S1x1x112x128.size a = 0 ∨ (k0_off740 v3649 v3651 v3653) a + (![1, 1, 2, 1] : Fin 4 → Nat) a * (S1x1x112x128.size a - 1) < S3x96x232x128.size a)
theorem k0_off740_inb : ∀ (i : grid0.Coords) (v3649 : BitVec 32) (v3651 : BitVec 32) (v3653 : BitVec 32) (k0_hw97 : k0_chk97 i v3649 v3651 v3653), ∀ (k0_h2 : k0_cond2 i = 1#1), ∀ a, S1x1x112x128.size a = 0 ∨ (k0_off740 v3649 v3651 v3653) a + (![1, 1, 2, 1] : Fin 4 → Nat) a * (S1x1x112x128.size a - 1) < S3x96x232x128.size a := fun i v3649 v3651 v3653 k0_hw97 k0_h2 => k0_hw97 k0_h2

def k0_off741 (k0_t1 : Fin k0_t1_loop.trips) : Fin 3 → Nat :=
  let c0_1968 : Index := 0#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3660 : Index := Scalar.indexCast v3647
  let c1_1969 : Index := 1#32
  ![0, v3660.toNat, 1]
def k0_off742 (k0_t1 : Fin k0_t1_loop.trips) : Fin 3 → Nat :=
  let c1_1970 : Index := 1#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3662 : Index := Scalar.indexCast v3647
  let c1_1971 : Index := 1#32
  ![1, v3662.toNat, 1]
def k0_off743 (k0_t1 : Fin k0_t1_loop.trips) : Fin 3 → Nat :=
  let c2_1972 : Index := 2#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3664 : Index := Scalar.indexCast v3647
  let c1_1973 : Index := 1#32
  ![2, v3664.toNat, 1]
def k0_off744 (v3661 : BitVec 32) (v3663 : BitVec 32) (v3665 : BitVec 32) : Fin 4 → Nat :=
  let v3667 : Index := Scalar.indexCast v3665
  let v3668 : Index := Scalar.indexCast v3661
  let c7_i32_1974 : BitVec 32 := 7#32
  let v3666 : BitVec 32 := Scalar.addi v3663 c7_i32_1974
  let v3669 : Index := Scalar.indexCast v3666
  let c0_1975 : Index := 0#32
  ![v3667.toNat, v3668.toNat, v3669.toNat, 0]

def k0_chk98 (i : grid0.Coords) (v3661 : BitVec 32) (v3663 : BitVec 32) (v3665 : BitVec 32) : Prop :=
  (∀ (k0_h2 : k0_cond2 i = 1#1), ∀ a, S1x1x112x128.size a = 0 ∨ (k0_off744 v3661 v3663 v3665) a + (![1, 1, 2, 1] : Fin 4 → Nat) a * (S1x1x112x128.size a - 1) < S3x96x232x128.size a)
theorem k0_off744_inb : ∀ (i : grid0.Coords) (v3661 : BitVec 32) (v3663 : BitVec 32) (v3665 : BitVec 32) (k0_hw98 : k0_chk98 i v3661 v3663 v3665), ∀ (k0_h2 : k0_cond2 i = 1#1), ∀ a, S1x1x112x128.size a = 0 ∨ (k0_off744 v3661 v3663 v3665) a + (![1, 1, 2, 1] : Fin 4 → Nat) a * (S1x1x112x128.size a - 1) < S3x96x232x128.size a := fun i v3661 v3663 v3665 k0_hw98 k0_h2 => k0_hw98 k0_h2

def k0_off745 (k0_t1 : Fin k0_t1_loop.trips) : Fin 3 → Nat :=
  let c0_1976 : Index := 0#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3672 : Index := Scalar.indexCast v3647
  let c2_1977 : Index := 2#32
  ![0, v3672.toNat, 2]
def k0_off746 (k0_t1 : Fin k0_t1_loop.trips) : Fin 3 → Nat :=
  let c1_1978 : Index := 1#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3674 : Index := Scalar.indexCast v3647
  let c2_1979 : Index := 2#32
  ![1, v3674.toNat, 2]
def k0_off747 (k0_t1 : Fin k0_t1_loop.trips) : Fin 3 → Nat :=
  let c2_1980 : Index := 2#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3676 : Index := Scalar.indexCast v3647
  let c2_1981 : Index := 2#32
  ![2, v3676.toNat, 2]
def k0_off748 (v3673 : BitVec 32) (v3675 : BitVec 32) (v3677 : BitVec 32) : Fin 4 → Nat :=
  let v3679 : Index := Scalar.indexCast v3677
  let v3680 : Index := Scalar.indexCast v3673
  let c7_i32_1982 : BitVec 32 := 7#32
  let v3678 : BitVec 32 := Scalar.addi v3675 c7_i32_1982
  let v3681 : Index := Scalar.indexCast v3678
  let c0_1983 : Index := 0#32
  ![v3679.toNat, v3680.toNat, v3681.toNat, 0]

def k0_chk99 (i : grid0.Coords) (v3673 : BitVec 32) (v3675 : BitVec 32) (v3677 : BitVec 32) : Prop :=
  (∀ (k0_h2 : k0_cond2 i = 1#1), ∀ a, S1x1x112x128.size a = 0 ∨ (k0_off748 v3673 v3675 v3677) a + (![1, 1, 2, 1] : Fin 4 → Nat) a * (S1x1x112x128.size a - 1) < S3x96x232x128.size a)
theorem k0_off748_inb : ∀ (i : grid0.Coords) (v3673 : BitVec 32) (v3675 : BitVec 32) (v3677 : BitVec 32) (k0_hw99 : k0_chk99 i v3673 v3675 v3677), ∀ (k0_h2 : k0_cond2 i = 1#1), ∀ a, S1x1x112x128.size a = 0 ∨ (k0_off748 v3673 v3675 v3677) a + (![1, 1, 2, 1] : Fin 4 → Nat) a * (S1x1x112x128.size a - 1) < S3x96x232x128.size a := fun i v3673 v3675 v3677 k0_hw99 k0_h2 => k0_hw99 k0_h2

def k0_off749 (k0_t1 : Fin k0_t1_loop.trips) : Fin 3 → Nat :=
  let c0_1984 : Index := 0#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3684 : Index := Scalar.indexCast v3647
  let c3_1985 : Index := 3#32
  ![0, v3684.toNat, 3]
def k0_off750 (k0_t1 : Fin k0_t1_loop.trips) : Fin 3 → Nat :=
  let c1_1986 : Index := 1#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3686 : Index := Scalar.indexCast v3647
  let c3_1987 : Index := 3#32
  ![1, v3686.toNat, 3]
def k0_off751 (k0_t1 : Fin k0_t1_loop.trips) : Fin 3 → Nat :=
  let c2_1988 : Index := 2#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3688 : Index := Scalar.indexCast v3647
  let c3_1989 : Index := 3#32
  ![2, v3688.toNat, 3]
def k0_off752 (v3685 : BitVec 32) (v3687 : BitVec 32) (v3689 : BitVec 32) : Fin 4 → Nat :=
  let v3691 : Index := Scalar.indexCast v3689
  let v3692 : Index := Scalar.indexCast v3685
  let c7_i32_1990 : BitVec 32 := 7#32
  let v3690 : BitVec 32 := Scalar.addi v3687 c7_i32_1990
  let v3693 : Index := Scalar.indexCast v3690
  let c0_1991 : Index := 0#32
  ![v3691.toNat, v3692.toNat, v3693.toNat, 0]

def k0_chk100 (i : grid0.Coords) (v3685 : BitVec 32) (v3687 : BitVec 32) (v3689 : BitVec 32) : Prop :=
  (∀ (k0_h2 : k0_cond2 i = 1#1), ∀ a, S1x1x112x128.size a = 0 ∨ (k0_off752 v3685 v3687 v3689) a + (![1, 1, 2, 1] : Fin 4 → Nat) a * (S1x1x112x128.size a - 1) < S3x96x232x128.size a)
theorem k0_off752_inb : ∀ (i : grid0.Coords) (v3685 : BitVec 32) (v3687 : BitVec 32) (v3689 : BitVec 32) (k0_hw100 : k0_chk100 i v3685 v3687 v3689), ∀ (k0_h2 : k0_cond2 i = 1#1), ∀ a, S1x1x112x128.size a = 0 ∨ (k0_off752 v3685 v3687 v3689) a + (![1, 1, 2, 1] : Fin 4 → Nat) a * (S1x1x112x128.size a - 1) < S3x96x232x128.size a := fun i v3685 v3687 v3689 k0_hw100 k0_h2 => k0_hw100 k0_h2

def k0_off753 (k0_t1 : Fin k0_t1_loop.trips) : Fin 3 → Nat :=
  let c0_1992 : Index := 0#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3696 : Index := Scalar.indexCast v3647
  let c4_1993 : Index := 4#32
  ![0, v3696.toNat, 4]
def k0_off754 (k0_t1 : Fin k0_t1_loop.trips) : Fin 3 → Nat :=
  let c1_1994 : Index := 1#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3698 : Index := Scalar.indexCast v3647
  let c4_1995 : Index := 4#32
  ![1, v3698.toNat, 4]
def k0_off755 (k0_t1 : Fin k0_t1_loop.trips) : Fin 3 → Nat :=
  let c2_1996 : Index := 2#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3700 : Index := Scalar.indexCast v3647
  let c4_1997 : Index := 4#32
  ![2, v3700.toNat, 4]
def k0_off756 (v3697 : BitVec 32) (v3699 : BitVec 32) (v3701 : BitVec 32) : Fin 4 → Nat :=
  let v3703 : Index := Scalar.indexCast v3701
  let v3704 : Index := Scalar.indexCast v3697
  let c7_i32_1998 : BitVec 32 := 7#32
  let v3702 : BitVec 32 := Scalar.addi v3699 c7_i32_1998
  let v3705 : Index := Scalar.indexCast v3702
  let c0_1999 : Index := 0#32
  ![v3703.toNat, v3704.toNat, v3705.toNat, 0]

def k0_chk101 (i : grid0.Coords) (v3697 : BitVec 32) (v3699 : BitVec 32) (v3701 : BitVec 32) : Prop :=
  (∀ (k0_h2 : k0_cond2 i = 1#1), ∀ a, S1x1x112x128.size a = 0 ∨ (k0_off756 v3697 v3699 v3701) a + (![1, 1, 2, 1] : Fin 4 → Nat) a * (S1x1x112x128.size a - 1) < S3x96x232x128.size a)
theorem k0_off756_inb : ∀ (i : grid0.Coords) (v3697 : BitVec 32) (v3699 : BitVec 32) (v3701 : BitVec 32) (k0_hw101 : k0_chk101 i v3697 v3699 v3701), ∀ (k0_h2 : k0_cond2 i = 1#1), ∀ a, S1x1x112x128.size a = 0 ∨ (k0_off756 v3697 v3699 v3701) a + (![1, 1, 2, 1] : Fin 4 → Nat) a * (S1x1x112x128.size a - 1) < S3x96x232x128.size a := fun i v3697 v3699 v3701 k0_hw101 k0_h2 => k0_hw101 k0_h2

def k0_off757 (k0_t1 : Fin k0_t1_loop.trips) : Fin 3 → Nat :=
  let c0_2000 : Index := 0#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3708 : Index := Scalar.indexCast v3647
  let c5_2001 : Index := 5#32
  ![0, v3708.toNat, 5]
def k0_off758 (k0_t1 : Fin k0_t1_loop.trips) : Fin 3 → Nat :=
  let c1_2002 : Index := 1#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3710 : Index := Scalar.indexCast v3647
  let c5_2003 : Index := 5#32
  ![1, v3710.toNat, 5]
def k0_off759 (k0_t1 : Fin k0_t1_loop.trips) : Fin 3 → Nat :=
  let c2_2004 : Index := 2#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3712 : Index := Scalar.indexCast v3647
  let c5_2005 : Index := 5#32
  ![2, v3712.toNat, 5]
def k0_off760 (v3709 : BitVec 32) (v3711 : BitVec 32) (v3713 : BitVec 32) : Fin 4 → Nat :=
  let v3715 : Index := Scalar.indexCast v3713
  let v3716 : Index := Scalar.indexCast v3709
  let c7_i32_2006 : BitVec 32 := 7#32
  let v3714 : BitVec 32 := Scalar.addi v3711 c7_i32_2006
  let v3717 : Index := Scalar.indexCast v3714
  let c0_2007 : Index := 0#32
  ![v3715.toNat, v3716.toNat, v3717.toNat, 0]

def k0_chk102 (i : grid0.Coords) (v3709 : BitVec 32) (v3711 : BitVec 32) (v3713 : BitVec 32) : Prop :=
  (∀ (k0_h2 : k0_cond2 i = 1#1), ∀ a, S1x1x112x128.size a = 0 ∨ (k0_off760 v3709 v3711 v3713) a + (![1, 1, 2, 1] : Fin 4 → Nat) a * (S1x1x112x128.size a - 1) < S3x96x232x128.size a)
theorem k0_off760_inb : ∀ (i : grid0.Coords) (v3709 : BitVec 32) (v3711 : BitVec 32) (v3713 : BitVec 32) (k0_hw102 : k0_chk102 i v3709 v3711 v3713), ∀ (k0_h2 : k0_cond2 i = 1#1), ∀ a, S1x1x112x128.size a = 0 ∨ (k0_off760 v3709 v3711 v3713) a + (![1, 1, 2, 1] : Fin 4 → Nat) a * (S1x1x112x128.size a - 1) < S3x96x232x128.size a := fun i v3709 v3711 v3713 k0_hw102 k0_h2 => k0_hw102 k0_h2

def k0_off761 (k0_t1 : Fin k0_t1_loop.trips) : Fin 3 → Nat :=
  let c0_2008 : Index := 0#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3720 : Index := Scalar.indexCast v3647
  let c6_2009 : Index := 6#32
  ![0, v3720.toNat, 6]
def k0_off762 (k0_t1 : Fin k0_t1_loop.trips) : Fin 3 → Nat :=
  let c1_2010 : Index := 1#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3722 : Index := Scalar.indexCast v3647
  let c6_2011 : Index := 6#32
  ![1, v3722.toNat, 6]
def k0_off763 (k0_t1 : Fin k0_t1_loop.trips) : Fin 3 → Nat :=
  let c2_2012 : Index := 2#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3724 : Index := Scalar.indexCast v3647
  let c6_2013 : Index := 6#32
  ![2, v3724.toNat, 6]
def k0_off764 (v3721 : BitVec 32) (v3723 : BitVec 32) (v3725 : BitVec 32) : Fin 4 → Nat :=
  let v3727 : Index := Scalar.indexCast v3725
  let v3728 : Index := Scalar.indexCast v3721
  let c7_i32_2014 : BitVec 32 := 7#32
  let v3726 : BitVec 32 := Scalar.addi v3723 c7_i32_2014
  let v3729 : Index := Scalar.indexCast v3726
  let c0_2015 : Index := 0#32
  ![v3727.toNat, v3728.toNat, v3729.toNat, 0]

def k0_chk103 (i : grid0.Coords) (v3721 : BitVec 32) (v3723 : BitVec 32) (v3725 : BitVec 32) : Prop :=
  (∀ (k0_h2 : k0_cond2 i = 1#1), ∀ a, S1x1x112x128.size a = 0 ∨ (k0_off764 v3721 v3723 v3725) a + (![1, 1, 2, 1] : Fin 4 → Nat) a * (S1x1x112x128.size a - 1) < S3x96x232x128.size a)
theorem k0_off764_inb : ∀ (i : grid0.Coords) (v3721 : BitVec 32) (v3723 : BitVec 32) (v3725 : BitVec 32) (k0_hw103 : k0_chk103 i v3721 v3723 v3725), ∀ (k0_h2 : k0_cond2 i = 1#1), ∀ a, S1x1x112x128.size a = 0 ∨ (k0_off764 v3721 v3723 v3725) a + (![1, 1, 2, 1] : Fin 4 → Nat) a * (S1x1x112x128.size a - 1) < S3x96x232x128.size a := fun i v3721 v3723 v3725 k0_hw103 k0_h2 => k0_hw103 k0_h2

def k0_off765 (k0_t1 : Fin k0_t1_loop.trips) : Fin 3 → Nat :=
  let c0_2016 : Index := 0#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3732 : Index := Scalar.indexCast v3647
  let c7_2017 : Index := 7#32
  ![0, v3732.toNat, 7]
def k0_off766 (k0_t1 : Fin k0_t1_loop.trips) : Fin 3 → Nat :=
  let c1_2018 : Index := 1#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3734 : Index := Scalar.indexCast v3647
  let c7_2019 : Index := 7#32
  ![1, v3734.toNat, 7]
def k0_off767 (k0_t1 : Fin k0_t1_loop.trips) : Fin 3 → Nat :=
  let c2_2020 : Index := 2#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3736 : Index := Scalar.indexCast v3647
  let c7_2021 : Index := 7#32
  ![2, v3736.toNat, 7]
def k0_off768 (v3733 : BitVec 32) (v3735 : BitVec 32) (v3737 : BitVec 32) : Fin 4 → Nat :=
  let v3739 : Index := Scalar.indexCast v3737
  let v3740 : Index := Scalar.indexCast v3733
  let c7_i32_2022 : BitVec 32 := 7#32
  let v3738 : BitVec 32 := Scalar.addi v3735 c7_i32_2022
  let v3741 : Index := Scalar.indexCast v3738
  let c0_2023 : Index := 0#32
  ![v3739.toNat, v3740.toNat, v3741.toNat, 0]

def k0_chk104 (i : grid0.Coords) (v3733 : BitVec 32) (v3735 : BitVec 32) (v3737 : BitVec 32) : Prop :=
  (∀ (k0_h2 : k0_cond2 i = 1#1), ∀ a, S1x1x112x128.size a = 0 ∨ (k0_off768 v3733 v3735 v3737) a + (![1, 1, 2, 1] : Fin 4 → Nat) a * (S1x1x112x128.size a - 1) < S3x96x232x128.size a)
theorem k0_off768_inb : ∀ (i : grid0.Coords) (v3733 : BitVec 32) (v3735 : BitVec 32) (v3737 : BitVec 32) (k0_hw104 : k0_chk104 i v3733 v3735 v3737), ∀ (k0_h2 : k0_cond2 i = 1#1), ∀ a, S1x1x112x128.size a = 0 ∨ (k0_off768 v3733 v3735 v3737) a + (![1, 1, 2, 1] : Fin 4 → Nat) a * (S1x1x112x128.size a - 1) < S3x96x232x128.size a := fun i v3733 v3735 v3737 k0_hw104 k0_h2 => k0_hw104 k0_h2

def k0_off769 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3744 : Index := Scalar.indexCast v3647
  let c0_2024 : Index := 0#32
  let c0_2025 : Index := 0#32
  ![v3744.toNat, 0, 0]
def k0_off770 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3746 : Index := Scalar.indexCast v3647
  let c0_2026 : Index := 0#32
  let c1_2027 : Index := 1#32
  ![v3746.toNat, 0, 1]
def k0_off771 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3748 : Index := Scalar.indexCast v3647
  let c0_2028 : Index := 0#32
  let c2_2029 : Index := 2#32
  ![v3748.toNat, 0, 2]
def k0_off772 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3750 : Index := Scalar.indexCast v3647
  let c0_2030 : Index := 0#32
  let c3_2031 : Index := 3#32
  ![v3750.toNat, 0, 3]
def k0_off773 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3763 : Index := Scalar.indexCast v3647
  let c1_2032 : Index := 1#32
  let c0_2033 : Index := 0#32
  ![v3763.toNat, 1, 0]
def k0_off774 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3765 : Index := Scalar.indexCast v3647
  let c1_2034 : Index := 1#32
  let c1_2035 : Index := 1#32
  ![v3765.toNat, 1, 1]
def k0_off775 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3767 : Index := Scalar.indexCast v3647
  let c1_2036 : Index := 1#32
  let c2_2037 : Index := 2#32
  ![v3767.toNat, 1, 2]
def k0_off776 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3769 : Index := Scalar.indexCast v3647
  let c1_2038 : Index := 1#32
  let c3_2039 : Index := 3#32
  ![v3769.toNat, 1, 3]
def k0_off777 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3782 : Index := Scalar.indexCast v3647
  let c2_2040 : Index := 2#32
  let c0_2041 : Index := 0#32
  ![v3782.toNat, 2, 0]
def k0_off778 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3784 : Index := Scalar.indexCast v3647
  let c2_2042 : Index := 2#32
  let c1_2043 : Index := 1#32
  ![v3784.toNat, 2, 1]
def k0_off779 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3786 : Index := Scalar.indexCast v3647
  let c2_2044 : Index := 2#32
  let c2_2045 : Index := 2#32
  ![v3786.toNat, 2, 2]
def k0_off780 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3788 : Index := Scalar.indexCast v3647
  let c2_2046 : Index := 2#32
  let c3_2047 : Index := 3#32
  ![v3788.toNat, 2, 3]
def k0_off781 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3801 : Index := Scalar.indexCast v3647
  let c3_2048 : Index := 3#32
  let c0_2049 : Index := 0#32
  ![v3801.toNat, 3, 0]
def k0_off782 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3803 : Index := Scalar.indexCast v3647
  let c3_2050 : Index := 3#32
  let c1_2051 : Index := 1#32
  ![v3803.toNat, 3, 1]
def k0_off783 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3805 : Index := Scalar.indexCast v3647
  let c3_2052 : Index := 3#32
  let c2_2053 : Index := 2#32
  ![v3805.toNat, 3, 2]
def k0_off784 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3807 : Index := Scalar.indexCast v3647
  let c3_2054 : Index := 3#32
  let c3_2055 : Index := 3#32
  ![v3807.toNat, 3, 3]
def k0_off785 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3820 : Index := Scalar.indexCast v3647
  let c4_2056 : Index := 4#32
  let c0_2057 : Index := 0#32
  ![v3820.toNat, 4, 0]
def k0_off786 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3822 : Index := Scalar.indexCast v3647
  let c4_2058 : Index := 4#32
  let c1_2059 : Index := 1#32
  ![v3822.toNat, 4, 1]
def k0_off787 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3824 : Index := Scalar.indexCast v3647
  let c4_2060 : Index := 4#32
  let c2_2061 : Index := 2#32
  ![v3824.toNat, 4, 2]
def k0_off788 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3826 : Index := Scalar.indexCast v3647
  let c4_2062 : Index := 4#32
  let c3_2063 : Index := 3#32
  ![v3826.toNat, 4, 3]
def k0_off789 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3839 : Index := Scalar.indexCast v3647
  let c5_2064 : Index := 5#32
  let c0_2065 : Index := 0#32
  ![v3839.toNat, 5, 0]
def k0_off790 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3841 : Index := Scalar.indexCast v3647
  let c5_2066 : Index := 5#32
  let c1_2067 : Index := 1#32
  ![v3841.toNat, 5, 1]
def k0_off791 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3843 : Index := Scalar.indexCast v3647
  let c5_2068 : Index := 5#32
  let c2_2069 : Index := 2#32
  ![v3843.toNat, 5, 2]
def k0_off792 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3845 : Index := Scalar.indexCast v3647
  let c5_2070 : Index := 5#32
  let c3_2071 : Index := 3#32
  ![v3845.toNat, 5, 3]
def k0_off793 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3858 : Index := Scalar.indexCast v3647
  let c6_2072 : Index := 6#32
  let c0_2073 : Index := 0#32
  ![v3858.toNat, 6, 0]
def k0_off794 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3860 : Index := Scalar.indexCast v3647
  let c6_2074 : Index := 6#32
  let c1_2075 : Index := 1#32
  ![v3860.toNat, 6, 1]
def k0_off795 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3862 : Index := Scalar.indexCast v3647
  let c6_2076 : Index := 6#32
  let c2_2077 : Index := 2#32
  ![v3862.toNat, 6, 2]
def k0_off796 (k0_t1 : Fin k0_t1_loop.trips) : Fin 3 → Nat :=
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3864 : Index := Scalar.indexCast v3647
  let c6_2078 : Index := 6#32
  let c3_2079 : Index := 3#32
  ![v3864.toNat, 6, 3]
def k0_off797 (k0_t1 : Fin k0_t1_loop.trips) : Fin 4 → Nat :=
  let c0_2080 : Index := 0#32
  let c16_i32_1958 : BitVec 32 := 16#32
  let c0_i32_459 : BitVec 32 := 0#32
  let c1_i32_461 : BitVec 32 := 1#32
  let arg7 : BitVec 32 := Scf.iv c0_i32_459 c1_i32_461 k0_t1
  let v3646 : BitVec 32 := Scalar.muli c16_i32_1958 arg7
  let c12_i32_1959 : BitVec 32 := 12#32
  let v3647 : BitVec 32 := Scalar.addi v3646 c12_i32_1959
  let v3878 : Index := Scalar.indexCast v3647
  let c0_2081 : Index := 0#32
  let c0_2082 : Index := 0#32
  ![0, v3878.toNat, 0, 0]
def k0_off798 (k0_t1 : Fin k0_t1_loop.trips) : Fin 3 → Nat :=
  let c0_2085 : Index := 0#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3884 : Index := Scalar.indexCast v3883
  let c0_2086 : Index := 0#32
  ![0, v3884.toNat, 0]
def k0_off799 (k0_t1 : Fin k0_t1_loop.trips) : Fin 3 → Nat :=
  let c1_2087 : Index := 1#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3886 : Index := Scalar.indexCast v3883
  let c0_2088 : Index := 0#32
  ![1, v3886.toNat, 0]
def k0_off800 (k0_t1 : Fin k0_t1_loop.trips) : Fin 3 → Nat :=
  let c2_2089 : Index := 2#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3888 : Index := Scalar.indexCast v3883
  let c0_2090 : Index := 0#32
  ![2, v3888.toNat, 0]
def k0_off801 (v3885 : BitVec 32) (v3887 : BitVec 32) (v3889 : BitVec 32) : Fin 4 → Nat :=
  let v3891 : Index := Scalar.indexCast v3889
  let v3892 : Index := Scalar.indexCast v3885
  let c7_i32_2091 : BitVec 32 := 7#32
  let v3890 : BitVec 32 := Scalar.addi v3887 c7_i32_2091
  let v3893 : Index := Scalar.indexCast v3890
  let c0_2092 : Index := 0#32
  ![v3891.toNat, v3892.toNat, v3893.toNat, 0]

def k0_chk105 (i : grid0.Coords) (v3885 : BitVec 32) (v3887 : BitVec 32) (v3889 : BitVec 32) : Prop :=
  (∀ (k0_h2 : k0_cond2 i = 1#1), ∀ a, S1x1x112x128.size a = 0 ∨ (k0_off801 v3885 v3887 v3889) a + (![1, 1, 2, 1] : Fin 4 → Nat) a * (S1x1x112x128.size a - 1) < S3x96x232x128.size a)
theorem k0_off801_inb : ∀ (i : grid0.Coords) (v3885 : BitVec 32) (v3887 : BitVec 32) (v3889 : BitVec 32) (k0_hw105 : k0_chk105 i v3885 v3887 v3889), ∀ (k0_h2 : k0_cond2 i = 1#1), ∀ a, S1x1x112x128.size a = 0 ∨ (k0_off801 v3885 v3887 v3889) a + (![1, 1, 2, 1] : Fin 4 → Nat) a * (S1x1x112x128.size a - 1) < S3x96x232x128.size a := fun i v3885 v3887 v3889 k0_hw105 k0_h2 => k0_hw105 k0_h2

def k0_off802 (k0_t1 : Fin k0_t1_loop.trips) : Fin 3 → Nat :=
  let c0_2093 : Index := 0#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3896 : Index := Scalar.indexCast v3883
  let c1_2094 : Index := 1#32
  ![0, v3896.toNat, 1]
def k0_off803 (k0_t1 : Fin k0_t1_loop.trips) : Fin 3 → Nat :=
  let c1_2095 : Index := 1#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3898 : Index := Scalar.indexCast v3883
  let c1_2096 : Index := 1#32
  ![1, v3898.toNat, 1]
def k0_off804 (k0_t1 : Fin k0_t1_loop.trips) : Fin 3 → Nat :=
  let c2_2097 : Index := 2#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3900 : Index := Scalar.indexCast v3883
  let c1_2098 : Index := 1#32
  ![2, v3900.toNat, 1]
def k0_off805 (v3897 : BitVec 32) (v3899 : BitVec 32) (v3901 : BitVec 32) : Fin 4 → Nat :=
  let v3903 : Index := Scalar.indexCast v3901
  let v3904 : Index := Scalar.indexCast v3897
  let c7_i32_2099 : BitVec 32 := 7#32
  let v3902 : BitVec 32 := Scalar.addi v3899 c7_i32_2099
  let v3905 : Index := Scalar.indexCast v3902
  let c0_2100 : Index := 0#32
  ![v3903.toNat, v3904.toNat, v3905.toNat, 0]

def k0_chk106 (i : grid0.Coords) (v3897 : BitVec 32) (v3899 : BitVec 32) (v3901 : BitVec 32) : Prop :=
  (∀ (k0_h2 : k0_cond2 i = 1#1), ∀ a, S1x1x112x128.size a = 0 ∨ (k0_off805 v3897 v3899 v3901) a + (![1, 1, 2, 1] : Fin 4 → Nat) a * (S1x1x112x128.size a - 1) < S3x96x232x128.size a)
theorem k0_off805_inb : ∀ (i : grid0.Coords) (v3897 : BitVec 32) (v3899 : BitVec 32) (v3901 : BitVec 32) (k0_hw106 : k0_chk106 i v3897 v3899 v3901), ∀ (k0_h2 : k0_cond2 i = 1#1), ∀ a, S1x1x112x128.size a = 0 ∨ (k0_off805 v3897 v3899 v3901) a + (![1, 1, 2, 1] : Fin 4 → Nat) a * (S1x1x112x128.size a - 1) < S3x96x232x128.size a := fun i v3897 v3899 v3901 k0_hw106 k0_h2 => k0_hw106 k0_h2

def k0_off806 (k0_t1 : Fin k0_t1_loop.trips) : Fin 3 → Nat :=
  let c0_2101 : Index := 0#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3908 : Index := Scalar.indexCast v3883
  let c2_2102 : Index := 2#32
  ![0, v3908.toNat, 2]
def k0_off807 (k0_t1 : Fin k0_t1_loop.trips) : Fin 3 → Nat :=
  let c1_2103 : Index := 1#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3910 : Index := Scalar.indexCast v3883
  let c2_2104 : Index := 2#32
  ![1, v3910.toNat, 2]
def k0_off808 (k0_t1 : Fin k0_t1_loop.trips) : Fin 3 → Nat :=
  let c2_2105 : Index := 2#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3912 : Index := Scalar.indexCast v3883
  let c2_2106 : Index := 2#32
  ![2, v3912.toNat, 2]
def k0_off809 (v3909 : BitVec 32) (v3911 : BitVec 32) (v3913 : BitVec 32) : Fin 4 → Nat :=
  let v3915 : Index := Scalar.indexCast v3913
  let v3916 : Index := Scalar.indexCast v3909
  let c7_i32_2107 : BitVec 32 := 7#32
  let v3914 : BitVec 32 := Scalar.addi v3911 c7_i32_2107
  let v3917 : Index := Scalar.indexCast v3914
  let c0_2108 : Index := 0#32
  ![v3915.toNat, v3916.toNat, v3917.toNat, 0]

def k0_chk107 (i : grid0.Coords) (v3909 : BitVec 32) (v3911 : BitVec 32) (v3913 : BitVec 32) : Prop :=
  (∀ (k0_h2 : k0_cond2 i = 1#1), ∀ a, S1x1x112x128.size a = 0 ∨ (k0_off809 v3909 v3911 v3913) a + (![1, 1, 2, 1] : Fin 4 → Nat) a * (S1x1x112x128.size a - 1) < S3x96x232x128.size a)
theorem k0_off809_inb : ∀ (i : grid0.Coords) (v3909 : BitVec 32) (v3911 : BitVec 32) (v3913 : BitVec 32) (k0_hw107 : k0_chk107 i v3909 v3911 v3913), ∀ (k0_h2 : k0_cond2 i = 1#1), ∀ a, S1x1x112x128.size a = 0 ∨ (k0_off809 v3909 v3911 v3913) a + (![1, 1, 2, 1] : Fin 4 → Nat) a * (S1x1x112x128.size a - 1) < S3x96x232x128.size a := fun i v3909 v3911 v3913 k0_hw107 k0_h2 => k0_hw107 k0_h2

def k0_off810 (k0_t1 : Fin k0_t1_loop.trips) : Fin 3 → Nat :=
  let c0_2109 : Index := 0#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3920 : Index := Scalar.indexCast v3883
  let c3_2110 : Index := 3#32
  ![0, v3920.toNat, 3]
def k0_off811 (k0_t1 : Fin k0_t1_loop.trips) : Fin 3 → Nat :=
  let c1_2111 : Index := 1#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3922 : Index := Scalar.indexCast v3883
  let c3_2112 : Index := 3#32
  ![1, v3922.toNat, 3]
def k0_off812 (k0_t1 : Fin k0_t1_loop.trips) : Fin 3 → Nat :=
  let c2_2113 : Index := 2#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3924 : Index := Scalar.indexCast v3883
  let c3_2114 : Index := 3#32
  ![2, v3924.toNat, 3]
def k0_off813 (v3921 : BitVec 32) (v3923 : BitVec 32) (v3925 : BitVec 32) : Fin 4 → Nat :=
  let v3927 : Index := Scalar.indexCast v3925
  let v3928 : Index := Scalar.indexCast v3921
  let c7_i32_2115 : BitVec 32 := 7#32
  let v3926 : BitVec 32 := Scalar.addi v3923 c7_i32_2115
  let v3929 : Index := Scalar.indexCast v3926
  let c0_2116 : Index := 0#32
  ![v3927.toNat, v3928.toNat, v3929.toNat, 0]

def k0_chk108 (i : grid0.Coords) (v3921 : BitVec 32) (v3923 : BitVec 32) (v3925 : BitVec 32) : Prop :=
  (∀ (k0_h2 : k0_cond2 i = 1#1), ∀ a, S1x1x112x128.size a = 0 ∨ (k0_off813 v3921 v3923 v3925) a + (![1, 1, 2, 1] : Fin 4 → Nat) a * (S1x1x112x128.size a - 1) < S3x96x232x128.size a)
theorem k0_off813_inb : ∀ (i : grid0.Coords) (v3921 : BitVec 32) (v3923 : BitVec 32) (v3925 : BitVec 32) (k0_hw108 : k0_chk108 i v3921 v3923 v3925), ∀ (k0_h2 : k0_cond2 i = 1#1), ∀ a, S1x1x112x128.size a = 0 ∨ (k0_off813 v3921 v3923 v3925) a + (![1, 1, 2, 1] : Fin 4 → Nat) a * (S1x1x112x128.size a - 1) < S3x96x232x128.size a := fun i v3921 v3923 v3925 k0_hw108 k0_h2 => k0_hw108 k0_h2

def k0_off814 (k0_t1 : Fin k0_t1_loop.trips) : Fin 3 → Nat :=
  let c0_2117 : Index := 0#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3932 : Index := Scalar.indexCast v3883
  let c4_2118 : Index := 4#32
  ![0, v3932.toNat, 4]
def k0_off815 (k0_t1 : Fin k0_t1_loop.trips) : Fin 3 → Nat :=
  let c1_2119 : Index := 1#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3934 : Index := Scalar.indexCast v3883
  let c4_2120 : Index := 4#32
  ![1, v3934.toNat, 4]
def k0_off816 (k0_t1 : Fin k0_t1_loop.trips) : Fin 3 → Nat :=
  let c2_2121 : Index := 2#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3936 : Index := Scalar.indexCast v3883
  let c4_2122 : Index := 4#32
  ![2, v3936.toNat, 4]
def k0_off817 (v3933 : BitVec 32) (v3935 : BitVec 32) (v3937 : BitVec 32) : Fin 4 → Nat :=
  let v3939 : Index := Scalar.indexCast v3937
  let v3940 : Index := Scalar.indexCast v3933
  let c7_i32_2123 : BitVec 32 := 7#32
  let v3938 : BitVec 32 := Scalar.addi v3935 c7_i32_2123
  let v3941 : Index := Scalar.indexCast v3938
  let c0_2124 : Index := 0#32
  ![v3939.toNat, v3940.toNat, v3941.toNat, 0]

def k0_chk109 (i : grid0.Coords) (v3933 : BitVec 32) (v3935 : BitVec 32) (v3937 : BitVec 32) : Prop :=
  (∀ (k0_h2 : k0_cond2 i = 1#1), ∀ a, S1x1x112x128.size a = 0 ∨ (k0_off817 v3933 v3935 v3937) a + (![1, 1, 2, 1] : Fin 4 → Nat) a * (S1x1x112x128.size a - 1) < S3x96x232x128.size a)
theorem k0_off817_inb : ∀ (i : grid0.Coords) (v3933 : BitVec 32) (v3935 : BitVec 32) (v3937 : BitVec 32) (k0_hw109 : k0_chk109 i v3933 v3935 v3937), ∀ (k0_h2 : k0_cond2 i = 1#1), ∀ a, S1x1x112x128.size a = 0 ∨ (k0_off817 v3933 v3935 v3937) a + (![1, 1, 2, 1] : Fin 4 → Nat) a * (S1x1x112x128.size a - 1) < S3x96x232x128.size a := fun i v3933 v3935 v3937 k0_hw109 k0_h2 => k0_hw109 k0_h2

def k0_off818 (k0_t1 : Fin k0_t1_loop.trips) : Fin 3 → Nat :=
  let c0_2125 : Index := 0#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3944 : Index := Scalar.indexCast v3883
  let c5_2126 : Index := 5#32
  ![0, v3944.toNat, 5]
def k0_off819 (k0_t1 : Fin k0_t1_loop.trips) : Fin 3 → Nat :=
  let c1_2127 : Index := 1#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3946 : Index := Scalar.indexCast v3883
  let c5_2128 : Index := 5#32
  ![1, v3946.toNat, 5]
def k0_off820 (k0_t1 : Fin k0_t1_loop.trips) : Fin 3 → Nat :=
  let c2_2129 : Index := 2#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3948 : Index := Scalar.indexCast v3883
  let c5_2130 : Index := 5#32
  ![2, v3948.toNat, 5]
def k0_off821 (v3945 : BitVec 32) (v3947 : BitVec 32) (v3949 : BitVec 32) : Fin 4 → Nat :=
  let v3951 : Index := Scalar.indexCast v3949
  let v3952 : Index := Scalar.indexCast v3945
  let c7_i32_2131 : BitVec 32 := 7#32
  let v3950 : BitVec 32 := Scalar.addi v3947 c7_i32_2131
  let v3953 : Index := Scalar.indexCast v3950
  let c0_2132 : Index := 0#32
  ![v3951.toNat, v3952.toNat, v3953.toNat, 0]

def k0_chk110 (i : grid0.Coords) (v3945 : BitVec 32) (v3947 : BitVec 32) (v3949 : BitVec 32) : Prop :=
  (∀ (k0_h2 : k0_cond2 i = 1#1), ∀ a, S1x1x112x128.size a = 0 ∨ (k0_off821 v3945 v3947 v3949) a + (![1, 1, 2, 1] : Fin 4 → Nat) a * (S1x1x112x128.size a - 1) < S3x96x232x128.size a)
theorem k0_off821_inb : ∀ (i : grid0.Coords) (v3945 : BitVec 32) (v3947 : BitVec 32) (v3949 : BitVec 32) (k0_hw110 : k0_chk110 i v3945 v3947 v3949), ∀ (k0_h2 : k0_cond2 i = 1#1), ∀ a, S1x1x112x128.size a = 0 ∨ (k0_off821 v3945 v3947 v3949) a + (![1, 1, 2, 1] : Fin 4 → Nat) a * (S1x1x112x128.size a - 1) < S3x96x232x128.size a := fun i v3945 v3947 v3949 k0_hw110 k0_h2 => k0_hw110 k0_h2

def k0_off822 (k0_t1 : Fin k0_t1_loop.trips) : Fin 3 → Nat :=
  let c0_2133 : Index := 0#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3956 : Index := Scalar.indexCast v3883
  let c6_2134 : Index := 6#32
  ![0, v3956.toNat, 6]
def k0_off823 (k0_t1 : Fin k0_t1_loop.trips) : Fin 3 → Nat :=
  let c1_2135 : Index := 1#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3958 : Index := Scalar.indexCast v3883
  let c6_2136 : Index := 6#32
  ![1, v3958.toNat, 6]
def k0_off824 (k0_t1 : Fin k0_t1_loop.trips) : Fin 3 → Nat :=
  let c2_2137 : Index := 2#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3960 : Index := Scalar.indexCast v3883
  let c6_2138 : Index := 6#32
  ![2, v3960.toNat, 6]
def k0_off825 (v3957 : BitVec 32) (v3959 : BitVec 32) (v3961 : BitVec 32) : Fin 4 → Nat :=
  let v3963 : Index := Scalar.indexCast v3961
  let v3964 : Index := Scalar.indexCast v3957
  let c7_i32_2139 : BitVec 32 := 7#32
  let v3962 : BitVec 32 := Scalar.addi v3959 c7_i32_2139
  let v3965 : Index := Scalar.indexCast v3962
  let c0_2140 : Index := 0#32
  ![v3963.toNat, v3964.toNat, v3965.toNat, 0]

def k0_chk111 (i : grid0.Coords) (v3957 : BitVec 32) (v3959 : BitVec 32) (v3961 : BitVec 32) : Prop :=
  (∀ (k0_h2 : k0_cond2 i = 1#1), ∀ a, S1x1x112x128.size a = 0 ∨ (k0_off825 v3957 v3959 v3961) a + (![1, 1, 2, 1] : Fin 4 → Nat) a * (S1x1x112x128.size a - 1) < S3x96x232x128.size a)
theorem k0_off825_inb : ∀ (i : grid0.Coords) (v3957 : BitVec 32) (v3959 : BitVec 32) (v3961 : BitVec 32) (k0_hw111 : k0_chk111 i v3957 v3959 v3961), ∀ (k0_h2 : k0_cond2 i = 1#1), ∀ a, S1x1x112x128.size a = 0 ∨ (k0_off825 v3957 v3959 v3961) a + (![1, 1, 2, 1] : Fin 4 → Nat) a * (S1x1x112x128.size a - 1) < S3x96x232x128.size a := fun i v3957 v3959 v3961 k0_hw111 k0_h2 => k0_hw111 k0_h2

def k0_off826 (k0_t1 : Fin k0_t1_loop.trips) : Fin 3 → Nat :=
  let c0_2141 : Index := 0#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3968 : Index := Scalar.indexCast v3883
  let c7_2142 : Index := 7#32
  ![0, v3968.toNat, 7]
def k0_off827 (k0_t1 : Fin k0_t1_loop.trips) : Fin 3 → Nat :=
  let c1_2143 : Index := 1#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3970 : Index := Scalar.indexCast v3883
  let c7_2144 : Index := 7#32
  ![1, v3970.toNat, 7]
def k0_off828 (k0_t1 : Fin k0_t1_loop.trips) : Fin 3 → Nat :=
  let c2_2145 : Index := 2#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3972 : Index := Scalar.indexCast v3883
  let c7_2146 : Index := 7#32
  ![2, v3972.toNat, 7]
def k0_off829 (v3969 : BitVec 32) (v3971 : BitVec 32) (v3973 : BitVec 32) : Fin 4 → Nat :=
  let v3975 : Index := Scalar.indexCast v3973
  let v3976 : Index := Scalar.indexCast v3969
  let c7_i32_2147 : BitVec 32 := 7#32
  let v3974 : BitVec 32 := Scalar.addi v3971 c7_i32_2147
  let v3977 : Index := Scalar.indexCast v3974
  let c0_2148 : Index := 0#32
  ![v3975.toNat, v3976.toNat, v3977.toNat, 0]

def k0_chk112 (i : grid0.Coords) (v3969 : BitVec 32) (v3971 : BitVec 32) (v3973 : BitVec 32) : Prop :=
  (∀ (k0_h2 : k0_cond2 i = 1#1), ∀ a, S1x1x112x128.size a = 0 ∨ (k0_off829 v3969 v3971 v3973) a + (![1, 1, 2, 1] : Fin 4 → Nat) a * (S1x1x112x128.size a - 1) < S3x96x232x128.size a)
theorem k0_off829_inb : ∀ (i : grid0.Coords) (v3969 : BitVec 32) (v3971 : BitVec 32) (v3973 : BitVec 32) (k0_hw112 : k0_chk112 i v3969 v3971 v3973), ∀ (k0_h2 : k0_cond2 i = 1#1), ∀ a, S1x1x112x128.size a = 0 ∨ (k0_off829 v3969 v3971 v3973) a + (![1, 1, 2, 1] : Fin 4 → Nat) a * (S1x1x112x128.size a - 1) < S3x96x232x128.size a := fun i v3969 v3971 v3973 k0_hw112 k0_h2 => k0_hw112 k0_h2

def k0_off830 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3980 : Index := Scalar.indexCast v3883
  let c0_2149 : Index := 0#32
  let c0_2150 : Index := 0#32
  ![v3980.toNat, 0, 0]
def k0_off831 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3982 : Index := Scalar.indexCast v3883
  let c0_2151 : Index := 0#32
  let c1_2152 : Index := 1#32
  ![v3982.toNat, 0, 1]
def k0_off832 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3984 : Index := Scalar.indexCast v3883
  let c0_2153 : Index := 0#32
  let c2_2154 : Index := 2#32
  ![v3984.toNat, 0, 2]
def k0_off833 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3986 : Index := Scalar.indexCast v3883
  let c0_2155 : Index := 0#32
  let c3_2156 : Index := 3#32
  ![v3986.toNat, 0, 3]
def k0_off834 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v3999 : Index := Scalar.indexCast v3883
  let c1_2157 : Index := 1#32
  let c0_2158 : Index := 0#32
  ![v3999.toNat, 1, 0]
def k0_off835 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4001 : Index := Scalar.indexCast v3883
  let c1_2159 : Index := 1#32
  let c1_2160 : Index := 1#32
  ![v4001.toNat, 1, 1]
def k0_off836 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4003 : Index := Scalar.indexCast v3883
  let c1_2161 : Index := 1#32
  let c2_2162 : Index := 2#32
  ![v4003.toNat, 1, 2]
def k0_off837 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4005 : Index := Scalar.indexCast v3883
  let c1_2163 : Index := 1#32
  let c3_2164 : Index := 3#32
  ![v4005.toNat, 1, 3]
def k0_off838 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4018 : Index := Scalar.indexCast v3883
  let c2_2165 : Index := 2#32
  let c0_2166 : Index := 0#32
  ![v4018.toNat, 2, 0]
def k0_off839 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4020 : Index := Scalar.indexCast v3883
  let c2_2167 : Index := 2#32
  let c1_2168 : Index := 1#32
  ![v4020.toNat, 2, 1]
def k0_off840 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4022 : Index := Scalar.indexCast v3883
  let c2_2169 : Index := 2#32
  let c2_2170 : Index := 2#32
  ![v4022.toNat, 2, 2]
def k0_off841 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4024 : Index := Scalar.indexCast v3883
  let c2_2171 : Index := 2#32
  let c3_2172 : Index := 3#32
  ![v4024.toNat, 2, 3]
def k0_off842 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4037 : Index := Scalar.indexCast v3883
  let c3_2173 : Index := 3#32
  let c0_2174 : Index := 0#32
  ![v4037.toNat, 3, 0]
def k0_off843 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4039 : Index := Scalar.indexCast v3883
  let c3_2175 : Index := 3#32
  let c1_2176 : Index := 1#32
  ![v4039.toNat, 3, 1]
def k0_off844 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4041 : Index := Scalar.indexCast v3883
  let c3_2177 : Index := 3#32
  let c2_2178 : Index := 2#32
  ![v4041.toNat, 3, 2]
def k0_off845 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4043 : Index := Scalar.indexCast v3883
  let c3_2179 : Index := 3#32
  let c3_2180 : Index := 3#32
  ![v4043.toNat, 3, 3]
def k0_off846 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4056 : Index := Scalar.indexCast v3883
  let c4_2181 : Index := 4#32
  let c0_2182 : Index := 0#32
  ![v4056.toNat, 4, 0]
def k0_off847 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4058 : Index := Scalar.indexCast v3883
  let c4_2183 : Index := 4#32
  let c1_2184 : Index := 1#32
  ![v4058.toNat, 4, 1]
def k0_off848 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4060 : Index := Scalar.indexCast v3883
  let c4_2185 : Index := 4#32
  let c2_2186 : Index := 2#32
  ![v4060.toNat, 4, 2]
def k0_off849 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4062 : Index := Scalar.indexCast v3883
  let c4_2187 : Index := 4#32
  let c3_2188 : Index := 3#32
  ![v4062.toNat, 4, 3]
def k0_off850 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4075 : Index := Scalar.indexCast v3883
  let c5_2189 : Index := 5#32
  let c0_2190 : Index := 0#32
  ![v4075.toNat, 5, 0]
def k0_off851 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4077 : Index := Scalar.indexCast v3883
  let c5_2191 : Index := 5#32
  let c1_2192 : Index := 1#32
  ![v4077.toNat, 5, 1]
def k0_off852 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4079 : Index := Scalar.indexCast v3883
  let c5_2193 : Index := 5#32
  let c2_2194 : Index := 2#32
  ![v4079.toNat, 5, 2]
def k0_off853 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4081 : Index := Scalar.indexCast v3883
  let c5_2195 : Index := 5#32
  let c3_2196 : Index := 3#32
  ![v4081.toNat, 5, 3]
def k0_off854 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4094 : Index := Scalar.indexCast v3883
  let c6_2197 : Index := 6#32
  let c0_2198 : Index := 0#32
  ![v4094.toNat, 6, 0]
def k0_off855 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4096 : Index := Scalar.indexCast v3883
  let c6_2199 : Index := 6#32
  let c1_2200 : Index := 1#32
  ![v4096.toNat, 6, 1]
def k0_off856 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4098 : Index := Scalar.indexCast v3883
  let c6_2201 : Index := 6#32
  let c2_2202 : Index := 2#32
  ![v4098.toNat, 6, 2]
def k0_off857 (k0_t1 : Fin k0_t1_loop.trips) : Fin 3 → Nat :=
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4100 : Index := Scalar.indexCast v3883
  let c6_2203 : Index := 6#32
  let c3_2204 : Index := 3#32
  ![v4100.toNat, 6, 3]
def k0_off858 (k0_t1 : Fin k0_t1_loop.trips) : Fin 4 → Nat :=
  let c0_2205 : Index := 0#32
  let c16_i32_2083 : BitVec 32 := 16#32
  let c0_i32_459 : BitVec 32 := 0#32
  let c1_i32_461 : BitVec 32 := 1#32
  let arg7 : BitVec 32 := Scf.iv c0_i32_459 c1_i32_461 k0_t1
  let v3882 : BitVec 32 := Scalar.muli c16_i32_2083 arg7
  let c13_i32_2084 : BitVec 32 := 13#32
  let v3883 : BitVec 32 := Scalar.addi v3882 c13_i32_2084
  let v4114 : Index := Scalar.indexCast v3883
  let c0_2206 : Index := 0#32
  let c0_2207 : Index := 0#32
  ![0, v4114.toNat, 0, 0]
def k0_off859 (k0_t1 : Fin k0_t1_loop.trips) : Fin 3 → Nat :=
  let c0_2210 : Index := 0#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4120 : Index := Scalar.indexCast v4119
  let c0_2211 : Index := 0#32
  ![0, v4120.toNat, 0]
def k0_off860 (k0_t1 : Fin k0_t1_loop.trips) : Fin 3 → Nat :=
  let c1_2212 : Index := 1#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4122 : Index := Scalar.indexCast v4119
  let c0_2213 : Index := 0#32
  ![1, v4122.toNat, 0]
def k0_off861 (k0_t1 : Fin k0_t1_loop.trips) : Fin 3 → Nat :=
  let c2_2214 : Index := 2#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4124 : Index := Scalar.indexCast v4119
  let c0_2215 : Index := 0#32
  ![2, v4124.toNat, 0]
def k0_off862 (v4121 : BitVec 32) (v4123 : BitVec 32) (v4125 : BitVec 32) : Fin 4 → Nat :=
  let v4127 : Index := Scalar.indexCast v4125
  let v4128 : Index := Scalar.indexCast v4121
  let c7_i32_2216 : BitVec 32 := 7#32
  let v4126 : BitVec 32 := Scalar.addi v4123 c7_i32_2216
  let v4129 : Index := Scalar.indexCast v4126
  let c0_2217 : Index := 0#32
  ![v4127.toNat, v4128.toNat, v4129.toNat, 0]

def k0_chk113 (i : grid0.Coords) (v4121 : BitVec 32) (v4123 : BitVec 32) (v4125 : BitVec 32) : Prop :=
  (∀ (k0_h2 : k0_cond2 i = 1#1), ∀ a, S1x1x112x128.size a = 0 ∨ (k0_off862 v4121 v4123 v4125) a + (![1, 1, 2, 1] : Fin 4 → Nat) a * (S1x1x112x128.size a - 1) < S3x96x232x128.size a)
theorem k0_off862_inb : ∀ (i : grid0.Coords) (v4121 : BitVec 32) (v4123 : BitVec 32) (v4125 : BitVec 32) (k0_hw113 : k0_chk113 i v4121 v4123 v4125), ∀ (k0_h2 : k0_cond2 i = 1#1), ∀ a, S1x1x112x128.size a = 0 ∨ (k0_off862 v4121 v4123 v4125) a + (![1, 1, 2, 1] : Fin 4 → Nat) a * (S1x1x112x128.size a - 1) < S3x96x232x128.size a := fun i v4121 v4123 v4125 k0_hw113 k0_h2 => k0_hw113 k0_h2

def k0_off863 (k0_t1 : Fin k0_t1_loop.trips) : Fin 3 → Nat :=
  let c0_2218 : Index := 0#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4132 : Index := Scalar.indexCast v4119
  let c1_2219 : Index := 1#32
  ![0, v4132.toNat, 1]
def k0_off864 (k0_t1 : Fin k0_t1_loop.trips) : Fin 3 → Nat :=
  let c1_2220 : Index := 1#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4134 : Index := Scalar.indexCast v4119
  let c1_2221 : Index := 1#32
  ![1, v4134.toNat, 1]
def k0_off865 (k0_t1 : Fin k0_t1_loop.trips) : Fin 3 → Nat :=
  let c2_2222 : Index := 2#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4136 : Index := Scalar.indexCast v4119
  let c1_2223 : Index := 1#32
  ![2, v4136.toNat, 1]
def k0_off866 (v4133 : BitVec 32) (v4135 : BitVec 32) (v4137 : BitVec 32) : Fin 4 → Nat :=
  let v4139 : Index := Scalar.indexCast v4137
  let v4140 : Index := Scalar.indexCast v4133
  let c7_i32_2224 : BitVec 32 := 7#32
  let v4138 : BitVec 32 := Scalar.addi v4135 c7_i32_2224
  let v4141 : Index := Scalar.indexCast v4138
  let c0_2225 : Index := 0#32
  ![v4139.toNat, v4140.toNat, v4141.toNat, 0]

def k0_chk114 (i : grid0.Coords) (v4133 : BitVec 32) (v4135 : BitVec 32) (v4137 : BitVec 32) : Prop :=
  (∀ (k0_h2 : k0_cond2 i = 1#1), ∀ a, S1x1x112x128.size a = 0 ∨ (k0_off866 v4133 v4135 v4137) a + (![1, 1, 2, 1] : Fin 4 → Nat) a * (S1x1x112x128.size a - 1) < S3x96x232x128.size a)
theorem k0_off866_inb : ∀ (i : grid0.Coords) (v4133 : BitVec 32) (v4135 : BitVec 32) (v4137 : BitVec 32) (k0_hw114 : k0_chk114 i v4133 v4135 v4137), ∀ (k0_h2 : k0_cond2 i = 1#1), ∀ a, S1x1x112x128.size a = 0 ∨ (k0_off866 v4133 v4135 v4137) a + (![1, 1, 2, 1] : Fin 4 → Nat) a * (S1x1x112x128.size a - 1) < S3x96x232x128.size a := fun i v4133 v4135 v4137 k0_hw114 k0_h2 => k0_hw114 k0_h2

def k0_off867 (k0_t1 : Fin k0_t1_loop.trips) : Fin 3 → Nat :=
  let c0_2226 : Index := 0#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4144 : Index := Scalar.indexCast v4119
  let c2_2227 : Index := 2#32
  ![0, v4144.toNat, 2]
def k0_off868 (k0_t1 : Fin k0_t1_loop.trips) : Fin 3 → Nat :=
  let c1_2228 : Index := 1#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4146 : Index := Scalar.indexCast v4119
  let c2_2229 : Index := 2#32
  ![1, v4146.toNat, 2]
def k0_off869 (k0_t1 : Fin k0_t1_loop.trips) : Fin 3 → Nat :=
  let c2_2230 : Index := 2#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4148 : Index := Scalar.indexCast v4119
  let c2_2231 : Index := 2#32
  ![2, v4148.toNat, 2]
def k0_off870 (v4145 : BitVec 32) (v4147 : BitVec 32) (v4149 : BitVec 32) : Fin 4 → Nat :=
  let v4151 : Index := Scalar.indexCast v4149
  let v4152 : Index := Scalar.indexCast v4145
  let c7_i32_2232 : BitVec 32 := 7#32
  let v4150 : BitVec 32 := Scalar.addi v4147 c7_i32_2232
  let v4153 : Index := Scalar.indexCast v4150
  let c0_2233 : Index := 0#32
  ![v4151.toNat, v4152.toNat, v4153.toNat, 0]

def k0_chk115 (i : grid0.Coords) (v4145 : BitVec 32) (v4147 : BitVec 32) (v4149 : BitVec 32) : Prop :=
  (∀ (k0_h2 : k0_cond2 i = 1#1), ∀ a, S1x1x112x128.size a = 0 ∨ (k0_off870 v4145 v4147 v4149) a + (![1, 1, 2, 1] : Fin 4 → Nat) a * (S1x1x112x128.size a - 1) < S3x96x232x128.size a)
theorem k0_off870_inb : ∀ (i : grid0.Coords) (v4145 : BitVec 32) (v4147 : BitVec 32) (v4149 : BitVec 32) (k0_hw115 : k0_chk115 i v4145 v4147 v4149), ∀ (k0_h2 : k0_cond2 i = 1#1), ∀ a, S1x1x112x128.size a = 0 ∨ (k0_off870 v4145 v4147 v4149) a + (![1, 1, 2, 1] : Fin 4 → Nat) a * (S1x1x112x128.size a - 1) < S3x96x232x128.size a := fun i v4145 v4147 v4149 k0_hw115 k0_h2 => k0_hw115 k0_h2

def k0_off871 (k0_t1 : Fin k0_t1_loop.trips) : Fin 3 → Nat :=
  let c0_2234 : Index := 0#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4156 : Index := Scalar.indexCast v4119
  let c3_2235 : Index := 3#32
  ![0, v4156.toNat, 3]
def k0_off872 (k0_t1 : Fin k0_t1_loop.trips) : Fin 3 → Nat :=
  let c1_2236 : Index := 1#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4158 : Index := Scalar.indexCast v4119
  let c3_2237 : Index := 3#32
  ![1, v4158.toNat, 3]
def k0_off873 (k0_t1 : Fin k0_t1_loop.trips) : Fin 3 → Nat :=
  let c2_2238 : Index := 2#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4160 : Index := Scalar.indexCast v4119
  let c3_2239 : Index := 3#32
  ![2, v4160.toNat, 3]
def k0_off874 (v4157 : BitVec 32) (v4159 : BitVec 32) (v4161 : BitVec 32) : Fin 4 → Nat :=
  let v4163 : Index := Scalar.indexCast v4161
  let v4164 : Index := Scalar.indexCast v4157
  let c7_i32_2240 : BitVec 32 := 7#32
  let v4162 : BitVec 32 := Scalar.addi v4159 c7_i32_2240
  let v4165 : Index := Scalar.indexCast v4162
  let c0_2241 : Index := 0#32
  ![v4163.toNat, v4164.toNat, v4165.toNat, 0]

def k0_chk116 (i : grid0.Coords) (v4157 : BitVec 32) (v4159 : BitVec 32) (v4161 : BitVec 32) : Prop :=
  (∀ (k0_h2 : k0_cond2 i = 1#1), ∀ a, S1x1x112x128.size a = 0 ∨ (k0_off874 v4157 v4159 v4161) a + (![1, 1, 2, 1] : Fin 4 → Nat) a * (S1x1x112x128.size a - 1) < S3x96x232x128.size a)
theorem k0_off874_inb : ∀ (i : grid0.Coords) (v4157 : BitVec 32) (v4159 : BitVec 32) (v4161 : BitVec 32) (k0_hw116 : k0_chk116 i v4157 v4159 v4161), ∀ (k0_h2 : k0_cond2 i = 1#1), ∀ a, S1x1x112x128.size a = 0 ∨ (k0_off874 v4157 v4159 v4161) a + (![1, 1, 2, 1] : Fin 4 → Nat) a * (S1x1x112x128.size a - 1) < S3x96x232x128.size a := fun i v4157 v4159 v4161 k0_hw116 k0_h2 => k0_hw116 k0_h2

def k0_off875 (k0_t1 : Fin k0_t1_loop.trips) : Fin 3 → Nat :=
  let c0_2242 : Index := 0#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4168 : Index := Scalar.indexCast v4119
  let c4_2243 : Index := 4#32
  ![0, v4168.toNat, 4]
def k0_off876 (k0_t1 : Fin k0_t1_loop.trips) : Fin 3 → Nat :=
  let c1_2244 : Index := 1#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4170 : Index := Scalar.indexCast v4119
  let c4_2245 : Index := 4#32
  ![1, v4170.toNat, 4]
def k0_off877 (k0_t1 : Fin k0_t1_loop.trips) : Fin 3 → Nat :=
  let c2_2246 : Index := 2#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4172 : Index := Scalar.indexCast v4119
  let c4_2247 : Index := 4#32
  ![2, v4172.toNat, 4]
def k0_off878 (v4169 : BitVec 32) (v4171 : BitVec 32) (v4173 : BitVec 32) : Fin 4 → Nat :=
  let v4175 : Index := Scalar.indexCast v4173
  let v4176 : Index := Scalar.indexCast v4169
  let c7_i32_2248 : BitVec 32 := 7#32
  let v4174 : BitVec 32 := Scalar.addi v4171 c7_i32_2248
  let v4177 : Index := Scalar.indexCast v4174
  let c0_2249 : Index := 0#32
  ![v4175.toNat, v4176.toNat, v4177.toNat, 0]

def k0_chk117 (i : grid0.Coords) (v4169 : BitVec 32) (v4171 : BitVec 32) (v4173 : BitVec 32) : Prop :=
  (∀ (k0_h2 : k0_cond2 i = 1#1), ∀ a, S1x1x112x128.size a = 0 ∨ (k0_off878 v4169 v4171 v4173) a + (![1, 1, 2, 1] : Fin 4 → Nat) a * (S1x1x112x128.size a - 1) < S3x96x232x128.size a)
theorem k0_off878_inb : ∀ (i : grid0.Coords) (v4169 : BitVec 32) (v4171 : BitVec 32) (v4173 : BitVec 32) (k0_hw117 : k0_chk117 i v4169 v4171 v4173), ∀ (k0_h2 : k0_cond2 i = 1#1), ∀ a, S1x1x112x128.size a = 0 ∨ (k0_off878 v4169 v4171 v4173) a + (![1, 1, 2, 1] : Fin 4 → Nat) a * (S1x1x112x128.size a - 1) < S3x96x232x128.size a := fun i v4169 v4171 v4173 k0_hw117 k0_h2 => k0_hw117 k0_h2

def k0_off879 (k0_t1 : Fin k0_t1_loop.trips) : Fin 3 → Nat :=
  let c0_2250 : Index := 0#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4180 : Index := Scalar.indexCast v4119
  let c5_2251 : Index := 5#32
  ![0, v4180.toNat, 5]
def k0_off880 (k0_t1 : Fin k0_t1_loop.trips) : Fin 3 → Nat :=
  let c1_2252 : Index := 1#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4182 : Index := Scalar.indexCast v4119
  let c5_2253 : Index := 5#32
  ![1, v4182.toNat, 5]
def k0_off881 (k0_t1 : Fin k0_t1_loop.trips) : Fin 3 → Nat :=
  let c2_2254 : Index := 2#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4184 : Index := Scalar.indexCast v4119
  let c5_2255 : Index := 5#32
  ![2, v4184.toNat, 5]
def k0_off882 (v4181 : BitVec 32) (v4183 : BitVec 32) (v4185 : BitVec 32) : Fin 4 → Nat :=
  let v4187 : Index := Scalar.indexCast v4185
  let v4188 : Index := Scalar.indexCast v4181
  let c7_i32_2256 : BitVec 32 := 7#32
  let v4186 : BitVec 32 := Scalar.addi v4183 c7_i32_2256
  let v4189 : Index := Scalar.indexCast v4186
  let c0_2257 : Index := 0#32
  ![v4187.toNat, v4188.toNat, v4189.toNat, 0]

def k0_chk118 (i : grid0.Coords) (v4181 : BitVec 32) (v4183 : BitVec 32) (v4185 : BitVec 32) : Prop :=
  (∀ (k0_h2 : k0_cond2 i = 1#1), ∀ a, S1x1x112x128.size a = 0 ∨ (k0_off882 v4181 v4183 v4185) a + (![1, 1, 2, 1] : Fin 4 → Nat) a * (S1x1x112x128.size a - 1) < S3x96x232x128.size a)
theorem k0_off882_inb : ∀ (i : grid0.Coords) (v4181 : BitVec 32) (v4183 : BitVec 32) (v4185 : BitVec 32) (k0_hw118 : k0_chk118 i v4181 v4183 v4185), ∀ (k0_h2 : k0_cond2 i = 1#1), ∀ a, S1x1x112x128.size a = 0 ∨ (k0_off882 v4181 v4183 v4185) a + (![1, 1, 2, 1] : Fin 4 → Nat) a * (S1x1x112x128.size a - 1) < S3x96x232x128.size a := fun i v4181 v4183 v4185 k0_hw118 k0_h2 => k0_hw118 k0_h2

def k0_off883 (k0_t1 : Fin k0_t1_loop.trips) : Fin 3 → Nat :=
  let c0_2258 : Index := 0#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4192 : Index := Scalar.indexCast v4119
  let c6_2259 : Index := 6#32
  ![0, v4192.toNat, 6]
def k0_off884 (k0_t1 : Fin k0_t1_loop.trips) : Fin 3 → Nat :=
  let c1_2260 : Index := 1#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4194 : Index := Scalar.indexCast v4119
  let c6_2261 : Index := 6#32
  ![1, v4194.toNat, 6]
def k0_off885 (k0_t1 : Fin k0_t1_loop.trips) : Fin 3 → Nat :=
  let c2_2262 : Index := 2#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4196 : Index := Scalar.indexCast v4119
  let c6_2263 : Index := 6#32
  ![2, v4196.toNat, 6]
def k0_off886 (v4193 : BitVec 32) (v4195 : BitVec 32) (v4197 : BitVec 32) : Fin 4 → Nat :=
  let v4199 : Index := Scalar.indexCast v4197
  let v4200 : Index := Scalar.indexCast v4193
  let c7_i32_2264 : BitVec 32 := 7#32
  let v4198 : BitVec 32 := Scalar.addi v4195 c7_i32_2264
  let v4201 : Index := Scalar.indexCast v4198
  let c0_2265 : Index := 0#32
  ![v4199.toNat, v4200.toNat, v4201.toNat, 0]

def k0_chk119 (i : grid0.Coords) (v4193 : BitVec 32) (v4195 : BitVec 32) (v4197 : BitVec 32) : Prop :=
  (∀ (k0_h2 : k0_cond2 i = 1#1), ∀ a, S1x1x112x128.size a = 0 ∨ (k0_off886 v4193 v4195 v4197) a + (![1, 1, 2, 1] : Fin 4 → Nat) a * (S1x1x112x128.size a - 1) < S3x96x232x128.size a)
theorem k0_off886_inb : ∀ (i : grid0.Coords) (v4193 : BitVec 32) (v4195 : BitVec 32) (v4197 : BitVec 32) (k0_hw119 : k0_chk119 i v4193 v4195 v4197), ∀ (k0_h2 : k0_cond2 i = 1#1), ∀ a, S1x1x112x128.size a = 0 ∨ (k0_off886 v4193 v4195 v4197) a + (![1, 1, 2, 1] : Fin 4 → Nat) a * (S1x1x112x128.size a - 1) < S3x96x232x128.size a := fun i v4193 v4195 v4197 k0_hw119 k0_h2 => k0_hw119 k0_h2

def k0_off887 (k0_t1 : Fin k0_t1_loop.trips) : Fin 3 → Nat :=
  let c0_2266 : Index := 0#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4204 : Index := Scalar.indexCast v4119
  let c7_2267 : Index := 7#32
  ![0, v4204.toNat, 7]
def k0_off888 (k0_t1 : Fin k0_t1_loop.trips) : Fin 3 → Nat :=
  let c1_2268 : Index := 1#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4206 : Index := Scalar.indexCast v4119
  let c7_2269 : Index := 7#32
  ![1, v4206.toNat, 7]
def k0_off889 (k0_t1 : Fin k0_t1_loop.trips) : Fin 3 → Nat :=
  let c2_2270 : Index := 2#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4208 : Index := Scalar.indexCast v4119
  let c7_2271 : Index := 7#32
  ![2, v4208.toNat, 7]
def k0_off890 (v4205 : BitVec 32) (v4207 : BitVec 32) (v4209 : BitVec 32) : Fin 4 → Nat :=
  let v4211 : Index := Scalar.indexCast v4209
  let v4212 : Index := Scalar.indexCast v4205
  let c7_i32_2272 : BitVec 32 := 7#32
  let v4210 : BitVec 32 := Scalar.addi v4207 c7_i32_2272
  let v4213 : Index := Scalar.indexCast v4210
  let c0_2273 : Index := 0#32
  ![v4211.toNat, v4212.toNat, v4213.toNat, 0]

def k0_chk120 (i : grid0.Coords) (v4205 : BitVec 32) (v4207 : BitVec 32) (v4209 : BitVec 32) : Prop :=
  (∀ (k0_h2 : k0_cond2 i = 1#1), ∀ a, S1x1x112x128.size a = 0 ∨ (k0_off890 v4205 v4207 v4209) a + (![1, 1, 2, 1] : Fin 4 → Nat) a * (S1x1x112x128.size a - 1) < S3x96x232x128.size a)
theorem k0_off890_inb : ∀ (i : grid0.Coords) (v4205 : BitVec 32) (v4207 : BitVec 32) (v4209 : BitVec 32) (k0_hw120 : k0_chk120 i v4205 v4207 v4209), ∀ (k0_h2 : k0_cond2 i = 1#1), ∀ a, S1x1x112x128.size a = 0 ∨ (k0_off890 v4205 v4207 v4209) a + (![1, 1, 2, 1] : Fin 4 → Nat) a * (S1x1x112x128.size a - 1) < S3x96x232x128.size a := fun i v4205 v4207 v4209 k0_hw120 k0_h2 => k0_hw120 k0_h2

def k0_off891 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4216 : Index := Scalar.indexCast v4119
  let c0_2274 : Index := 0#32
  let c0_2275 : Index := 0#32
  ![v4216.toNat, 0, 0]
def k0_off892 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4218 : Index := Scalar.indexCast v4119
  let c0_2276 : Index := 0#32
  let c1_2277 : Index := 1#32
  ![v4218.toNat, 0, 1]
def k0_off893 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4220 : Index := Scalar.indexCast v4119
  let c0_2278 : Index := 0#32
  let c2_2279 : Index := 2#32
  ![v4220.toNat, 0, 2]
def k0_off894 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4222 : Index := Scalar.indexCast v4119
  let c0_2280 : Index := 0#32
  let c3_2281 : Index := 3#32
  ![v4222.toNat, 0, 3]
def k0_off895 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4235 : Index := Scalar.indexCast v4119
  let c1_2282 : Index := 1#32
  let c0_2283 : Index := 0#32
  ![v4235.toNat, 1, 0]
def k0_off896 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4237 : Index := Scalar.indexCast v4119
  let c1_2284 : Index := 1#32
  let c1_2285 : Index := 1#32
  ![v4237.toNat, 1, 1]
def k0_off897 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4239 : Index := Scalar.indexCast v4119
  let c1_2286 : Index := 1#32
  let c2_2287 : Index := 2#32
  ![v4239.toNat, 1, 2]
def k0_off898 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4241 : Index := Scalar.indexCast v4119
  let c1_2288 : Index := 1#32
  let c3_2289 : Index := 3#32
  ![v4241.toNat, 1, 3]
def k0_off899 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4254 : Index := Scalar.indexCast v4119
  let c2_2290 : Index := 2#32
  let c0_2291 : Index := 0#32
  ![v4254.toNat, 2, 0]
def k0_off900 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4256 : Index := Scalar.indexCast v4119
  let c2_2292 : Index := 2#32
  let c1_2293 : Index := 1#32
  ![v4256.toNat, 2, 1]
def k0_off901 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4258 : Index := Scalar.indexCast v4119
  let c2_2294 : Index := 2#32
  let c2_2295 : Index := 2#32
  ![v4258.toNat, 2, 2]
def k0_off902 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4260 : Index := Scalar.indexCast v4119
  let c2_2296 : Index := 2#32
  let c3_2297 : Index := 3#32
  ![v4260.toNat, 2, 3]
def k0_off903 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4273 : Index := Scalar.indexCast v4119
  let c3_2298 : Index := 3#32
  let c0_2299 : Index := 0#32
  ![v4273.toNat, 3, 0]
def k0_off904 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4275 : Index := Scalar.indexCast v4119
  let c3_2300 : Index := 3#32
  let c1_2301 : Index := 1#32
  ![v4275.toNat, 3, 1]
def k0_off905 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4277 : Index := Scalar.indexCast v4119
  let c3_2302 : Index := 3#32
  let c2_2303 : Index := 2#32
  ![v4277.toNat, 3, 2]
def k0_off906 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4279 : Index := Scalar.indexCast v4119
  let c3_2304 : Index := 3#32
  let c3_2305 : Index := 3#32
  ![v4279.toNat, 3, 3]
def k0_off907 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4292 : Index := Scalar.indexCast v4119
  let c4_2306 : Index := 4#32
  let c0_2307 : Index := 0#32
  ![v4292.toNat, 4, 0]
def k0_off908 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4294 : Index := Scalar.indexCast v4119
  let c4_2308 : Index := 4#32
  let c1_2309 : Index := 1#32
  ![v4294.toNat, 4, 1]
def k0_off909 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4296 : Index := Scalar.indexCast v4119
  let c4_2310 : Index := 4#32
  let c2_2311 : Index := 2#32
  ![v4296.toNat, 4, 2]
def k0_off910 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4298 : Index := Scalar.indexCast v4119
  let c4_2312 : Index := 4#32
  let c3_2313 : Index := 3#32
  ![v4298.toNat, 4, 3]
def k0_off911 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4311 : Index := Scalar.indexCast v4119
  let c5_2314 : Index := 5#32
  let c0_2315 : Index := 0#32
  ![v4311.toNat, 5, 0]
def k0_off912 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4313 : Index := Scalar.indexCast v4119
  let c5_2316 : Index := 5#32
  let c1_2317 : Index := 1#32
  ![v4313.toNat, 5, 1]
def k0_off913 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4315 : Index := Scalar.indexCast v4119
  let c5_2318 : Index := 5#32
  let c2_2319 : Index := 2#32
  ![v4315.toNat, 5, 2]
def k0_off914 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4317 : Index := Scalar.indexCast v4119
  let c5_2320 : Index := 5#32
  let c3_2321 : Index := 3#32
  ![v4317.toNat, 5, 3]
def k0_off915 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4330 : Index := Scalar.indexCast v4119
  let c6_2322 : Index := 6#32
  let c0_2323 : Index := 0#32
  ![v4330.toNat, 6, 0]
def k0_off916 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4332 : Index := Scalar.indexCast v4119
  let c6_2324 : Index := 6#32
  let c1_2325 : Index := 1#32
  ![v4332.toNat, 6, 1]
def k0_off917 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4334 : Index := Scalar.indexCast v4119
  let c6_2326 : Index := 6#32
  let c2_2327 : Index := 2#32
  ![v4334.toNat, 6, 2]
def k0_off918 (k0_t1 : Fin k0_t1_loop.trips) : Fin 3 → Nat :=
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4336 : Index := Scalar.indexCast v4119
  let c6_2328 : Index := 6#32
  let c3_2329 : Index := 3#32
  ![v4336.toNat, 6, 3]
def k0_off919 (k0_t1 : Fin k0_t1_loop.trips) : Fin 4 → Nat :=
  let c0_2330 : Index := 0#32
  let c16_i32_2208 : BitVec 32 := 16#32
  let c0_i32_459 : BitVec 32 := 0#32
  let c1_i32_461 : BitVec 32 := 1#32
  let arg7 : BitVec 32 := Scf.iv c0_i32_459 c1_i32_461 k0_t1
  let v4118 : BitVec 32 := Scalar.muli c16_i32_2208 arg7
  let c14_i32_2209 : BitVec 32 := 14#32
  let v4119 : BitVec 32 := Scalar.addi v4118 c14_i32_2209
  let v4350 : Index := Scalar.indexCast v4119
  let c0_2331 : Index := 0#32
  let c0_2332 : Index := 0#32
  ![0, v4350.toNat, 0, 0]
def k0_off920 (k0_t1 : Fin k0_t1_loop.trips) : Fin 3 → Nat :=
  let c0_2335 : Index := 0#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4356 : Index := Scalar.indexCast v4355
  let c0_2336 : Index := 0#32
  ![0, v4356.toNat, 0]
def k0_off921 (k0_t1 : Fin k0_t1_loop.trips) : Fin 3 → Nat :=
  let c1_2337 : Index := 1#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4358 : Index := Scalar.indexCast v4355
  let c0_2338 : Index := 0#32
  ![1, v4358.toNat, 0]
def k0_off922 (k0_t1 : Fin k0_t1_loop.trips) : Fin 3 → Nat :=
  let c2_2339 : Index := 2#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4360 : Index := Scalar.indexCast v4355
  let c0_2340 : Index := 0#32
  ![2, v4360.toNat, 0]
def k0_off923 (v4357 : BitVec 32) (v4359 : BitVec 32) (v4361 : BitVec 32) : Fin 4 → Nat :=
  let v4363 : Index := Scalar.indexCast v4361
  let v4364 : Index := Scalar.indexCast v4357
  let c7_i32_2341 : BitVec 32 := 7#32
  let v4362 : BitVec 32 := Scalar.addi v4359 c7_i32_2341
  let v4365 : Index := Scalar.indexCast v4362
  let c0_2342 : Index := 0#32
  ![v4363.toNat, v4364.toNat, v4365.toNat, 0]

def k0_chk121 (i : grid0.Coords) (v4357 : BitVec 32) (v4359 : BitVec 32) (v4361 : BitVec 32) : Prop :=
  (∀ (k0_h2 : k0_cond2 i = 1#1), ∀ a, S1x1x112x128.size a = 0 ∨ (k0_off923 v4357 v4359 v4361) a + (![1, 1, 2, 1] : Fin 4 → Nat) a * (S1x1x112x128.size a - 1) < S3x96x232x128.size a)
theorem k0_off923_inb : ∀ (i : grid0.Coords) (v4357 : BitVec 32) (v4359 : BitVec 32) (v4361 : BitVec 32) (k0_hw121 : k0_chk121 i v4357 v4359 v4361), ∀ (k0_h2 : k0_cond2 i = 1#1), ∀ a, S1x1x112x128.size a = 0 ∨ (k0_off923 v4357 v4359 v4361) a + (![1, 1, 2, 1] : Fin 4 → Nat) a * (S1x1x112x128.size a - 1) < S3x96x232x128.size a := fun i v4357 v4359 v4361 k0_hw121 k0_h2 => k0_hw121 k0_h2

def k0_off924 (k0_t1 : Fin k0_t1_loop.trips) : Fin 3 → Nat :=
  let c0_2343 : Index := 0#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4368 : Index := Scalar.indexCast v4355
  let c1_2344 : Index := 1#32
  ![0, v4368.toNat, 1]
def k0_off925 (k0_t1 : Fin k0_t1_loop.trips) : Fin 3 → Nat :=
  let c1_2345 : Index := 1#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4370 : Index := Scalar.indexCast v4355
  let c1_2346 : Index := 1#32
  ![1, v4370.toNat, 1]
def k0_off926 (k0_t1 : Fin k0_t1_loop.trips) : Fin 3 → Nat :=
  let c2_2347 : Index := 2#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4372 : Index := Scalar.indexCast v4355
  let c1_2348 : Index := 1#32
  ![2, v4372.toNat, 1]
def k0_off927 (v4369 : BitVec 32) (v4371 : BitVec 32) (v4373 : BitVec 32) : Fin 4 → Nat :=
  let v4375 : Index := Scalar.indexCast v4373
  let v4376 : Index := Scalar.indexCast v4369
  let c7_i32_2349 : BitVec 32 := 7#32
  let v4374 : BitVec 32 := Scalar.addi v4371 c7_i32_2349
  let v4377 : Index := Scalar.indexCast v4374
  let c0_2350 : Index := 0#32
  ![v4375.toNat, v4376.toNat, v4377.toNat, 0]

def k0_chk122 (i : grid0.Coords) (v4369 : BitVec 32) (v4371 : BitVec 32) (v4373 : BitVec 32) : Prop :=
  (∀ (k0_h2 : k0_cond2 i = 1#1), ∀ a, S1x1x112x128.size a = 0 ∨ (k0_off927 v4369 v4371 v4373) a + (![1, 1, 2, 1] : Fin 4 → Nat) a * (S1x1x112x128.size a - 1) < S3x96x232x128.size a)
theorem k0_off927_inb : ∀ (i : grid0.Coords) (v4369 : BitVec 32) (v4371 : BitVec 32) (v4373 : BitVec 32) (k0_hw122 : k0_chk122 i v4369 v4371 v4373), ∀ (k0_h2 : k0_cond2 i = 1#1), ∀ a, S1x1x112x128.size a = 0 ∨ (k0_off927 v4369 v4371 v4373) a + (![1, 1, 2, 1] : Fin 4 → Nat) a * (S1x1x112x128.size a - 1) < S3x96x232x128.size a := fun i v4369 v4371 v4373 k0_hw122 k0_h2 => k0_hw122 k0_h2

def k0_off928 (k0_t1 : Fin k0_t1_loop.trips) : Fin 3 → Nat :=
  let c0_2351 : Index := 0#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4380 : Index := Scalar.indexCast v4355
  let c2_2352 : Index := 2#32
  ![0, v4380.toNat, 2]
def k0_off929 (k0_t1 : Fin k0_t1_loop.trips) : Fin 3 → Nat :=
  let c1_2353 : Index := 1#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4382 : Index := Scalar.indexCast v4355
  let c2_2354 : Index := 2#32
  ![1, v4382.toNat, 2]
def k0_off930 (k0_t1 : Fin k0_t1_loop.trips) : Fin 3 → Nat :=
  let c2_2355 : Index := 2#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4384 : Index := Scalar.indexCast v4355
  let c2_2356 : Index := 2#32
  ![2, v4384.toNat, 2]
def k0_off931 (v4381 : BitVec 32) (v4383 : BitVec 32) (v4385 : BitVec 32) : Fin 4 → Nat :=
  let v4387 : Index := Scalar.indexCast v4385
  let v4388 : Index := Scalar.indexCast v4381
  let c7_i32_2357 : BitVec 32 := 7#32
  let v4386 : BitVec 32 := Scalar.addi v4383 c7_i32_2357
  let v4389 : Index := Scalar.indexCast v4386
  let c0_2358 : Index := 0#32
  ![v4387.toNat, v4388.toNat, v4389.toNat, 0]

def k0_chk123 (i : grid0.Coords) (v4381 : BitVec 32) (v4383 : BitVec 32) (v4385 : BitVec 32) : Prop :=
  (∀ (k0_h2 : k0_cond2 i = 1#1), ∀ a, S1x1x112x128.size a = 0 ∨ (k0_off931 v4381 v4383 v4385) a + (![1, 1, 2, 1] : Fin 4 → Nat) a * (S1x1x112x128.size a - 1) < S3x96x232x128.size a)
theorem k0_off931_inb : ∀ (i : grid0.Coords) (v4381 : BitVec 32) (v4383 : BitVec 32) (v4385 : BitVec 32) (k0_hw123 : k0_chk123 i v4381 v4383 v4385), ∀ (k0_h2 : k0_cond2 i = 1#1), ∀ a, S1x1x112x128.size a = 0 ∨ (k0_off931 v4381 v4383 v4385) a + (![1, 1, 2, 1] : Fin 4 → Nat) a * (S1x1x112x128.size a - 1) < S3x96x232x128.size a := fun i v4381 v4383 v4385 k0_hw123 k0_h2 => k0_hw123 k0_h2

def k0_off932 (k0_t1 : Fin k0_t1_loop.trips) : Fin 3 → Nat :=
  let c0_2359 : Index := 0#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4392 : Index := Scalar.indexCast v4355
  let c3_2360 : Index := 3#32
  ![0, v4392.toNat, 3]
def k0_off933 (k0_t1 : Fin k0_t1_loop.trips) : Fin 3 → Nat :=
  let c1_2361 : Index := 1#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4394 : Index := Scalar.indexCast v4355
  let c3_2362 : Index := 3#32
  ![1, v4394.toNat, 3]
def k0_off934 (k0_t1 : Fin k0_t1_loop.trips) : Fin 3 → Nat :=
  let c2_2363 : Index := 2#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4396 : Index := Scalar.indexCast v4355
  let c3_2364 : Index := 3#32
  ![2, v4396.toNat, 3]
def k0_off935 (v4393 : BitVec 32) (v4395 : BitVec 32) (v4397 : BitVec 32) : Fin 4 → Nat :=
  let v4399 : Index := Scalar.indexCast v4397
  let v4400 : Index := Scalar.indexCast v4393
  let c7_i32_2365 : BitVec 32 := 7#32
  let v4398 : BitVec 32 := Scalar.addi v4395 c7_i32_2365
  let v4401 : Index := Scalar.indexCast v4398
  let c0_2366 : Index := 0#32
  ![v4399.toNat, v4400.toNat, v4401.toNat, 0]

def k0_chk124 (i : grid0.Coords) (v4393 : BitVec 32) (v4395 : BitVec 32) (v4397 : BitVec 32) : Prop :=
  (∀ (k0_h2 : k0_cond2 i = 1#1), ∀ a, S1x1x112x128.size a = 0 ∨ (k0_off935 v4393 v4395 v4397) a + (![1, 1, 2, 1] : Fin 4 → Nat) a * (S1x1x112x128.size a - 1) < S3x96x232x128.size a)
theorem k0_off935_inb : ∀ (i : grid0.Coords) (v4393 : BitVec 32) (v4395 : BitVec 32) (v4397 : BitVec 32) (k0_hw124 : k0_chk124 i v4393 v4395 v4397), ∀ (k0_h2 : k0_cond2 i = 1#1), ∀ a, S1x1x112x128.size a = 0 ∨ (k0_off935 v4393 v4395 v4397) a + (![1, 1, 2, 1] : Fin 4 → Nat) a * (S1x1x112x128.size a - 1) < S3x96x232x128.size a := fun i v4393 v4395 v4397 k0_hw124 k0_h2 => k0_hw124 k0_h2

def k0_off936 (k0_t1 : Fin k0_t1_loop.trips) : Fin 3 → Nat :=
  let c0_2367 : Index := 0#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4404 : Index := Scalar.indexCast v4355
  let c4_2368 : Index := 4#32
  ![0, v4404.toNat, 4]
def k0_off937 (k0_t1 : Fin k0_t1_loop.trips) : Fin 3 → Nat :=
  let c1_2369 : Index := 1#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4406 : Index := Scalar.indexCast v4355
  let c4_2370 : Index := 4#32
  ![1, v4406.toNat, 4]
def k0_off938 (k0_t1 : Fin k0_t1_loop.trips) : Fin 3 → Nat :=
  let c2_2371 : Index := 2#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4408 : Index := Scalar.indexCast v4355
  let c4_2372 : Index := 4#32
  ![2, v4408.toNat, 4]
def k0_off939 (v4405 : BitVec 32) (v4407 : BitVec 32) (v4409 : BitVec 32) : Fin 4 → Nat :=
  let v4411 : Index := Scalar.indexCast v4409
  let v4412 : Index := Scalar.indexCast v4405
  let c7_i32_2373 : BitVec 32 := 7#32
  let v4410 : BitVec 32 := Scalar.addi v4407 c7_i32_2373
  let v4413 : Index := Scalar.indexCast v4410
  let c0_2374 : Index := 0#32
  ![v4411.toNat, v4412.toNat, v4413.toNat, 0]

def k0_chk125 (i : grid0.Coords) (v4405 : BitVec 32) (v4407 : BitVec 32) (v4409 : BitVec 32) : Prop :=
  (∀ (k0_h2 : k0_cond2 i = 1#1), ∀ a, S1x1x112x128.size a = 0 ∨ (k0_off939 v4405 v4407 v4409) a + (![1, 1, 2, 1] : Fin 4 → Nat) a * (S1x1x112x128.size a - 1) < S3x96x232x128.size a)
theorem k0_off939_inb : ∀ (i : grid0.Coords) (v4405 : BitVec 32) (v4407 : BitVec 32) (v4409 : BitVec 32) (k0_hw125 : k0_chk125 i v4405 v4407 v4409), ∀ (k0_h2 : k0_cond2 i = 1#1), ∀ a, S1x1x112x128.size a = 0 ∨ (k0_off939 v4405 v4407 v4409) a + (![1, 1, 2, 1] : Fin 4 → Nat) a * (S1x1x112x128.size a - 1) < S3x96x232x128.size a := fun i v4405 v4407 v4409 k0_hw125 k0_h2 => k0_hw125 k0_h2

def k0_off940 (k0_t1 : Fin k0_t1_loop.trips) : Fin 3 → Nat :=
  let c0_2375 : Index := 0#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4416 : Index := Scalar.indexCast v4355
  let c5_2376 : Index := 5#32
  ![0, v4416.toNat, 5]
def k0_off941 (k0_t1 : Fin k0_t1_loop.trips) : Fin 3 → Nat :=
  let c1_2377 : Index := 1#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4418 : Index := Scalar.indexCast v4355
  let c5_2378 : Index := 5#32
  ![1, v4418.toNat, 5]
def k0_off942 (k0_t1 : Fin k0_t1_loop.trips) : Fin 3 → Nat :=
  let c2_2379 : Index := 2#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4420 : Index := Scalar.indexCast v4355
  let c5_2380 : Index := 5#32
  ![2, v4420.toNat, 5]
def k0_off943 (v4417 : BitVec 32) (v4419 : BitVec 32) (v4421 : BitVec 32) : Fin 4 → Nat :=
  let v4423 : Index := Scalar.indexCast v4421
  let v4424 : Index := Scalar.indexCast v4417
  let c7_i32_2381 : BitVec 32 := 7#32
  let v4422 : BitVec 32 := Scalar.addi v4419 c7_i32_2381
  let v4425 : Index := Scalar.indexCast v4422
  let c0_2382 : Index := 0#32
  ![v4423.toNat, v4424.toNat, v4425.toNat, 0]

def k0_chk126 (i : grid0.Coords) (v4417 : BitVec 32) (v4419 : BitVec 32) (v4421 : BitVec 32) : Prop :=
  (∀ (k0_h2 : k0_cond2 i = 1#1), ∀ a, S1x1x112x128.size a = 0 ∨ (k0_off943 v4417 v4419 v4421) a + (![1, 1, 2, 1] : Fin 4 → Nat) a * (S1x1x112x128.size a - 1) < S3x96x232x128.size a)
theorem k0_off943_inb : ∀ (i : grid0.Coords) (v4417 : BitVec 32) (v4419 : BitVec 32) (v4421 : BitVec 32) (k0_hw126 : k0_chk126 i v4417 v4419 v4421), ∀ (k0_h2 : k0_cond2 i = 1#1), ∀ a, S1x1x112x128.size a = 0 ∨ (k0_off943 v4417 v4419 v4421) a + (![1, 1, 2, 1] : Fin 4 → Nat) a * (S1x1x112x128.size a - 1) < S3x96x232x128.size a := fun i v4417 v4419 v4421 k0_hw126 k0_h2 => k0_hw126 k0_h2

def k0_off944 (k0_t1 : Fin k0_t1_loop.trips) : Fin 3 → Nat :=
  let c0_2383 : Index := 0#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4428 : Index := Scalar.indexCast v4355
  let c6_2384 : Index := 6#32
  ![0, v4428.toNat, 6]
def k0_off945 (k0_t1 : Fin k0_t1_loop.trips) : Fin 3 → Nat :=
  let c1_2385 : Index := 1#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4430 : Index := Scalar.indexCast v4355
  let c6_2386 : Index := 6#32
  ![1, v4430.toNat, 6]
def k0_off946 (k0_t1 : Fin k0_t1_loop.trips) : Fin 3 → Nat :=
  let c2_2387 : Index := 2#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4432 : Index := Scalar.indexCast v4355
  let c6_2388 : Index := 6#32
  ![2, v4432.toNat, 6]
def k0_off947 (v4429 : BitVec 32) (v4431 : BitVec 32) (v4433 : BitVec 32) : Fin 4 → Nat :=
  let v4435 : Index := Scalar.indexCast v4433
  let v4436 : Index := Scalar.indexCast v4429
  let c7_i32_2389 : BitVec 32 := 7#32
  let v4434 : BitVec 32 := Scalar.addi v4431 c7_i32_2389
  let v4437 : Index := Scalar.indexCast v4434
  let c0_2390 : Index := 0#32
  ![v4435.toNat, v4436.toNat, v4437.toNat, 0]

def k0_chk127 (i : grid0.Coords) (v4429 : BitVec 32) (v4431 : BitVec 32) (v4433 : BitVec 32) : Prop :=
  (∀ (k0_h2 : k0_cond2 i = 1#1), ∀ a, S1x1x112x128.size a = 0 ∨ (k0_off947 v4429 v4431 v4433) a + (![1, 1, 2, 1] : Fin 4 → Nat) a * (S1x1x112x128.size a - 1) < S3x96x232x128.size a)
theorem k0_off947_inb : ∀ (i : grid0.Coords) (v4429 : BitVec 32) (v4431 : BitVec 32) (v4433 : BitVec 32) (k0_hw127 : k0_chk127 i v4429 v4431 v4433), ∀ (k0_h2 : k0_cond2 i = 1#1), ∀ a, S1x1x112x128.size a = 0 ∨ (k0_off947 v4429 v4431 v4433) a + (![1, 1, 2, 1] : Fin 4 → Nat) a * (S1x1x112x128.size a - 1) < S3x96x232x128.size a := fun i v4429 v4431 v4433 k0_hw127 k0_h2 => k0_hw127 k0_h2

def k0_off948 (k0_t1 : Fin k0_t1_loop.trips) : Fin 3 → Nat :=
  let c0_2391 : Index := 0#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4440 : Index := Scalar.indexCast v4355
  let c7_2392 : Index := 7#32
  ![0, v4440.toNat, 7]
def k0_off949 (k0_t1 : Fin k0_t1_loop.trips) : Fin 3 → Nat :=
  let c1_2393 : Index := 1#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4442 : Index := Scalar.indexCast v4355
  let c7_2394 : Index := 7#32
  ![1, v4442.toNat, 7]
def k0_off950 (k0_t1 : Fin k0_t1_loop.trips) : Fin 3 → Nat :=
  let c2_2395 : Index := 2#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4444 : Index := Scalar.indexCast v4355
  let c7_2396 : Index := 7#32
  ![2, v4444.toNat, 7]
def k0_off951 (v4441 : BitVec 32) (v4443 : BitVec 32) (v4445 : BitVec 32) : Fin 4 → Nat :=
  let v4447 : Index := Scalar.indexCast v4445
  let v4448 : Index := Scalar.indexCast v4441
  let c7_i32_2397 : BitVec 32 := 7#32
  let v4446 : BitVec 32 := Scalar.addi v4443 c7_i32_2397
  let v4449 : Index := Scalar.indexCast v4446
  let c0_2398 : Index := 0#32
  ![v4447.toNat, v4448.toNat, v4449.toNat, 0]

def k0_chk128 (i : grid0.Coords) (v4441 : BitVec 32) (v4443 : BitVec 32) (v4445 : BitVec 32) : Prop :=
  (∀ (k0_h2 : k0_cond2 i = 1#1), ∀ a, S1x1x112x128.size a = 0 ∨ (k0_off951 v4441 v4443 v4445) a + (![1, 1, 2, 1] : Fin 4 → Nat) a * (S1x1x112x128.size a - 1) < S3x96x232x128.size a)
theorem k0_off951_inb : ∀ (i : grid0.Coords) (v4441 : BitVec 32) (v4443 : BitVec 32) (v4445 : BitVec 32) (k0_hw128 : k0_chk128 i v4441 v4443 v4445), ∀ (k0_h2 : k0_cond2 i = 1#1), ∀ a, S1x1x112x128.size a = 0 ∨ (k0_off951 v4441 v4443 v4445) a + (![1, 1, 2, 1] : Fin 4 → Nat) a * (S1x1x112x128.size a - 1) < S3x96x232x128.size a := fun i v4441 v4443 v4445 k0_hw128 k0_h2 => k0_hw128 k0_h2

def k0_off952 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4452 : Index := Scalar.indexCast v4355
  let c0_2399 : Index := 0#32
  let c0_2400 : Index := 0#32
  ![v4452.toNat, 0, 0]
def k0_off953 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4454 : Index := Scalar.indexCast v4355
  let c0_2401 : Index := 0#32
  let c1_2402 : Index := 1#32
  ![v4454.toNat, 0, 1]
def k0_off954 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4456 : Index := Scalar.indexCast v4355
  let c0_2403 : Index := 0#32
  let c2_2404 : Index := 2#32
  ![v4456.toNat, 0, 2]
def k0_off955 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4458 : Index := Scalar.indexCast v4355
  let c0_2405 : Index := 0#32
  let c3_2406 : Index := 3#32
  ![v4458.toNat, 0, 3]
def k0_off956 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4471 : Index := Scalar.indexCast v4355
  let c1_2407 : Index := 1#32
  let c0_2408 : Index := 0#32
  ![v4471.toNat, 1, 0]
def k0_off957 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4473 : Index := Scalar.indexCast v4355
  let c1_2409 : Index := 1#32
  let c1_2410 : Index := 1#32
  ![v4473.toNat, 1, 1]
def k0_off958 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4475 : Index := Scalar.indexCast v4355
  let c1_2411 : Index := 1#32
  let c2_2412 : Index := 2#32
  ![v4475.toNat, 1, 2]
def k0_off959 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4477 : Index := Scalar.indexCast v4355
  let c1_2413 : Index := 1#32
  let c3_2414 : Index := 3#32
  ![v4477.toNat, 1, 3]
def k0_off960 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4490 : Index := Scalar.indexCast v4355
  let c2_2415 : Index := 2#32
  let c0_2416 : Index := 0#32
  ![v4490.toNat, 2, 0]
def k0_off961 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4492 : Index := Scalar.indexCast v4355
  let c2_2417 : Index := 2#32
  let c1_2418 : Index := 1#32
  ![v4492.toNat, 2, 1]
def k0_off962 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4494 : Index := Scalar.indexCast v4355
  let c2_2419 : Index := 2#32
  let c2_2420 : Index := 2#32
  ![v4494.toNat, 2, 2]
def k0_off963 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4496 : Index := Scalar.indexCast v4355
  let c2_2421 : Index := 2#32
  let c3_2422 : Index := 3#32
  ![v4496.toNat, 2, 3]
def k0_off964 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4509 : Index := Scalar.indexCast v4355
  let c3_2423 : Index := 3#32
  let c0_2424 : Index := 0#32
  ![v4509.toNat, 3, 0]
def k0_off965 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4511 : Index := Scalar.indexCast v4355
  let c3_2425 : Index := 3#32
  let c1_2426 : Index := 1#32
  ![v4511.toNat, 3, 1]
def k0_off966 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4513 : Index := Scalar.indexCast v4355
  let c3_2427 : Index := 3#32
  let c2_2428 : Index := 2#32
  ![v4513.toNat, 3, 2]
def k0_off967 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4515 : Index := Scalar.indexCast v4355
  let c3_2429 : Index := 3#32
  let c3_2430 : Index := 3#32
  ![v4515.toNat, 3, 3]
def k0_off968 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4528 : Index := Scalar.indexCast v4355
  let c4_2431 : Index := 4#32
  let c0_2432 : Index := 0#32
  ![v4528.toNat, 4, 0]
def k0_off969 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4530 : Index := Scalar.indexCast v4355
  let c4_2433 : Index := 4#32
  let c1_2434 : Index := 1#32
  ![v4530.toNat, 4, 1]
def k0_off970 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4532 : Index := Scalar.indexCast v4355
  let c4_2435 : Index := 4#32
  let c2_2436 : Index := 2#32
  ![v4532.toNat, 4, 2]
def k0_off971 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4534 : Index := Scalar.indexCast v4355
  let c4_2437 : Index := 4#32
  let c3_2438 : Index := 3#32
  ![v4534.toNat, 4, 3]
def k0_off972 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4547 : Index := Scalar.indexCast v4355
  let c5_2439 : Index := 5#32
  let c0_2440 : Index := 0#32
  ![v4547.toNat, 5, 0]
def k0_off973 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4549 : Index := Scalar.indexCast v4355
  let c5_2441 : Index := 5#32
  let c1_2442 : Index := 1#32
  ![v4549.toNat, 5, 1]
def k0_off974 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4551 : Index := Scalar.indexCast v4355
  let c5_2443 : Index := 5#32
  let c2_2444 : Index := 2#32
  ![v4551.toNat, 5, 2]
def k0_off975 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4553 : Index := Scalar.indexCast v4355
  let c5_2445 : Index := 5#32
  let c3_2446 : Index := 3#32
  ![v4553.toNat, 5, 3]
def k0_off976 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4566 : Index := Scalar.indexCast v4355
  let c6_2447 : Index := 6#32
  let c0_2448 : Index := 0#32
  ![v4566.toNat, 6, 0]
def k0_off977 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4568 : Index := Scalar.indexCast v4355
  let c6_2449 : Index := 6#32
  let c1_2450 : Index := 1#32
  ![v4568.toNat, 6, 1]
def k0_off978 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4570 : Index := Scalar.indexCast v4355
  let c6_2451 : Index := 6#32
  let c2_2452 : Index := 2#32
  ![v4570.toNat, 6, 2]
def k0_off979 (k0_t1 : Fin k0_t1_loop.trips) : Fin 3 → Nat :=
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4572 : Index := Scalar.indexCast v4355
  let c6_2453 : Index := 6#32
  let c3_2454 : Index := 3#32
  ![v4572.toNat, 6, 3]
def k0_off980 (k0_t1 : Fin k0_t1_loop.trips) : Fin 4 → Nat :=
  let c0_2455 : Index := 0#32
  let c16_i32_2333 : BitVec 32 := 16#32
  let c0_i32_459 : BitVec 32 := 0#32
  let c1_i32_461 : BitVec 32 := 1#32
  let arg7 : BitVec 32 := Scf.iv c0_i32_459 c1_i32_461 k0_t1
  let v4354 : BitVec 32 := Scalar.muli c16_i32_2333 arg7
  let c15_i32_2334 : BitVec 32 := 15#32
  let v4355 : BitVec 32 := Scalar.addi v4354 c15_i32_2334
  let v4586 : Index := Scalar.indexCast v4355
  let c0_2456 : Index := 0#32
  let c0_2457 : Index := 0#32
  ![0, v4586.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S3x96x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S96x7x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x24x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x112x112 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S4x96x224x224 : Shape := ⟨4, ![4, 96, 224, 224]⟩
abbrev S96x7x16 : Shape := ⟨3, ![96, 7, 16]⟩
abbrev S96x8 : Shape := ⟨2, ![96, 8]⟩
abbrev S_ : Shape := ⟨0, ![]⟩
abbrev S4x96x226x226 : Shape := ⟨4, ![4, 96, 226, 226]⟩
abbrev S4x96x112x112 : Shape := ⟨4, ![4, 96, 112, 112]⟩
abbrev S4x96x1x112x112 : Shape := ⟨5, ![4, 96, 1, 112, 112]⟩
abbrev S4x96x9x112x112 : Shape := ⟨5, ![4, 96, 9, 112, 112]⟩
abbrev S4x864x12544 : Shape := ⟨3, ![4, 864, 12544]⟩
abbrev S96x8x1 : Shape := ⟨3, ![96, 8, 1]⟩
abbrev S4x96x8x12544 : Shape := ⟨4, ![4, 96, 8, 12544]⟩
abbrev S4x96x4x12544 : Shape := ⟨4, ![4, 96, 4, 12544]⟩
abbrev S96x4x16 : Shape := ⟨3, ![96, 4, 16]⟩
abbrev S96x4 : Shape := ⟨2, ![96, 4]⟩
abbrev S96x4x1 : Shape := ⟨3, ![96, 4, 1]⟩
abbrev S1x96x4x1x16 : Shape := ⟨5, ![1, 96, 4, 1, 16]⟩
abbrev S1x96x4x1x1 : Shape := ⟨5, ![1, 96, 4, 1, 1]⟩
abbrev S1x96x4x1 : Shape := ⟨4, ![1, 96, 4, 1]⟩
abbrev S4x96x2x12544 : Shape := ⟨4, ![4, 96, 2, 12544]⟩
abbrev S96x2x16 : Shape := ⟨3, ![96, 2, 16]⟩
abbrev S96x2 : Shape := ⟨2, ![96, 2]⟩
abbrev S96x2x1 : Shape := ⟨3, ![96, 2, 1]⟩
abbrev S1x96x2x1x16 : Shape := ⟨5, ![1, 96, 2, 1, 16]⟩
abbrev S1x96x2x1x1 : Shape := ⟨5, ![1, 96, 2, 1, 1]⟩
abbrev S1x96x2x1 : Shape := ⟨4, ![1, 96, 2, 1]⟩
abbrev S4x96x1x12544 : Shape := ⟨4, ![4, 96, 1, 12544]⟩
abbrev S96x1x16 : Shape := ⟨3, ![96, 1, 16]⟩
abbrev S96x1 : Shape := ⟨2, ![96, 1]⟩
abbrev S96x1x1 : Shape := ⟨3, ![96, 1, 1]⟩
abbrev S1x96x1x1x16 : Shape := ⟨5, ![1, 96, 1, 1, 16]⟩
abbrev S1x96x1x1x1 : Shape := ⟨5, ![1, 96, 1, 1, 1]⟩
abbrev S1x96x1x1 : Shape := ⟨4, ![1, 96, 1, 1]⟩
abbrev S4x96x12544 : Shape := ⟨3, ![4, 96, 12544]⟩

abbrev nBuf : Space → Nat
  | .hbm => 469
  | .vmem => 0
  | .smem => 0
  | _ => 0

abbrev hbmTy0_0 (i : Nat) : BufTy := match i % 128 with
  | 0 => ⟨S4x96x224x224, .f32⟩
  | 1 => ⟨S96x7x16, .f32⟩
  | 2 => ⟨S96x8, .i32⟩
  | 3 => ⟨S_, .i32⟩
  | 4 => ⟨S_, .f32⟩
  | 5 => ⟨S4x96x226x226, .f32⟩
  | 6 => ⟨S4x96x112x112, .f32⟩
  | 7 => ⟨S4x96x112x112, .f32⟩
  | 8 => ⟨S4x96x112x112, .f32⟩
  | 9 => ⟨S4x96x112x112, .f32⟩
  | 10 => ⟨S4x96x112x112, .f32⟩
  | 11 => ⟨S4x96x112x112, .f32⟩
  | 12 => ⟨S4x96x112x112, .f32⟩
  | 13 => ⟨S4x96x112x112, .f32⟩
  | 14 => ⟨S4x96x112x112, .f32⟩
  | 15 => ⟨S4x96x1x112x112, .f32⟩
  | 16 => ⟨S4x96x1x112x112, .f32⟩
  | 17 => ⟨S4x96x1x112x112, .f32⟩
  | 18 => ⟨S4x96x1x112x112, .f32⟩
  | 19 => ⟨S4x96x1x112x112, .f32⟩
  | 20 => ⟨S4x96x1x112x112, .f32⟩
  | 21 => ⟨S4x96x1x112x112, .f32⟩
  | 22 => ⟨S4x96x1x112x112, .f32⟩
  | 23 => ⟨S4x96x1x112x112, .f32⟩
  | 24 => ⟨S4x96x9x112x112, .f32⟩
  | 25 => ⟨S4x864x12544, .f32⟩
  | 26 => ⟨S_, .i32⟩
  | 27 => ⟨S96x8, .i32⟩
  | 28 => ⟨S96x8, .i1⟩
  | 29 => ⟨S_, .i32⟩
  | 30 => ⟨S96x8, .i32⟩
  | 31 => ⟨S96x8, .i32⟩
  | 32 => ⟨S96x8, .i32⟩
  | 33 => ⟨S96x8x1, .i32⟩
  | 34 => ⟨S4x96x8x12544, .f32⟩
  | 35 => ⟨S4x96x4x12544, .f32⟩
  | 36 => ⟨S4x96x4x12544, .f32⟩
  | 37 => ⟨S96x4x16, .f32⟩
  | 38 => ⟨S_, .f32⟩
  | 39 => ⟨S96x4, .f32⟩
  | 40 => ⟨S_, .f32⟩
  | 41 => ⟨S96x4, .f32⟩
  | 42 => ⟨S96x4, .f32⟩
  | 43 => ⟨S96x4x1, .f32⟩
  | 44 => ⟨S96x4x16, .f32⟩
  | 45 => ⟨S96x4x16, .f32⟩
  | 46 => ⟨S96x4x16, .f32⟩
  | 47 => ⟨S_, .f32⟩
  | 48 => ⟨S96x4, .f32⟩
  | 49 => ⟨S96x4x1, .f32⟩
  | 50 => ⟨S96x4x16, .f32⟩
  | 51 => ⟨S96x4x16, .f32⟩
  | 52 => ⟨S1x96x4x1x16, .f32⟩
  | 53 => ⟨S4x96x4x12544, .f32⟩
  | 54 => ⟨S_, .f32⟩
  | 55 => ⟨S4x96x4x12544, .f32⟩
  | 56 => ⟨S4x96x4x12544, .f32⟩
  | 57 => ⟨S4x96x4x12544, .f32⟩
  | 58 => ⟨S4x96x4x12544, .f32⟩
  | 59 => ⟨S_, .f32⟩
  | 60 => ⟨S4x96x4x12544, .f32⟩
  | 61 => ⟨S4x96x4x12544, .f32⟩
  | 62 => ⟨S4x96x4x12544, .f32⟩
  | 63 => ⟨S4x96x4x12544, .f32⟩
  | 64 => ⟨S4x96x4x12544, .f32⟩
  | 65 => ⟨S4x96x4x12544, .f32⟩
  | 66 => ⟨S4x96x4x12544, .f32⟩
  | 67 => ⟨S_, .f32⟩
  | 68 => ⟨S4x96x4x12544, .f32⟩
  | 69 => ⟨S4x96x4x12544, .f32⟩
  | 70 => ⟨S4x96x4x12544, .f32⟩
  | 71 => ⟨S_, .f32⟩
  | 72 => ⟨S4x96x4x12544, .f32⟩
  | 73 => ⟨S4x96x4x12544, .f32⟩
  | 74 => ⟨S4x96x4x12544, .f32⟩
  | 75 => ⟨S_, .f32⟩
  | 76 => ⟨S4x96x4x12544, .f32⟩
  | 77 => ⟨S4x96x4x12544, .f32⟩
  | 78 => ⟨S_, .f32⟩
  | 79 => ⟨S4x96x4x12544, .f32⟩
  | 80 => ⟨S4x96x4x12544, .f32⟩
  | 81 => ⟨S_, .f32⟩
  | 82 => ⟨S4x96x4x12544, .f32⟩
  | 83 => ⟨S4x96x4x12544, .f32⟩
  | 84 => ⟨S4x96x4x12544, .f32⟩
  | 85 => ⟨S_, .f32⟩
  | 86 => ⟨S4x96x4x12544, .f32⟩
  | 87 => ⟨S4x96x4x12544, .f32⟩
  | 88 => ⟨S_, .f32⟩
  | 89 => ⟨S4x96x4x12544, .f32⟩
  | 90 => ⟨S4x96x4x12544, .f32⟩
  | 91 => ⟨S4x96x4x12544, .f32⟩
  | 92 => ⟨S_, .f32⟩
  | 93 => ⟨S4x96x4x12544, .f32⟩
  | 94 => ⟨S4x96x4x12544, .f32⟩
  | 95 => ⟨S_, .f32⟩
  | 96 => ⟨S4x96x4x12544, .f32⟩
  | 97 => ⟨S_, .f32⟩
  | 98 => ⟨S4x96x4x12544, .f32⟩
  | 99 => ⟨S1x96x4x1x1, .f32⟩
  | 100 => ⟨S1x96x4x1, .f32⟩
  | 101 => ⟨S4x96x4x12544, .f32⟩
  | 102 => ⟨S4x96x4x12544, .f32⟩
  | 103 => ⟨S4x96x4x12544, .f32⟩
  | 104 => ⟨S1x96x4x1x1, .f32⟩
  | 105 => ⟨S1x96x4x1, .f32⟩
  | 106 => ⟨S4x96x4x12544, .f32⟩
  | 107 => ⟨S4x96x4x12544, .f32⟩
  | 108 => ⟨S4x96x4x12544, .f32⟩
  | 109 => ⟨S1x96x4x1x1, .f32⟩
  | 110 => ⟨S1x96x4x1, .f32⟩
  | 111 => ⟨S4x96x4x12544, .f32⟩
  | 112 => ⟨S4x96x4x12544, .f32⟩
  | 113 => ⟨S4x96x4x12544, .f32⟩
  | 114 => ⟨S1x96x4x1x1, .f32⟩
  | 115 => ⟨S1x96x4x1, .f32⟩
  | 116 => ⟨S4x96x4x12544, .f32⟩
  | 117 => ⟨S4x96x4x12544, .f32⟩
  | 118 => ⟨S4x96x4x12544, .f32⟩
  | 119 => ⟨S1x96x4x1x1, .f32⟩
  | 120 => ⟨S1x96x4x1, .f32⟩
  | 121 => ⟨S4x96x4x12544, .f32⟩
  | 122 => ⟨S4x96x4x12544, .f32⟩
  | 123 => ⟨S4x96x4x12544, .f32⟩
  | 124 => ⟨S1x96x4x1x1, .f32⟩
  | 125 => ⟨S1x96x4x1, .f32⟩
  | 126 => ⟨S4x96x4x12544, .f32⟩
  | 127 => ⟨S4x96x4x12544, .f32⟩
  | _ => ⟨S4x96x224x224, .f32⟩

abbrev hbmTy0_1 (i : Nat) : BufTy := match i % 128 with
  | 0 => ⟨S4x96x4x12544, .f32⟩
  | 1 => ⟨S1x96x4x1x1, .f32⟩
  | 2 => ⟨S1x96x4x1, .f32⟩
  | 3 => ⟨S4x96x4x12544, .f32⟩
  | 4 => ⟨S4x96x4x12544, .f32⟩
  | 5 => ⟨S4x96x4x12544, .f32⟩
  | 6 => ⟨S1x96x4x1x1, .f32⟩
  | 7 => ⟨S1x96x4x1, .f32⟩
  | 8 => ⟨S4x96x4x12544, .f32⟩
  | 9 => ⟨S4x96x4x12544, .f32⟩
  | 10 => ⟨S4x96x4x12544, .f32⟩
  | 11 => ⟨S1x96x4x1x1, .f32⟩
  | 12 => ⟨S1x96x4x1, .f32⟩
  | 13 => ⟨S4x96x4x12544, .f32⟩
  | 14 => ⟨S4x96x4x12544, .f32⟩
  | 15 => ⟨S4x96x4x12544, .f32⟩
  | 16 => ⟨S1x96x4x1x1, .f32⟩
  | 17 => ⟨S1x96x4x1, .f32⟩
  | 18 => ⟨S4x96x4x12544, .f32⟩
  | 19 => ⟨S4x96x4x12544, .f32⟩
  | 20 => ⟨S4x96x4x12544, .f32⟩
  | 21 => ⟨S1x96x4x1x1, .f32⟩
  | 22 => ⟨S1x96x4x1, .f32⟩
  | 23 => ⟨S4x96x4x12544, .f32⟩
  | 24 => ⟨S4x96x4x12544, .f32⟩
  | 25 => ⟨S4x96x4x12544, .f32⟩
  | 26 => ⟨S1x96x4x1x1, .f32⟩
  | 27 => ⟨S1x96x4x1, .f32⟩
  | 28 => ⟨S4x96x4x12544, .f32⟩
  | 29 => ⟨S4x96x4x12544, .f32⟩
  | 30 => ⟨S4x96x4x12544, .f32⟩
  | 31 => ⟨S1x96x4x1x1, .f32⟩
  | 32 => ⟨S1x96x4x1, .f32⟩
  | 33 => ⟨S4x96x4x12544, .f32⟩
  | 34 => ⟨S4x96x4x12544, .f32⟩
  | 35 => ⟨S4x96x4x12544, .f32⟩
  | 36 => ⟨S1x96x4x1x1, .f32⟩
  | 37 => ⟨S1x96x4x1, .f32⟩
  | 38 => ⟨S4x96x4x12544, .f32⟩
  | 39 => ⟨S4x96x4x12544, .f32⟩
  | 40 => ⟨S4x96x4x12544, .f32⟩
  | 41 => ⟨S1x96x4x1x1, .f32⟩
  | 42 => ⟨S1x96x4x1, .f32⟩
  | 43 => ⟨S4x96x4x12544, .f32⟩
  | 44 => ⟨S4x96x4x12544, .f32⟩
  | 45 => ⟨S4x96x4x12544, .f32⟩
  | 46 => ⟨S1x96x4x1x1, .f32⟩
  | 47 => ⟨S1x96x4x1, .f32⟩
  | 48 => ⟨S4x96x4x12544, .f32⟩
  | 49 => ⟨S4x96x4x12544, .f32⟩
  | 50 => ⟨S4x96x4x12544, .f32⟩
  | 51 => ⟨S4x96x2x12544, .f32⟩
  | 52 => ⟨S4x96x2x12544, .f32⟩
  | 53 => ⟨S96x2x16, .f32⟩
  | 54 => ⟨S_, .f32⟩
  | 55 => ⟨S96x2, .f32⟩
  | 56 => ⟨S_, .f32⟩
  | 57 => ⟨S96x2, .f32⟩
  | 58 => ⟨S96x2, .f32⟩
  | 59 => ⟨S96x2x1, .f32⟩
  | 60 => ⟨S96x2x16, .f32⟩
  | 61 => ⟨S96x2x16, .f32⟩
  | 62 => ⟨S96x2x16, .f32⟩
  | 63 => ⟨S_, .f32⟩
  | 64 => ⟨S96x2, .f32⟩
  | 65 => ⟨S96x2x1, .f32⟩
  | 66 => ⟨S96x2x16, .f32⟩
  | 67 => ⟨S96x2x16, .f32⟩
  | 68 => ⟨S1x96x2x1x16, .f32⟩
  | 69 => ⟨S4x96x2x12544, .f32⟩
  | 70 => ⟨S_, .f32⟩
  | 71 => ⟨S4x96x2x12544, .f32⟩
  | 72 => ⟨S4x96x2x12544, .f32⟩
  | 73 => ⟨S4x96x2x12544, .f32⟩
  | 74 => ⟨S4x96x2x12544, .f32⟩
  | 75 => ⟨S_, .f32⟩
  | 76 => ⟨S4x96x2x12544, .f32⟩
  | 77 => ⟨S4x96x2x12544, .f32⟩
  | 78 => ⟨S4x96x2x12544, .f32⟩
  | 79 => ⟨S4x96x2x12544, .f32⟩
  | 80 => ⟨S4x96x2x12544, .f32⟩
  | 81 => ⟨S4x96x2x12544, .f32⟩
  | 82 => ⟨S4x96x2x12544, .f32⟩
  | 83 => ⟨S_, .f32⟩
  | 84 => ⟨S4x96x2x12544, .f32⟩
  | 85 => ⟨S4x96x2x12544, .f32⟩
  | 86 => ⟨S4x96x2x12544, .f32⟩
  | 87 => ⟨S_, .f32⟩
  | 88 => ⟨S4x96x2x12544, .f32⟩
  | 89 => ⟨S4x96x2x12544, .f32⟩
  | 90 => ⟨S4x96x2x12544, .f32⟩
  | 91 => ⟨S_, .f32⟩
  | 92 => ⟨S4x96x2x12544, .f32⟩
  | 93 => ⟨S4x96x2x12544, .f32⟩
  | 94 => ⟨S_, .f32⟩
  | 95 => ⟨S4x96x2x12544, .f32⟩
  | 96 => ⟨S4x96x2x12544, .f32⟩
  | 97 => ⟨S_, .f32⟩
  | 98 => ⟨S4x96x2x12544, .f32⟩
  | 99 => ⟨S4x96x2x12544, .f32⟩
  | 100 => ⟨S4x96x2x12544, .f32⟩
  | 101 => ⟨S_, .f32⟩
  | 102 => ⟨S4x96x2x12544, .f32⟩
  | 103 => ⟨S4x96x2x12544, .f32⟩
  | 104 => ⟨S_, .f32⟩
  | 105 => ⟨S4x96x2x12544, .f32⟩
  | 106 => ⟨S4x96x2x12544, .f32⟩
  | 107 => ⟨S4x96x2x12544, .f32⟩
  | 108 => ⟨S_, .f32⟩
  | 109 => ⟨S4x96x2x12544, .f32⟩
  | 110 => ⟨S4x96x2x12544, .f32⟩
  | 111 => ⟨S_, .f32⟩
  | 112 => ⟨S4x96x2x12544, .f32⟩
  | 113 => ⟨S_, .f32⟩
  | 114 => ⟨S4x96x2x12544, .f32⟩
  | 115 => ⟨S1x96x2x1x1, .f32⟩
  | 116 => ⟨S1x96x2x1, .f32⟩
  | 117 => ⟨S4x96x2x12544, .f32⟩
  | 118 => ⟨S4x96x2x12544, .f32⟩
  | 119 => ⟨S4x96x2x12544, .f32⟩
  | 120 => ⟨S1x96x2x1x1, .f32⟩
  | 121 => ⟨S1x96x2x1, .f32⟩
  | 122 => ⟨S4x96x2x12544, .f32⟩
  | 123 => ⟨S4x96x2x12544, .f32⟩
  | 124 => ⟨S4x96x2x12544, .f32⟩
  | 125 => ⟨S1x96x2x1x1, .f32⟩
  | 126 => ⟨S1x96x2x1, .f32⟩
  | 127 => ⟨S4x96x2x12544, .f32⟩
  | _ => ⟨S4x96x224x224, .f32⟩

abbrev hbmTy0_2 (i : Nat) : BufTy := match i % 128 with
  | 0 => ⟨S4x96x2x12544, .f32⟩
  | 1 => ⟨S4x96x2x12544, .f32⟩
  | 2 => ⟨S1x96x2x1x1, .f32⟩
  | 3 => ⟨S1x96x2x1, .f32⟩
  | 4 => ⟨S4x96x2x12544, .f32⟩
  | 5 => ⟨S4x96x2x12544, .f32⟩
  | 6 => ⟨S4x96x2x12544, .f32⟩
  | 7 => ⟨S1x96x2x1x1, .f32⟩
  | 8 => ⟨S1x96x2x1, .f32⟩
  | 9 => ⟨S4x96x2x12544, .f32⟩
  | 10 => ⟨S4x96x2x12544, .f32⟩
  | 11 => ⟨S4x96x2x12544, .f32⟩
  | 12 => ⟨S1x96x2x1x1, .f32⟩
  | 13 => ⟨S1x96x2x1, .f32⟩
  | 14 => ⟨S4x96x2x12544, .f32⟩
  | 15 => ⟨S4x96x2x12544, .f32⟩
  | 16 => ⟨S4x96x2x12544, .f32⟩
  | 17 => ⟨S1x96x2x1x1, .f32⟩
  | 18 => ⟨S1x96x2x1, .f32⟩
  | 19 => ⟨S4x96x2x12544, .f32⟩
  | 20 => ⟨S4x96x2x12544, .f32⟩
  | 21 => ⟨S4x96x2x12544, .f32⟩
  | 22 => ⟨S1x96x2x1x1, .f32⟩
  | 23 => ⟨S1x96x2x1, .f32⟩
  | 24 => ⟨S4x96x2x12544, .f32⟩
  | 25 => ⟨S4x96x2x12544, .f32⟩
  | 26 => ⟨S4x96x2x12544, .f32⟩
  | 27 => ⟨S1x96x2x1x1, .f32⟩
  | 28 => ⟨S1x96x2x1, .f32⟩
  | 29 => ⟨S4x96x2x12544, .f32⟩
  | 30 => ⟨S4x96x2x12544, .f32⟩
  | 31 => ⟨S4x96x2x12544, .f32⟩
  | 32 => ⟨S1x96x2x1x1, .f32⟩
  | 33 => ⟨S1x96x2x1, .f32⟩
  | 34 => ⟨S4x96x2x12544, .f32⟩
  | 35 => ⟨S4x96x2x12544, .f32⟩
  | 36 => ⟨S4x96x2x12544, .f32⟩
  | 37 => ⟨S1x96x2x1x1, .f32⟩
  | 38 => ⟨S1x96x2x1, .f32⟩
  | 39 => ⟨S4x96x2x12544, .f32⟩
  | 40 => ⟨S4x96x2x12544, .f32⟩
  | 41 => ⟨S4x96x2x12544, .f32⟩
  | 42 => ⟨S1x96x2x1x1, .f32⟩
  | 43 => ⟨S1x96x2x1, .f32⟩
  | 44 => ⟨S4x96x2x12544, .f32⟩
  | 45 => ⟨S4x96x2x12544, .f32⟩
  | 46 => ⟨S4x96x2x12544, .f32⟩
  | 47 => ⟨S1x96x2x1x1, .f32⟩
  | 48 => ⟨S1x96x2x1, .f32⟩
  | 49 => ⟨S4x96x2x12544, .f32⟩
  | 50 => ⟨S4x96x2x12544, .f32⟩
  | 51 => ⟨S4x96x2x12544, .f32⟩
  | 52 => ⟨S1x96x2x1x1, .f32⟩
  | 53 => ⟨S1x96x2x1, .f32⟩
  | 54 => ⟨S4x96x2x12544, .f32⟩
  | 55 => ⟨S4x96x2x12544, .f32⟩
  | 56 => ⟨S4x96x2x12544, .f32⟩
  | 57 => ⟨S1x96x2x1x1, .f32⟩
  | 58 => ⟨S1x96x2x1, .f32⟩
  | 59 => ⟨S4x96x2x12544, .f32⟩
  | 60 => ⟨S4x96x2x12544, .f32⟩
  | 61 => ⟨S4x96x2x12544, .f32⟩
  | 62 => ⟨S1x96x2x1x1, .f32⟩
  | 63 => ⟨S1x96x2x1, .f32⟩
  | 64 => ⟨S4x96x2x12544, .f32⟩
  | 65 => ⟨S4x96x2x12544, .f32⟩
  | 66 => ⟨S4x96x2x12544, .f32⟩
  | 67 => ⟨S4x96x1x12544, .f32⟩
  | 68 => ⟨S4x96x1x12544, .f32⟩
  | 69 => ⟨S96x1x16, .f32⟩
  | 70 => ⟨S_, .f32⟩
  | 71 => ⟨S96x1, .f32⟩
  | 72 => ⟨S_, .f32⟩
  | 73 => ⟨S96x1, .f32⟩
  | 74 => ⟨S96x1, .f32⟩
  | 75 => ⟨S96x1x1, .f32⟩
  | 76 => ⟨S96x1x16, .f32⟩
  | 77 => ⟨S96x1x16, .f32⟩
  | 78 => ⟨S96x1x16, .f32⟩
  | 79 => ⟨S_, .f32⟩
  | 80 => ⟨S96x1, .f32⟩
  | 81 => ⟨S96x1x1, .f32⟩
  | 82 => ⟨S96x1x16, .f32⟩
  | 83 => ⟨S96x1x16, .f32⟩
  | 84 => ⟨S1x96x1x1x16, .f32⟩
  | 85 => ⟨S4x96x1x12544, .f32⟩
  | 86 => ⟨S_, .f32⟩
  | 87 => ⟨S4x96x1x12544, .f32⟩
  | 88 => ⟨S4x96x1x12544, .f32⟩
  | 89 => ⟨S4x96x1x12544, .f32⟩
  | 90 => ⟨S4x96x1x12544, .f32⟩
  | 91 => ⟨S_, .f32⟩
  | 92 => ⟨S4x96x1x12544, .f32⟩
  | 93 => ⟨S4x96x1x12544, .f32⟩
  | 94 => ⟨S4x96x1x12544, .f32⟩
  | 95 => ⟨S4x96x1x12544, .f32⟩
  | 96 => ⟨S4x96x1x12544, .f32⟩
  | 97 => ⟨S4x96x1x12544, .f32⟩
  | 98 => ⟨S4x96x1x12544, .f32⟩
  | 99 => ⟨S_, .f32⟩
  | 100 => ⟨S4x96x1x12544, .f32⟩
  | 101 => ⟨S4x96x1x12544, .f32⟩
  | 102 => ⟨S4x96x1x12544, .f32⟩
  | 103 => ⟨S_, .f32⟩
  | 104 => ⟨S4x96x1x12544, .f32⟩
  | 105 => ⟨S4x96x1x12544, .f32⟩
  | 106 => ⟨S4x96x1x12544, .f32⟩
  | 107 => ⟨S_, .f32⟩
  | 108 => ⟨S4x96x1x12544, .f32⟩
  | 109 => ⟨S4x96x1x12544, .f32⟩
  | 110 => ⟨S_, .f32⟩
  | 111 => ⟨S4x96x1x12544, .f32⟩
  | 112 => ⟨S4x96x1x12544, .f32⟩
  | 113 => ⟨S_, .f32⟩
  | 114 => ⟨S4x96x1x12544, .f32⟩
  | 115 => ⟨S4x96x1x12544, .f32⟩
  | 116 => ⟨S4x96x1x12544, .f32⟩
  | 117 => ⟨S_, .f32⟩
  | 118 => ⟨S4x96x1x12544, .f32⟩
  | 119 => ⟨S4x96x1x12544, .f32⟩
  | 120 => ⟨S_, .f32⟩
  | 121 => ⟨S4x96x1x12544, .f32⟩
  | 122 => ⟨S4x96x1x12544, .f32⟩
  | 123 => ⟨S4x96x1x12544, .f32⟩
  | 124 => ⟨S_, .f32⟩
  | 125 => ⟨S4x96x1x12544, .f32⟩
  | 126 => ⟨S4x96x1x12544, .f32⟩
  | 127 => ⟨S_, .f32⟩
  | _ => ⟨S4x96x224x224, .f32⟩

abbrev hbmTy0_3 (i : Nat) : BufTy := match i % 128 with
  | 0 => ⟨S4x96x1x12544, .f32⟩
  | 1 => ⟨S_, .f32⟩
  | 2 => ⟨S4x96x1x12544, .f32⟩
  | 3 => ⟨S1x96x1x1x1, .f32⟩
  | 4 => ⟨S1x96x1x1, .f32⟩
  | 5 => ⟨S4x96x1x12544, .f32⟩
  | 6 => ⟨S4x96x1x12544, .f32⟩
  | 7 => ⟨S4x96x1x12544, .f32⟩
  | 8 => ⟨S1x96x1x1x1, .f32⟩
  | 9 => ⟨S1x96x1x1, .f32⟩
  | 10 => ⟨S4x96x1x12544, .f32⟩
  | 11 => ⟨S4x96x1x12544, .f32⟩
  | 12 => ⟨S4x96x1x12544, .f32⟩
  | 13 => ⟨S1x96x1x1x1, .f32⟩
  | 14 => ⟨S1x96x1x1, .f32⟩
  | 15 => ⟨S4x96x1x12544, .f32⟩
  | 16 => ⟨S4x96x1x12544, .f32⟩
  | 17 => ⟨S4x96x1x12544, .f32⟩
  | 18 => ⟨S1x96x1x1x1, .f32⟩
  | 19 => ⟨S1x96x1x1, .f32⟩
  | 20 => ⟨S4x96x1x12544, .f32⟩
  | 21 => ⟨S4x96x1x12544, .f32⟩
  | 22 => ⟨S4x96x1x12544, .f32⟩
  | 23 => ⟨S1x96x1x1x1, .f32⟩
  | 24 => ⟨S1x96x1x1, .f32⟩
  | 25 => ⟨S4x96x1x12544, .f32⟩
  | 26 => ⟨S4x96x1x12544, .f32⟩
  | 27 => ⟨S4x96x1x12544, .f32⟩
  | 28 => ⟨S1x96x1x1x1, .f32⟩
  | 29 => ⟨S1x96x1x1, .f32⟩
  | 30 => ⟨S4x96x1x12544, .f32⟩
  | 31 => ⟨S4x96x1x12544, .f32⟩
  | 32 => ⟨S4x96x1x12544, .f32⟩
  | 33 => ⟨S1x96x1x1x1, .f32⟩
  | 34 => ⟨S1x96x1x1, .f32⟩
  | 35 => ⟨S4x96x1x12544, .f32⟩
  | 36 => ⟨S4x96x1x12544, .f32⟩
  | 37 => ⟨S4x96x1x12544, .f32⟩
  | 38 => ⟨S1x96x1x1x1, .f32⟩
  | 39 => ⟨S1x96x1x1, .f32⟩
  | 40 => ⟨S4x96x1x12544, .f32⟩
  | 41 => ⟨S4x96x1x12544, .f32⟩
  | 42 => ⟨S4x96x1x12544, .f32⟩
  | 43 => ⟨S1x96x1x1x1, .f32⟩
  | 44 => ⟨S1x96x1x1, .f32⟩
  | 45 => ⟨S4x96x1x12544, .f32⟩
  | 46 => ⟨S4x96x1x12544, .f32⟩
  | 47 => ⟨S4x96x1x12544, .f32⟩
  | 48 => ⟨S1x96x1x1x1, .f32⟩
  | 49 => ⟨S1x96x1x1, .f32⟩
  | 50 => ⟨S4x96x1x12544, .f32⟩
  | 51 => ⟨S4x96x1x12544, .f32⟩
  | 52 => ⟨S4x96x1x12544, .f32⟩
  | 53 => ⟨S1x96x1x1x1, .f32⟩
  | 54 => ⟨S1x96x1x1, .f32⟩
  | 55 => ⟨S4x96x1x12544, .f32⟩
  | 56 => ⟨S4x96x1x12544, .f32⟩
  | 57 => ⟨S4x96x1x12544, .f32⟩
  | 58 => ⟨S1x96x1x1x1, .f32⟩
  | 59 => ⟨S1x96x1x1, .f32⟩
  | 60 => ⟨S4x96x1x12544, .f32⟩
  | 61 => ⟨S4x96x1x12544, .f32⟩
  | 62 => ⟨S4x96x1x12544, .f32⟩
  | 63 => ⟨S1x96x1x1x1, .f32⟩
  | 64 => ⟨S1x96x1x1, .f32⟩
  | 65 => ⟨S4x96x1x12544, .f32⟩
  | 66 => ⟨S4x96x1x12544, .f32⟩
  | 67 => ⟨S4x96x1x12544, .f32⟩
  | 68 => ⟨S1x96x1x1x1, .f32⟩
  | 69 => ⟨S1x96x1x1, .f32⟩
  | 70 => ⟨S4x96x1x12544, .f32⟩
  | 71 => ⟨S4x96x1x12544, .f32⟩
  | 72 => ⟨S4x96x1x12544, .f32⟩
  | 73 => ⟨S1x96x1x1x1, .f32⟩
  | 74 => ⟨S1x96x1x1, .f32⟩
  | 75 => ⟨S4x96x1x12544, .f32⟩
  | 76 => ⟨S4x96x1x12544, .f32⟩
  | 77 => ⟨S4x96x1x12544, .f32⟩
  | 78 => ⟨S1x96x1x1x1, .f32⟩
  | 79 => ⟨S1x96x1x1, .f32⟩
  | 80 => ⟨S4x96x1x12544, .f32⟩
  | 81 => ⟨S4x96x1x12544, .f32⟩
  | 82 => ⟨S4x96x1x12544, .f32⟩
  | 83 => ⟨S4x96x12544, .f32⟩
  | 84 => ⟨S4x96x112x112, .f32⟩
  | _ => ⟨S4x96x224x224, .f32⟩

abbrev hbmTy (i : Nat) : BufTy := match i / 128 with
  | 0 => hbmTy0_0 i
  | 1 => hbmTy0_1 i
  | 2 => hbmTy0_2 i
  | 3 => hbmTy0_3 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_cst_12 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_cst_15 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_cst_16 : Ref sig .tc := ⟨.hbm, 182, rfl⟩
abbrev main_v160 : Ref sig .tc := ⟨.hbm, 183, rfl⟩
abbrev main_cst_17 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_cst_18 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_cst_19 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_cst_20 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_cst_21 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_cst_22 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_cst_23 : Ref sig .tc := ⟨.hbm, 219, rfl⟩
abbrev main_v190 : Ref sig .tc := ⟨.hbm, 220, rfl⟩
abbrev main_v191 : Ref sig .tc := ⟨.hbm, 221, rfl⟩
abbrev main_cst_24 : Ref sig .tc := ⟨.hbm, 222, rfl⟩
abbrev main_v192 : Ref sig .tc := ⟨.hbm, 223, rfl⟩
abbrev main_v193 : Ref sig .tc := ⟨.hbm, 224, rfl⟩
abbrev main_cst_25 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_cst_26 : Ref sig .tc := ⟨.hbm, 229, rfl⟩
abbrev main_v197 : Ref sig .tc := ⟨.hbm, 230, rfl⟩
abbrev main_v198 : Ref sig .tc := ⟨.hbm, 231, rfl⟩
abbrev main_cst_27 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_cst_28 : Ref sig .tc := ⟨.hbm, 236, rfl⟩
abbrev main_v202 : Ref sig .tc := ⟨.hbm, 237, rfl⟩
abbrev main_v203 : Ref sig .tc := ⟨.hbm, 238, rfl⟩
abbrev main_cst_29 : Ref sig .tc := ⟨.hbm, 239, rfl⟩
abbrev main_v204 : Ref sig .tc := ⟨.hbm, 240, rfl⟩
abbrev main_cst_30 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_v288 : Ref sig .tc := ⟨.hbm, 325, rfl⟩
abbrev main_cst_31 : Ref sig .tc := ⟨.hbm, 326, rfl⟩
abbrev main_v289 : Ref sig .tc := ⟨.hbm, 327, rfl⟩
abbrev main_cst_32 : Ref sig .tc := ⟨.hbm, 328, rfl⟩
abbrev main_v290 : Ref sig .tc := ⟨.hbm, 329, rfl⟩
abbrev main_v291 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_cst_33 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_cst_34 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_cst_35 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_cst_36 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_cst_37 : Ref sig .tc := ⟨.hbm, 359, rfl⟩
abbrev main_v316 : Ref sig .tc := ⟨.hbm, 360, rfl⟩
abbrev main_v317 : Ref sig .tc := ⟨.hbm, 361, rfl⟩
abbrev main_v318 : Ref sig .tc := ⟨.hbm, 362, rfl⟩
abbrev main_cst_38 : Ref sig .tc := ⟨.hbm, 363, rfl⟩
abbrev main_v319 : Ref sig .tc := ⟨.hbm, 364, rfl⟩
abbrev main_v320 : Ref sig .tc := ⟨.hbm, 365, rfl⟩
abbrev main_cst_39 : Ref sig .tc := ⟨.hbm, 366, rfl⟩
abbrev main_v321 : Ref sig .tc := ⟨.hbm, 367, rfl⟩
abbrev main_v322 : Ref sig .tc := ⟨.hbm, 368, rfl⟩
abbrev main_cst_40 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_cst_41 : Ref sig .tc := ⟨.hbm, 373, rfl⟩
abbrev main_v326 : Ref sig .tc := ⟨.hbm, 374, rfl⟩
abbrev main_v327 : Ref sig .tc := ⟨.hbm, 375, rfl⟩
abbrev main_cst_42 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_cst_43 : Ref sig .tc := ⟨.hbm, 380, rfl⟩
abbrev main_v331 : Ref sig .tc := ⟨.hbm, 381, rfl⟩
abbrev main_v332 : Ref sig .tc := ⟨.hbm, 382, rfl⟩
abbrev main_cst_44 : Ref sig .tc := ⟨.hbm, 383, rfl⟩
abbrev main_v333 : Ref sig .tc := ⟨.hbm, 384, rfl⟩
abbrev main_cst_45 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_v353 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_v357 : Ref sig .tc := ⟨.hbm, 409, rfl⟩
abbrev main_v358 : Ref sig .tc := ⟨.hbm, 410, rfl⟩
abbrev main_v359 : Ref sig .tc := ⟨.hbm, 411, rfl⟩
abbrev main_v360 : Ref sig .tc := ⟨.hbm, 412, rfl⟩
abbrev main_v361 : Ref sig .tc := ⟨.hbm, 413, rfl⟩
abbrev main_v362 : Ref sig .tc := ⟨.hbm, 414, rfl⟩
abbrev main_v363 : Ref sig .tc := ⟨.hbm, 415, rfl⟩
abbrev main_v364 : Ref sig .tc := ⟨.hbm, 416, rfl⟩
abbrev main_v365 : Ref sig .tc := ⟨.hbm, 417, rfl⟩
abbrev main_v366 : Ref sig .tc := ⟨.hbm, 418, rfl⟩
abbrev main_v367 : Ref sig .tc := ⟨.hbm, 419, rfl⟩
abbrev main_v368 : Ref sig .tc := ⟨.hbm, 420, rfl⟩
abbrev main_v369 : Ref sig .tc := ⟨.hbm, 421, rfl⟩
abbrev main_v370 : Ref sig .tc := ⟨.hbm, 422, rfl⟩
abbrev main_v371 : Ref sig .tc := ⟨.hbm, 423, rfl⟩
abbrev main_v372 : Ref sig .tc := ⟨.hbm, 424, rfl⟩
abbrev main_v373 : Ref sig .tc := ⟨.hbm, 425, rfl⟩
abbrev main_v374 : Ref sig .tc := ⟨.hbm, 426, rfl⟩
abbrev main_v375 : Ref sig .tc := ⟨.hbm, 427, rfl⟩
abbrev main_v376 : Ref sig .tc := ⟨.hbm, 428, rfl⟩
abbrev main_v377 : Ref sig .tc := ⟨.hbm, 429, rfl⟩
abbrev main_v378 : Ref sig .tc := ⟨.hbm, 430, rfl⟩
abbrev main_v379 : Ref sig .tc := ⟨.hbm, 431, rfl⟩
abbrev main_v380 : Ref sig .tc := ⟨.hbm, 432, rfl⟩
abbrev main_v381 : Ref sig .tc := ⟨.hbm, 433, rfl⟩
abbrev main_v382 : Ref sig .tc := ⟨.hbm, 434, rfl⟩
abbrev main_v383 : Ref sig .tc := ⟨.hbm, 435, rfl⟩
abbrev main_v384 : Ref sig .tc := ⟨.hbm, 436, rfl⟩
abbrev main_v385 : Ref sig .tc := ⟨.hbm, 437, rfl⟩
abbrev main_v386 : Ref sig .tc := ⟨.hbm, 438, rfl⟩
abbrev main_v387 : Ref sig .tc := ⟨.hbm, 439, rfl⟩
abbrev main_v388 : Ref sig .tc := ⟨.hbm, 440, rfl⟩
abbrev main_v389 : Ref sig .tc := ⟨.hbm, 441, rfl⟩
abbrev main_v390 : Ref sig .tc := ⟨.hbm, 442, rfl⟩
abbrev main_v391 : Ref sig .tc := ⟨.hbm, 443, rfl⟩
abbrev main_v392 : Ref sig .tc := ⟨.hbm, 444, rfl⟩
abbrev main_v393 : Ref sig .tc := ⟨.hbm, 445, rfl⟩
abbrev main_v394 : Ref sig .tc := ⟨.hbm, 446, rfl⟩
abbrev main_v395 : Ref sig .tc := ⟨.hbm, 447, rfl⟩
abbrev main_v396 : Ref sig .tc := ⟨.hbm, 448, rfl⟩
abbrev main_v397 : Ref sig .tc := ⟨.hbm, 449, rfl⟩
abbrev main_v398 : Ref sig .tc := ⟨.hbm, 450, rfl⟩
abbrev main_v399 : Ref sig .tc := ⟨.hbm, 451, rfl⟩
abbrev main_v400 : Ref sig .tc := ⟨.hbm, 452, rfl⟩
abbrev main_v401 : Ref sig .tc := ⟨.hbm, 453, rfl⟩
abbrev main_v402 : Ref sig .tc := ⟨.hbm, 454, rfl⟩
abbrev main_v403 : Ref sig .tc := ⟨.hbm, 455, rfl⟩
abbrev main_v404 : Ref sig .tc := ⟨.hbm, 456, rfl⟩
abbrev main_v405 : Ref sig .tc := ⟨.hbm, 457, rfl⟩
abbrev main_v406 : Ref sig .tc := ⟨.hbm, 458, rfl⟩
abbrev main_v407 : Ref sig .tc := ⟨.hbm, 459, rfl⟩
abbrev main_v408 : Ref sig .tc := ⟨.hbm, 460, rfl⟩
abbrev main_v409 : Ref sig .tc := ⟨.hbm, 461, rfl⟩
abbrev main_v410 : Ref sig .tc := ⟨.hbm, 462, rfl⟩
abbrev main_v411 : Ref sig .tc := ⟨.hbm, 463, rfl⟩
abbrev main_v412 : Ref sig .tc := ⟨.hbm, 464, rfl⟩
abbrev main_v413 : Ref sig .tc := ⟨.hbm, 465, rfl⟩
abbrev main_v414 : Ref sig .tc := ⟨.hbm, 466, rfl⟩
abbrev main_v415 : Ref sig .tc := ⟨.hbm, 467, rfl⟩
abbrev main_v416 : Ref sig .tc := ⟨.hbm, 468, rfl⟩

abbrev nD : Nat := 1
abbrev τ : Topo := Topo.v7x

variable {F : FTy → Type} [FloatOps F]
-- ==== Proof.Prog.lean ====
/- The kernel function, respelt: one channel of the slab stage and one output channel of the tree stage, each
   written once over its position, in continuation-passing style; the printed function is a sequence of them. -/
module

public import proofs.«01_k».proof.KernelIdeal

@[expose] public section

noncomputable section

namespace Cert.KernelIdeal.Tree

open Cert.KernelIdeal
open Idealize.ShloMosaic Idealize.SL.Sem
open Facts₀ Facts

variable {F : FTy → Type} [FloatOps F] [Facts]

/-- The kernel's programs. -/
abbrev KProg (F : FTy → Type) (α : Type) := Prog (TpuEff nD τ sig (Elt F) Λ₀ .tc) α

/-! ## The slab stage -/

/-- The 0/1 matrix that picks even columns (lanes 0–127) and odd columns (lanes 128–255). -/
def sel : FVec F S224x256 .bf16 :=
  truncf .bf16 (sitofp .f32 (extui 32 (cmpi .eq (iota .tc S224x256 32 [0] iota_S224x256_d0_w32)
    (addi (muli (broadcast S224x256 2#32) (andi (iota .tc S224x256 32 [1] iota_S224x256_d1_w32) (broadcast S224x256 127#32)))
      (shrsi (iota .tc S224x256 32 [1] iota_S224x256_d1_w32) (broadcast S224x256 7#32)))) natLt_1_32)) bitsLt_bf16_f32

/-- A slab split into its even and odd columns, by two products with the 0/1 matrix. -/
def split (v : Vec F S1x1x224x224 .f32) : FVec F S224x256 .f32 :=
  have w : FVec F S224x224 .f32 := shapeCast S224x224 v shapeCasts_S1x1x224x224_S224x224
  have hi : FVec F S224x224 .bf16 := truncf .bf16 w bitsLt_bf16_f32
  have lo : FVec F S224x224 .bf16 := truncf .bf16 (subf w (extf .f32 hi bitsLt_bf16_f32)) bitsLt_bf16_f32
  addf (matmul dot_S224x224_S224x256_S224x256_1_0_0_1_n_n none hi sel (constant S224x256 .f32 0x00000000#32))
    (matmul dot_S224x224_S224x256_S224x256_1_0_0_1_n_n none lo sel (constant S224x256 .f32 0x00000000#32))

def evenCols (v : Vec F S1x1x224x224 .f32) : FVec F S224x128 .f32 :=
  extractStridedSlice S224x128 ![0, 0] (split v) slices_S224x256_o0_0_S224x128

def oddCols (v : Vec F S1x1x224x224 .f32) : FVec F S224x128 .f32 :=
  extractStridedSlice S224x128 ![0, 128] (split v) slices_S224x256_o0_128_S224x128

/-- The odd columns one lane to the right, a zero column before them. -/
def leftCols (v : Vec F S1x1x224x224 .f32) : FVec F S224x128 .f32 :=
  concatenate S224x128 1 [⟨S224x1, broadcast S224x1 (Scalar.ofBits .f32 0x00000000#32)⟩,
    ⟨S224x127, extractStridedSlice S224x127 ![0, 0] (oddCols v) slices_S224x128_o0_0_S224x127⟩] concatenates_S224x1_S224x127_S224x128_d1

section Fn

variable (i : grid0.Coords) (arg2 : Memref sig .tc .smem S3x96x8 .i32) (arg3 : Memref sig .tc .smem S96x7x4 .f32)
  (arg4 : Memref sig .tc .vmem S1x24x224x224 .f32) (arg5 : Memref sig .tc .vmem S1x96x112x112 .f32)
  (arg6 : Memref sig .tc .vmem S3x96x232x128 .f32)

/-- Store `v` into a plane row block of the scratch, read there first and not used. -/
def putK {α : Type} (off : Fin 4 → Nat) (h : ∀ a, off a + S1x1x224x128.size a ≤ S3x96x232x128.size a) (v : FVec F S224x128 .f32)
    (k : KProg F α) : KProg F α := do
  let _ ← Prog.lift (.load arg6 (Rect.unit (s := S3x96x232x128) off S1x1x224x128.size h).toLoadRect (View.loadsAt_vmem h_S1x1x224x128))
  Prog.lift (.store arg6 (Rect.unit (s := S3x96x232x128) off S1x1x224x128.size h) (shapeCast S1x1x224x128 v shapeCasts_S224x128_S1x1x224x128) Finset.univ (View.stores_vmem_bits_univ h_S1x1x224x128 rfl) (.inl rfl))
  k

/-- Channel `n` of the slab. -/
def chanK {α : Type} (n : Fin 24) (k : KProg F α) : KProg F α := do
  let v ← Prog.lift (.load arg4 (Rect.unit (s := S1x24x224x224) (k0_off1 (BitVec.ofNat 32 n.val)) S1x1x224x224.size (k0_off1_inb n)).toLoadRect (View.loadsAt_vmem h_S1x1x224x224))
  putK arg6 (k0_off2 i (BitVec.ofNat 32 n.val)) (k0_off2_inb i n) (evenCols v)
    (putK arg6 (k0_off3 i (BitVec.ofNat 32 n.val)) (k0_off3_inb i n) (oddCols v)
      (putK arg6 (k0_off4 i (BitVec.ofNat 32 n.val)) (k0_off4_inb i n) (leftCols v) k))

/-- The channels from `n` on, `r` of them. -/
def chansK {α : Type} (k : KProg F α) : (r n : Nat) → r + n = 24 → KProg F α
  | 0, _, _ => k
  | r + 1, n, h => chanK i arg4 arg6 ⟨n, by omega⟩ (chansK k r (n + 1) (by omega))

/-! ## The tree stage -/

/-- The output channel's word: sixteen to a trip. -/
def ocWord (t : Fin k0_t1_loop.trips) (u : Nat) : BitVec 32 :=
  Scalar.addi (Scalar.muli 16#32 (Scf.iv 0#32 1#32 t)) (BitVec.ofNat 32 u)

theorem trips_eq : k0_t1_loop.trips = 6 := by decide

theorem ocWord_toNat (t : Fin k0_t1_loop.trips) (u : Fin 16) : (Scalar.indexCast (ocWord t u.val)).toNat = 16 * t.val + u.val := by
  revert u t; decide +kernel

def offLid (t : Fin k0_t1_loop.trips) (u p l : Nat) : Fin 3 → Nat := ![p, (Scalar.indexCast (ocWord t u)).toNat, l]
def offCoef (t : Fin k0_t1_loop.trips) (u n j : Nat) : Fin 3 → Nat := ![(Scalar.indexCast (ocWord t u)).toNat, n, j]
def offOut (t : Fin k0_t1_loop.trips) (u : Nat) : Fin 4 → Nat := ![0, (Scalar.indexCast (ocWord t u)).toNat, 0, 0]

theorem offLid_inb (t : Fin k0_t1_loop.trips) (u : Fin 16) (p : Fin 3) (l : Fin 8) (a) : offLid t u.val p.val l.val a + S1x1x1.size a ≤ S3x96x8.size a := by
  have ht : t.val < 6 := Nat.lt_of_lt_of_eq t.isLt trips_eq
  unfold offLid; rw [ocWord_toNat]
  fin_cases a <;> (simp [S1x1x1, S3x96x8]; omega)

theorem offCoef_inb (t : Fin k0_t1_loop.trips) (u : Fin 16) (n : Fin 7) (j : Fin 4) (a) : offCoef t u.val n.val j.val a + S1x1x1.size a ≤ S96x7x4.size a := by
  have ht : t.val < 6 := Nat.lt_of_lt_of_eq t.isLt trips_eq
  unfold offCoef; rw [ocWord_toNat]
  fin_cases a <;> (simp [S1x1x1, S96x7x4]; omega)

theorem offOut_inb (t : Fin k0_t1_loop.trips) (u : Fin 16) (a) : offOut t u.val a + S1x1x112x112.size a ≤ S1x96x112x112.size a := by
  have ht : t.val < 6 := Nat.lt_of_lt_of_eq t.isLt trips_eq
  unfold offOut; rw [ocWord_toNat]
  fin_cases a <;> (simp [S1x1x112x112, S1x96x112x112]; try omega)

variable (h2 : k0_cond2 i = 1#1) (t : Fin k0_t1_loop.trips) (u : Fin 16)

/-- Leaf `l` of the output channel: its plane, channel and row read as words, then its rows. -/
def leafK {α : Type} (l : Fin 8) (k : FVec F S112x128 .f32 → KProg F α) : KProg F α := do
  let c : Elt F .i32 ← smemLoad arg2 (Rect.unit (s := S3x96x8) (offLid t u.val 0 l.val) S1x1x1.size (offLid_inb t u 0 l)) numel1_S1x1x1 rfl
  let dy : Elt F .i32 ← smemLoad arg2 (Rect.unit (s := S3x96x8) (offLid t u.val 1 l.val) S1x1x1.size (offLid_inb t u 1 l)) numel1_S1x1x1 rfl
  let dx : Elt F .i32 ← smemLoad arg2 (Rect.unit (s := S3x96x8) (offLid t u.val 2 l.val) S1x1x1.size (offLid_inb t u 2 l)) numel1_S1x1x1 rfl
  have hw : k0_chk1 i c dy dx := (← Prog.lift (TpuEff.assume (k0_chk1 i c dy dx) (k0_chk1.dec i c dy dx))).down
  let r : Vec F S1x1x112x128 .f32 ← Prog.lift (.load arg6 (⟨k0_off8 c dy dx, S1x1x112x128.size, ![1, 1, 2, 1], (k0_off8_inb i c dy dx hw h2)⟩ : LoadRect S3x96x232x128) (View.loadsAt_vmem h_S1x1x112x128))
  k (shapeCast S112x128 r shapeCasts_S1x1x112x128_S112x128)

/-- One node: `k0 + ka·a + kb·b + kab·(a·b)`. -/
def node (k0 ka kb kab : F .f32) (a b : FVec F S112x128 .f32) : FVec F S112x128 .f32 :=
  addf (addf (addf (broadcast S112x128 k0) (mulf (broadcast S112x128 ka) a)) (mulf (broadcast S112x128 kb) b)) (mulf (broadcast S112x128 kab) (mulf a b))

/-- Node `n` of the output channel over its two inputs: four coefficients read, then its value. -/
def nodeK {α : Type} (n : Fin 7) (a b : FVec F S112x128 .f32) (k : FVec F S112x128 .f32 → KProg F α) : KProg F α := do
  let k0 : Elt F .f32 ← smemLoad arg3 (Rect.unit (s := S96x7x4) (offCoef t u.val n.val 0) S1x1x1.size (offCoef_inb t u n 0)) numel1_S1x1x1 rfl
  let ka : Elt F .f32 ← smemLoad arg3 (Rect.unit (s := S96x7x4) (offCoef t u.val n.val 1) S1x1x1.size (offCoef_inb t u n 1)) numel1_S1x1x1 rfl
  let kb : Elt F .f32 ← smemLoad arg3 (Rect.unit (s := S96x7x4) (offCoef t u.val n.val 2) S1x1x1.size (offCoef_inb t u n 2)) numel1_S1x1x1 rfl
  let kab : Elt F .f32 ← smemLoad arg3 (Rect.unit (s := S96x7x4) (offCoef t u.val n.val 3) S1x1x1.size (offCoef_inb t u n 3)) numel1_S1x1x1 rfl
  k (node k0 ka kb kab a b)

/-- Store the output channel, its place read first and not used. -/
def outK {α : Type} (v : FVec F S112x128 .f32) (k : KProg F α) : KProg F α := do
  let _ ← Prog.lift (.load arg5 (Rect.unit (s := S1x96x112x112) (offOut t u.val) S1x1x112x112.size (offOut_inb t u)).toLoadRect (View.loadsAt_vmem h_S1x1x112x112))
  Prog.lift (.store arg5 (Rect.unit (s := S1x96x112x112) (offOut t u.val) S1x1x112x112.size (offOut_inb t u))
    (shapeCast S1x1x112x112 (extractStridedSlice S112x112 ![0, 0] v slices_S112x128_o0_0_S112x112) shapeCasts_S112x112_S1x1x112x112) Finset.univ (View.stores_vmem_bits_univ h_S1x1x112x112 rfl) (.inl rfl))
  k

/-- One output channel. -/
def ocK {α : Type} (k : KProg F α) : KProg F α :=
  leafK i arg2 arg6 h2 t u 0 fun l0 => leafK i arg2 arg6 h2 t u 1 fun l1 =>
  leafK i arg2 arg6 h2 t u 2 fun l2 => leafK i arg2 arg6 h2 t u 3 fun l3 =>
  leafK i arg2 arg6 h2 t u 4 fun l4 => leafK i arg2 arg6 h2 t u 5 fun l5 =>
  leafK i arg2 arg6 h2 t u 6 fun l6 => leafK i arg2 arg6 h2 t u 7 fun l7 =>
  nodeK arg3 t u 0 l0 l1 fun n0 => nodeK arg3 t u 1 l2 l3 fun n1 =>
  nodeK arg3 t u 2 l4 l5 fun n2 => nodeK arg3 t u 3 l6 l7 fun n3 =>
  nodeK arg3 t u 4 n0 n1 fun n4 => nodeK arg3 t u 5 n2 n3 fun n5 =>
  nodeK arg3 t u 6 n4 n5 fun n6 => outK arg5 t u n6 k

/-- The trip's output channels from `n` on, `r` of them. -/
def ocsK {α : Type} (k : KProg F α) : (r n : Nat) → r + n = 16 → KProg F α
  | 0, _, _ => k
  | r + 1, n, h => ocK i arg2 arg3 arg5 arg6 h2 t ⟨n, by omega⟩ (ocsK k r (n + 1) (by omega))

/-- What follows the slab stage: at the last channel chunk, six trips of sixteen output channels. -/
def treeStage : KProg F PUnit := do
  if h2 : k0_cond2 i = 1#1 then do
    Scf.Loop.for k0_t1_loop (k0_t1_ok i h2) ⟨⟩ fun t _ => ocsK i arg2 arg3 arg5 arg6 h2 t (pure PUnit.unit) 16 0 rfl
    pure ⟨⟩
  else do
    pure ⟨⟩
  pure ⟨⟩

/-- The first point's start: the eight pad rows of every plane and channel at zero. -/
def zeroK {α : Type} (k : KProg F α) : KProg F α := do
  let _ ← Prog.lift (.load arg6 (Rect.unit (s := S3x96x232x128) ![0, 0, 0, 0] S3x96x8x128.size inb_S3x96x232x128_S3x96x8x128_0_0_0_0).toLoadRect (View.loadsAt_vmem h_S3x96x8x128))
  Prog.lift (.store arg6 (Rect.unit (s := S3x96x232x128) ![0, 0, 0, 0] S3x96x8x128.size inb_S3x96x232x128_S3x96x8x128_0_0_0_0)
    (shapeCast S3x96x8x128 (broadcast S3x96x8x128 (Scalar.ofBits .f32 0x00000000#32 : F .f32)) shapeCasts_S3x96x8x128_S3x96x8x128) Finset.univ (View.stores_vmem_bits_univ h_S3x96x8x128 rfl) (.inl rfl))
  k

/-- Whether the point is the first: the word the body tests. -/
def cond1 : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- What the body runs past its first condition. -/
def slabStage : KProg F PUnit := chansK i arg4 arg6 (treeStage i arg2 arg3 arg5 arg6) 24 0 rfl

end Fn

end Cert.KernelIdeal.Tree

end
-- ==== Proof.ProgTrip.lean ====
/- The printed function is the respelt one: twenty-four slab channels, then at the last chunk the output channels. -/
module

public import proofs.«01_k».proof.Proof.Prog
public meta import Idealize.ShloMosaic.Lib.Tactic
public import Idealize.ShloMosaic.Lib.Tactic

@[expose] public section

noncomputable section

namespace Cert.KernelIdeal.Tree

open Cert.KernelIdeal
open Idealize.ShloMosaic Idealize.SL.Sem Idealize.ShloMosaic.Tactic
open Facts₀ Facts

variable {F : FTy → Type} [FloatOps F] [Facts]

variable (i : grid0.Coords) (arg2 : Memref sig .tc .smem S3x96x8 .i32) (harg2 : arg2.IsWhole) (arg3 : Memref sig .tc .smem S96x7x4 .f32) (harg3 : arg3.IsWhole) (arg4 : Memref sig .tc .vmem S1x24x224x224 .f32) (harg4 : arg4.IsWhole) (arg5 : Memref sig .tc .vmem S1x96x112x112 .f32) (harg5 : arg5.IsWhole) (arg6 : Memref sig .tc .vmem S3x96x232x128 .f32) (harg6 : arg6.IsWhole)

/-- What the printed function's first part runs past its condition: the first slab read and split. -/
def head : Prog (TpuEff nD τ sig (Elt F) Λ₀ .tc) (Σ' (arg1 : BitVec 32) (v17 : FVec F S224x256 .bf16) (c0_i32_2 : BitVec 32) (v26 : BitVec 32) (v34 : FVec F S224x128 .f32), FVec F S224x128 .f32) := do
  let v ← Prog.lift (.load arg4 (Rect.unit (s := S1x24x224x224) (k0_off1 0#32) S1x1x224x224.size (k0_off1_inb 0)).toLoadRect (View.loadsAt_vmem h_S1x1x224x224))
  pure ⟨BitVec.ofNat 32 (i 1).val, sel, 0#32, Scalar.addi (Scalar.addi (Scalar.muli (BitVec.ofNat 32 (i 1).val) 24#32) (Scalar.muli 24#32 0#32)) 0#32, evenCols v, oddCols v⟩

theorem head_eq : k0_part101 (F := F) i arg2 harg2 arg3 harg3 arg4 harg4 arg5 harg5 arg6 harg6 = if cond1 i = 1#1 then zeroK arg6 (head i arg4) else head i arg4 := by
  sl_kernel_rfl

set_option maxRecDepth 65536 in
/-- The printed function, respelt. -/
theorem fn_eq : cc0__tree_kernel (F := F) i arg2 harg2 arg3 harg3 arg4 harg4 arg5 harg5 arg6 harg6
    = if cond1 i = 1#1 then zeroK arg6 (slabStage i arg2 arg3 arg4 arg5 arg6) else slabStage i arg2 arg3 arg4 arg5 arg6 := by
  unfold cc0__tree_kernel k0_part123
  rw [head_eq]
  by_cases h : cond1 i = 1#1
  · rw [if_pos h, if_pos h]; sl_kernel_rfl
  · rw [if_neg h, if_neg h]; sl_kernel_rfl

end Cert.KernelIdeal.Tree

end
-- ==== Proof.Content.lean ====
/- What the scratch and the output block hold between the body's steps, as plain functions of the words, the
   coefficients and the image. -/
module

public import proofs.«01_k».proof.Proof.Prog
public import proofs.«01_k».proof.Proof.Gen.KernelIdeal.Frame
public import Idealize.ShloMosaic.Lib.VecWindow
public import Idealize.ShloMosaic.Lib.Pipeline.Value
public import Idealize.ShloMosaic.Lib.Pointwise.Index

@[expose] public section

noncomputable section

namespace Cert.KernelIdeal.Tree

open Cert.KernelIdeal
open Idealize.ShloMosaic Idealize.SL.Sem
open Facts₀ Facts

variable {F : FTy → Type} [FloatOps F]

/-! ## Where the accesses land -/

theorem off1_eq (n : Fin 24) : k0_off1 (BitVec.ofNat 32 n.val) = ![0, n.val, 0, 0] := by
  revert n; decide +kernel

private theorem word_chunk (a : Fin 4) (n : Fin 24) :
    (Scalar.indexCast (Scalar.addi (Scalar.addi (Scalar.muli (BitVec.ofNat 32 a.val) 24#32) (Scalar.muli 24#32 0#32)) (BitVec.ofNat 32 n.val))).toNat = 24 * a.val + n.val := by
  revert n a; decide +kernel

theorem off2_eq (i : grid0.Coords) (n : Fin 24) : k0_off2 i (BitVec.ofNat 32 n.val) = ![1, 24 * (i 1).val + n.val, 8, 0] := by
  unfold k0_off2
  exact congrArg (fun z => (![1, z, 8, 0] : Fin 4 → ℕ)) (word_chunk (i 1) n)

theorem off3_eq (i : grid0.Coords) (n : Fin 24) : k0_off3 i (BitVec.ofNat 32 n.val) = ![2, 24 * (i 1).val + n.val, 8, 0] := by
  unfold k0_off3
  exact congrArg (fun z => (![2, z, 8, 0] : Fin 4 → ℕ)) (word_chunk (i 1) n)

theorem off4_eq (i : grid0.Coords) (n : Fin 24) : k0_off4 i (BitVec.ofNat 32 n.val) = ![0, 24 * (i 1).val + n.val, 8, 0] := by
  unfold k0_off4
  exact congrArg (fun z => (![0, z, 8, 0] : Fin 4 → ℕ)) (word_chunk (i 1) n)

/-! ## The scratch -/

/-- The zero the pad rows hold. -/
def zf : F .f32 := Scalar.ofBits .f32 0x00000000#32

/-- The three planes of a slab: its odd columns moved right, its even columns, its odd columns. -/
def plane (p : Fin 3) (v : Vec F S1x1x224x224 .f32) : FVec F S224x128 .f32 :=
  match p with
  | 0 => leftCols v
  | 1 => evenCols v
  | 2 => oddCols v

/-- The scratch holds zeros in its pad rows, and in plane `p` the planes of the slabs `xs` below `lim p`. -/
def Rows (xs : ℕ → Vec F S1x1x224x224 .f32) (lim : Fin 3 → ℕ) (g : S3x96x232x128.Idx → F .f32) : Prop :=
  (∀ (p : Fin 3) (c : Fin 96) (h : Fin 232) (w : Fin 128), h.val < 8 → g (ix4 p c h w) = zf) ∧
  ∀ (p : Fin 3) (c : Fin 96) (h : Fin 224) (w : Fin 128), c.val < lim p →
    g (ix4 p c ⟨h.val + 8, by omega⟩ w) = plane p (xs c.val) (ix2 h w)

/-- Contents once one plane's rows of one channel are stored. -/
theorem put_apply (g : S3x96x232x128.Idx → F .f32) (p0 : Fin 3) (n : ℕ) (v : FVec F S224x128 .f32)
    (p : Fin 3) (c : Fin 96) (h : Fin 232) (w : Fin 128) :
    VecWindow.put g ![p0.val, n, 8, 0] S1x1x224x128.size (shapeCast S1x1x224x128 v shapeCasts_S224x128_S1x1x224x128) (ix4 p c h w) =
      if hh : p = p0 ∧ c.val = n ∧ 8 ≤ h.val then v (ix2 ⟨h.val - 8, by omega⟩ w) else g (ix4 p c h w) := by
  unfold VecWindow.put
  by_cases hh : p = p0 ∧ c.val = n ∧ 8 ≤ h.val
  · rw [dif_pos hh, dif_pos]
    swap
    · intro a
      obtain ⟨h0, h1, h2⟩ := hh
      subst h0 h1
      have := h.isLt; have := w.isLt
      fin_cases a <;> simp [ix4, S1x1x224x128] <;> omega
    · refine shapeCast_apply _ _ _ _ ?_
      obtain ⟨h0, h1, h2⟩ := hh
      simp [Shape.rowMajor_val_two, Shape.rowMajor_val_four, Rect.unitLocal_val, ix4, ix2, S1x1x224x128, S224x128]
      subst h0 h1
      simp
  · rw [dif_neg hh, dif_neg]
    intro ha
    apply hh
    have h0 := ha 0; have h1 := ha 1; have h2 := ha 2
    simp [ix4, S1x1x224x128] at h0 h1 h2
    refine ⟨Fin.ext (by omega), by omega, by omega⟩

theorem Rows.put {xs : ℕ → Vec F S1x1x224x224 .f32} {lim : Fin 3 → ℕ} {g : S3x96x232x128.Idx → F .f32} (hg : Rows xs lim g)
    (p0 : Fin 3) (v : Vec F S1x1x224x224 .f32) (hv : v = xs (lim p0)) :
    Rows xs (Function.update lim p0 (lim p0 + 1))
      (VecWindow.put g ![p0.val, lim p0, 8, 0] S1x1x224x128.size (shapeCast S1x1x224x128 (plane p0 v) shapeCasts_S224x128_S1x1x224x128)) := by
  subst hv
  refine ⟨fun p c h w hh => ?_, fun p c h w hc => ?_⟩
  · rw [put_apply, dif_neg (by omega)]
    exact hg.1 p c h w hh
  · rw [put_apply]
    by_cases h1 : p = p0 ∧ c.val = lim p0
    · rw [dif_pos ⟨h1.1, h1.2, by simp⟩]
      obtain ⟨h1, h2⟩ := h1
      subst h1
      simp [h2]
    · rw [dif_neg (by tauto)]
      refine hg.2 p c h w ?_
      by_cases hp : p = p0
      · subst hp
        rw [Function.update_self] at hc
        have : c.val ≠ lim p := fun e => h1 ⟨rfl, e⟩
        omega
      · rwa [Function.update_of_ne hp] at hc

/-- One channel's three stores. -/
theorem Rows.chan {xs : ℕ → Vec F S1x1x224x224 .f32} {n : ℕ} {g : S3x96x232x128.Idx → F .f32} (hg : Rows xs (fun _ => n) g)
    (v : Vec F S1x1x224x224 .f32) (hv : v = xs n) :
    Rows xs (fun _ => n + 1)
      (VecWindow.put (VecWindow.put (VecWindow.put g ![1, n, 8, 0] S1x1x224x128.size (shapeCast S1x1x224x128 (evenCols v) shapeCasts_S224x128_S1x1x224x128))
        ![2, n, 8, 0] S1x1x224x128.size (shapeCast S1x1x224x128 (oddCols v) shapeCasts_S224x128_S1x1x224x128))
        ![0, n, 8, 0] S1x1x224x128.size (shapeCast S1x1x224x128 (leftCols v) shapeCasts_S224x128_S1x1x224x128)) := by
  have h := ((hg.put 1 v hv).put 2 v hv).put 0 v hv
  have e : (Function.update (Function.update (Function.update (fun _ => n) (1 : Fin 3) (n + 1)) 2 (n + 1)) 0 (n + 1)) = fun _ : Fin 3 => n + 1 := by
    funext p; fin_cases p <;> rfl
  rw [← e]
  exact h

/-- Contents of the first point: the pad rows at zero. -/
theorem Rows.zero (xs : ℕ → Vec F S1x1x224x224 .f32) (g : S3x96x232x128.Idx → F .f32) :
    Rows xs (fun _ => 0) (VecWindow.put g ![0, 0, 0, 0] S3x96x8x128.size
      (shapeCast S3x96x8x128 (broadcast S3x96x8x128 (Scalar.ofBits .f32 0x00000000#32 : F .f32)) shapeCasts_S3x96x8x128_S3x96x8x128)) := by
  refine ⟨fun p c h w hh => ?_, fun p c h w hc => absurd hc (Nat.not_lt_zero _)⟩
  unfold VecWindow.put
  rw [dif_pos]
  · rfl
  · intro a
    have := p.isLt; have := c.isLt; have := w.isLt
    fin_cases a <;> simp [ix4, S3x96x8x128] <;> omega

theorem Rows.restart {xs xs' : ℕ → Vec F S1x1x224x224 .f32} {lim : Fin 3 → ℕ} {g : S3x96x232x128.Idx → F .f32} (hg : Rows xs lim g) :
    Rows xs' (fun _ => 0) g := ⟨hg.1, fun _ _ _ _ h => absurd h (Nat.not_lt_zero _)⟩

theorem Rows.congr {xs xs' : ℕ → Vec F S1x1x224x224 .f32} {n : ℕ} {g : S3x96x232x128.Idx → F .f32} (hg : Rows xs (fun _ => n) g)
    (h : ∀ c < n, xs c = xs' c) : Rows xs' (fun _ => n) g :=
  ⟨hg.1, fun p c h' w hc => by rw [hg.2 p c h' w hc, h _ hc]⟩

/-! ## A leaf, a node, an output channel -/

/-- The words name places inside the scratch. -/
def LidOk (L : S3x96x8.Idx → BitVec 32) : Prop :=
  ∀ (i : grid0.Coords) (oc : Fin 96) (l : Fin 8), k0_chk1 i (L (ix3 0 oc l)) (L (ix3 1 oc l)) (L (ix3 2 oc l))

/-- The scratch at a place given by numbers. -/
def at4 (S : S3x96x232x128.Idx → F .f32) (p c h w : ℕ) : F .f32 :=
  S (ix4 (Fin.ofNat _ p) (Fin.ofNat _ c) (Fin.ofNat _ h) (Fin.ofNat _ w))

/-- Leaf `l` of output channel `oc`. -/
def leafV (L : S3x96x8.Idx → BitVec 32) (S : S3x96x232x128.Idx → F .f32) (oc : Fin 96) (l : Fin 8) : FVec F S112x128 .f32 :=
  fun j => at4 S (k0_off8 (L (ix3 0 oc l)) (L (ix3 1 oc l)) (L (ix3 2 oc l)) 0) (k0_off8 (L (ix3 0 oc l)) (L (ix3 1 oc l)) (L (ix3 2 oc l)) 1)
    (k0_off8 (L (ix3 0 oc l)) (L (ix3 1 oc l)) (L (ix3 2 oc l)) 2 + 2 * (j 0).val) (j 1).val

/-- Node `n` of output channel `oc`. -/
def nodeV (C : S96x7x4.Idx → F .f32) (oc : Fin 96) (n : Fin 7) (a b : FVec F S112x128 .f32) : FVec F S112x128 .f32 :=
  node (C (ix3 oc n 0)) (C (ix3 oc n 1)) (C (ix3 oc n 2)) (C (ix3 oc n 3)) a b

/-- Output channel `oc`. -/
def ocV (L : S3x96x8.Idx → BitVec 32) (C : S96x7x4.Idx → F .f32) (S : S3x96x232x128.Idx → F .f32) (oc : Fin 96) : FVec F S112x128 .f32 :=
  nodeV C oc 6
    (nodeV C oc 4 (nodeV C oc 0 (leafV L S oc 0) (leafV L S oc 1)) (nodeV C oc 1 (leafV L S oc 2) (leafV L S oc 3)))
    (nodeV C oc 5 (nodeV C oc 2 (leafV L S oc 4) (leafV L S oc 5)) (nodeV C oc 3 (leafV L S oc 6) (leafV L S oc 7)))

/-- The output block with its channels below `n` written. -/
def mix (L : S3x96x8.Idx → BitVec 32) (C : S96x7x4.Idx → F .f32) (S : S3x96x232x128.Idx → F .f32) (X : S1x96x112x112.Idx → F .f32) (n : ℕ) :
    S1x96x112x112.Idx → F .f32 :=
  fun y => if (y 1).val < n then ocV L C S (y 1) (ix2 (y 2) (Fin.castLE (by decide) (y 3 : Fin 112))) else X y

theorem mix_put (L : S3x96x8.Idx → BitVec 32) (C : S96x7x4.Idx → F .f32) (S : S3x96x232x128.Idx → F .f32) (X : S1x96x112x112.Idx → F .f32) (oc : Fin 96) :
    VecWindow.put (mix L C S X oc.val) ![0, oc.val, 0, 0] S1x1x112x112.size
      (shapeCast S1x1x112x112 (extractStridedSlice S112x112 ![0, 0] (ocV L C S oc) slices_S112x128_o0_0_S112x112) shapeCasts_S112x112_S1x1x112x112)
      = mix L C S X (oc.val + 1) := by
  funext y
  obtain ⟨y0, y1, y2, y3, rfl⟩ : ∃ (a : Fin 1) (b : Fin 96) (c : Fin 112) (d : Fin 112), y = ix4 a b c d := ⟨y 0, y 1, y 2, y 3, eq_ix4 y⟩
  unfold VecWindow.put mix
  by_cases h : y1 = oc
  · subst h
    have ha : ∀ a, (![0, y1.val, 0, 0] : Fin 4 → ℕ) a ≤ ((ix4 y0 y1 y2 y3 : S1x96x112x112.Idx) a).val ∧
        ((ix4 y0 y1 y2 y3 : S1x96x112x112.Idx) a).val < (![0, y1.val, 0, 0] : Fin 4 → ℕ) a + S1x1x112x112.size a := by
      intro a
      have := y0.isLt; have := y2.isLt; have := y3.isLt
      fin_cases a <;> simp [ix4, S1x1x112x112]
    rw [dif_pos ha, if_pos (by simp [ix4])]
    refine (shapeCast_apply _ _ _ (ix2 y2 y3) ?_).trans ?_
    · simp [Shape.rowMajor_val_two, Shape.rowMajor_val_four, Rect.unitLocal_val, ix4, ix2, S1x1x112x112, S112x112]
    · refine congrArg (ocV L C S _) ?_
      funext a
      fin_cases a <;> simp [ix2, ix4] <;> rfl
  · rw [dif_neg]
    · have h' : y1.val ≠ oc.val := fun e => h (Fin.ext e)
      have : ((ix4 y0 y1 y2 y3 : S1x96x112x112.Idx) 1).val < oc.val ↔ ((ix4 y0 y1 y2 y3 : S1x96x112x112.Idx) 1).val < oc.val + 1 := by
        simp [ix4]; omega
      simp only [this]
    · intro ha
      have h1 := ha 1
      simp [ix4, S1x1x112x112] at h1
      exact h (Fin.ext (by omega))

theorem mix_zero (L : S3x96x8.Idx → BitVec 32) (C : S96x7x4.Idx → F .f32) (S : S3x96x232x128.Idx → F .f32) (X : S1x96x112x112.Idx → F .f32) :
    mix L C S X 0 = X := by funext y; unfold mix; rw [if_neg (by omega)]

/-- The whole output block. -/
def outV (L : S3x96x8.Idx → BitVec 32) (C : S96x7x4.Idx → F .f32) (S : S3x96x232x128.Idx → F .f32) : S1x96x112x112.Idx → F .f32 :=
  fun y => ocV L C S (y 1) (ix2 (y 2) (Fin.castLE (by decide) (y 3 : Fin 112)))

theorem mix_all (L : S3x96x8.Idx → BitVec 32) (C : S96x7x4.Idx → F .f32) (S : S3x96x232x128.Idx → F .f32) (X : S1x96x112x112.Idx → F .f32) :
    mix L C S X 96 = outV L C S := by
  funext y
  exact if_pos (show (y 1 : Fin 96).val < 96 from (y 1 : Fin 96).isLt)

end Cert.KernelIdeal.Tree

end
-- ==== Proof.Triples.lean ====
/- The rules of the kernel's steps: a load, a store and a word read through a memref whose contents are known, and from
   them the rules of a plane store, a leaf, a node and the output channel's store. -/
module

public import proofs.«01_k».proof.Proof.Content
public import proofs.«01_k».proof.Proof.Gen.KernelIdeal.Frame
public import Idealize.ShloMosaic.Lib.VecWindow
public import Idealize.ShloMosaic.Lib.Claim
public import Idealize.ShloMosaic.Lib.Pointwise.Index

@[expose] public section

noncomputable section

namespace Cert.KernelIdeal.Tree

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- A memref of core `c` held in full, `X` read through it. -/
abbrev Own (c : Dev nD) {sp : Space} {s : Shape} {e : EltTy} (m : Memref sig .tc sp s e) (X : s.Idx → Elt F e) : sProp 𝕄 :=
  owns (c : Thread nD τ) m fullShare X

/-- The weakest precondition of a kernel's program on core `c`. -/
abbrev WP (c : Dev nD) {α : Type} (p : KProg F α) (Q : α → sProp 𝕄) : sProp 𝕄 :=
  wp frame (wpE (defs₀ (F := F)) Variants.none (c : Thread nD τ) none) Set.univ p Q

section Rules

variable (c : Dev nD) {α : Type} {s : Shape} {e : EltTy}

theorem wp_loadX (Q : α → sProp 𝕄) {cs : CoreSpace} (m : Memref sig .tc cs s e) (r : LoadRect s) (hl : m.view.LoadsAt r) (X : s.Idx → Elt F e)
    (k : (r.shape.Idx → Elt F e) → KProg F α) :
    iprop(Own c m X ∗ (Own c m X -∗ WP c (k fun x => X (r.idx x)) Q)) ⊢ WP c (Prog.lift (.load m r hl) >>= k) Q := by
  unfold Own owns
  iintro ⟨⟨%f, %hf, H⟩, HK⟩
  subst hf
  have h := wp_load (defs := defs₀ (F := F)) (Γ := .empty) Variants.none (c : Thread nD τ) none Set.univ (Q := Q) (m := m) (r := r) (hl := hl) (k := k) (S := m.view.set) (q := fullShare) (f := f) (View.setOn_subset_set _ _)
  iapply h $$ H
  iintro H
  iapply HK
  iexists f
  isplitr
  · ipureintro; rfl
  iexact H

theorem wp_storeX (Q : α → sProp 𝕄) {cs : CoreSpace} (m : Memref sig .tc cs s e) {off off' size : Fin s.rank → ℕ} (inb : ∀ a, off a + size a ≤ s.size a)
    (w : (Rect.unit off size inb).shape.Idx → Elt F e) (hx : (m.access (Rect.unit off size inb)).Stores Finset.univ)
    (hm : Finset.univ = Finset.univ ∨ ∀ a, (Rect.unit off size inb).stride a = 1) (X : s.Idx → Elt F e) (hoff : off = off')
    (k : PUnit → KProg F α) :
    iprop(Own c m X ∗ (Own c m (VecWindow.put X off' size w) -∗ WP c (k ⟨⟩) Q))
      ⊢ WP c (Prog.lift (.store m (Rect.unit off size inb) w Finset.univ hx hm) >>= k) Q := by
  unfold Own owns
  iintro ⟨⟨%f, %hf, H⟩, HK⟩
  subst hf
  have h := wp_store_writes₀ (defs := defs₀ (F := F)) Variants.none (c : Thread nD τ) none Set.univ (Q := Q) (m := m) (w := w) (hx := hx) (hm := hm) (k := k) (S := m.view.set) (f := f) (View.set_slice_subset _ _)
  iapply h $$ H
  iintro H
  iapply HK
  iexists _
  isplitr [H]
  swap
  · iexact H
  ipureintro
  rw [View.read_writes_cons_put _ _ _ _ _ hoff]
  rfl

theorem wp_smemX (Q : α → sProp 𝕄) (m : Memref sig .tc .smem s e) (r : Rect s) (h1 : r.shape.numel = 1) (hp : e.packing = 1) (X : s.Idx → Elt F e)
    (y : s.Idx) (hy : ∀ x, r.emb x = y) (k : Elt F e → KProg F α) :
    iprop(Own c m X ∗ (Own c m X -∗ WP c (k (X y)) Q)) ⊢ WP c (smemLoad m r h1 hp >>= k) Q := by
  unfold Own owns
  iintro ⟨⟨%f, %hf, H⟩, HK⟩
  subst hf
  have h := wp_smemLoadElt (defs := defs₀ (F := F)) (Γ := .empty) Variants.none (c : Thread nD τ) none Set.univ (Q := Q) (m := m) (r := r) (hw := View.loads_smem_one hp h1)
    (x := Shape.Idx.first (h1.symm ▸ Nat.one_pos)) (k := k) (S := m.view.set) (q := fullShare) (f := f) (View.set_slice_subset _ _)
  iapply h $$ H
  iintro H
  have e : (m.access r).read (Elt F) f (Shape.Idx.first (h1.symm ▸ Nat.one_pos)) = m.view.read (Elt F) f y :=
    congrArg (m.view.read (Elt F) f) (hy _)
  rw [e]
  iapply HK
  iexists f
  isplitr
  · ipureintro; rfl
  iexact H

theorem wp_assumeX (Q : α → sProp 𝕄) {P : Prop} (h : P) (d : Decidable P) (k : PLift P → KProg F α) :
    WP c (k ⟨h⟩) Q ⊢ WP c (Prog.lift (.assume P d) >>= k) Q :=
  wp_assume (defs := defs₀ (F := F)) (Γ := .empty) Variants.none (c : Thread nD τ) none Set.univ h

theorem wp_retX (Q : α → sProp 𝕄) (a : α) : Q a ⊢ WP c (pure a : KProg F α) Q := by
  change _ ⊢ wp frame _ _ (Prog.ret a) Q
  rw [wp_ret]
  iintro H
  imodintro
  iexact H

theorem wp_bindX {β : Type} (Q : β → sProp 𝕄) (p : KProg F α) (k : α → KProg F β) :
    WP c p (fun a => WP c (k a) Q) ⊢ WP c (p >>= k) Q := by
  unfold WP
  rw [wp_bind]

end Rules

section Steps

variable (c : Dev nD) {α : Type} (i : grid0.Coords)
  (arg2 : Memref sig .tc .smem S3x96x8 .i32) (arg3 : Memref sig .tc .smem S96x7x4 .f32)
  (arg4 : Memref sig .tc .vmem S1x24x224x224 .f32) (arg5 : Memref sig .tc .vmem S1x96x112x112 .f32)
  (arg6 : Memref sig .tc .vmem S3x96x232x128 .f32)

theorem wp_putK (Q : α → sProp 𝕄) (off off' : Fin 4 → ℕ) (h : ∀ a, off a + S1x1x224x128.size a ≤ S3x96x232x128.size a) (hoff : off = off')
    (v : FVec F S224x128 .f32) (X : S3x96x232x128.Idx → F .f32) (k : KProg F α) :
    iprop(Own c arg6 X ∗ (Own c arg6 (VecWindow.put X off' S1x1x224x128.size (shapeCast S1x1x224x128 v shapeCasts_S224x128_S1x1x224x128)) -∗ WP c k Q))
      ⊢ WP c (putK arg6 off h v k) Q := by
  unfold putK
  iintro ⟨H, HK⟩
  iapply (wp_loadX (F := F) c Q arg6 (Rect.unit (s := S3x96x232x128) off S1x1x224x128.size h).toLoadRect (View.loadsAt_vmem h_S1x1x224x128) X)
  isplitl [H]
  · iexact H
  iintro H
  iapply (wp_storeX (F := F) c Q arg6 h (shapeCast S1x1x224x128 v shapeCasts_S224x128_S1x1x224x128) _ _ X hoff)
  isplitl [H]
  · iexact H
  iexact HK

/-- What one channel of the slab stage leaves in the scratch. -/
def chanPut (n : ℕ) (v : Vec F S1x1x224x224 .f32) (g : S3x96x232x128.Idx → F .f32) : S3x96x232x128.Idx → F .f32 :=
  VecWindow.put (VecWindow.put (VecWindow.put g ![1, n, 8, 0] S1x1x224x128.size (shapeCast S1x1x224x128 (evenCols v) shapeCasts_S224x128_S1x1x224x128))
        ![2, n, 8, 0] S1x1x224x128.size (shapeCast S1x1x224x128 (oddCols v) shapeCasts_S224x128_S1x1x224x128))
        ![0, n, 8, 0] S1x1x224x128.size (shapeCast S1x1x224x128 (leftCols v) shapeCasts_S224x128_S1x1x224x128)

/-- Slab `n` of a block of 24. -/
def slab (B : S1x24x224x224.Idx → F .f32) (n : Fin 24) : Vec F S1x1x224x224 .f32 :=
  fun y => B (ix4 0 n (y 2) (y 3))

theorem slab_read (B : S1x24x224x224.Idx → F .f32) (n : Fin 24) :
    (fun x => B ((Rect.unit (s := S1x24x224x224) (k0_off1 (BitVec.ofNat 32 n.val)) S1x1x224x224.size (k0_off1_inb n)).toLoadRect.idx x)) = slab B n := by
  funext x
  refine congrArg B ?_
  funext a
  refine Fin.ext ?_
  have h0 := (x 0).isLt
  have h1 := (x 1).isLt
  fin_cases a <;> simp [LoadRect.idx, Rect.unit, off1_eq, ix4, S1x1x224x224] at h0 h1 ⊢ <;> omega

theorem wp_chanK (Q : α → sProp 𝕄) (n : Fin 24) (B : S1x24x224x224.Idx → F .f32) (g : S3x96x232x128.Idx → F .f32) (k : KProg F α) :
    iprop(Own c arg4 B ∗ Own c arg6 g ∗ (Own c arg4 B -∗ Own c arg6 (chanPut (24 * (i 1).val + n.val) (slab B n) g) -∗ WP c k Q))
      ⊢ WP c (chanK i arg4 arg6 n k) Q := by
  unfold chanK chanPut
  iintro ⟨HB, Hg, HK⟩
  iapply (wp_loadX (F := F) c Q arg4 (Rect.unit (s := S1x24x224x224) (k0_off1 (BitVec.ofNat 32 n.val)) S1x1x224x224.size (k0_off1_inb n)).toLoadRect
    (View.loadsAt_vmem h_S1x1x224x224) B)
  isplitl [HB]
  · iexact HB
  iintro HB
  rw [slab_read]
  iapply (wp_putK c arg6 Q _ _ (k0_off2_inb i n) (off2_eq i n))
  isplitl [Hg]
  · iexact Hg
  iintro Hg
  iapply (wp_putK c arg6 Q _ _ (k0_off3_inb i n) (off3_eq i n))
  isplitl [Hg]
  · iexact Hg
  iintro Hg
  iapply (wp_putK c arg6 Q _ _ (k0_off4_inb i n) (off4_eq i n))
  isplitl [Hg]
  · iexact Hg
  iintro Hg
  iapply HK $$ HB Hg

/-- The slab stage: from the planes of the slabs below the block's first, those below its last. -/
theorem wp_chansK (Q : α → sProp 𝕄) (xs : ℕ → Vec F S1x1x224x224 .f32) (B : S1x24x224x224.Idx → F .f32)
    (hxs : ∀ n : Fin 24, slab B n = xs (24 * (i 1).val + n.val)) (k : KProg F α) :
    ∀ (r n : ℕ) (h : r + n = 24) (g : S3x96x232x128.Idx → F .f32), Rows xs (fun _ => 24 * (i 1).val + n) g →
      iprop(Own c arg4 B ∗ Own c arg6 g ∗ (∀ g', ⌜Rows xs (fun _ => 24 * (i 1).val + 24) g'⌝ -∗ Own c arg4 B -∗ Own c arg6 g' -∗ WP c k Q))
        ⊢ WP c (chansK i arg4 arg6 k r n h) Q
  | 0, n, h, g, hg => by
    obtain rfl : n = 24 := by omega
    unfold chansK
    iintro ⟨HB, Hg, HK⟩
    iapply HK $$ %g %hg HB Hg
  | r + 1, n, h, g, hg => by
    have hn : n < 24 := by omega
    have ih := wp_chansK Q xs B hxs k r (n + 1) (by omega) _ (hg.chan (slab B ⟨n, hn⟩) (hxs ⟨n, hn⟩))
    unfold chansK
    iintro ⟨HB, Hg, HK⟩
    iapply (wp_chanK c i arg4 arg6 Q ⟨n, hn⟩ B g)
    isplitl [HB]
    · iexact HB
    isplitl [Hg]
    · iexact Hg
    iintro HB Hg
    iapply ih
    isplitl [HB]
    · iexact HB
    isplitl [Hg]
    · iexact Hg
    iexact HK

theorem wp_zeroK (Q : α → sProp 𝕄) (g : S3x96x232x128.Idx → F .f32) (k : KProg F α) :
    iprop(Own c arg6 g ∗ (Own c arg6 (VecWindow.put g ![0, 0, 0, 0] S3x96x8x128.size
      (shapeCast S3x96x8x128 (broadcast S3x96x8x128 (Scalar.ofBits .f32 0x00000000#32 : F .f32)) shapeCasts_S3x96x8x128_S3x96x8x128)) -∗ WP c k Q))
      ⊢ WP c (zeroK arg6 k) Q := by
  unfold zeroK
  iintro ⟨H, HK⟩
  iapply (wp_loadX (F := F) c Q arg6 (Rect.unit (s := S3x96x232x128) ![0, 0, 0, 0] S3x96x8x128.size inb_S3x96x232x128_S3x96x8x128_0_0_0_0).toLoadRect
    (View.loadsAt_vmem h_S3x96x8x128) g)
  isplitl [H]
  · iexact H
  iintro H
  iapply (wp_storeX (F := F) c Q arg6 inb_S3x96x232x128_S3x96x8x128_0_0_0_0
    (shapeCast S3x96x8x128 (broadcast S3x96x8x128 (Scalar.ofBits .f32 0x00000000#32 : F .f32)) shapeCasts_S3x96x8x128_S3x96x8x128) _ _ g rfl)
  isplitl [H]
  · iexact H
  iexact HK

end Steps

end Cert.KernelIdeal.Tree

end
-- ==== Proof.Tree.lean ====
/- The rules of the tree stage: a leaf, a node, the output channel's store, an output channel, a trip's sixteen, the
   six trips; and the body from them. -/
module

public import proofs.«01_k».proof.Proof.ProgTrip
public import proofs.«01_k».proof.Proof.Triples

@[expose] public section

noncomputable section

namespace Cert.KernelIdeal.Tree

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-- The output channel of trip `t`'s place `u`. -/
def ocFin (t : Fin k0_t1_loop.trips) (u : Fin 16) : Fin 96 :=
  ⟨16 * t.val + u.val, by have := Nat.lt_of_lt_of_eq t.isLt trips_eq; omega⟩

theorem lid_emb (t : Fin k0_t1_loop.trips) (u : Fin 16) (p : Fin 3) (l : Fin 8)
    (x : (Rect.unit (s := S3x96x8) (offLid t u.val p.val l.val) S1x1x1.size (offLid_inb t u p l)).shape.Idx) :
    (Rect.unit (s := S3x96x8) (offLid t u.val p.val l.val) S1x1x1.size (offLid_inb t u p l)).emb x = ix3 p (ocFin t u) l := by
  funext a
  refine Fin.ext ?_
  have h := (x a).isLt
  have hw := ocWord_toNat t u
  have e : ((Rect.unit (s := S3x96x8) (offLid t u.val p.val l.val) S1x1x1.size (offLid_inb t u p l)).emb x a).val = offLid t u.val p.val l.val a + 1 * (x a).val := rfl
  rw [e]
  fin_cases a <;> simp [offLid, ix3, ocFin, S1x1x1, Rect.unit, hw] at h ⊢ <;> omega

theorem coef_emb (t : Fin k0_t1_loop.trips) (u : Fin 16) (n : Fin 7) (j : Fin 4)
    (x : (Rect.unit (s := S96x7x4) (offCoef t u.val n.val j.val) S1x1x1.size (offCoef_inb t u n j)).shape.Idx) :
    (Rect.unit (s := S96x7x4) (offCoef t u.val n.val j.val) S1x1x1.size (offCoef_inb t u n j)).emb x = ix3 (ocFin t u) n j := by
  funext a
  refine Fin.ext ?_
  have h := (x a).isLt
  have hw := ocWord_toNat t u
  have e : ((Rect.unit (s := S96x7x4) (offCoef t u.val n.val j.val) S1x1x1.size (offCoef_inb t u n j)).emb x a).val = offCoef t u.val n.val j.val a + 1 * (x a).val := rfl
  rw [e]
  fin_cases a <;> simp [offCoef, ix3, ocFin, S1x1x1, Rect.unit, hw] at h ⊢ <;> omega

theorem leaf_read (L : S3x96x8.Idx → BitVec 32) (S : S3x96x232x128.Idx → F .f32) (oc : Fin 96) (l : Fin 8)
    (h : ∀ a, S1x1x112x128.size a = 0 ∨ (k0_off8 (L (ix3 0 oc l)) (L (ix3 1 oc l)) (L (ix3 2 oc l))) a + (![1, 1, 2, 1] : Fin 4 → Nat) a * (S1x1x112x128.size a - 1) < S3x96x232x128.size a) :
    shapeCast S112x128 (fun x => S ((⟨k0_off8 (L (ix3 0 oc l)) (L (ix3 1 oc l)) (L (ix3 2 oc l)), S1x1x112x128.size, ![1, 1, 2, 1], h⟩ : LoadRect S3x96x232x128).idx x))
      shapeCasts_S1x1x112x128_S112x128 = leafV L S oc l := by
  funext j
  obtain ⟨j0, j1, rfl⟩ : ∃ (a : Fin 112) (b : Fin 128), j = ix2 a b := ⟨j 0, j 1, eq_ix2 j⟩
  refine (shapeCast_apply (s := S1x1x112x128) _ _ _ (ix4 0 0 j0 j1) ?_).trans ?_
  · simp [Shape.rowMajor_val_two, Shape.rowMajor_val_four, ix4, ix2, S1x1x112x128, S112x128]
  · have h0 := h 0; have h1 := h 1; have h2 := h 2; have h3 := h 3
    have e3 : k0_off8 (L (ix3 0 oc l)) (L (ix3 1 oc l)) (L (ix3 2 oc l)) 3 = 0 := rfl
    have hj0 := j0.isLt; have hj1 := j1.isLt
    unfold leafV at4
    refine congrArg S ?_
    generalize k0_off8 (L (ix3 0 oc l)) (L (ix3 1 oc l)) (L (ix3 2 oc l)) = off at *
    simp [S1x1x112x128, S3x96x232x128] at h0 h1 h2 h3
    funext a
    refine Fin.ext ?_
    have e : ((⟨off, S1x1x112x128.size, ![1, 1, 2, 1], h⟩ : LoadRect S3x96x232x128).idx (ix4 0 0 j0 j1) a).val
      = off a + (![1, 1, 2, 1] : Fin 4 → ℕ) a * ((ix4 0 0 j0 j1 : S1x1x112x128.Idx) a).val := rfl
    refine e.trans ?_
    fin_cases a <;> simp [ix4, ix2, S3x96x232x128, Fin.ofNat]
    · rw [Nat.mod_eq_of_lt h0]
    · rw [Nat.mod_eq_of_lt h1]
    · rw [Nat.mod_eq_of_lt (by omega)]
    · rw [Nat.mod_eq_of_lt (by omega)]; omega

section Steps

variable (c : Dev nD) {α : Type} (i : grid0.Coords)
  (arg2 : Memref sig .tc .smem S3x96x8 .i32) (arg3 : Memref sig .tc .smem S96x7x4 .f32)
  (arg4 : Memref sig .tc .vmem S1x24x224x224 .f32) (arg5 : Memref sig .tc .vmem S1x96x112x112 .f32)
  (arg6 : Memref sig .tc .vmem S3x96x232x128 .f32)
  (L : S3x96x8.Idx → BitVec 32) (C : S96x7x4.Idx → F .f32) (S : S3x96x232x128.Idx → F .f32)
  (h2 : k0_cond2 i = 1#1) (t : Fin k0_t1_loop.trips) (u : Fin 16)

theorem wp_leafK (Q : α → sProp 𝕄) (hL : LidOk L) (l : Fin 8) (k : FVec F S112x128 .f32 → KProg F α) :
    iprop(Own c arg2 L ∗ Own c arg6 S ∗ (Own c arg2 L -∗ Own c arg6 S -∗ WP c (k (leafV L S (ocFin t u) l)) Q))
      ⊢ WP c (leafK i arg2 arg6 h2 t u l k) Q := by
  unfold leafK
  iintro ⟨HL, HS, HK⟩
  iapply (wp_smemX (F := F) c Q arg2 _ numel1_S1x1x1 rfl L _ (lid_emb t u 0 l))
  isplitl [HL]
  · iexact HL
  iintro HL
  iapply (wp_smemX (F := F) c Q arg2 _ numel1_S1x1x1 rfl L _ (lid_emb t u 1 l))
  isplitl [HL]
  · iexact HL
  iintro HL
  iapply (wp_smemX (F := F) c Q arg2 _ numel1_S1x1x1 rfl L _ (lid_emb t u 2 l))
  isplitl [HL]
  · iexact HL
  iintro HL
  iapply (wp_assumeX (F := F) c Q (hL i (ocFin t u) l) _)
  iapply (wp_loadX (F := F) c Q arg6 _ _ S)
  isplitl [HS]
  · iexact HS
  iintro HS
  rw [leaf_read]
  iapply HK $$ HL HS

theorem wp_nodeK (Q : α → sProp 𝕄) (n : Fin 7) (a b : FVec F S112x128 .f32) (k : FVec F S112x128 .f32 → KProg F α) :
    iprop(Own c arg3 C ∗ (Own c arg3 C -∗ WP c (k (nodeV C (ocFin t u) n a b)) Q))
      ⊢ WP c (nodeK arg3 t u n a b k) Q := by
  unfold nodeK
  iintro ⟨HL, HK⟩
  iapply (wp_smemX (F := F) c Q arg3 _ numel1_S1x1x1 rfl C _ (coef_emb t u n 0))
  isplitl [HL]
  · iexact HL
  iintro HL
  iapply (wp_smemX (F := F) c Q arg3 _ numel1_S1x1x1 rfl C _ (coef_emb t u n 1))
  isplitl [HL]
  · iexact HL
  iintro HL
  iapply (wp_smemX (F := F) c Q arg3 _ numel1_S1x1x1 rfl C _ (coef_emb t u n 2))
  isplitl [HL]
  · iexact HL
  iintro HL
  iapply (wp_smemX (F := F) c Q arg3 _ numel1_S1x1x1 rfl C _ (coef_emb t u n 3))
  isplitl [HL]
  · iexact HL
  iexact HK

theorem wp_outK (Q : α → sProp 𝕄) (X : S1x96x112x112.Idx → F .f32) (k : KProg F α) :
    iprop(Own c arg5 (mix L C S X (ocFin t u).val) ∗ (Own c arg5 (mix L C S X ((ocFin t u).val + 1)) -∗ WP c k Q))
      ⊢ WP c (outK arg5 t u (ocV L C S (ocFin t u)) k) Q := by
  have hoff : offOut t u.val = ![0, (ocFin t u).val, 0, 0] := by
    unfold offOut; rw [ocWord_toNat]; rfl
  unfold outK
  rw [← mix_put]
  iintro ⟨H, HK⟩
  iapply (wp_loadX (F := F) c Q arg5 _ _ (mix L C S X (ocFin t u).val))
  isplitl [H]
  · iexact H
  iintro H
  iapply (wp_storeX (F := F) c Q arg5 (offOut_inb t u) _ _ _ (mix L C S X (ocFin t u).val) hoff)
  isplitl [H]
  · iexact H
  iexact HK

/-- What the tree stage reads. -/
abbrev Reads : sProp 𝕄 := iprop(Own c arg2 L ∗ Own c arg3 C ∗ Own c arg6 S)

theorem wp_leafK' (Q : α → sProp 𝕄) (hL : LidOk L) (l : Fin 8) (k : FVec F S112x128 .f32 → KProg F α) :
    iprop(Reads c arg2 arg3 arg6 L C S ∗ (Reads c arg2 arg3 arg6 L C S -∗ WP c (k (leafV L S (ocFin t u) l)) Q))
      ⊢ WP c (leafK i arg2 arg6 h2 t u l k) Q := by
  iintro ⟨⟨HL, HC, HS⟩, HK⟩
  iapply (wp_leafK c i arg2 arg6 L S h2 t u Q hL l k)
  isplitl [HL]
  · iexact HL
  isplitl [HS]
  · iexact HS
  iintro HL HS
  iapply HK
  isplitl [HL]
  · iexact HL
  isplitl [HC]
  · iexact HC
  iexact HS

theorem wp_nodeK' (Q : α → sProp 𝕄) (n : Fin 7) (a b : FVec F S112x128 .f32) (k : FVec F S112x128 .f32 → KProg F α) :
    iprop(Reads c arg2 arg3 arg6 L C S ∗ (Reads c arg2 arg3 arg6 L C S -∗ WP c (k (nodeV C (ocFin t u) n a b)) Q))
      ⊢ WP c (nodeK arg3 t u n a b k) Q := by
  iintro ⟨⟨HL, HC, HS⟩, HK⟩
  iapply (wp_nodeK c arg3 C t u Q n a b k)
  isplitl [HC]
  · iexact HC
  iintro HC
  iapply HK
  isplitl [HL]
  · iexact HL
  isplitl [HC]
  · iexact HC
  iexact HS

/-- One output channel. -/
theorem wp_ocK (Q : α → sProp 𝕄) (hL : LidOk L) (X : S1x96x112x112.Idx → F .f32) (k : KProg F α) :
    iprop(Reads c arg2 arg3 arg6 L C S ∗ Own c arg5 (mix L C S X (16 * t.val + u.val)) ∗
        (Reads c arg2 arg3 arg6 L C S -∗ Own c arg5 (mix L C S X (16 * t.val + u.val + 1)) -∗ WP c k Q))
      ⊢ WP c (ocK i arg2 arg3 arg5 arg6 h2 t u k) Q := by
  unfold ocK
  iintro ⟨HR, HX, HK⟩
  iapply (wp_leafK' c i arg2 arg3 arg6 L C S h2 t u Q hL 0)
  isplitl [HR]
  · iexact HR
  iintro HR
  iapply (wp_leafK' c i arg2 arg3 arg6 L C S h2 t u Q hL 1)
  isplitl [HR]
  · iexact HR
  iintro HR
  iapply (wp_leafK' c i arg2 arg3 arg6 L C S h2 t u Q hL 2)
  isplitl [HR]
  · iexact HR
  iintro HR
  iapply (wp_leafK' c i arg2 arg3 arg6 L C S h2 t u Q hL 3)
  isplitl [HR]
  · iexact HR
  iintro HR
  iapply (wp_leafK' c i arg2 arg3 arg6 L C S h2 t u Q hL 4)
  isplitl [HR]
  · iexact HR
  iintro HR
  iapply (wp_leafK' c i arg2 arg3 arg6 L C S h2 t u Q hL 5)
  isplitl [HR]
  · iexact HR
  iintro HR
  iapply (wp_leafK' c i arg2 arg3 arg6 L C S h2 t u Q hL 6)
  isplitl [HR]
  · iexact HR
  iintro HR
  iapply (wp_leafK' c i arg2 arg3 arg6 L C S h2 t u Q hL 7)
  isplitl [HR]
  · iexact HR
  iintro HR
  iapply (wp_nodeK' c arg2 arg3 arg6 L C S t u Q 0)
  isplitl [HR]
  · iexact HR
  iintro HR
  iapply (wp_nodeK' c arg2 arg3 arg6 L C S t u Q 1)
  isplitl [HR]
  · iexact HR
  iintro HR
  iapply (wp_nodeK' c arg2 arg3 arg6 L C S t u Q 2)
  isplitl [HR]
  · iexact HR
  iintro HR
  iapply (wp_nodeK' c arg2 arg3 arg6 L C S t u Q 3)
  isplitl [HR]
  · iexact HR
  iintro HR
  iapply (wp_nodeK' c arg2 arg3 arg6 L C S t u Q 4)
  isplitl [HR]
  · iexact HR
  iintro HR
  iapply (wp_nodeK' c arg2 arg3 arg6 L C S t u Q 5)
  isplitl [HR]
  · iexact HR
  iintro HR
  iapply (wp_nodeK' c arg2 arg3 arg6 L C S t u Q 6)
  isplitl [HR]
  · iexact HR
  iintro HR
  iapply (wp_outK c arg5 L C S t u Q X k)
  isplitl [HX]
  · iexact HX
  iintro HX
  have e : (ocFin t u).val = 16 * t.val + u.val := rfl
  rw [e]
  iapply HK $$ HR HX

/-- A trip's output channels. -/
theorem wp_ocsK (Q : α → sProp 𝕄) (hL : LidOk L) (X : S1x96x112x112.Idx → F .f32) (k : KProg F α) :
    ∀ (r n : ℕ) (h : r + n = 16),
    iprop(Reads c arg2 arg3 arg6 L C S ∗ Own c arg5 (mix L C S X (16 * t.val + n)) ∗
        (Reads c arg2 arg3 arg6 L C S -∗ Own c arg5 (mix L C S X (16 * t.val + 16)) -∗ WP c k Q))
      ⊢ WP c (ocsK i arg2 arg3 arg5 arg6 h2 t k r n h) Q
  | 0, n, h => by
    obtain rfl : n = 16 := by omega
    unfold ocsK
    iintro ⟨HR, HX, HK⟩
    iapply HK $$ HR HX
  | r + 1, n, h => by
    have hn : n < 16 := by omega
    have ih := wp_ocsK Q hL X k r (n + 1) (by omega)
    unfold ocsK
    iintro ⟨HR, HX, HK⟩
    iapply (wp_ocK c i arg2 arg3 arg5 arg6 L C S h2 t ⟨n, hn⟩ Q hL X)
    isplitl [HR]
    · iexact HR
    isplitl [HX]
    · iexact HX
    iintro HR HX
    iapply ih
    isplitl [HR]
    · iexact HR
    isplitl [HX]
    · iexact HX
    iexact HK

/-- The six trips. -/
theorem wp_trips (hL : LidOk L) (X : S1x96x112x112.Idx → F .f32) (Q : PUnit → sProp 𝕄) :
    iprop(Reads c arg2 arg3 arg6 L C S ∗ Own c arg5 X ∗ (Reads c arg2 arg3 arg6 L C S -∗ Own c arg5 (outV L C S) -∗ Q ⟨⟩))
      ⊢ WP c (Scf.Loop.for k0_t1_loop (k0_t1_ok i h2) ⟨⟩ fun t _ => ocsK i arg2 arg3 arg5 arg6 h2 t (pure PUnit.unit) 16 0 rfl) Q := by
  iintro ⟨HR, HX, HK⟩
  iapply (Scf.wp_for frame (wpE (defs₀ (F := F)) Variants.none (c : Thread nD τ) none) Set.univ k0_t1_loop.lb k0_t1_loop.ub k0_t1_loop.st (k0_t1_ok i h2) ⟨⟩
    (fun t _ => ocsK i arg2 arg3 arg5 arg6 h2 t (pure PUnit.unit) 16 0 rfl)
    (fun n _ => iprop(Reads c arg2 arg3 arg6 L C S ∗ Own c arg5 (mix L C S X (16 * n)))) ?hbody)
  case hbody =>
    intro t acc
    have h := wp_ocsK c i arg2 arg3 arg5 arg6 L C S h2 t (fun _ => iprop(Reads c arg2 arg3 arg6 L C S ∗ Own c arg5 (mix L C S X (16 * (t.val + 1))))) hL X (pure PUnit.unit) 16 0 rfl
    iintro ⟨HR, HX⟩
    iapply h
    isplitl [HR]
    · iexact HR
    isplitl [HX]
    · iexact HX
    iintro HR HX
    iapply (wp_retX (F := F) c)
    isplitl [HR]
    · iexact HR
    iexact HX
  have e6 : Scf.trips k0_t1_loop.lb k0_t1_loop.ub k0_t1_loop.st = 6 := trips_eq
  rw [e6, Nat.mul_zero, mix_zero, show 16 * 6 = 96 from rfl, mix_all]
  isplitl [HR HX]
  · isplitl [HR]
    · iexact HR
    iexact HX
  iintro %acc ⟨HR, HX⟩
  iapply HK $$ HR HX

theorem wp_treeStage (hL : LidOk L) (X : S1x96x112x112.Idx → F .f32) (Q : PUnit → sProp 𝕄) :
    iprop(Reads c arg2 arg3 arg6 L C S ∗ Own c arg5 X ∗ (Reads c arg2 arg3 arg6 L C S -∗ Own c arg5 (if k0_cond2 i = 1#1 then outV L C S else X) -∗ Q ⟨⟩))
      ⊢ WP c (treeStage i arg2 arg3 arg5 arg6) Q := by
  unfold treeStage
  by_cases h2 : k0_cond2 i = 1#1
  · rw [dif_pos h2, if_pos h2]
    iintro ⟨HR, HX, HK⟩
    iapply (wp_bindX (F := F) c Q)
    iapply (wp_trips c i arg2 arg3 arg5 arg6 L C S h2 hL X)
    isplitl [HR]
    · iexact HR
    isplitl [HX]
    · iexact HX
    iintro HR HX
    iapply (wp_retX (F := F) c)
    iapply HK $$ HR HX
  · rw [dif_neg h2, if_neg h2]
    iintro ⟨HR, HX, HK⟩
    iapply (wp_retX (F := F) c)
    iapply HK $$ HR HX

theorem wp_slabStage (xs : ℕ → Vec F S1x1x224x224 .f32) (B : S1x24x224x224.Idx → F .f32) (hL : LidOk L)
    (hxs : ∀ n : Fin 24, slab B n = xs (24 * (i 1).val + n.val)) (g : S3x96x232x128.Idx → F .f32) (hg : Rows xs (fun _ => 24 * (i 1).val) g)
    (X : S1x96x112x112.Idx → F .f32) (Q : PUnit → sProp 𝕄) :
    iprop(Own c arg2 L ∗ Own c arg3 C ∗ Own c arg4 B ∗ Own c arg5 X ∗ Own c arg6 g ∗
        (∀ g', ⌜Rows xs (fun _ => 24 * (i 1).val + 24) g'⌝ -∗ Own c arg2 L -∗ Own c arg3 C -∗ Own c arg4 B -∗
          Own c arg5 (if k0_cond2 i = 1#1 then outV L C g' else X) -∗ Own c arg6 g' -∗ Q ⟨⟩))
      ⊢ WP c (slabStage i arg2 arg3 arg4 arg5 arg6) Q := by
  unfold slabStage
  iintro ⟨HL, HC, HB, HX, Hg, HK⟩
  iapply (wp_chansK c i arg4 arg6 Q xs B hxs (treeStage i arg2 arg3 arg5 arg6) 24 0 rfl g hg)
  isplitl [HB]
  · iexact HB
  isplitl [Hg]
  · iexact Hg
  iintro %g' %hg' HB Hg
  iapply (wp_treeStage c i arg2 arg3 arg5 arg6 L C g' hL X Q)
  isplitl [HL HC Hg]
  · isplitl [HL]
    · iexact HL
    isplitl [HC]
    · iexact HC
    iexact Hg
  isplitl [HX]
  · iexact HX
  iintro ⟨HL, HC, Hg⟩ HX
  iapply HK $$ %g' %hg' HL HC HB HX Hg

theorem cond1_zero (i : grid0.Coords) (h : cond1 i = 1#1) : (i 1).val = 0 := by
  unfold cond1 at h
  generalize (i 1 : Fin 4) = b at *
  generalize (i 0 : Fin 4) = a at *
  revert h a b
  decide +kernel

/-- The body. -/
theorem wp_body (xs : ℕ → Vec F S1x1x224x224 .f32) (B : S1x24x224x224.Idx → F .f32) (hL : LidOk L)
    (hxs : ∀ n : Fin 24, slab B n = xs (24 * (i 1).val + n.val)) (g : S3x96x232x128.Idx → F .f32)
    (hg : ¬ cond1 i = 1#1 → Rows xs (fun _ => 24 * (i 1).val) g)
    (harg2 : arg2.IsWhole) (harg3 : arg3.IsWhole) (harg4 : arg4.IsWhole) (harg5 : arg5.IsWhole) (harg6 : arg6.IsWhole)
    (X : S1x96x112x112.Idx → F .f32) (Q : PUnit → sProp 𝕄) :
    iprop(Own c arg2 L ∗ Own c arg3 C ∗ Own c arg4 B ∗ Own c arg5 X ∗ Own c arg6 g ∗
        (∀ g', ⌜Rows xs (fun _ => 24 * (i 1).val + 24) g'⌝ -∗ Own c arg2 L -∗ Own c arg3 C -∗ Own c arg4 B -∗
          Own c arg5 (if k0_cond2 i = 1#1 then outV L C g' else X) -∗ Own c arg6 g' -∗ Q ⟨⟩))
      ⊢ WP c (cc0__tree_kernel (F := F) i arg2 harg2 arg3 harg3 arg4 harg4 arg5 harg5 arg6 harg6) Q := by
  rw [fn_eq]
  by_cases h : cond1 i = 1#1
  · rw [if_pos h]
    have hz : Rows xs (fun _ => 24 * (i 1).val) _ := (by rw [cond1_zero i h]; exact Rows.zero xs g)
    iintro ⟨HL, HC, HB, HX, Hg, HK⟩
    iapply (wp_zeroK c arg6 Q g)
    isplitl [Hg]
    · iexact Hg
    iintro Hg
    iapply (wp_slabStage c i arg2 arg3 arg4 arg5 arg6 L C xs B hL hxs _ hz X Q)
    isplitl [HL]
    · iexact HL
    isplitl [HC]
    · iexact HC
    isplitl [HB]
    · iexact HB
    isplitl [HX]
    · iexact HX
    isplitl [Hg]
    · iexact Hg
    iexact HK
  · rw [if_neg h]
    exact wp_slabStage c i arg2 arg3 arg4 arg5 arg6 L C xs B hL hxs g (hg h) X Q

end Steps

end Cert.KernelIdeal.Tree

end
-- ==== Proof.Body.lean ====
/- The launch: the proof data, the body's triple at every grid point, the run, and the frame. -/
module

public import proofs.«01_k».proof.Proof.Tree
public import Idealize.ShloMosaic.Lib.Claim

@[expose] public section

noncomputable section

namespace Cert.KernelIdeal.Tree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The scratch once every channel is in -/

/-- The scratch when the planes of all 96 slabs are stored, at a place, -/
def fullAt (xs : ℕ → Vec F S1x1x224x224 .f32) (p : Fin 3) (c : Fin 96) (h : Fin 232) (w : Fin 128) : F .f32 :=
  if h.val < 8 then zf else plane p (xs c.val) (ix2 (⟨h.val - 8, by omega⟩ : Fin 224) w)

/-- and as an array. -/
def full (xs : ℕ → Vec F S1x1x224x224 .f32) : S3x96x232x128.Idx → F .f32 :=
  fun y => fullAt xs (y 0) (y 1) (y 2) (y 3)

theorem Rows.at {xs : ℕ → Vec F S1x1x224x224 .f32} {n : ℕ} {g : S3x96x232x128.Idx → F .f32} (hg : Rows xs (fun _ => n) g) (hn : 96 ≤ n)
    (p : Fin 3) (c : Fin 96) (h : Fin 232) (w : Fin 128) : g (ix4 p c h w) = fullAt xs p c h w := by
  unfold fullAt
  have hc : c.val < n := Nat.lt_of_lt_of_le c.isLt hn
  by_cases hh : h.val < 8
  · rw [if_pos hh, hg.1 p c h w hh]
  · rw [if_neg hh, ← hg.2 p c ⟨h.val - 8, by omega⟩ w hc]
    exact congrArg (fun z => g (ix4 p c z w)) (Fin.ext (by simp; omega))

theorem Rows.all {xs : ℕ → Vec F S1x1x224x224 .f32} {n : ℕ} {g : S3x96x232x128.Idx → F .f32} (hg : Rows xs (fun _ => n) g) (hn : 96 ≤ n) :
    g = full xs := by
  funext y
  exact (congrArg g (eq_ix4 y)).trans (hg.at hn _ _ _ _)

variable (m : (ℓ : Loc nD τ sig) → Buf (Elt F) ℓ) (ρ : Dev nD → PrngReg)

/-- The leaf words the region finds, -/
def lid (c : Dev nD) : S3x96x8.Idx → BitVec 32 := V m c main_v24
/-- the coefficients, -/
def coef (c : Dev nD) : S96x7x4.Idx → F .f32 := V m c main_v16
/-- the images, -/
def imgs (c : Dev nD) : S4x96x224x224.Idx → F .f32 := V m c main_arg0
/-- and image `b`'s slabs. -/
def img (c : Dev nD) (b : ℕ) : ℕ → Vec F S1x1x224x224 .f32 :=
  fun n y => imgs m c (ix4 (Fin.ofNat 4 b) (Fin.ofNat 96 n) (y 2) (y 3))

/-- Image `b`'s result. -/
def outB (c : Dev nD) (b : ℕ) : S1x96x112x112.Idx → F .f32 := outV (lid m c) (coef m c) (full (img m c b))

/-! ## The blocks -/

theorem coords_1 (t : Fin cfg0.N) : ((grid0.coords t) 1).val = t.val % 4 := by
  rcases fin_N0 t with rfl | rfl | rfl | rfl | rfl | rfl | rfl | rfl | rfl | rfl | rfl | rfl | rfl | rfl | rfl | rfl <;> decide

theorem cond1_first (t : Fin cfg0.N) (h : t.val = 0) : cond1 (grid0.coords t) = 1#1 := by
  obtain rfl : t = t0_0 := Fin.ext h
  decide

theorem cond2_iff (t : Fin cfg0.N) : k0_cond2 (grid0.coords t) = 1#1 ↔ t.val % 4 = 3 := by
  rcases fin_N0 t with rfl | rfl | rfl | rfl | rfl | rfl | rfl | rfl | rfl | rfl | rfl | rfl | rfl | rfl | rfl | rfl <;> decide

theorem index0 (t : Fin cfg0.N) : win0_0.index t = ![0, 0, 0] := rfl
theorem index1 (t : Fin cfg0.N) : win0_1.index t = ![0, 0, 0] := rfl
theorem index2 (t : Fin cfg0.N) : win0_2.index t = ![t.val / 4, t.val % 4, 0, 0] := by
  rcases fin_N0 t with rfl | rfl | rfl | rfl | rfl | rfl | rfl | rfl | rfl | rfl | rfl | rfl | rfl | rfl | rfl | rfl <;> decide
theorem index3 (t : Fin cfg0.N) : win0_3.index t = ![t.val / 4, 0, 0, 0] := by
  rcases fin_N0 t with rfl | rfl | rfl | rfl | rfl | rfl | rfl | rfl | rfl | rfl | rfl | rfl | rfl | rfl | rfl | rfl <;> decide

theorem read0 (c : Dev nD) (t : Fin cfg0.N) (f : S3x96x8.Idx → BitVec 32) :
    (((cfg0.win 0).blk t).view.read (Elt F) f : S3x96x8.Idx → BitVec 32) = f := by
  funext j
  rw [View.read_apply]
  refine congrArg f (funext fun a => Fin.ext ?_)
  match a with
  | ⟨0, _⟩ => show win0_0.index t 0 * 3 + 1 * (j 0).val = (j 0).val; rw [index0]; simp
  | ⟨1, _⟩ => show win0_0.index t 1 * 96 + 1 * (j 1).val = (j 1).val; rw [index0]; simp
  | ⟨2, _⟩ => show win0_0.index t 2 * 8 + 1 * (j 2).val = (j 2).val; rw [index0]; simp

theorem iblk0 (c : Dev nD) (t : Fin cfg0.N) : (iblk m c 0 t : S3x96x8.Idx → BitVec 32) = lid m c :=
  read0 c t (lid m c)

theorem read1 (c : Dev nD) (t : Fin cfg0.N) (f : S96x7x4.Idx → F .f32) :
    (((cfg0.win 1).blk t).view.read (Elt F) f : S96x7x4.Idx → F .f32) = f := by
  funext j
  rw [View.read_apply]
  refine congrArg f (funext fun a => Fin.ext ?_)
  match a with
  | ⟨0, _⟩ => show win0_1.index t 0 * 96 + 1 * (j 0).val = (j 0).val; rw [index1]; simp
  | ⟨1, _⟩ => show win0_1.index t 1 * 7 + 1 * (j 1).val = (j 1).val; rw [index1]; simp
  | ⟨2, _⟩ => show win0_1.index t 2 * 4 + 1 * (j 2).val = (j 2).val; rw [index1]; simp

theorem iblk1 (c : Dev nD) (t : Fin cfg0.N) : (iblk m c 1 t : S96x7x4.Idx → F .f32) = coef m c :=
  read1 c t (coef m c)

theorem slab_read2 (c : Dev nD) (t : Fin cfg0.N) (n : Fin 24) (f : S4x96x224x224.Idx → F .f32) :
    slab (((cfg0.win 2).blk t).view.read (Elt F) f : S1x24x224x224.Idx → F .f32) n
      = fun y => f (ix4 (Fin.ofNat 4 (t.val / 4)) (Fin.ofNat 96 (24 * ((grid0.coords t) 1).val + n.val)) (y 2) (y 3)) := by
  have hN : t.val < 16 := Nat.lt_of_lt_of_eq t.isLt N_0
  funext y
  unfold slab
  rw [View.read_apply, coords_1]
  refine congrArg f (funext fun a => Fin.ext ?_)
  match a with
  | ⟨0, _⟩ =>
    show win0_2.index t 0 * 1 + 1 * 0 = (t.val / 4) % 4
    rw [index2]; simp; omega
  | ⟨1, _⟩ =>
    show win0_2.index t 1 * 24 + 1 * n.val = (24 * (t.val % 4) + n.val) % 96
    rw [index2]; simp; omega
  | ⟨2, _⟩ => show win0_2.index t 2 * 224 + 1 * (y 2).val = (y 2).val; rw [index2]; simp
  | ⟨3, _⟩ => show win0_2.index t 3 * 224 + 1 * (y 3).val = (y 3).val; rw [index2]; simp

theorem slab_iblk2 (c : Dev nD) (t : Fin cfg0.N) (n : Fin 24) :
    slab (iblk m c 2 t : S1x24x224x224.Idx → F .f32) n = img m c (t.val / 4) (24 * ((grid0.coords t) 1).val + n.val) :=
  slab_read2 c t n (imgs m c)

/-! ## The proof data -/

/-- What the scratch holds when point `t` starts: past the first point, the planes of the image's slabs so far. -/
def phi (c : Dev nD) (t : Fin (cfg0.N + 1)) : sProp 𝕄 :=
  iprop((∃ g : S3x96x232x128.Idx → F .f32, ⌜t.val ≠ 0 → Rows (img m c (t.val / 4)) (fun _ => 24 * (t.val % 4)) g⌝ ∗ Own c (Memref.whole cc0_scratch0) g)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c (t.val / 4)
  Φ t := phi m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB m c (t.val / 4) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the result's window is left at: the image's result at its last point, as it was before that. -/
def post3 (c : Dev nD) (t : Fin cfg0.N) : sProp 𝕄 :=
  if t.val % 4 = 3 then owns (c : Thread nD τ) (st0_3 t) fullShare ((dats m 0 c).after 3 t)
  else iprop(∃ d, owns (c : Thread nD τ) (st0_3 t) fullShare ((dats m 0 c).before 3 t d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ post3 m c t)

/-- The scratch at the next point's start, from what the body leaves. -/
theorem rows_next (c : Dev nD) (t : Fin cfg0.N) {g : S3x96x232x128.Idx → F .f32}
    (hg : Rows (img m c (t.val / 4)) (fun _ => 24 * ((grid0.coords t) 1).val + 24) g) :
    Rows (img m c ((t.val + 1) / 4)) (fun _ => 24 * ((t.val + 1) % 4)) g := by
  rw [coords_1] at hg
  by_cases h : t.val % 4 = 3
  · rw [show (t.val + 1) % 4 = 0 by omega]
    exact hg.restart
  · rw [show (t.val + 1) / 4 = t.val / 4 by omega, show 24 * ((t.val + 1) % 4) = 24 * (t.val % 4) + 24 by omega]
    exact hg

theorem sound_body (hL : ∀ c, LidOk (lid m c)) (c : Dev nD) (t : Fin cfg0.N) :
    bodyPre m c t ⊢ wp frame (wpE (defs₀ (F := F)) Variants.none c none) Set.univ (bodyAt0 t) (fun _ => bodyPost m c t) := by
  unfold bodyPre bodyPost bodyAt0 post3
  simp only [before0_0, before0_1, before0_2]
  rw [show (dats m 0 c).Φ t.succ = phi m c t.succ from rfl, show (dats m 0 c).Φ t.castSucc = phi m c t.castSucc from rfl,
    show (dats m 0 c).owesAt () t.succ = (dats m 0 c).owesAt () t.castSucc from rfl,
    after0_0, after0_1, after0_2, after0_3]
  unfold phi
  iintro ⟨⟨⟨%g, %hg, Hg⟩, Hp⟩, Ho, ⟨%d0, H0⟩, ⟨%d1, H1⟩, ⟨%d2, H2⟩, ⟨%d3, H3⟩⟩
  have hg' : ¬ cond1 (grid0.coords t) = 1#1 → Rows (img m c (t.val / 4)) (fun _ => 24 * ((grid0.coords t) 1).val) g := fun h => by
    rw [coords_1]
    exact hg fun e => h (cond1_first t e)
  iapply (wp_body c (grid0.coords t) (st0_0 t) (st0_1 t) (st0_2 t) (st0_3 t) (Memref.whole cc0_scratch0) (iblk m c 0 t) (iblk m c 1 t)
    (img m c (t.val / 4)) (iblk m c 2 t) (by rw [iblk0]; exact hL c) (slab_iblk2 m c t) g hg' _ _ _ _ _ ((dats m 0 c).before 3 t d3))
  isplitl [H0]; · iexact H0
  isplitl [H1]; · iexact H1
  isplitl [H2]; · iexact H2
  isplitl [H3]; · iexact H3
  isplitl [Hg]; · iexact Hg
  iintro %g' %hg'' H0 H1 H2 H3 Hg
  isplitl [Hg Hp]
  · isplitl [Hg]
    · iexists g'
      isplitr
      · ipureintro; exact fun _ => rows_next m c t hg''
      iexact Hg
    iexact Hp
  isplitl [Ho]; · iexact Ho
  isplitl [H0]; · iexact H0
  isplitl [H1]; · iexact H1
  isplitl [H2]; · iexact H2
  by_cases h : t.val % 4 = 3
  · have e : g' = full (img m c (t.val / 4)) := hg''.all (by rw [coords_1]; omega)
    rw [if_pos ((cond2_iff t).mpr h), if_pos h, e, iblk0, iblk1]
    iexact H3
  · rw [if_neg (fun e => h ((cond2_iff t).mp e)), if_neg h]
    iexists d3
    iexact H3

theorem defs₀_row (t : Fin cfg0.N) :
    defs₀ (F := F) .tc cfg0.body (cfg0.bodyArgs t (cfg0.slots t)) = bodyAt0 t := by
  unfold defs₀; rw [Defs.onTc_tc]

theorem idle3 (t : Fin cfg0.N) : cfg0.idle 3 (cfg0.grid.coords t) = !decide (t.val % 4 = 3) := by
  show (!(k0_cond2 (grid0.coords t) == 1#1)) = _
  by_cases h : t.val % 4 = 3
  · simp [h, (cond2_iff t).mpr h]
  · have := fun e => h ((cond2_iff t).mp e)
    simp [h]
    exact this

theorem body_obligation (hL : ∀ c, LidOk (lid m c)) (c : Dev nD) : BodyObligation (dats (F := F) m 0 c) (defs₀ (F := F)) Variants.none () Set.univ := fun t => by
  rw [bigSep_W0, bigSep_W0, defs₀_row]
  refine triple_restated (sound_body m hL c t) rfl .rfl fun _ => ?_
  unfold bodyPost post3
  have hi := idle3 t
  by_cases h : t.val % 4 = 3
  · rw [decide_eq_true h, Bool.not_true] at hi
    rewrite [hi]
    rw [if_pos h]
  · rw [decide_eq_false h, Bool.not_false] at hi
    have hf : (cfg0.win 3).flush t = false := Bool.eq_false_iff.mpr fun e => h ((flush0_3 t).mp e)
    rewrite [hi, hf]
    rw [if_neg h]

set_option backward.isDefEq.respectTransparency.types false in
theorem run_main_quiescent (hL : ∀ c, LidOk (lid m c)) : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m hL c).loose) (hshare := fun c => (dats m 0 c).share_full fun _ => rfl)
    (howed := fun _ _ => rfl) (V := V m) (hmain := hmain m Variants.none) (hA := A_eq m)
    (hin := fun c => by
      show _ ⊢ phi m c 0
      unfold Pipeline.ΦA phi
      rw [scopedRest0_eq]
      iintro ⟨⟨%f, Hf⟩, Hp⟩
      isplitl [Hf]
      · iexists f
        isplitr
        · ipureintro; exact fun h => absurd rfl h
        unfold Own
        rw [owns_whole]
        iexact Hf
      iexact Hp)
    (hout := fun c => by
      show phi m c _ ⊢ _
      unfold Pipeline.ΦA phi
      rw [scopedRest0_eq]
      iintro ⟨⟨%f, -, Hf⟩, Hp⟩
      isplitl [Hf]
      · iexists f
        unfold Own
        rw [owns_whole]
        exact .rfl
      iexact Hp)

theorem run_main (hL : ∀ c, LidOk (lid m c)) : θ_run defs (onTc (τ := τ) (main (F := F))) (s₀ m ρ) (Pipeline.FramePost cfgs (dats m) 0 (V m)) :=
  (θ_run defs _ _).mono (fun _ h => h.1) (run_main_quiescent m ρ hL)

theorem unchanged (hL : ∀ c, LidOk (lid m c)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hL)

/-- The frame, from the leaf words being in range. -/
theorem frame_run (hL : ∀ c, LidOk (lid m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hL) ((θ_run defs _ _).mono (fun _ h => h.2) (run_main_quiescent m ρ hL))

end Cert.KernelIdeal.Tree

end
-- ==== Proof.Host.lean ====
/- What the host operations before the launch compute: the leaf words from the indices, and the coefficients from the logits. -/
module

public import proofs.«01_k».proof.Proof.Body
public import proofs.«01_k».proof.Proof.Gen.Pre_indices_in_range
public import Idealize.ShloMosaic.Lib.ReduceAll

@[expose] public section

noncomputable section

namespace Cert.KernelIdeal.Tree

open Cert.KernelIdeal Cert.KernelIdeal.Gen
open Idealize.ShloMosaic Idealize.ShloMosaic.TcCoe Idealize.ShloMosaic.Tactic
open Idealize.SL Idealize.SL.Sem

variable {F : FTy → Type} [FloatOps F]

/-! ## Division and remainder of the indices -/

/-- A scalar word at every index. -/
def every {w : ℕ} (n : IVec S_ w) : IVec S96x8 w := broadcastInDim S96x8 ![] bcast_S_S96x8 n

/-- The rounding-down quotient of every word by one word, -/
def quot (x : IVec S96x8 32) (n : IVec S_ 32) : IVec S96x8 32 :=
  select (andi (cmpi .ne (signi x) (every (signi n))) (cmpi .ne (Host.remsi x (every n)) (every (constantI S_ 32 0#32))))
    (subi (Host.divsi x (every n)) (every (constantI S_ 32 1#32))) (Host.divsi x (every n))

/-- the divisor of a remainder with zero replaced by one, -/
def divisor (n : IVec S_ 32) : IVec S_ 32 := select (cmpi .eq n (constantI S_ 32 0#32)) (constantI S_ 32 1#32) n

/-- and the remainder with the divisor's sign. -/
def modulo (x : IVec S96x8 32) (n : IVec S_ 32) : IVec S96x8 32 :=
  select (andi (cmpi .ne (cmpi .slt (Host.remsi x (every (divisor n))) (every (constantI S_ 32 0#32))) (every (cmpi .slt (divisor n) (constantI S_ 32 0#32))))
      (cmpi .ne (Host.remsi x (every (divisor n))) (every (constantI S_ 32 0#32))))
    (addi (Host.remsi x (every (divisor n))) (every (divisor n))) (Host.remsi x (every (divisor n)))

/-- The three leaf words from the indices. -/
def words (x : IVec S96x8 32) : IVec S3x96x8 32 :=
  concatenate S3x96x8 0
    [⟨S1x96x8, broadcastInDim S1x96x8 ![1, 2] bcast_S96x8_S1x96x8_1_2 (quot x (constantI S_ 32 9#32))⟩,
     ⟨S1x96x8, broadcastInDim S1x96x8 ![1, 2] bcast_S96x8_S1x96x8_1_2 (quot (modulo x (constantI S_ 32 9#32)) (constantI S_ 32 3#32))⟩,
     ⟨S1x96x8, broadcastInDim S1x96x8 ![1, 2] bcast_S96x8_S1x96x8_1_2 (modulo x (constantI S_ 32 3#32))⟩]
    concatenates_S1x96x8_S1x96x8_S1x96x8_S3x96x8_d0

/-! ## The host operations, one list after another -/

theorem after_two (l r : List (HloOp τ sig (Elt F))) (σ : Valuation τ sig (Elt F)) :
    StableHlo.after (l ++ r) σ = StableHlo.after r (StableHlo.after l σ) := by
  induction l generalizing σ with
  | nil => rfl
  | cons op l ih => exact ih _

variable (σ : Valuation τ sig (Elt F))

theorem after_1 : StableHlo.after (hostOps0_1 (F := F)) σ (Proc.tc.devRef main_v17) = quot (σ (Proc.tc.devRef main_arg2)) (σ (Proc.tc.devRef main_c)) := by
  unfold quot every
  after_results_simp
  simp only [StableHlo.TRef.toBuf, StableHlo.TRef.ofBuf, cast_cast, cast_eq, id]

theorem after_3 : StableHlo.after (hostOps0_3 (F := F)) σ (Proc.tc.devRef main_v18) = modulo (σ (Proc.tc.devRef main_arg2)) (σ (Proc.tc.devRef main_c_4)) := by
  unfold modulo divisor every
  after_results_simp
  simp only [StableHlo.TRef.toBuf, StableHlo.TRef.ofBuf, cast_cast, cast_eq, id]

theorem after_5 : StableHlo.after (hostOps0_5 (F := F)) σ (Proc.tc.devRef main_v19) = quot (σ (Proc.tc.devRef main_v18)) (σ (Proc.tc.devRef main_c_5)) := by
  unfold quot every
  after_results_simp
  simp only [StableHlo.TRef.toBuf, StableHlo.TRef.ofBuf, cast_cast, cast_eq, id]

theorem after_7 : StableHlo.after (hostOps0_7 (F := F)) σ (Proc.tc.devRef main_v20) = modulo (σ (Proc.tc.devRef main_arg2)) (σ (Proc.tc.devRef main_c_6)) := by
  unfold modulo divisor every
  after_results_simp
  simp only [StableHlo.TRef.toBuf, StableHlo.TRef.ofBuf, cast_cast, cast_eq, id]

theorem after_8 : StableHlo.after (hostOps0_8 (F := F)) σ (Proc.tc.devRef main_v24) = concatenate S3x96x8 0
    [⟨S1x96x8, broadcastInDim S1x96x8 ![1, 2] bcast_S96x8_S1x96x8_1_2 (σ (Proc.tc.devRef main_v17))⟩,
     ⟨S1x96x8, broadcastInDim S1x96x8 ![1, 2] bcast_S96x8_S1x96x8_1_2 (σ (Proc.tc.devRef main_v19))⟩,
     ⟨S1x96x8, broadcastInDim S1x96x8 ![1, 2] bcast_S96x8_S1x96x8_1_2 (σ (Proc.tc.devRef main_v20))⟩]
    concatenates_S1x96x8_S1x96x8_S1x96x8_S3x96x8_d0 := by
  after_results
  rfl

theorem after_0 : StableHlo.after (hostOps0 (F := F)) σ (Proc.tc.devRef main_c) = constantI S_ 32 9#32 := by
  after_results_simp

theorem after_2 : StableHlo.after (hostOps0_2 (F := F)) σ (Proc.tc.devRef main_c_4) = constantI S_ 32 9#32 := by
  after_results_simp

theorem after_4 : StableHlo.after (hostOps0_4 (F := F)) σ (Proc.tc.devRef main_c_5) = constantI S_ 32 3#32 := by
  after_results_simp

theorem after_6 : StableHlo.after (hostOps0_6 (F := F)) σ (Proc.tc.devRef main_c_6) = constantI S_ 32 3#32 := by
  after_results_simp

/-! Buffers that a list leaves alone. -/

theorem keep_7_v17 : StableHlo.after (hostOps0_7 (F := F)) σ (Proc.tc.devRef main_v17) = σ (Proc.tc.devRef main_v17) := by
  after_results_simp

theorem keep_7_v19 : StableHlo.after (hostOps0_7 (F := F)) σ (Proc.tc.devRef main_v19) = σ (Proc.tc.devRef main_v19) := by
  after_results_simp

theorem keep_6_v17 : StableHlo.after (hostOps0_6 (F := F)) σ (Proc.tc.devRef main_v17) = σ (Proc.tc.devRef main_v17) := by
  after_results_simp

theorem keep_6_v19 : StableHlo.after (hostOps0_6 (F := F)) σ (Proc.tc.devRef main_v19) = σ (Proc.tc.devRef main_v19) := by
  after_results_simp

theorem keep_6_arg2 : StableHlo.after (hostOps0_6 (F := F)) σ (Proc.tc.devRef main_arg2) = σ (Proc.tc.devRef main_arg2) := by
  after_results_simp

theorem keep_5_v17 : StableHlo.after (hostOps0_5 (F := F)) σ (Proc.tc.devRef main_v17) = σ (Proc.tc.devRef main_v17) := by
  after_results_simp

theorem keep_5_arg2 : StableHlo.after (hostOps0_5 (F := F)) σ (Proc.tc.devRef main_arg2) = σ (Proc.tc.devRef main_arg2) := by
  after_results_simp

theorem keep_4_v17 : StableHlo.after (hostOps0_4 (F := F)) σ (Proc.tc.devRef main_v17) = σ (Proc.tc.devRef main_v17) := by
  after_results_simp

theorem keep_4_v18 : StableHlo.after (hostOps0_4 (F := F)) σ (Proc.tc.devRef main_v18) = σ (Proc.tc.devRef main_v18) := by
  after_results_simp

theorem keep_4_arg2 : StableHlo.after (hostOps0_4 (F := F)) σ (Proc.tc.devRef main_arg2) = σ (Proc.tc.devRef main_arg2) := by
  after_results_simp

theorem keep_3_v17 : StableHlo.after (hostOps0_3 (F := F)) σ (Proc.tc.devRef main_v17) = σ (Proc.tc.devRef main_v17) := by
  after_results_simp

theorem keep_3_arg2 : StableHlo.after (hostOps0_3 (F := F)) σ (Proc.tc.devRef main_arg2) = σ (Proc.tc.devRef main_arg2) := by
  after_results_simp

theorem keep_2_v17 : StableHlo.after (hostOps0_2 (F := F)) σ (Proc.tc.devRef main_v17) = σ (Proc.tc.devRef main_v17) := by
  after_results_simp

theorem keep_2_arg2 : StableHlo.after (hostOps0_2 (F := F)) σ (Proc.tc.devRef main_arg2) = σ (Proc.tc.devRef main_arg2) := by
  after_results_simp

theorem keep_1_arg2 : StableHlo.after (hostOps0_1 (F := F)) σ (Proc.tc.devRef main_arg2) = σ (Proc.tc.devRef main_arg2) := by
  after_results_simp

theorem keep_0_arg2 : StableHlo.after (hostOps0 (F := F)) σ (Proc.tc.devRef main_arg2) = σ (Proc.tc.devRef main_arg2) := by
  after_results_simp

theorem keep_1_v16 : StableHlo.after (hostOps0_1 (F := F)) σ (Proc.tc.devRef main_v16) = σ (Proc.tc.devRef main_v16) := by
  after_results_simp

theorem keep_2_v16 : StableHlo.after (hostOps0_2 (F := F)) σ (Proc.tc.devRef main_v16) = σ (Proc.tc.devRef main_v16) := by
  after_results_simp

theorem keep_3_v16 : StableHlo.after (hostOps0_3 (F := F)) σ (Proc.tc.devRef main_v16) = σ (Proc.tc.devRef main_v16) := by
  after_results_simp

theorem keep_4_v16 : StableHlo.after (hostOps0_4 (F := F)) σ (Proc.tc.devRef main_v16) = σ (Proc.tc.devRef main_v16) := by
  after_results_simp

theorem keep_5_v16 : StableHlo.after (hostOps0_5 (F := F)) σ (Proc.tc.devRef main_v16) = σ (Proc.tc.devRef main_v16) := by
  after_results_simp

theorem keep_6_v16 : StableHlo.after (hostOps0_6 (F := F)) σ (Proc.tc.devRef main_v16) = σ (Proc.tc.devRef main_v16) := by
  after_results_simp

theorem keep_7_v16 : StableHlo.after (hostOps0_7 (F := F)) σ (Proc.tc.devRef main_v16) = σ (Proc.tc.devRef main_v16) := by
  after_results_simp

theorem keep_8_v16 : StableHlo.after (hostOps0_8 (F := F)) σ (Proc.tc.devRef main_v16) = σ (Proc.tc.devRef main_v16) := by
  after_results_simp

variable (m : (ℓ : Loc nD τ sig) → Buf (Elt F) ℓ)

theorem lid_eq (c : Dev nD) : lid m c = words (m (c, Proc.tc.devRef main_arg2)) := by
  unfold lid V words
  rw [List.flatten_cons, List.flatten_cons, List.flatten_cons, List.flatten_cons, List.flatten_cons, List.flatten_cons, List.flatten_cons,
    List.flatten_cons, List.flatten_cons, List.flatten_nil, List.append_nil]
  rw [after_two, after_two, after_two, after_two, after_two, after_two, after_two, after_two, after_8, keep_7_v17, keep_6_v17, keep_5_v17,
    keep_4_v17, keep_3_v17, keep_2_v17, after_1, keep_0_arg2, after_0, keep_7_v19, keep_6_v19, after_5, after_4, keep_4_v18, after_3, after_2,
    keep_2_arg2, keep_1_arg2, keep_0_arg2, after_7, after_6, keep_6_arg2, keep_5_arg2, keep_4_arg2, keep_3_arg2, keep_2_arg2, keep_1_arg2, keep_0_arg2]

/-! ## The words of an index below 864 -/

/-- Every index names one of the 864 rows. -/
def InRange (x : IVec S96x8 32) : Prop := ∀ i, (x i).toNat < 864

theorem range_word {w : BitVec 32} (hg : IntOp.cmpi .sge w 0#32 = 1#1) (hl : IntOp.cmpi .slt w 864#32 = 1#1) : w.toNat < 864 := by
  have hg' := IntOp.cmpi_sge.1 hg
  have hl' := IntOp.cmpi_slt.1 hl
  have e : (864#32 : BitVec 32).toInt = 864 := by decide
  have e0 : (0#32 : BitVec 32).toInt = 0 := by decide
  rw [e] at hl'
  rw [e0] at hg'
  have := BitVec.toInt_eq_toNat_cond w
  omega

theorem inRange_of_pre {a : FVec F S4x96x224x224 .f32} {b : FVec F S96x7x16 .f32} {x : IVec S96x8 32}
    (h : Cert.Pre_indices_in_range.fn (F := F) a b x = fun _ => 1#1) : InRange x := by
  intro i
  have e := Host.reduce_andi_all _ _ _ _ _ (congrFun h (fun k => k.elim0)) i
  obtain ⟨hg, hl⟩ := IntOp.andi_eq_one.1 e
  exact range_word hg hl

/-- One word's sign, -/
def signW (v : BitVec 32) : BitVec 32 := if v = 0 then 0 else if v.msb then -1 else 1

/-- its rounding-down quotient -/
def quotW (x n : BitVec 32) : BitVec 32 :=
  Scalar.select (IntOp.andi (IntOp.cmpi .ne (signW x) (signW n)) (IntOp.cmpi .ne (IntOp.remsi .host x n) 0#32))
    (IntOp.subi (IntOp.divsi .host x n) 1#32) (IntOp.divsi .host x n)

/-- and its remainder. -/
def moduloW (x n : BitVec 32) : BitVec 32 :=
  let d := Scalar.select (IntOp.cmpi .eq n 0#32) 1#32 n
  Scalar.select (IntOp.andi (IntOp.cmpi .ne (IntOp.cmpi .slt (IntOp.remsi .host x d) 0#32) (IntOp.cmpi .slt d 0#32)) (IntOp.cmpi .ne (IntOp.remsi .host x d) 0#32))
    (IntOp.addi (IntOp.remsi .host x d) d) (IntOp.remsi .host x d)

theorem quot_apply (x : IVec S96x8 32) (n : BitVec 32) (i : S96x8.Idx) : quot x (constantI S_ 32 n) i = quotW (x i) n := rfl
theorem modulo_apply (x : IVec S96x8 32) (n : BitVec 32) (i : S96x8.Idx) : modulo x (constantI S_ 32 n) i = moduloW (x i) n := rfl

theorem words_below : ∀ k : Fin 864, quotW (BitVec.ofNat 32 k.val) 9#32 = BitVec.ofNat 32 (k.val / 9) ∧
    quotW (moduloW (BitVec.ofNat 32 k.val) 9#32) 3#32 = BitVec.ofNat 32 (k.val % 9 / 3) ∧
    moduloW (BitVec.ofNat 32 k.val) 3#32 = BitVec.ofNat 32 (k.val % 3) := by decide +kernel

theorem words_of {w : BitVec 32} (h : w.toNat < 864) : quotW w 9#32 = BitVec.ofNat 32 (w.toNat / 9) ∧
    quotW (moduloW w 9#32) 3#32 = BitVec.ofNat 32 (w.toNat % 9 / 3) ∧ moduloW w 3#32 = BitVec.ofNat 32 (w.toNat % 3) := by
  have := words_below ⟨w.toNat, h⟩
  simpa only [BitVec.ofNat_toNat, BitVec.setWidth_eq] using this

/-- Three rows of words, in order. -/
abbrev rows3 (u v w : IVec S1x96x8 32) : List ((s : Shape) × (s.Idx → BitVec 32)) := [⟨S1x96x8, u⟩, ⟨S1x96x8, v⟩, ⟨S1x96x8, w⟩]

section
variable (x : IVec S96x8 32) (oc : Fin 96) (l : Fin 8)

theorem words_0 : words x (ix3 0 oc l) = quotW (x (ix2 oc l)) 9#32 := by
  unfold words
  refine Eq.trans (concatenate_apply_piece 0 (rows3 _ _ _) concatenates_S1x96x8_S1x96x8_S1x96x8_S3x96x8_d0 _ 0 (by show 0 < 3; decide) S1x96x8 _ rfl rfl 0 rfl (ix3 0 oc l) ?_ rfl) ?_
  · intro a; fin_cases a <;> first | (intro h; rfl) | (intro h; exact absurd rfl h)
  · refine (quot_apply x 9#32 _).trans (congrArg (fun i => quotW (x i) 9#32) ?_)
    funext a; fin_cases a <;> rfl

theorem words_1 : words x (ix3 1 oc l) = quotW (moduloW (x (ix2 oc l)) 9#32) 3#32 := by
  unfold words
  refine Eq.trans (concatenate_apply_piece 0 (rows3 _ _ _) concatenates_S1x96x8_S1x96x8_S1x96x8_S3x96x8_d0 _ 1 (by show 1 < 3; decide) S1x96x8 _ rfl rfl 1 rfl (ix3 0 oc l) ?_ rfl) ?_
  · intro a; fin_cases a <;> first | (intro h; rfl) | (intro h; exact absurd rfl h)
  · refine (quot_apply (modulo x _) 3#32 _).trans (congrArg (fun i => quotW (moduloW (x i) 9#32) 3#32) ?_)
    funext a; fin_cases a <;> rfl

theorem words_2 : words x (ix3 2 oc l) = moduloW (x (ix2 oc l)) 3#32 := by
  unfold words
  refine Eq.trans (concatenate_apply_piece 0 (rows3 _ _ _) concatenates_S1x96x8_S1x96x8_S1x96x8_S3x96x8_d0 _ 2 (by show 2 < 3; decide) S1x96x8 _ rfl rfl 2 rfl (ix3 0 oc l) ?_ rfl) ?_
  · intro a; fin_cases a <;> first | (intro h; rfl) | (intro h; exact absurd rfl h)
  · refine (modulo_apply x 3#32 _).trans (congrArg (fun i => moduloW (x i) 3#32) ?_)
    funext a; fin_cases a <;> rfl
end

/-- Where a leaf with index `k` starts in the scratch. -/
theorem off_words {x : IVec S96x8 32} (hx : InRange x) (oc : Fin 96) (l : Fin 8) :
    k0_off8 (words x (ix3 0 oc l)) (words x (ix3 1 oc l)) (words x (ix3 2 oc l))
      = ![(x (ix2 oc l)).toNat % 3, (x (ix2 oc l)).toNat / 9, (x (ix2 oc l)).toNat % 9 / 3 + 7, 0] := by
  obtain ⟨h0, h1, h2⟩ := words_of (hx (ix2 oc l))
  have hk := hx (ix2 oc l)
  rw [words_0, words_1, words_2, h0, h1, h2]
  generalize (x (ix2 oc l)).toNat = k at hk
  have e (q : ℕ) (hq : q < 864) : (BitVec.ofNat 32 q).toNat = q := by
    rw [BitVec.toNat_ofNat]
    omega
  have e7 : (Scalar.indexCast (Scalar.addi (BitVec.ofNat 32 (k % 9 / 3)) 7#32)).toNat = k % 9 / 3 + 7 := by
    show (BitVec.ofNat 32 (k % 9 / 3) + 7#32).toNat = _
    rw [BitVec.toNat_add, e _ (by omega)]
    simp
    omega
  show ![(BitVec.ofNat 32 (k % 3)).toNat, (BitVec.ofNat 32 (k / 9)).toNat,
    (Scalar.indexCast (Scalar.addi (BitVec.ofNat 32 (k % 9 / 3)) 7#32)).toNat, 0] = _
  rw [e7, e _ (by omega), e _ (by omega)]

theorem lidOk_words {x : IVec S96x8 32} (hx : InRange x) : LidOk (words x) := by
  intro i oc l h2 a
  right
  have hk := hx (ix2 oc l)
  rw [off_words hx oc l]
  generalize (x (ix2 oc l)).toNat = k at hk
  fin_cases a <;> simp [S1x1x112x128, S3x96x232x128] <;> omega

theorem lidOk (hx : ∀ c : Dev nD, InRange (m (c, Proc.tc.devRef main_arg2))) (c : Dev nD) : LidOk (lid m c) := by
  rw [lid_eq]
  exact lidOk_words (hx c)

end Cert.KernelIdeal.Tree

end
-- ==== Proof.Gate.lean ====
/- The sixteen gates: the reference's sum over the gates, the kernel's four coefficients, and the softmax over the gates, on real numbers. -/
module

public import proofs.«01_k».proof.Proof.Gen.KernelIdeal
public import Idealize.ShloMosaic.Lib.IdealHost
public import Idealize.ShloMosaic.Lib.Pointwise

@[expose] public section

noncomputable section

namespace Cert.Gate

open Cert.KernelIdeal
open Idealize.ShloMosaic
open scoped BigOperators

/-! ## Real numbers among the extended reals -/

/-- A real number. -/
def IsReal (x : EReal) : Prop := ∃ r : ℝ, x = (r : EReal)

theorem isReal_of {x : EReal} (hb : x ≠ ⊥) (ht : x ≠ ⊤) : IsReal x := ⟨x.toReal, (EReal.coe_toReal ht hb).symm⟩

theorem isReal_coe (r : ℝ) : IsReal (r : EReal) := ⟨r, rfl⟩

theorem isReal_zero : IsReal 0 := ⟨0, rfl⟩

theorem IsReal.sub_self {x : EReal} (h : IsReal x) : x - x = 0 := by
  obtain ⟨r, rfl⟩ := h
  rw [← EReal.coe_sub, _root_.sub_self, EReal.coe_zero]

theorem f32_two : Ideal.ofBits .f32 0x40000000#32 = 2 := by
  rw [show (2 : EReal) = ((2 : ℝ) : EReal) by norm_cast]
  simp [Ideal.ofBits, Ideal.ieee, -EReal.coe_mul]; norm_num

theorem f32_neg_one : Ideal.ofBits .f32 0xBF800000#32 = ((-1 : ℝ) : EReal) := by
  simp [Ideal.ofBits, Ideal.ieee, -EReal.coe_mul, -EReal.coe_neg]; norm_num

theorem f32_neg_two : Ideal.ofBits .f32 0xC0000000#32 = ((-2 : ℝ) : EReal) := by
  simp [Ideal.ofBits, Ideal.ieee, -EReal.coe_mul, -EReal.coe_neg]; norm_num

theorem f32_bot : Ideal.ofBits .f32 0xFF800000#32 = ⊥ := by
  simp [Ideal.ofBits, Ideal.ieee]

/-! ## The table -/

/-- The gates' coefficients of `1`, `a`, `b` and `a * b`, as the program's constant has them, -/
def entry (i : Fin 16) (j : Fin 4) : EReal := Ideal.ofBits .f32 (lit0 (S16x4.rowMajor (ix2 i j)))

/-- and as real numbers. -/
def table : Fin 16 → Fin 4 → ℝ :=
  ![![0, 0, 0, 0], ![0, 0, 0, 1], ![0, 1, 0, -1], ![0, 1, 0, 0], ![0, 0, 1, -1], ![0, 0, 1, 0], ![0, 1, 1, -2], ![0, 1, 1, -1],
    ![1, -1, -1, 1], ![1, -1, -1, 2], ![1, 0, -1, 0], ![1, 0, -1, 1], ![1, -1, 0, 0], ![1, -1, 0, 1], ![1, 0, 0, -1], ![1, 0, 0, 0]]

/-- The table's bit patterns. -/
def word : Fin 16 → Fin 4 → BitVec 32 :=
  ![![0x00000000#32, 0x00000000#32, 0x00000000#32, 0x00000000#32], ![0x00000000#32, 0x00000000#32, 0x00000000#32, 0x3F800000#32],
    ![0x00000000#32, 0x3F800000#32, 0x00000000#32, 0xBF800000#32], ![0x00000000#32, 0x3F800000#32, 0x00000000#32, 0x00000000#32],
    ![0x00000000#32, 0x00000000#32, 0x3F800000#32, 0xBF800000#32], ![0x00000000#32, 0x00000000#32, 0x3F800000#32, 0x00000000#32],
    ![0x00000000#32, 0x3F800000#32, 0x3F800000#32, 0xC0000000#32], ![0x00000000#32, 0x3F800000#32, 0x3F800000#32, 0xBF800000#32],
    ![0x3F800000#32, 0xBF800000#32, 0xBF800000#32, 0x3F800000#32], ![0x3F800000#32, 0xBF800000#32, 0xBF800000#32, 0x40000000#32],
    ![0x3F800000#32, 0x00000000#32, 0xBF800000#32, 0x00000000#32], ![0x3F800000#32, 0x00000000#32, 0xBF800000#32, 0x3F800000#32],
    ![0x3F800000#32, 0xBF800000#32, 0x00000000#32, 0x00000000#32], ![0x3F800000#32, 0xBF800000#32, 0x00000000#32, 0x3F800000#32],
    ![0x3F800000#32, 0x00000000#32, 0x00000000#32, 0xBF800000#32], ![0x3F800000#32, 0x00000000#32, 0x00000000#32, 0x00000000#32]]

theorem lit_word : ∀ (i : Fin 16) (j : Fin 4), lit0 (S16x4.rowMajor (ix2 i j)) = word i j := by
  decide +kernel

theorem word_table (i : Fin 16) (j : Fin 4) : Ideal.ofBits .f32 (word i j) = (table i j : EReal) := by
  have h0 : Ideal.ofBits .f32 0x00000000#32 = ((0 : ℝ) : EReal) := Ideal.ofBits_zero_f32
  have h1 : Ideal.ofBits .f32 0x3F800000#32 = ((1 : ℝ) : EReal) := Ideal.ofBits_one_f32
  have h2 : Ideal.ofBits .f32 0x40000000#32 = ((2 : ℝ) : EReal) := f32_two
  fin_cases i <;> fin_cases j <;> first | exact h0 | exact h1 | exact f32_neg_one | exact h2 | exact f32_neg_two

theorem entry_eq (i : Fin 16) (j : Fin 4) : entry i j = (table i j : EReal) := by
  unfold entry
  rw [lit_word, word_table]

/-! ## The mixture of the gates -/

/-- The reference's sum over the sixteen gates of `a` and `b` weighted by `p`. -/
def mix (p : Fin 16 → EReal) (a b : EReal) : EReal :=
  0 + p 0 * 0 + p 1 * (a * b) + p 2 * (a - a * b) + p 3 * a + p 4 * (b - a * b) + p 5 * b + p 6 * (a + b - 2 * (a * b)) + p 7 * (a + b - a * b)
    + p 8 * (1 - (a + b - a * b)) + p 9 * (1 - (a + b - 2 * (a * b))) + p 10 * (1 - b) + p 11 * (1 - b + a * b) + p 12 * (1 - a)
    + p 13 * (1 - a + a * b) + p 14 * (1 - a * b) + p 15 * 1

/-- A coefficient of the kernel from the weights. -/
def coefOf (p : Fin 16 → EReal) (j : Fin 4) : EReal := 0 + ∑ i, p i * entry i j

theorem sum_coe {n : ℕ} (f : Fin n → ℝ) : (∑ i, (f i : EReal)) = ((∑ i, f i : ℝ) : EReal) := by
  induction n with
  | zero => simp
  | succ n ih => rw [Fin.sum_univ_castSucc, Fin.sum_univ_castSucc, ih, EReal.coe_add]

theorem coefOf_coe (p : Fin 16 → ℝ) (j : Fin 4) : coefOf (fun i => (p i : EReal)) j = ((∑ i, p i * table i j : ℝ) : EReal) := by
  unfold coefOf
  simp only [entry_eq, ← EReal.coe_mul]
  rw [sum_coe, zero_add]

/-- The same sum on the reals. -/
def mixR (p : Fin 16 → ℝ) (a b : ℝ) : ℝ :=
  0 + p 0 * 0 + p 1 * (a * b) + p 2 * (a - a * b) + p 3 * a + p 4 * (b - a * b) + p 5 * b + p 6 * (a + b - 2 * (a * b)) + p 7 * (a + b - a * b)
    + p 8 * (1 - (a + b - a * b)) + p 9 * (1 - (a + b - 2 * (a * b))) + p 10 * (1 - b) + p 11 * (1 - b + a * b) + p 12 * (1 - a)
    + p 13 * (1 - a + a * b) + p 14 * (1 - a * b) + p 15 * 1

theorem mix_coe (p : Fin 16 → ℝ) (a b : ℝ) : mix (fun i => (p i : EReal)) a b = (mixR p a b : EReal) := by
  unfold mix mixR
  rw [show (0 : EReal) = ((0 : ℝ) : EReal) from rfl, show (1 : EReal) = ((1 : ℝ) : EReal) from rfl, show (2 : EReal) = ((2 : ℝ) : EReal) from rfl]
  simp only [← EReal.coe_mul, ← EReal.coe_add, ← EReal.coe_sub]

theorem mixR_eq (p : Fin 16 → ℝ) (a b : ℝ) :
    (∑ i, p i * table i 0) + (∑ i, p i * table i 1) * a + (∑ i, p i * table i 2) * b + (∑ i, p i * table i 3) * (a * b) = mixR p a b := by
  simp only [Fin.sum_univ_succ, Fin.sum_univ_zero, table]
  simp [mixR, Fin.succ]
  ring

/-- A node of the kernel is the mixture, on real numbers. -/
theorem node_mix {p : Fin 16 → EReal} {a b : EReal} (hp : ∀ i, IsReal (p i)) (ha : IsReal a) (hb : IsReal b) :
    coefOf p 0 + coefOf p 1 * a + coefOf p 2 * b + coefOf p 3 * (a * b) = mix p a b := by
  choose q hq using hp
  obtain ⟨a, rfl⟩ := ha
  obtain ⟨b, rfl⟩ := hb
  obtain rfl : p = fun i => (q i : EReal) := funext hq
  rw [mix_coe, coefOf_coe, coefOf_coe, coefOf_coe, coefOf_coe, ← mixR_eq]
  simp only [← EReal.coe_mul, ← EReal.coe_add]

theorem mix_real {p : Fin 16 → EReal} {a b : EReal} (hp : ∀ i, IsReal (p i)) (ha : IsReal a) (hb : IsReal b) : IsReal (mix p a b) := by
  choose q hq using hp
  obtain ⟨a, rfl⟩ := ha
  obtain ⟨b, rfl⟩ := hb
  obtain rfl : p = fun i => (q i : EReal) := funext hq
  exact ⟨_, mix_coe q a b⟩

/-! ## The softmax of a row -/

/-- The row's largest entry, as both programs take it, -/
def top (r : Fin 16 → EReal) : EReal := max ⊥ (Finset.univ.fold max ⊥ r)

/-- and the softmax of the row. -/
def soft (r : Fin 16 → EReal) (i : Fin 16) : EReal :=
  Ideal.div (Ideal.exp (r i - top r)) (0 + ∑ k, Ideal.exp (r k - top r))

theorem top_real {r : Fin 16 → EReal} (hr : ∀ i, IsReal (r i)) : IsReal (top r) := by
  obtain ⟨x, hx⟩ := hr 0
  have hlt : ∀ i, r i < ⊤ := fun i => by
    obtain ⟨y, hy⟩ := hr i
    rw [hy]
    exact EReal.coe_lt_top y
  refine isReal_of ?_ ?_
  · refine ne_of_gt (lt_max_of_lt_right ((Finset.lt_fold_max _).2 (Or.inr ⟨0, Finset.mem_univ _, ?_⟩)))
    rw [hx]
    exact EReal.bot_lt_coe x
  · exact ne_of_lt (max_lt bot_lt_top ((Finset.fold_max_lt _).2 ⟨bot_lt_top, fun i _ => hlt i⟩))

theorem soft_real {r : Fin 16 → EReal} (hr : ∀ i, IsReal (r i)) (i : Fin 16) : IsReal (soft r i) := by
  obtain ⟨t, ht⟩ := top_real hr
  choose q hq using hr
  have hs : (0 + ∑ k, Ideal.exp (r k - top r)) = ((∑ k, Real.exp (q k - t) : ℝ) : EReal) := by
    rw [zero_add, ← sum_coe]
    refine Finset.sum_congr rfl fun k _ => ?_
    rw [ht, hq, ← EReal.coe_sub]
    rfl
  have hpos : (0 : ℝ) < ∑ k, Real.exp (q k - t) := Finset.sum_pos (fun k _ => Real.exp_pos _) ⟨0, Finset.mem_univ _⟩
  unfold soft Ideal.div
  rw [hs, if_neg (fun h => hpos.ne' (by exact_mod_cast h)), ht, hq, ← EReal.coe_sub]
  exact ⟨Real.exp (q i - t) * (∑ k, Real.exp (q k - t))⁻¹, by rw [EReal.coe_mul, EReal.coe_inv]; rfl⟩

end Cert.Gate
-- ==== Proof.Coef.lean ====
/- The four coefficients of every node of the kernel from the logits: the softmax over the gates times the table, summed over the gates. -/
module

public import proofs.«01_k».proof.Proof.Host
public import proofs.«01_k».proof.Proof.Gate
public import Idealize.ShloMosaic.Lib.Pointwise

@[expose] public section

noncomputable section

namespace Cert.KernelIdeal.Tree

open Cert.KernelIdeal Cert.KernelIdeal.Gen Cert.Gate
open Idealize.ShloMosaic Idealize.ShloMosaic.TcCoe Idealize.ShloMosaic.Tactic
open Idealize.SL Idealize.SL.Sem
open scoped BigOperators

section Term
variable {F : FTy → Type} [FloatOps F]

/-- A value of every row, at every entry of it. -/
def spread (x : FVec F S96x7 .f32) : FVec F S96x7x16 .f32 :=
  broadcastInDim S96x7x16 ![0, 1, 2] bcast_S96x7x1_S96x7x16_0_1_2 (broadcastInDim S96x7x1 ![0, 1] bcast_S96x7_S96x7x1_0_1 x)

/-- The exponentials of the logits less their row's largest, -/
def powers (x : FVec F S96x7x16 .f32) : FVec F S96x7x16 .f32 :=
  Host.exp (subf x (spread (maximumf (broadcastInDim S96x7 ![] bcast_S_S96x7 (constant S_ .f32 0xFF800000#32))
    (Host.reduce FloatOps.maximumf x (constant S_ .f32 0xFF800000#32) reducesTo_S96x7x16_S96x7_d2 h_S_))))

/-- their softmax, -/
def probs (x : FVec F S96x7x16 .f32) : FVec F S96x7x16 .f32 :=
  Host.divf (powers x) (spread (Host.reduceAdd (powers x) (constant S_ .f32 0x00000000#32) reducesTo_S96x7x16_S96x7_d2 h_S_))

/-- and the coefficients. -/
def coefs (x : FVec F S96x7x16 .f32) : FVec F S96x7x4 .f32 :=
  Host.reduceAdd (mulf (broadcastInDim S96x7x16x4 ![0, 1, 2, 3] bcast_S96x7x16x1_S96x7x16x4_0_1_2_3
        (broadcastInDim S96x7x16x1 ![0, 1, 2] bcast_S96x7x16_S96x7x16x1_0_1_2 (probs x)))
      (broadcastInDim S96x7x16x4 ![0, 1, 2, 3] bcast_S1x1x16x4_S96x7x16x4_0_1_2_3
        (broadcastInDim S1x1x16x4 ![2, 3] bcast_S16x4_S1x1x16x4_2_3 (fun i => FloatOps.ofBits .f32 (lit0 (S16x4.rowMajor i))))))
    (constant S_ .f32 0x00000000#32) reducesTo_S96x7x16x4_S96x7x4_d2 h_S_

theorem after_0_v16 (σ : Valuation τ sig (Elt F)) :
    StableHlo.after (hostOps0 (F := F)) σ (Proc.tc.devRef main_v16) = coefs (σ (Proc.tc.devRef main_arg1)) := by
  unfold coefs probs powers spread
  after_results_simp
  rfl

theorem coef_eq (m : (ℓ : Loc nD τ sig) → Buf (Elt F) ℓ) (c : Dev nD) : coef m c = coefs (m (c, Proc.tc.devRef main_arg1)) := by
  unfold coef V
  rw [List.flatten_cons, List.flatten_cons, List.flatten_cons, List.flatten_cons, List.flatten_cons, List.flatten_cons, List.flatten_cons,
    List.flatten_cons, List.flatten_cons, List.flatten_nil, List.append_nil]
  rw [after_two, after_two, after_two, after_two, after_two, after_two, after_two, after_two, keep_8_v16, keep_7_v16, keep_6_v16, keep_5_v16,
    keep_4_v16, keep_3_v16, keep_2_v16, keep_1_v16, after_0_v16]

end Term

/-- A node's row of logits. -/
def rowOf (x : FVec Ideal S96x7x16 .f32) (oc : Fin 96) (n : Fin 7) : Fin 16 → EReal := fun i => x (ix3 oc n i)

theorem powers_apply (x : FVec Ideal S96x7x16 .f32) (oc : Fin 96) (n : Fin 7) (i : Fin 16) :
    powers x (ix3 oc n i) = Ideal.exp (rowOf x oc n i - top (rowOf x oc n)) := by
  unfold powers spread top rowOf
  simp only [pointwise, f32_bot]
  simp only [OfNat.ofNat_ne_one, dite_false, reduceDIte]

theorem probs_apply (x : FVec Ideal S96x7x16 .f32) (oc : Fin 96) (n : Fin 7) (i : Fin 16) :
    probs x (ix3 oc n i) = soft (rowOf x oc n) i := by
  unfold probs spread soft
  simp only [pointwise, Ideal.ofBits_zero_f32]
  simp only [OfNat.ofNat_ne_one, dite_false, reduceDIte, powers_apply]

theorem coefs_apply (x : FVec Ideal S96x7x16 .f32) (oc : Fin 96) (n : Fin 7) (j : Fin 4) :
    coefs x (ix3 oc n j) = coefOf (soft (rowOf x oc n)) j := by
  unfold coefs coefOf entry
  simp only [pointwise, Ideal.ofBits_zero_f32]
  simp only [OfNat.ofNat_ne_one, dite_false, reduceDIte, probs_apply]

end Cert.KernelIdeal.Tree
-- ==== Proof.Leaf.lean ====
/- The leaves of the kernel: what the planes of the scratch hold, in terms of the image. -/
module

public import proofs.«01_k».proof.Proof.Coef

@[expose] public section

noncomputable section

namespace Cert.Gate

open Cert.KernelIdeal
open Idealize.ShloMosaic

/-- The image padded by one on every side, at row `r` and column `s` of the padded image. -/
def padded (x : S4x96x224x224.Idx → EReal) (b : Fin 4) (c r s : ℕ) : EReal :=
  if h : (1 ≤ r ∧ r ≤ 224) ∧ (1 ≤ s ∧ s ≤ 224) then x (ix4 b (Fin.ofNat 96 c) ⟨r - 1, by omega⟩ ⟨s - 1, by omega⟩) else 0

/-- Row `k` of the patches: channel `k / 9`, moved down `k % 9 / 3` and right `k % 3`. -/
def patch (x : S4x96x224x224.Idx → EReal) (b : Fin 4) (k : ℕ) (h w : Fin 112) : EReal :=
  padded x b (k / 9) (2 * h.val + k % 9 / 3) (2 * w.val + k % 3)

theorem padded_real {x : S4x96x224x224.Idx → EReal} (hx : ∀ i, IsReal (x i)) (b : Fin 4) (c r s : ℕ) : IsReal (padded x b c r s) := by
  unfold padded
  split
  · exact hx _
  · exact isReal_zero

end Cert.Gate

namespace Cert.KernelIdeal.Tree

open Cert.KernelIdeal Cert.KernelIdeal.Gen Cert.Gate
open Idealize.ShloMosaic Idealize.ShloMosaic.TcCoe Idealize.ShloMosaic.Tactic
open Idealize.SL Idealize.SL.Sem
open scoped BigOperators

/-! ## The 0/1 matrix -/

theorem pick_word : ∀ l : Fin 256,
    IntOp.addi (IntOp.muli 2#32 (IntOp.andi (BitVec.ofNat 32 l.val) 127#32)) (IntOp.shrsi .vector (BitVec.ofNat 32 l.val) 7#32)
      = BitVec.ofNat 32 (2 * (l.val % 128) + l.val / 128) := by
  decide +kernel

theorem bit_word (a b : ℕ) (ha : a < 2 ^ 32) (hb : b < 2 ^ 32) :
    (IntOp.cmpi .eq (BitVec.ofNat 32 a) (BitVec.ofNat 32 b)).setWidth 32 = if a = b then 1#32 else 0#32 := by
  by_cases h : a = b
  · rw [if_pos h, h]
    simp [IntOp.cmpi]
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have hb : (BitVec.ofNat 32 a == BitVec.ofNat 32 b) = false := beq_eq_false_iff_ne.mpr hne
    rw [if_neg h]
    simp only [IntOp.cmpi, hb]
    rfl

theorem sel_apply (k : Fin 224) (l : Fin 256) :
    (sel : FVec Ideal S224x256 .bf16) (ix2 k l) = if k.val = 2 * (l.val % 128) + l.val / 128 then 1 else 0 := by
  have hk := k.isLt
  have hl := l.isLt
  unfold sel
  simp only [pointwise]
  change FloatOps.sitofp (F := Ideal) FTy.f32 ((IntOp.cmpi .eq (BitVec.ofNat 32 (0 * 224 + k.val))
    (IntOp.addi (IntOp.muli 2#32 (IntOp.andi (BitVec.ofNat 32 (0 * 256 + l.val)) 127#32)) (IntOp.shrsi .vector (BitVec.ofNat 32 (0 * 256 + l.val)) 7#32))).setWidth 32) = _
  simp only [Nat.zero_mul, Nat.zero_add]
  rw [pick_word, bit_word _ _ (by omega) (by omega)]
  show (((if k.val = 2 * (l.val % 128) + l.val / 128 then 1#32 else 0#32 : BitVec 32).toInt : ℝ) : EReal) = _
  split <;> simp

theorem split_apply (v : Vec Ideal S1x1x224x224 .f32) (hv : ∀ i, IsReal (v i)) (r : Fin 224) (l : Fin 256) (s : Fin 224)
    (hs : s.val = 2 * (l.val % 128) + l.val / 128) : split v (ix2 r l) = v (ix4 0 0 r s) := by
  unfold split
  simp only [pointwise]
  have h : ∀ k : Fin 224, (sel : FVec Ideal S224x256 .bf16) (ix2 k l) = if k = s then 1 else 0 := fun k => by
    rw [sel_apply, ← hs]
    simp only [Fin.ext_iff]
  simp only [h, (hv _).sub_self, zero_mul, Finset.sum_const_zero, add_zero, zero_add, mul_ite, mul_one, mul_zero, Finset.sum_ite_eq',
    Finset.sum_ite_eq, Finset.mem_univ, if_true]

/-! ## The planes -/

theorem evenCols_apply (v : Vec Ideal S1x1x224x224 .f32) (hv : ∀ i, IsReal (v i)) (r : Fin 224) (w : Fin 128) (s : Fin 224) (hs : s.val = 2 * w.val) :
    evenCols v (ix2 r w) = v (ix4 0 0 r s) := by
  have hw := w.isLt
  unfold evenCols
  simp only [pointwise]
  refine (congrArg (split v) (?_ : _ = ix2 r (⟨w.val, by omega⟩ : Fin 256))).trans (split_apply v hv r _ s (by simp; omega))
  funext a
  fin_cases a <;> simp [ix2] <;> rfl

theorem oddCols_apply (v : Vec Ideal S1x1x224x224 .f32) (hv : ∀ i, IsReal (v i)) (r : Fin 224) (w : Fin 128) (s : Fin 224) (hs : s.val = 2 * w.val + 1) :
    oddCols v (ix2 r w) = v (ix4 0 0 r s) := by
  have hw := w.isLt
  unfold oddCols
  simp only [pointwise]
  refine (congrArg (split v) (?_ : _ = ix2 r (⟨128 + w.val, by omega⟩ : Fin 256))).trans (split_apply v hv r _ s (by simp; omega))
  funext a
  fin_cases a <;> simp [ix2] <;> rfl

theorem leftCols_zero (v : Vec Ideal S1x1x224x224 .f32) (r : Fin 224) (w : Fin 128) (hs : w.val = 0) : leftCols v (ix2 r w) = 0 := by
  unfold leftCols
  simp only [pointwise]
  rw [dif_pos (by omega)]

theorem leftCols_apply (v : Vec Ideal S1x1x224x224 .f32) (hv : ∀ i, IsReal (v i)) (r : Fin 224) (w : Fin 128) (s : Fin 224) (hs : s.val + 1 = 2 * w.val) :
    leftCols v (ix2 r w) = v (ix4 0 0 r s) := by
  have hw := w.isLt
  unfold leftCols
  simp only [pointwise]
  rw [dif_neg (by omega)]
  refine (congrArg (oddCols v) (?_ : _ = ix2 r (⟨w.val - 1, by omega⟩ : Fin 128))).trans (oddCols_apply v hv r _ s (by simp; omega))
  funext a
  fin_cases a <;> simp [ix2] <;> rfl

/-! ## A leaf -/

theorem fullAt_apply (x : S4x96x224x224.Idx → EReal) (hx : ∀ i, IsReal (x i)) (b : Fin 4) (xs : ℕ → Vec Ideal S1x1x224x224 .f32)
    (hxs : ∀ n, xs n = fun y => x (ix4 b (Fin.ofNat 96 n) (y 2) (y 3))) (p : Fin 3) (c : Fin 96) (h : Fin 232) (w : Fin 128)
    (hh : 7 ≤ h.val) (hw : w.val < 112) : fullAt xs p c h w = padded x b c.val (h.val - 7) (2 * w.val + p.val) := by
  have hlt := h.isLt
  have hv : ∀ n i, IsReal (xs n i) := fun n i => by rw [hxs]; exact hx _
  unfold fullAt padded
  by_cases h8 : h.val < 8
  · rw [if_pos h8, dif_neg (by omega)]
    exact Ideal.ofBits_zero_f32
  · rw [if_neg h8]
    have at_eq : ∀ (r s r' s' : Fin 224), r.val = r'.val → s.val = s'.val →
        xs c.val (ix4 0 0 r s) = x (ix4 b (Fin.ofNat 96 c.val) r' s') := fun r s r' s' hr hs => by
      rw [hxs]
      obtain rfl := Fin.ext hr
      obtain rfl := Fin.ext hs
      rfl
    match p with
    | 0 =>
      show leftCols (xs c.val) _ = _
      by_cases h0 : w.val = 0
      · rw [leftCols_zero _ _ _ h0, dif_neg (by simp; omega)]
      · rw [leftCols_apply _ (hv _) _ _ (⟨2 * w.val - 1, by omega⟩ : Fin 224) (by simp; omega), dif_pos (by simp; omega)]
        exact at_eq _ _ _ _ (by simp; omega) (by simp)
    | 1 =>
      show evenCols (xs c.val) _ = _
      rw [evenCols_apply _ (hv _) _ _ (⟨2 * w.val, by omega⟩ : Fin 224) rfl, dif_pos (by simp; omega)]
      exact at_eq _ _ _ _ (by simp; omega) (by simp)
    | 2 =>
      show oddCols (xs c.val) _ = _
      rw [oddCols_apply _ (hv _) _ _ (⟨2 * w.val + 1, by omega⟩ : Fin 224) rfl, dif_pos (by simp; omega)]
      exact at_eq _ _ _ _ (by simp; omega) (by simp)

theorem at4_full (xs : ℕ → Vec Ideal S1x1x224x224 .f32) (p c h w : ℕ) (hp : p < 3) (hc : c < 96) (hh : h < 232) (hw : w < 128) :
    at4 (full xs) p c h w = fullAt xs ⟨p, hp⟩ ⟨c, hc⟩ ⟨h, hh⟩ ⟨w, hw⟩ := by
  unfold at4 full
  have e1 : (Fin.ofNat 3 p) = ⟨p, hp⟩ := Fin.ext (Nat.mod_eq_of_lt hp)
  have e2 : (Fin.ofNat 96 c) = ⟨c, hc⟩ := Fin.ext (Nat.mod_eq_of_lt hc)
  have e3 : (Fin.ofNat 232 h) = ⟨h, hh⟩ := Fin.ext (Nat.mod_eq_of_lt hh)
  have e4 : (Fin.ofNat 128 w) = ⟨w, hw⟩ := Fin.ext (Nat.mod_eq_of_lt hw)
  show fullAt xs (Fin.ofNat 3 p) (Fin.ofNat 96 c) (Fin.ofNat 232 h) (Fin.ofNat 128 w) = _
  rw [e1, e2, e3, e4]

theorem leafV_apply (x : S4x96x224x224.Idx → EReal) (hx : ∀ i, IsReal (x i)) (b : Fin 4) (xs : ℕ → Vec Ideal S1x1x224x224 .f32)
    (hxs : ∀ n, xs n = fun y => x (ix4 b (Fin.ofNat 96 n) (y 2) (y 3))) (I : IVec S96x8 32) (hI : InRange I) (oc : Fin 96) (l : Fin 8) (h w : Fin 112) :
    leafV (words I) (full xs) oc l (ix2 h (Fin.castLE (by decide) w)) = patch x b (I (ix2 oc l)).toNat h w := by
  have hk := hI (ix2 oc l)
  have hh := h.isLt
  have hw := w.isLt
  unfold leafV patch
  rw [off_words hI]
  show at4 (full xs) ((I (ix2 oc l)).toNat % 3) ((I (ix2 oc l)).toNat / 9) ((I (ix2 oc l)).toNat % 9 / 3 + 7 + 2 * h.val) w.val = _
  rw [at4_full xs _ _ _ _ (by omega) (by omega) (by omega) (by omega), fullAt_apply x hx b xs hxs _ _ _ _ (by simp; omega) hw]
  congr 1
  simp
  omega

/-! ## The tree -/

theorem nodeV_apply (L : FVec Ideal S96x7x16 .f32) (hL : ∀ i, IsReal (L i)) (oc : Fin 96) (n : Fin 7) (a b : FVec Ideal S112x128 .f32) (j : S112x128.Idx)
    (ha : IsReal (a j)) (hb : IsReal (b j)) : nodeV (coefs L) oc n a b j = Gate.mix (soft (rowOf L oc n)) (a j) (b j) := by
  unfold nodeV node
  rw [coefs_apply, coefs_apply, coefs_apply, coefs_apply]
  exact node_mix (p := soft (rowOf L oc n)) (fun i => soft_real (fun i => hL _) i) ha hb

end Cert.KernelIdeal.Tree

namespace Cert.Gate

open Cert.KernelIdeal Cert.KernelIdeal.Tree
open Idealize.ShloMosaic

/-- The tree of an output channel at a place: seven mixtures over eight leaves. -/
def tree (L : FVec Ideal S96x7x16 .f32) (oc : Fin 96) (leaf : Fin 8 → EReal) : EReal :=
  mix (soft (rowOf L oc 6))
    (mix (soft (rowOf L oc 4)) (mix (soft (rowOf L oc 0)) (leaf 0) (leaf 1)) (mix (soft (rowOf L oc 1)) (leaf 2) (leaf 3)))
    (mix (soft (rowOf L oc 5)) (mix (soft (rowOf L oc 2)) (leaf 4) (leaf 5)) (mix (soft (rowOf L oc 3)) (leaf 6) (leaf 7)))

/-- The value both programs leave at a place of the result. -/
def value (x : S4x96x224x224.Idx → EReal) (L : FVec Ideal S96x7x16 .f32) (I : IVec S96x8 32) (b : Fin 4) (oc : Fin 96) (h w : Fin 112) : EReal :=
  tree L oc fun l => patch x b (I (ix2 oc l)).toNat h w

end Cert.Gate

namespace Cert.KernelIdeal.Tree

open Cert.KernelIdeal Cert.KernelIdeal.Gen Cert.Gate
open Idealize.ShloMosaic

theorem ocV_apply (x : S4x96x224x224.Idx → EReal) (hx : ∀ i, IsReal (x i)) (b : Fin 4) (xs : ℕ → Vec Ideal S1x1x224x224 .f32)
    (hxs : ∀ n, xs n = fun y => x (ix4 b (Fin.ofNat 96 n) (y 2) (y 3))) (L : FVec Ideal S96x7x16 .f32) (hL : ∀ i, IsReal (L i))
    (I : IVec S96x8 32) (hI : InRange I) (oc : Fin 96) (h w : Fin 112) :
    ocV (words I) (coefs L) (full xs) oc (ix2 h (Fin.castLE (by decide) w)) = value x L I b oc h w := by
  have hr : ∀ n, ∀ i, IsReal (soft (rowOf L oc n) i) := fun n i => soft_real (fun i => hL _) i
  have leaf := leafV_apply x hx b xs hxs I hI oc (h := h) (w := w)
  have leaf_real : ∀ l, IsReal (leafV (words I) (full xs) oc l (ix2 h (Fin.castLE (by decide) w))) := fun l => by
    rw [leaf]
    exact padded_real hx _ _ _ _
  have node_real : ∀ (n : Fin 7) (a b : FVec Ideal S112x128 .f32) (j : S112x128.Idx), IsReal (a j) → IsReal (b j) →
      IsReal (nodeV (coefs L) oc n a b j) := fun n a b j ha hb => by
    rw [nodeV_apply L hL oc n a b j ha hb]
    exact mix_real (hr n) ha hb
  unfold ocV value tree
  rw [nodeV_apply L hL, nodeV_apply L hL oc 4, nodeV_apply L hL oc 5, nodeV_apply L hL oc 0, nodeV_apply L hL oc 1, nodeV_apply L hL oc 2,
    nodeV_apply L hL oc 3, leaf, leaf, leaf, leaf, leaf, leaf, leaf, leaf]
  all_goals first
    | exact leaf_real _
    | exact node_real _ _ _ _ (leaf_real _) (leaf_real _)
    | exact node_real _ _ _ _ (node_real _ _ _ _ (leaf_real _) (leaf_real _)) (node_real _ _ _ _ (leaf_real _) (leaf_real _))

end Cert.KernelIdeal.Tree

end
-- ==== Proof.Value.lean ====
/- The kernel's run read back: the result array at the tree's value. -/
module

public import proofs.«01_k».proof.Proof.Leaf

@[expose] public section

noncomputable section

namespace Cert.KernelIdeal.Tree

open Cert.KernelIdeal Cert.KernelIdeal.Gen Cert.Gate
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The result: image `y 0`'s tree of channel `y 1` at row `y 2` and column `y 3`. -/
def result (c : Dev nD) : S4x96x112x112.Idx → EReal := fun y =>
  value (m (c, Proc.tc.devRef main_arg0)) (m (c, Proc.tc.devRef main_arg1)) (m (c, Proc.tc.devRef main_arg2)) (y 0) (y 1) (y 2) (y 3)

/-- What the precondition says of the arguments. -/
structure Good (c : Dev nD) : Prop where
  image : ∀ i, IsReal (m (c, Proc.tc.devRef main_arg0) i)
  logit : ∀ i, IsReal (m (c, Proc.tc.devRef main_arg1) i)
  index : InRange (m (c, Proc.tc.devRef main_arg2))

theorem imgs_eq (c : Dev nD) : imgs m c = m (c, Proc.tc.devRef main_arg0) := V_main_arg0 m c

theorem outB_apply (c : Dev nD) (hm : Good m c) (b : Fin 4) (oc : Fin 96) (h w : Fin 112) (z : Fin 1) :
    outB m c b.val (ix4 z oc h w) = result m c (ix4 b oc h w) := by
  unfold outB
  rw [lid_eq, coef_eq]
  refine ocV_apply (m (c, Proc.tc.devRef main_arg0)) hm.image b (img m c b.val) (fun n => ?_) _ hm.logit _ hm.index oc h w
  unfold img
  rw [imgs_eq]
  have e : Fin.ofNat 4 b.val = b := Fin.ext (Nat.mod_eq_of_lt b.isLt)
  rw [e]

theorem flushed_eq (c : Dev nD) (hm : Good m c) (t : Fin cfg0.N) (hf : (cfg0.win 3).flush t = true) :
    (dats m 0 c).flushed 3 t = ((cfg0.win 3).blk t).view.read (Elt Ideal) (result m c) := by
  have hN : t.val < 16 := Nat.lt_of_lt_of_eq t.isLt N_0
  show (cfg0.win 3).cut (grid0.coords t) ((dats m 0 c).after 3 t) = _
  rw [after0_3]
  funext j
  obtain ⟨z, oc, h, w, rfl⟩ : ∃ (z : Fin 1) (a : Fin 96) (b : Fin 112) (d : Fin 112), j = (ix4 z a b d : S1x96x112x112.Idx) :=
    ⟨j 0, j 1, j 2, j 3, eq_ix4 (n0 := 1) (n1 := 96) (n2 := 112) (n3 := 112) j⟩
  rw [View.read_apply]
  refine (outB_apply m c hm (⟨t.val / 4, by omega⟩ : Fin 4) oc h w z).trans (congrArg (result m c) (funext fun a => Fin.ext ?_))
  match a with
  | ⟨0, _⟩ => show t.val / 4 = win0_3.index t 0 * 1 + 1 * z.val; rw [index3]; simp
  | ⟨1, _⟩ => show oc.val = win0_3.index t 1 * 96 + 1 * oc.val; rw [index3]; simp
  | ⟨2, _⟩ => show h.val = win0_3.index t 2 * 112 + 1 * h.val; rw [index3]; simp
  | ⟨3, _⟩ => show w.val = win0_3.index t 3 * 112 + 1 * w.val; rw [index3]; simp

theorem final_out (c : Dev nD) (hm : Good m c) : (dats m 0 c).arrAt 3 cfg0.N = result m c :=
  (dats m 0 c).arrAt_eq_of_cover 3 (result m c) (flushed_eq m c hm) fun i => by
    have h0 : (i 0 : Nat) < 4 := (i 0).isLt
    have h1 : (i 1 : Nat) < 96 := (i 1).isLt
    have h2 : (i 2 : Nat) < 112 := (i 2).isLt
    have h3 : (i 3 : Nat) < 112 := (i 3).isLt
    have hN : cfg0.N = 16 := N_0
    obtain ⟨t, ht⟩ : ∃ t : Fin cfg0.N, t.val = 4 * (i 0 : Nat) + 3 := ⟨⟨4 * (i 0 : Nat) + 3, by omega⟩, rfl⟩
    refine ⟨t, (flush0_3 t).mpr (by omega), ?_⟩
    show i ∈ ((View.whole main_v25).slice (win0_3.rect t)).set
    rw [View.set_slice_whole, Rect.mem_set_unit]
    have e0 : win0_3.index t 0 = t.val / 4 := congrFun (index3 t) 0
    have e1 : win0_3.index t 1 = 0 := congrFun (index3 t) 1
    have e2 : win0_3.index t 2 = 0 := congrFun (index3 t) 2
    have e3 : win0_3.index t 3 = 0 := congrFun (index3 t) 3
    intro a
    match a with
    | ⟨0, _⟩ => show win0_3.index t 0 * 1 ≤ (i 0 : Nat) ∧ (i 0 : Nat) < win0_3.index t 0 * 1 + 1
                rw [e0]; omega
    | ⟨1, _⟩ => show win0_3.index t 1 * 96 ≤ (i 1 : Nat) ∧ (i 1 : Nat) < win0_3.index t 1 * 96 + 96
                rw [e1]; omega
    | ⟨2, _⟩ => show win0_3.index t 2 * 112 ≤ (i 2 : Nat) ∧ (i 2 : Nat) < win0_3.index t 2 * 112 + 112
                rw [e2]; omega
    | ⟨3, _⟩ => show win0_3.index t 3 * 112 ≤ (i 3 : Nat) ∧ (i 3 : Nat) < win0_3.index t 3 * 112 + 112
                rw [e3]; omega

/-- The run, read: the result array at the trees' values, the arguments unchanged. -/
theorem run_value (hm : ∀ c, Good m c) : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final_out m c (hm c)),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ (lidOk m fun c => (hm c).index))

end Cert.KernelIdeal.Tree

end
-- ==== Proof.Pre.lean ====
/- What the precondition of the values says of the arguments: real entries, and indices below 864. -/
module

public import proofs.«01_k».proof.Pre_finite_in_range
public import proofs.«01_k».proof.Proof.Value

@[expose] public section

noncomputable section

namespace Cert.Proof

open Idealize.ShloMosaic Idealize.ShloMosaic.TcCoe Cert.Gate

/-- An entry between the two infinities is real. -/
theorem real_word {x : EReal} (h : IntOp.andi (Ideal.cmp .ogt x (Ideal.ofBits .f32 0xFF800000#32)) (Ideal.cmp .olt x (Ideal.ofBits .f32 0x7F800000#32)) = 1#1) :
    IsReal x := by
  obtain ⟨hb, ht⟩ := IntOp.andi_eq_one.1 h
  refine isReal_of (fun e => ?_) (fun e => ?_)
  · subst e
    simp [Ideal.cmp] at hb
  · subst e
    simp [Ideal.cmp] at ht

variable [Cert.Pre_finite_in_range.Facts] {a : FVec Ideal Cert.KernelIdeal.S4x96x224x224 .f32} {b : FVec Ideal Cert.KernelIdeal.S96x7x16 .f32}
  {x : IVec Cert.KernelIdeal.S96x8 32}

theorem of_pre (h : Cert.Pre_finite_in_range.fn (F := Ideal) a b x = fun _ => 1#1) :
    (∀ i, IsReal (a i)) ∧ (∀ i, IsReal (b i)) ∧ Cert.KernelIdeal.Tree.InRange x := by
  obtain ⟨h1, hb⟩ := IntOp.andi_eq_one.1 (congrFun h (fun k => k.elim0))
  obtain ⟨hx, ha⟩ := IntOp.andi_eq_one.1 h1
  refine ⟨fun i => real_word (Host.reduce_andi_all _ _ _ _ _ ha i), fun i => real_word (Host.reduce_andi_all _ _ _ _ _ hb i), fun i => ?_⟩
  obtain ⟨hg, hl⟩ := IntOp.andi_eq_one.1 (Host.reduce_andi_all _ _ _ _ _ hx i)
  exact Cert.KernelIdeal.Tree.range_word hg hl

end Cert.Proof

end

end
-- ==== Proof.RefLeaf.lean ====
/- The leaves of the reference: the padded image, its nine strided windows stacked, and the rows the indices pick. -/
module

public import proofs.«01_k».proof.Proof.Gen.ReferenceIdeal
public import proofs.«01_k».proof.Proof.Leaf
public import Idealize.ShloMosaic.Lib.KernelVsHost

@[expose] public section

noncomputable section

namespace Cert.ReferenceIdeal.Tree

open Cert.ReferenceIdeal Cert.ReferenceIdeal.Gen Cert.Gate
open Cert.KernelIdeal.Tree (InRange)
open Idealize.ShloMosaic Idealize.ShloMosaic.TcCoe
open scoped BigOperators

/-- A row of the patches picked at every place. -/
theorem pick_apply (x : FVec Ideal S4x864x12544 .f32) (idx : IVec S96x8x1 32) (b : Fin 4) (oc : Fin 96) (l : Fin 8) (s : Fin 12544) (k : Fin 864)
    (hk : (idx (ix3 oc l 0)).toInt.toNat = k.val) :
    Host.gather gather_S4x864x12544_S96x8x1_S4x96x8x12544_03_1_n_n_1_2_4112544 x idx (ix4 b oc l s) = x (ix3 b k s) := by
  have hlt := k.isLt
  unfold Host.gather
  refine congrArg x (funext fun a => Fin.ext ?_)
  show GatherDims.start _ _ idx a + GatherDims.batchCoord _ _ a + GatherDims.offCoord _ _ a = _
  rw [GatherDims.batchCoord_eq_zero _ _ _ (fun h => absurd h List.not_mem_nil)]
  have hsi : ∀ q, GatherDims.siIdx gather_S4x864x12544_S96x8x1_S4x96x8x12544_03_1_n_n_1_2_4112544 (ix4 b oc l s) q = ix3 oc l (0 : Fin 1) := fun q => by
    funext a; refine Fin.ext ?_
    match a with
    | ⟨0, _⟩ => rfl
    | ⟨1, _⟩ => rfl
    | ⟨2, _⟩ => exact Nat.lt_one_iff.mp q.isLt
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start
    rw [dif_neg (show ¬ ((0 : Fin 3) ∈ GatherDims.startIndexMap gather_S4x864x12544_S96x8x1_S4x96x8x12544_03_1_n_n_1_2_4112544) from
      fun h => absurd (List.mem_singleton.mp h) (by decide))]
    exact (Nat.zero_add _).trans rfl
  · rw [GatherDims.offCoord_eq_zero _ _ _ (fun h => ((GatherDims.mem_sKept _ _).mp h).1 (List.mem_singleton.mpr rfl))]
    unfold GatherDims.start
    rw [dif_pos (show (1 : Fin 3) ∈ GatherDims.startIndexMap gather_S4x864x12544_S96x8x1_S4x96x8x12544_03_1_n_n_1_2_4112544 from List.mem_singleton.mpr rfl), hsi, hk]
    show min k.val (864 - 1) + 0 + 0 = k.val
    omega
  · unfold GatherDims.start
    rw [dif_neg (show ¬ ((2 : Fin 3) ∈ GatherDims.startIndexMap gather_S4x864x12544_S96x8x1_S4x96x8x12544_03_1_n_n_1_2_4112544) from
      fun h => absurd (List.mem_singleton.mp h) (by decide))]
    exact (Nat.zero_add _).trans rfl

/-- The index of every place, counted from the end if it is negative. -/
def places (I : IVec S96x8 32) : IVec S96x8x1 32 :=
  broadcastInDim S96x8x1 ![0, 1] bcast_S96x8_S96x8x1_0_1 (select (cmpi .slt I (broadcastInDim S96x8 ![] bcast_S_S96x8 (constantI S_ 32 0#32)))
    (addi I (broadcastInDim S96x8 ![] bcast_S_S96x8 (constantI S_ 32 864#32))) I)

theorem word_nonneg (w : BitVec 32) (h : w.toNat < 864) : IntOp.cmpi .slt w 0#32 = 0#1 ∧ w.toInt.toNat = w.toNat := by
  have hi : w.toInt = (w.toNat : ℤ) := BitVec.toInt_eq_toNat_of_lt (by omega)
  refine ⟨?_, by rw [hi]; rfl⟩
  have hn : ¬ (w.toInt < (0#32 : BitVec 32).toInt) := by rw [hi]; simp
  simp only [IntOp.cmpi, BitVec.slt, decide_eq_false hn]
  rfl

theorem places_apply (I : IVec S96x8 32) (hI : InRange I) (oc : Fin 96) (l : Fin 8) : places I (ix3 oc l 0) = I (ix2 oc l) := by
  unfold places
  refine (broadcastInDim_apply _ _ _ _ (ix2 oc l) fun a => ?_).trans ?_
  · match a with
    | ⟨0, _⟩ => rfl
    | ⟨1, _⟩ => rfl
  have h : cmpi .slt I (broadcastInDim S96x8 ![] bcast_S_S96x8 (constantI S_ 32 0#32)) (ix2 oc l) = 0#1 := (word_nonneg _ (hI (ix2 oc l))).1
  simp only [select, h]
  rfl

/-- The image with a frame of zeros. -/
def framed (x : FVec Ideal S4x96x224x224 .f32) : FVec Ideal S4x96x226x226 .f32 :=
  pad S4x96x226x226 ![0, 0, 1, 1] ![0, 0, 1, 1] ![0, 0, 0, 0] x (sitofp .f32 (constantI S_ 32 0#32)) pads_S4x96x224x224_S4x96x226x226_000_000_110_110 h_S_

theorem framed_apply (x : FVec Ideal S4x96x224x224 .f32) (b : Fin 4) (c : Fin 96) (r s : Fin 226) : framed x (ix4 b c r s) = padded x b c.val r.val s.val := by
  have hr := r.isLt
  have hs := s.isLt
  have hz : ((sitofp .f32 (constantI S_ 32 0#32) : FVec Ideal S_ .f32) (Shape.Idx.first h_S_)) = (0 : EReal) := by
    show (((0#32 : BitVec 32).toInt : ℝ) : EReal) = 0
    simp
  unfold framed padded
  split
  · rename_i h
    have hc : Fin.ofNat 96 c.val = c := Fin.ext (Nat.mod_eq_of_lt c.isLt)
    rw [hc]
    refine pad_apply_of_inside _ _ _ _ _ _ _ _ _ fun a => ?_
    match a with
    | ⟨0, _⟩ => show b.val = 0 + b.val * 1; omega
    | ⟨1, _⟩ => show c.val = 0 + c.val * 1; omega
    | ⟨2, _⟩ => show r.val = 1 + (r.val - 1) * 1; omega
    | ⟨3, _⟩ => show s.val = 1 + (s.val - 1) * 1; omega
  · rename_i h
    by_cases h1 : 1 ≤ r.val ∧ r.val ≤ 224
    · refine (pad_apply_of_not_inside _ _ _ _ _ _ _ _ (3 : Fin 4) ?_).trans hz
      intro hh
      have e1 : 1 ≤ s.val := hh.1
      have e3 : (s.val - 1) / 1 < 224 := hh.2.2
      exact h ⟨h1, e1, by omega⟩
    · refine (pad_apply_of_not_inside _ _ _ _ _ _ _ _ (2 : Fin 4) ?_).trans hz
      intro hh
      have e1 : 1 ≤ r.val := hh.1
      have e3 : (r.val - 1) / 1 < 224 := hh.2.2
      exact h1 ⟨e1, by omega⟩

/-- Every second row and column of the framed image, from a place of the window on. -/
def window (x : FVec Ideal S4x96x226x226 .f32) (off : Fin 4 → ℕ) (hs : S4x96x226x226.SlicesBy off ![1, 1, 2, 2] S4x96x112x112) : FVec Ideal S4x96x1x112x112 .f32 :=
  broadcastInDim S4x96x1x112x112 ![0, 1, 3, 4] bcast_S4x96x112x112_S4x96x1x112x112_0_1_3_4 (Host.slice S4x96x112x112 off ![1, 1, 2, 2] x hs)

theorem window_apply (x : FVec Ideal S4x96x226x226 .f32) (off : Fin 4 → ℕ) (dy dx : ℕ) (ho : off = ![0, 0, dy, dx])
    (hs : S4x96x226x226.SlicesBy off ![1, 1, 2, 2] S4x96x112x112) (b : Fin 4) (c : Fin 96) (h w : Fin 112) (r s : Fin 226)
    (hr : r.val = 2 * h.val + dy) (hc : s.val = 2 * w.val + dx) : window x off hs (ix5 b c 0 h w) = x (ix4 b c r s) := by
  subst ho
  unfold window
  refine (broadcastInDim_apply _ _ _ _ (ix4 b c h w) fun a => ?_).trans ?_
  · match a with
    | ⟨0, _⟩ => rfl
    | ⟨1, _⟩ => rfl
    | ⟨2, _⟩ => rfl
    | ⟨3, _⟩ => rfl
  unfold Host.slice
  refine congrArg x (funext fun a => Fin.ext ?_)
  match a with
  | ⟨0, _⟩ => show 0 + 1 * b.val = b.val; omega
  | ⟨1, _⟩ => show 0 + 1 * c.val = c.val; omega
  | ⟨2, _⟩ => show dy + 2 * h.val = r.val; omega
  | ⟨3, _⟩ => show dx + 2 * w.val = s.val; omega

/-- The nine windows, -/
def windows (x : FVec Ideal S4x96x226x226 .f32) : List ((s : Shape) × (s.Idx → EReal)) :=
  [⟨S4x96x1x112x112, window x ![0, 0, 0, 0] slicesBy_S4x96x226x226_S4x96x112x112_0s1_0s1_0s2_0s2⟩,
    ⟨S4x96x1x112x112, window x ![0, 0, 0, 1] slicesBy_S4x96x226x226_S4x96x112x112_0s1_0s1_0s2_1s2⟩,
    ⟨S4x96x1x112x112, window x ![0, 0, 0, 2] slicesBy_S4x96x226x226_S4x96x112x112_0s1_0s1_0s2_2s2⟩,
    ⟨S4x96x1x112x112, window x ![0, 0, 1, 0] slicesBy_S4x96x226x226_S4x96x112x112_0s1_0s1_1s2_0s2⟩,
    ⟨S4x96x1x112x112, window x ![0, 0, 1, 1] slicesBy_S4x96x226x226_S4x96x112x112_0s1_0s1_1s2_1s2⟩,
    ⟨S4x96x1x112x112, window x ![0, 0, 1, 2] slicesBy_S4x96x226x226_S4x96x112x112_0s1_0s1_1s2_2s2⟩,
    ⟨S4x96x1x112x112, window x ![0, 0, 2, 0] slicesBy_S4x96x226x226_S4x96x112x112_0s1_0s1_2s2_0s2⟩,
    ⟨S4x96x1x112x112, window x ![0, 0, 2, 1] slicesBy_S4x96x226x226_S4x96x112x112_0s1_0s1_2s2_1s2⟩,
    ⟨S4x96x1x112x112, window x ![0, 0, 2, 2] slicesBy_S4x96x226x226_S4x96x112x112_0s1_0s1_2s2_2s2⟩]

/-- stacked. -/
def stack (x : FVec Ideal S4x96x226x226 .f32) : FVec Ideal S4x96x9x112x112 .f32 :=
  concatenate S4x96x9x112x112 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2

theorem stack_apply (x : FVec Ideal S4x96x226x226 .f32) (b : Fin 4) (c : Fin 96) (j : Fin 9) (h w : Fin 112) :
    stack x (ix5 b c j h w) = x (ix4 b c (⟨2 * h.val + j.val / 3, by omega⟩ : Fin 226) (⟨2 * w.val + j.val % 3, by omega⟩ : Fin 226)) := by
  unfold stack
  match j with
  | ⟨0, _⟩ =>
    refine Eq.trans (concatenate_apply_piece 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2 _ 0 (by show 0 < 9; decide) S4x96x1x112x112 _ rfl rfl 0 rfl (ix5 b c (0 : Fin 1) h w) ?_ rfl) ?_
    · intro a; fin_cases a <;> first | (intro h; rfl) | (intro h; exact absurd rfl h)
    · exact window_apply x _ 0 0 rfl _ b c h w _ _ (by show 2 * h.val + 0 / 3 = _; omega) (by show 2 * w.val + 0 % 3 = _; omega)
  | ⟨1, _⟩ =>
    refine Eq.trans (concatenate_apply_piece 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2 _ 1 (by show 1 < 9; decide) S4x96x1x112x112 _ rfl rfl 1 rfl (ix5 b c (0 : Fin 1) h w) ?_ rfl) ?_
    · intro a; fin_cases a <;> first | (intro h; rfl) | (intro h; exact absurd rfl h)
    · exact window_apply x _ 0 1 rfl _ b c h w _ _ (by show 2 * h.val + 1 / 3 = _; omega) (by show 2 * w.val + 1 % 3 = _; omega)
  | ⟨2, _⟩ =>
    refine Eq.trans (concatenate_apply_piece 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2 _ 2 (by show 2 < 9; decide) S4x96x1x112x112 _ rfl rfl 2 rfl (ix5 b c (0 : Fin 1) h w) ?_ rfl) ?_
    · intro a; fin_cases a <;> first | (intro h; rfl) | (intro h; exact absurd rfl h)
    · exact window_apply x _ 0 2 rfl _ b c h w _ _ (by show 2 * h.val + 2 / 3 = _; omega) (by show 2 * w.val + 2 % 3 = _; omega)
  | ⟨3, _⟩ =>
    refine Eq.trans (concatenate_apply_piece 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2 _ 3 (by show 3 < 9; decide) S4x96x1x112x112 _ rfl rfl 3 rfl (ix5 b c (0 : Fin 1) h w) ?_ rfl) ?_
    · intro a; fin_cases a <;> first | (intro h; rfl) | (intro h; exact absurd rfl h)
    · exact window_apply x _ 1 0 rfl _ b c h w _ _ (by show 2 * h.val + 3 / 3 = _; omega) (by show 2 * w.val + 3 % 3 = _; omega)
  | ⟨4, _⟩ =>
    refine Eq.trans (concatenate_apply_piece 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2 _ 4 (by show 4 < 9; decide) S4x96x1x112x112 _ rfl rfl 4 rfl (ix5 b c (0 : Fin 1) h w) ?_ rfl) ?_
    · intro a; fin_cases a <;> first | (intro h; rfl) | (intro h; exact absurd rfl h)
    · exact window_apply x _ 1 1 rfl _ b c h w _ _ (by show 2 * h.val + 4 / 3 = _; omega) (by show 2 * w.val + 4 % 3 = _; omega)
  | ⟨5, _⟩ =>
    refine Eq.trans (concatenate_apply_piece 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2 _ 5 (by show 5 < 9; decide) S4x96x1x112x112 _ rfl rfl 5 rfl (ix5 b c (0 : Fin 1) h w) ?_ rfl) ?_
    · intro a; fin_cases a <;> first | (intro h; rfl) | (intro h; exact absurd rfl h)
    · exact window_apply x _ 1 2 rfl _ b c h w _ _ (by show 2 * h.val + 5 / 3 = _; omega) (by show 2 * w.val + 5 % 3 = _; omega)
  | ⟨6, _⟩ =>
    refine Eq.trans (concatenate_apply_piece 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2 _ 6 (by show 6 < 9; decide) S4x96x1x112x112 _ rfl rfl 6 rfl (ix5 b c (0 : Fin 1) h w) ?_ rfl) ?_
    · intro a; fin_cases a <;> first | (intro h; rfl) | (intro h; exact absurd rfl h)
    · exact window_apply x _ 2 0 rfl _ b c h w _ _ (by show 2 * h.val + 6 / 3 = _; omega) (by show 2 * w.val + 6 % 3 = _; omega)
  | ⟨7, _⟩ =>
    refine Eq.trans (concatenate_apply_piece 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2 _ 7 (by show 7 < 9; decide) S4x96x1x112x112 _ rfl rfl 7 rfl (ix5 b c (0 : Fin 1) h w) ?_ rfl) ?_
    · intro a; fin_cases a <;> first | (intro h; rfl) | (intro h; exact absurd rfl h)
    · exact window_apply x _ 2 1 rfl _ b c h w _ _ (by show 2 * h.val + 7 / 3 = _; omega) (by show 2 * w.val + 7 % 3 = _; omega)
  | ⟨8, _⟩ =>
    refine Eq.trans (concatenate_apply_piece 2 (windows x) concatenates_S4x96x1x112x112_S4x96x1x112x112_S4x96x1x112x112_S4x96x1x112x112_S4x96x1x112x112_S4x96x1x112x112_S4x96x1x112x112_S4x96x1x112x112_S4x96x1x112x112_S4x96x9x112x112_d2 _ 8 (by show 8 < 9; decide) S4x96x1x112x112 _ rfl rfl 8 rfl (ix5 b c (0 : Fin 1) h w) ?_ rfl) ?_
    · intro a; fin_cases a <;> first | (intro h; rfl) | (intro h; exact absurd rfl h)
    · exact window_apply x _ 2 2 rfl _ b c h w _ _ (by show 2 * h.val + 8 / 3 = _; omega) (by show 2 * w.val + 8 % 3 = _; omega)

/-- The leaves of every place. -/
def leaves (x : FVec Ideal S4x96x224x224 .f32) (I : IVec S96x8 32) : FVec Ideal S4x96x8x12544 .f32 :=
  Host.gather gather_S4x864x12544_S96x8x1_S4x96x8x12544_03_1_n_n_1_2_4112544
    (shapeCast S4x864x12544 (stack (framed x)) shapeCasts_S4x96x9x112x112_S4x864x12544) (places I)

theorem leaves_apply (x : FVec Ideal S4x96x224x224 .f32) (I : IVec S96x8 32) (hI : InRange I) (b : Fin 4) (oc : Fin 96) (l : Fin 8) (h w : Fin 112) :
    leaves x I (ix4 b oc l (⟨h.val * 112 + w.val, by omega⟩ : Fin 12544)) = patch x b (I (ix2 oc l)).toNat h w := by
  have hk := hI (ix2 oc l)
  unfold leaves patch
  rw [pick_apply _ _ b oc l _ ⟨(I (ix2 oc l)).toNat, hk⟩ (by rw [places_apply I hI]; exact (word_nonneg _ hk).2)]
  generalize (I (ix2 oc l)).toNat = k at hk
  refine (shapeCast_apply _ _ _ (ix5 b (⟨k / 9, by omega⟩ : Fin 96) (⟨k % 9, by omega⟩ : Fin 9) h w) ?_).trans ?_
  · rw [Shape.rowMajor_val_five, Shape.rowMajor_val_three]
    show (((b.val * 96 + k / 9) * 9 + k % 9) * 112 + h.val) * 112 + w.val = (b.val * 864 + k) * 12544 + (h.val * 112 + w.val)
    omega
  rw [stack_apply, framed_apply]
  show padded x b (k / 9) (2 * h.val + k % 9 / 3) (2 * w.val + k % 9 % 3) = _
  rw [Nat.mod_mod_of_dvd k (by decide : 3 ∣ 9)]

end Cert.ReferenceIdeal.Tree

end

end
-- ==== Proof.RefLevels.lean ====
/- The levels of the reference's tree, index by index: the softmax of a level's logits, a gate's weight, the even and odd nodes, the sum over the gates. -/
module

public import proofs.«01_k».proof.Proof.Gen.ReferenceIdeal
public import proofs.«01_k».proof.Proof.Leaf

@[expose] public section

noncomputable section

namespace Cert.ReferenceIdeal.Tree

open Cert.ReferenceIdeal Cert.ReferenceIdeal.Gen Cert.Gate
open Idealize.ShloMosaic Idealize.ShloMosaic.TcCoe
open scoped BigOperators

/-! ## The level of 4 -/

/-- A value of every row, at every entry of it. -/
def spread4 (x : FVec Ideal S96x4 .f32) : FVec Ideal S96x4x16 .f32 :=
  broadcastInDim S96x4x16 ![0, 1, 2] bcast_S96x4x1_S96x4x16_0_1_2 (broadcastInDim S96x4x1 ![0, 1] bcast_S96x4_S96x4x1_0_1 x)

/-- The exponentials of the logits less their row's largest, -/
def powers4 (x : FVec Ideal S96x4x16 .f32) : FVec Ideal S96x4x16 .f32 :=
  Host.exp (subf x (spread4 (maximumf (broadcastInDim S96x4 ![] bcast_S_S96x4 (constant S_ .f32 0xFF800000#32))
    (Host.reduce FloatOps.maximumf x (constant S_ .f32 0xFF800000#32) reducesTo_S96x4x16_S96x4_d2 h_S_))))

/-- and their softmax, laid out over the places. -/
def probs4 (x : FVec Ideal S96x4x16 .f32) : FVec Ideal S1x96x4x1x16 .f32 :=
  broadcastInDim S1x96x4x1x16 ![1, 2, 4] bcast_S96x4x16_S1x96x4x1x16_1_2_4
    (Host.divf (powers4 x) (spread4 (Host.reduceAdd (powers4 x) (constant S_ .f32 0x00000000#32) reducesTo_S96x4x16_S96x4_d2 h_S_)))

theorem powers4_apply (x : FVec Ideal S96x4x16 .f32) (oc : Fin 96) (n : Fin 4) (i : Fin 16) :
    powers4 x (ix3 oc n i) = Ideal.exp (x (ix3 oc n i) - top fun k => x (ix3 oc n k)) := by
  unfold powers4 spread4 top
  simp only [pointwise, f32_bot]
  simp only [OfNat.ofNat_ne_one, dite_false, reduceDIte]

theorem probs4_apply (x : FVec Ideal S96x4x16 .f32) (oc : Fin 96) (n : Fin 4) (i : Fin 16) :
    probs4 x (ix5 0 oc n 0 i) = soft (fun k => x (ix3 oc n k)) i := by
  unfold probs4 spread4 soft
  simp only [pointwise, Ideal.ofBits_zero_f32]
  simp only [OfNat.ofNat_ne_one, dite_false, reduceDIte, powers4_apply]

theorem cut4_apply (off : Fin 3 → ℕ) (k : ℕ) (hk : k + 4 ≤ 7) (ho : off = ![0, k, 0]) (L : FVec Ideal S96x7x16 .f32) (hs : S96x7x16.Slices off S96x4x16)
    (oc : Fin 96) (n : Fin 4) (i : Fin 16) :
    extractStridedSlice S96x4x16 off L hs (ix3 oc n i) = L (ix3 oc (⟨k + n.val, by omega⟩ : Fin 7) i) := by
  subst ho
  refine extractStridedSlice_apply _ _ _ _ _ fun a => ?_
  match a with
  | ⟨0, _⟩ => exact (Nat.zero_add _).symm
  | ⟨1, _⟩ => rfl
  | ⟨2, _⟩ => exact (Nat.zero_add _).symm

/-- A gate's weight at every place. -/
def weight4 (p : FVec Ideal S1x96x4x1x16 .f32) (off : Fin 5 → ℕ) (hs : S1x96x4x1x16.Slices off S1x96x4x1x1) : FVec Ideal S4x96x4x12544 .f32 :=
  broadcastInDim S4x96x4x12544 ![0, 1, 2, 3] bcast_S1x96x4x1_S4x96x4x12544_0_1_2_3
      (shapeCast S1x96x4x1 (extractStridedSlice S1x96x4x1x1 off p hs) shapeCasts_S1x96x4x1x1_S1x96x4x1)

theorem weight4_apply (p : FVec Ideal S1x96x4x1x16 .f32) (off : Fin 5 → ℕ) (i : Fin 16) (ho : off = ![0, 0, 0, 0, i.val])
    (hs : S1x96x4x1x16.Slices off S1x96x4x1x1) (b : Fin 4) (oc : Fin 96) (n : Fin 4) (s : Fin 12544) :
    weight4 p off hs (ix4 b oc n s) = p (ix5 0 oc n 0 i) := by
  subst ho
  unfold weight4
  refine (broadcastInDim_apply _ _ _ _ (ix4 (0 : Fin 1) oc n (0 : Fin 1)) fun a => ?_).trans ?_
  · match a with
    | ⟨0, _⟩ => rfl
    | ⟨1, _⟩ => rfl
    | ⟨2, _⟩ => rfl
    | ⟨3, _⟩ => rfl
  refine (shapeCast_apply _ _ _ (ix5 (0 : Fin 1) oc n (0 : Fin 1) (0 : Fin 1)) ?_).trans ?_
  · simp [Shape.rowMajor_val_four, Shape.rowMajor_val_five, ix4, ix5]
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => rfl
  | ⟨4, _⟩ => rfl

/-- A number at every place. -/
def num4 (x : BitVec 32) : FVec Ideal S4x96x4x12544 .f32 :=
  broadcastInDim S4x96x4x12544 ![] bcast_S_S4x96x4x12544 (constant (F := Ideal) S_ .f32 x)

theorem num4_apply (x : BitVec 32) (j : S4x96x4x12544.Idx) : num4 x j = Ideal.ofBits .f32 x := rfl

theorem slices4 (t : Fin 16) : S1x96x4x1x16.Slices ![0, 0, 0, 0, t.val] S1x96x4x1x1 := by
  revert t
  decide

/-- The nodes at even places below, -/
def evens4 (x : FVec Ideal S4x96x8x12544 .f32) : FVec Ideal S4x96x4x12544 .f32 :=
  Host.slice S4x96x4x12544 ![0, 0, 0, 0] ![1, 1, 2, 1] x slicesBy_S4x96x8x12544_S4x96x4x12544_0s1_0s1_0s2_0s1

/-- and at odd places. -/
def odds4 (x : FVec Ideal S4x96x8x12544 .f32) : FVec Ideal S4x96x4x12544 .f32 :=
  Host.slice S4x96x4x12544 ![0, 0, 1, 0] ![1, 1, 2, 1] x slicesBy_S4x96x8x12544_S4x96x4x12544_0s1_0s1_1s2_0s1

theorem evens4_apply (x : FVec Ideal S4x96x8x12544 .f32) (b : Fin 4) (oc : Fin 96) (n : Fin 4) (s : Fin 12544) :
    evens4 x (ix4 b oc n s) = x (ix4 b oc (⟨2 * n.val, by omega⟩ : Fin 8) s) := by
  unfold evens4 Host.slice
  refine congrArg x (funext fun a => Fin.ext ?_)
  match a with
  | ⟨0, _⟩ => show 0 + 1 * b.val = b.val; omega
  | ⟨1, _⟩ => show 0 + 1 * oc.val = oc.val; omega
  | ⟨2, _⟩ => show 0 + 2 * n.val = 2 * n.val; omega
  | ⟨3, _⟩ => show 0 + 1 * s.val = s.val; omega

theorem odds4_apply (x : FVec Ideal S4x96x8x12544 .f32) (b : Fin 4) (oc : Fin 96) (n : Fin 4) (s : Fin 12544) :
    odds4 x (ix4 b oc n s) = x (ix4 b oc (⟨2 * n.val + 1, by omega⟩ : Fin 8) s) := by
  unfold odds4 Host.slice
  refine congrArg x (funext fun a => Fin.ext ?_)
  match a with
  | ⟨0, _⟩ => show 0 + 1 * b.val = b.val; omega
  | ⟨1, _⟩ => show 0 + 1 * oc.val = oc.val; omega
  | ⟨2, _⟩ => show 1 + 2 * n.val = 2 * n.val + 1; omega
  | ⟨3, _⟩ => show 0 + 1 * s.val = s.val; omega

/-- A gate's term of the sum, -/
def term4 (p : FVec Ideal S1x96x4x1x16 .f32) (i : Fin 16) (g : FVec Ideal S4x96x4x12544 .f32) : FVec Ideal S4x96x4x12544 .f32 :=
  mulf (weight4 p ![0, 0, 0, 0, i.val] (slices4 i)) g

theorem term4_apply (p : FVec Ideal S1x96x4x1x16 .f32) (i : Fin 16) (g : FVec Ideal S4x96x4x12544 .f32) (b : Fin 4) (oc : Fin 96) (n : Fin 4) (s : Fin 12544) :
    term4 p i g (ix4 b oc n s) = p (ix5 0 oc n 0 i) * g (ix4 b oc n s) :=
  congrArg (· * g (ix4 b oc n s)) (weight4_apply p _ i rfl (slices4 i) b oc n s)

/-- the first twelve gates, -/
def low4 (p : FVec Ideal S1x96x4x1x16 .f32) (a b ab : FVec Ideal S4x96x4x12544 .f32) : FVec Ideal S4x96x4x12544 .f32 :=
  addf (addf (addf (addf (addf (addf (addf (addf (addf (addf (addf (addf (num4 0x00000000#32) (term4 p 0 (num4 0x00000000#32))) (term4 p 1 ab))
    (term4 p 2 (subf a ab))) (term4 p 3 a)) (term4 p 4 (subf b ab))) (term4 p 5 b))
    (term4 p 6 (subf (addf a b) (mulf (num4 0x40000000#32) ab)))) (term4 p 7 (subf (addf a b) ab)))
    (term4 p 8 (subf (num4 0x3F800000#32) (subf (addf a b) ab))))
    (term4 p 9 (subf (num4 0x3F800000#32) (subf (addf a b) (mulf (num4 0x40000000#32) ab)))))
    (term4 p 10 (subf (num4 0x3F800000#32) b))) (term4 p 11 (addf (subf (num4 0x3F800000#32) b) ab))

/-- and all of them. -/
def level4 (p : FVec Ideal S1x96x4x1x16 .f32) (a b ab low : FVec Ideal S4x96x4x12544 .f32) : FVec Ideal S4x96x4x12544 .f32 :=
  addf (addf (addf (addf low (term4 p 12 (subf (num4 0x3F800000#32) a))) (term4 p 13 (addf (subf (num4 0x3F800000#32) a) ab)))
    (term4 p 14 (subf (num4 0x3F800000#32) ab))) (term4 p 15 (num4 0x3F800000#32))

theorem level4_apply (x : FVec Ideal S96x4x16 .f32) (a b : FVec Ideal S4x96x4x12544 .f32) (i : Fin 4) (oc : Fin 96) (n : Fin 4) (s : Fin 12544) :
    level4 (probs4 x) a b (mulf a b) (low4 (probs4 x) a b (mulf a b)) (ix4 i oc n s)
      = mix (soft fun k => x (ix3 oc n k)) (a (ix4 i oc n s)) (b (ix4 i oc n s)) := by
  unfold level4 low4
  simp only [ValueIdx.addf_apply, ValueIdx.mulf_apply, ValueIdx.subf_apply, term4_apply, num4_apply, probs4_apply, Ideal.ofBits_zero_f32,
    Ideal.ofBits_one_f32, f32_two]
  rfl

/-! ## The level of 2 -/

/-- A value of every row, at every entry of it. -/
def spread2 (x : FVec Ideal S96x2 .f32) : FVec Ideal S96x2x16 .f32 :=
  broadcastInDim S96x2x16 ![0, 1, 2] bcast_S96x2x1_S96x2x16_0_1_2 (broadcastInDim S96x2x1 ![0, 1] bcast_S96x2_S96x2x1_0_1 x)

/-- The exponentials of the logits less their row's largest, -/
def powers2 (x : FVec Ideal S96x2x16 .f32) : FVec Ideal S96x2x16 .f32 :=
  Host.exp (subf x (spread2 (maximumf (broadcastInDim S96x2 ![] bcast_S_S96x2 (constant S_ .f32 0xFF800000#32))
    (Host.reduce FloatOps.maximumf x (constant S_ .f32 0xFF800000#32) reducesTo_S96x2x16_S96x2_d2 h_S_))))

/-- and their softmax, laid out over the places. -/
def probs2 (x : FVec Ideal S96x2x16 .f32) : FVec Ideal S1x96x2x1x16 .f32 :=
  broadcastInDim S1x96x2x1x16 ![1, 2, 4] bcast_S96x2x16_S1x96x2x1x16_1_2_4
    (Host.divf (powers2 x) (spread2 (Host.reduceAdd (powers2 x) (constant S_ .f32 0x00000000#32) reducesTo_S96x2x16_S96x2_d2 h_S_)))

theorem powers2_apply (x : FVec Ideal S96x2x16 .f32) (oc : Fin 96) (n : Fin 2) (i : Fin 16) :
    powers2 x (ix3 oc n i) = Ideal.exp (x (ix3 oc n i) - top fun k => x (ix3 oc n k)) := by
  unfold powers2 spread2 top
  simp only [pointwise, f32_bot]
  simp only [OfNat.ofNat_ne_one, dite_false, reduceDIte]

theorem probs2_apply (x : FVec Ideal S96x2x16 .f32) (oc : Fin 96) (n : Fin 2) (i : Fin 16) :
    probs2 x (ix5 0 oc n 0 i) = soft (fun k => x (ix3 oc n k)) i := by
  unfold probs2 spread2 soft
  simp only [pointwise, Ideal.ofBits_zero_f32]
  simp only [OfNat.ofNat_ne_one, dite_false, reduceDIte, powers2_apply]

theorem cut2_apply (off : Fin 3 → ℕ) (k : ℕ) (hk : k + 2 ≤ 7) (ho : off = ![0, k, 0]) (L : FVec Ideal S96x7x16 .f32) (hs : S96x7x16.Slices off S96x2x16)
    (oc : Fin 96) (n : Fin 2) (i : Fin 16) :
    extractStridedSlice S96x2x16 off L hs (ix3 oc n i) = L (ix3 oc (⟨k + n.val, by omega⟩ : Fin 7) i) := by
  subst ho
  refine extractStridedSlice_apply _ _ _ _ _ fun a => ?_
  match a with
  | ⟨0, _⟩ => exact (Nat.zero_add _).symm
  | ⟨1, _⟩ => rfl
  | ⟨2, _⟩ => exact (Nat.zero_add _).symm

/-- A gate's weight at every place. -/
def weight2 (p : FVec Ideal S1x96x2x1x16 .f32) (off : Fin 5 → ℕ) (hs : S1x96x2x1x16.Slices off S1x96x2x1x1) : FVec Ideal S4x96x2x12544 .f32 :=
  broadcastInDim S4x96x2x12544 ![0, 1, 2, 3] bcast_S1x96x2x1_S4x96x2x12544_0_1_2_3
      (shapeCast S1x96x2x1 (extractStridedSlice S1x96x2x1x1 off p hs) shapeCasts_S1x96x2x1x1_S1x96x2x1)

theorem weight2_apply (p : FVec Ideal S1x96x2x1x16 .f32) (off : Fin 5 → ℕ) (i : Fin 16) (ho : off = ![0, 0, 0, 0, i.val])
    (hs : S1x96x2x1x16.Slices off S1x96x2x1x1) (b : Fin 4) (oc : Fin 96) (n : Fin 2) (s : Fin 12544) :
    weight2 p off hs (ix4 b oc n s) = p (ix5 0 oc n 0 i) := by
  subst ho
  unfold weight2
  refine (broadcastInDim_apply _ _ _ _ (ix4 (0 : Fin 1) oc n (0 : Fin 1)) fun a => ?_).trans ?_
  · match a with
    | ⟨0, _⟩ => rfl
    | ⟨1, _⟩ => rfl
    | ⟨2, _⟩ => rfl
    | ⟨3, _⟩ => rfl
  refine (shapeCast_apply _ _ _ (ix5 (0 : Fin 1) oc n (0 : Fin 1) (0 : Fin 1)) ?_).trans ?_
  · simp [Shape.rowMajor_val_four, Shape.rowMajor_val_five, ix4, ix5]
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => rfl
  | ⟨4, _⟩ => rfl

/-- A number at every place. -/
def num2 (x : BitVec 32) : FVec Ideal S4x96x2x12544 .f32 :=
  broadcastInDim S4x96x2x12544 ![] bcast_S_S4x96x2x12544 (constant (F := Ideal) S_ .f32 x)

theorem num2_apply (x : BitVec 32) (j : S4x96x2x12544.Idx) : num2 x j = Ideal.ofBits .f32 x := rfl

theorem slices2 (t : Fin 16) : S1x96x2x1x16.Slices ![0, 0, 0, 0, t.val] S1x96x2x1x1 := by
  revert t
  decide

/-- The nodes at even places below, -/
def evens2 (x : FVec Ideal S4x96x4x12544 .f32) : FVec Ideal S4x96x2x12544 .f32 :=
  Host.slice S4x96x2x12544 ![0, 0, 0, 0] ![1, 1, 2, 1] x slicesBy_S4x96x4x12544_S4x96x2x12544_0s1_0s1_0s2_0s1

/-- and at odd places. -/
def odds2 (x : FVec Ideal S4x96x4x12544 .f32) : FVec Ideal S4x96x2x12544 .f32 :=
  Host.slice S4x96x2x12544 ![0, 0, 1, 0] ![1, 1, 2, 1] x slicesBy_S4x96x4x12544_S4x96x2x12544_0s1_0s1_1s2_0s1

theorem evens2_apply (x : FVec Ideal S4x96x4x12544 .f32) (b : Fin 4) (oc : Fin 96) (n : Fin 2) (s : Fin 12544) :
    evens2 x (ix4 b oc n s) = x (ix4 b oc (⟨2 * n.val, by omega⟩ : Fin 4) s) := by
  unfold evens2 Host.slice
  refine congrArg x (funext fun a => Fin.ext ?_)
  match a with
  | ⟨0, _⟩ => show 0 + 1 * b.val = b.val; omega
  | ⟨1, _⟩ => show 0 + 1 * oc.val = oc.val; omega
  | ⟨2, _⟩ => show 0 + 2 * n.val = 2 * n.val; omega
  | ⟨3, _⟩ => show 0 + 1 * s.val = s.val; omega

theorem odds2_apply (x : FVec Ideal S4x96x4x12544 .f32) (b : Fin 4) (oc : Fin 96) (n : Fin 2) (s : Fin 12544) :
    odds2 x (ix4 b oc n s) = x (ix4 b oc (⟨2 * n.val + 1, by omega⟩ : Fin 4) s) := by
  unfold odds2 Host.slice
  refine congrArg x (funext fun a => Fin.ext ?_)
  match a with
  | ⟨0, _⟩ => show 0 + 1 * b.val = b.val; omega
  | ⟨1, _⟩ => show 0 + 1 * oc.val = oc.val; omega
  | ⟨2, _⟩ => show 1 + 2 * n.val = 2 * n.val + 1; omega
  | ⟨3, _⟩ => show 0 + 1 * s.val = s.val; omega

/-- A gate's term of the sum, -/
def term2 (p : FVec Ideal S1x96x2x1x16 .f32) (i : Fin 16) (g : FVec Ideal S4x96x2x12544 .f32) : FVec Ideal S4x96x2x12544 .f32 :=
  mulf (weight2 p ![0, 0, 0, 0, i.val] (slices2 i)) g

theorem term2_apply (p : FVec Ideal S1x96x2x1x16 .f32) (i : Fin 16) (g : FVec Ideal S4x96x2x12544 .f32) (b : Fin 4) (oc : Fin 96) (n : Fin 2) (s : Fin 12544) :
    term2 p i g (ix4 b oc n s) = p (ix5 0 oc n 0 i) * g (ix4 b oc n s) :=
  congrArg (· * g (ix4 b oc n s)) (weight2_apply p _ i rfl (slices2 i) b oc n s)

/-- the first twelve gates, -/
def low2 (p : FVec Ideal S1x96x2x1x16 .f32) (a b ab : FVec Ideal S4x96x2x12544 .f32) : FVec Ideal S4x96x2x12544 .f32 :=
  addf (addf (addf (addf (addf (addf (addf (addf (addf (addf (addf (addf (num2 0x00000000#32) (term2 p 0 (num2 0x00000000#32))) (term2 p 1 ab))
    (term2 p 2 (subf a ab))) (term2 p 3 a)) (term2 p 4 (subf b ab))) (term2 p 5 b))
    (term2 p 6 (subf (addf a b) (mulf (num2 0x40000000#32) ab)))) (term2 p 7 (subf (addf a b) ab)))
    (term2 p 8 (subf (num2 0x3F800000#32) (subf (addf a b) ab))))
    (term2 p 9 (subf (num2 0x3F800000#32) (subf (addf a b) (mulf (num2 0x40000000#32) ab)))))
    (term2 p 10 (subf (num2 0x3F800000#32) b))) (term2 p 11 (addf (subf (num2 0x3F800000#32) b) ab))

/-- and all of them. -/
def level2 (p : FVec Ideal S1x96x2x1x16 .f32) (a b ab low : FVec Ideal S4x96x2x12544 .f32) : FVec Ideal S4x96x2x12544 .f32 :=
  addf (addf (addf (addf low (term2 p 12 (subf (num2 0x3F800000#32) a))) (term2 p 13 (addf (subf (num2 0x3F800000#32) a) ab)))
    (term2 p 14 (subf (num2 0x3F800000#32) ab))) (term2 p 15 (num2 0x3F800000#32))

theorem level2_apply (x : FVec Ideal S96x2x16 .f32) (a b : FVec Ideal S4x96x2x12544 .f32) (i : Fin 4) (oc : Fin 96) (n : Fin 2) (s : Fin 12544) :
    level2 (probs2 x) a b (mulf a b) (low2 (probs2 x) a b (mulf a b)) (ix4 i oc n s)
      = mix (soft fun k => x (ix3 oc n k)) (a (ix4 i oc n s)) (b (ix4 i oc n s)) := by
  unfold level2 low2
  simp only [ValueIdx.addf_apply, ValueIdx.mulf_apply, ValueIdx.subf_apply, term2_apply, num2_apply, probs2_apply, Ideal.ofBits_zero_f32,
    Ideal.ofBits_one_f32, f32_two]
  rfl

/-! ## The level of 1 -/

/-- A value of every row, at every entry of it. -/
def spread1 (x : FVec Ideal S96x1 .f32) : FVec Ideal S96x1x16 .f32 :=
  broadcastInDim S96x1x16 ![0, 1, 2] bcast_S96x1x1_S96x1x16_0_1_2 (broadcastInDim S96x1x1 ![0, 1] bcast_S96x1_S96x1x1_0_1 x)

/-- The exponentials of the logits less their row's largest, -/
def powers1 (x : FVec Ideal S96x1x16 .f32) : FVec Ideal S96x1x16 .f32 :=
  Host.exp (subf x (spread1 (maximumf (broadcastInDim S96x1 ![] bcast_S_S96x1 (constant S_ .f32 0xFF800000#32))
    (Host.reduce FloatOps.maximumf x (constant S_ .f32 0xFF800000#32) reducesTo_S96x1x16_S96x1_d2 h_S_))))

/-- and their softmax, laid out over the places. -/
def probs1 (x : FVec Ideal S96x1x16 .f32) : FVec Ideal S1x96x1x1x16 .f32 :=
  broadcastInDim S1x96x1x1x16 ![1, 2, 4] bcast_S96x1x16_S1x96x1x1x16_1_2_4
    (Host.divf (powers1 x) (spread1 (Host.reduceAdd (powers1 x) (constant S_ .f32 0x00000000#32) reducesTo_S96x1x16_S96x1_d2 h_S_)))

theorem powers1_apply (x : FVec Ideal S96x1x16 .f32) (oc : Fin 96) (n : Fin 1) (i : Fin 16) :
    powers1 x (ix3 oc n i) = Ideal.exp (x (ix3 oc n i) - top fun k => x (ix3 oc n k)) := by
  obtain rfl : n = 0 := Subsingleton.elim n 0
  unfold powers1 spread1 top
  simp only [pointwise, f32_bot]
  simp only [OfNat.ofNat_ne_one, dite_false, reduceDIte]

theorem probs1_apply (x : FVec Ideal S96x1x16 .f32) (oc : Fin 96) (n : Fin 1) (i : Fin 16) :
    probs1 x (ix5 0 oc n 0 i) = soft (fun k => x (ix3 oc n k)) i := by
  obtain rfl : n = 0 := Subsingleton.elim n 0
  unfold probs1 spread1 soft
  simp only [pointwise, Ideal.ofBits_zero_f32]
  simp only [OfNat.ofNat_ne_one, dite_false, reduceDIte, powers1_apply]

theorem cut1_apply (off : Fin 3 → ℕ) (k : ℕ) (hk : k + 1 ≤ 7) (ho : off = ![0, k, 0]) (L : FVec Ideal S96x7x16 .f32) (hs : S96x7x16.Slices off S96x1x16)
    (oc : Fin 96) (n : Fin 1) (i : Fin 16) :
    extractStridedSlice S96x1x16 off L hs (ix3 oc n i) = L (ix3 oc (⟨k + n.val, by omega⟩ : Fin 7) i) := by
  subst ho
  refine extractStridedSlice_apply _ _ _ _ _ fun a => ?_
  match a with
  | ⟨0, _⟩ => exact (Nat.zero_add _).symm
  | ⟨1, _⟩ => rfl
  | ⟨2, _⟩ => exact (Nat.zero_add _).symm

/-- A gate's weight at every place. -/
def weight1 (p : FVec Ideal S1x96x1x1x16 .f32) (off : Fin 5 → ℕ) (hs : S1x96x1x1x16.Slices off S1x96x1x1x1) : FVec Ideal S4x96x1x12544 .f32 :=
  broadcastInDim S4x96x1x12544 ![0, 1, 2, 3] bcast_S1x96x1x1_S4x96x1x12544_0_1_2_3
      (shapeCast S1x96x1x1 (extractStridedSlice S1x96x1x1x1 off p hs) shapeCasts_S1x96x1x1x1_S1x96x1x1)

theorem weight1_apply (p : FVec Ideal S1x96x1x1x16 .f32) (off : Fin 5 → ℕ) (i : Fin 16) (ho : off = ![0, 0, 0, 0, i.val])
    (hs : S1x96x1x1x16.Slices off S1x96x1x1x1) (b : Fin 4) (oc : Fin 96) (n : Fin 1) (s : Fin 12544) :
    weight1 p off hs (ix4 b oc n s) = p (ix5 0 oc n 0 i) := by
  subst ho
  unfold weight1
  refine (broadcastInDim_apply _ _ _ _ (ix4 (0 : Fin 1) oc n (0 : Fin 1)) fun a => ?_).trans ?_
  · match a with
    | ⟨0, _⟩ => rfl
    | ⟨1, _⟩ => rfl
    | ⟨2, _⟩ => exact congrArg Fin.val (Subsingleton.elim n 0)
    | ⟨3, _⟩ => rfl
  refine (shapeCast_apply _ _ _ (ix5 (0 : Fin 1) oc n (0 : Fin 1) (0 : Fin 1)) ?_).trans ?_
  · simp [Shape.rowMajor_val_four, Shape.rowMajor_val_five, ix4, ix5]
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => rfl
  | ⟨4, _⟩ => rfl

/-- A number at every place. -/
def num1 (x : BitVec 32) : FVec Ideal S4x96x1x12544 .f32 :=
  broadcastInDim S4x96x1x12544 ![] bcast_S_S4x96x1x12544 (constant (F := Ideal) S_ .f32 x)

theorem num1_apply (x : BitVec 32) (j : S4x96x1x12544.Idx) : num1 x j = Ideal.ofBits .f32 x := rfl

theorem slices1 (t : Fin 16) : S1x96x1x1x16.Slices ![0, 0, 0, 0, t.val] S1x96x1x1x1 := by
  revert t
  decide

/-- The nodes at even places below, -/
def evens1 (x : FVec Ideal S4x96x2x12544 .f32) : FVec Ideal S4x96x1x12544 .f32 :=
  Host.slice S4x96x1x12544 ![0, 0, 0, 0] ![1, 1, 2, 1] x slicesBy_S4x96x2x12544_S4x96x1x12544_0s1_0s1_0s2_0s1

/-- and at odd places. -/
def odds1 (x : FVec Ideal S4x96x2x12544 .f32) : FVec Ideal S4x96x1x12544 .f32 :=
  Host.slice S4x96x1x12544 ![0, 0, 1, 0] ![1, 1, 2, 1] x slicesBy_S4x96x2x12544_S4x96x1x12544_0s1_0s1_1s2_0s1

theorem evens1_apply (x : FVec Ideal S4x96x2x12544 .f32) (b : Fin 4) (oc : Fin 96) (n : Fin 1) (s : Fin 12544) :
    evens1 x (ix4 b oc n s) = x (ix4 b oc (⟨2 * n.val, by omega⟩ : Fin 2) s) := by
  unfold evens1 Host.slice
  refine congrArg x (funext fun a => Fin.ext ?_)
  match a with
  | ⟨0, _⟩ => show 0 + 1 * b.val = b.val; omega
  | ⟨1, _⟩ => show 0 + 1 * oc.val = oc.val; omega
  | ⟨2, _⟩ => show 0 + 2 * n.val = 2 * n.val; omega
  | ⟨3, _⟩ => show 0 + 1 * s.val = s.val; omega

theorem odds1_apply (x : FVec Ideal S4x96x2x12544 .f32) (b : Fin 4) (oc : Fin 96) (n : Fin 1) (s : Fin 12544) :
    odds1 x (ix4 b oc n s) = x (ix4 b oc (⟨2 * n.val + 1, by omega⟩ : Fin 2) s) := by
  unfold odds1 Host.slice
  refine congrArg x (funext fun a => Fin.ext ?_)
  match a with
  | ⟨0, _⟩ => show 0 + 1 * b.val = b.val; omega
  | ⟨1, _⟩ => show 0 + 1 * oc.val = oc.val; omega
  | ⟨2, _⟩ => show 1 + 2 * n.val = 2 * n.val + 1; omega
  | ⟨3, _⟩ => show 0 + 1 * s.val = s.val; omega

/-- A gate's term of the sum, -/
def term1 (p : FVec Ideal S1x96x1x1x16 .f32) (i : Fin 16) (g : FVec Ideal S4x96x1x12544 .f32) : FVec Ideal S4x96x1x12544 .f32 :=
  mulf (weight1 p ![0, 0, 0, 0, i.val] (slices1 i)) g

theorem term1_apply (p : FVec Ideal S1x96x1x1x16 .f32) (i : Fin 16) (g : FVec Ideal S4x96x1x12544 .f32) (b : Fin 4) (oc : Fin 96) (n : Fin 1) (s : Fin 12544) :
    term1 p i g (ix4 b oc n s) = p (ix5 0 oc n 0 i) * g (ix4 b oc n s) :=
  congrArg (· * g (ix4 b oc n s)) (weight1_apply p _ i rfl (slices1 i) b oc n s)

/-- the first twelve gates, -/
def low1 (p : FVec Ideal S1x96x1x1x16 .f32) (a b ab : FVec Ideal S4x96x1x12544 .f32) : FVec Ideal S4x96x1x12544 .f32 :=
  addf (addf (addf (addf (addf (addf (addf (addf (addf (addf (addf (addf (num1 0x00000000#32) (term1 p 0 (num1 0x00000000#32))) (term1 p 1 ab))
    (term1 p 2 (subf a ab))) (term1 p 3 a)) (term1 p 4 (subf b ab))) (term1 p 5 b))
    (term1 p 6 (subf (addf a b) (mulf (num1 0x40000000#32) ab)))) (term1 p 7 (subf (addf a b) ab)))
    (term1 p 8 (subf (num1 0x3F800000#32) (subf (addf a b) ab))))
    (term1 p 9 (subf (num1 0x3F800000#32) (subf (addf a b) (mulf (num1 0x40000000#32) ab)))))
    (term1 p 10 (subf (num1 0x3F800000#32) b))) (term1 p 11 (addf (subf (num1 0x3F800000#32) b) ab))

/-- and all of them. -/
def level1 (p : FVec Ideal S1x96x1x1x16 .f32) (a b ab low : FVec Ideal S4x96x1x12544 .f32) : FVec Ideal S4x96x1x12544 .f32 :=
  addf (addf (addf (addf low (term1 p 12 (subf (num1 0x3F800000#32) a))) (term1 p 13 (addf (subf (num1 0x3F800000#32) a) ab)))
    (term1 p 14 (subf (num1 0x3F800000#32) ab))) (term1 p 15 (num1 0x3F800000#32))

theorem level1_apply (x : FVec Ideal S96x1x16 .f32) (a b : FVec Ideal S4x96x1x12544 .f32) (i : Fin 4) (oc : Fin 96) (n : Fin 1) (s : Fin 12544) :
    level1 (probs1 x) a b (mulf a b) (low1 (probs1 x) a b (mulf a b)) (ix4 i oc n s)
      = mix (soft fun k => x (ix3 oc n k)) (a (ix4 i oc n s)) (b (ix4 i oc n s)) := by
  unfold level1 low1
  simp only [ValueIdx.addf_apply, ValueIdx.mulf_apply, ValueIdx.subf_apply, term1_apply, num1_apply, probs1_apply, Ideal.ofBits_zero_f32,
    Ideal.ofBits_one_f32, f32_two]
  rfl

end Cert.ReferenceIdeal.Tree

end

end
-- ==== Proof.RefValue.lean ====
/- The reference's run read back: the result array at the tree's value. -/
module

public import proofs.«01_k».proof.Proof.Gen.ReferenceIdeal.Run
public import proofs.«01_k».proof.Proof.RefLeaf
public import proofs.«01_k».proof.Proof.RefLevels

@[expose] public section

noncomputable section

namespace Cert.ReferenceIdeal.Tree

open Cert.ReferenceIdeal Cert.ReferenceIdeal.Gen Cert.ReferenceIdeal.Value Cert.Gate
open Cert.KernelIdeal.Tree (InRange rowOf)
open Idealize.ShloMosaic Idealize.ShloMosaic.TcCoe Idealize.SL Idealize.SL.Sem
open Idealize.ShloMosaic.StableHlo (launchContents)

/-- The level of four, -/
def at4 (L : FVec Ideal S96x7x16 .f32) (u : FVec Ideal S4x96x8x12544 .f32) : FVec Ideal S4x96x4x12544 .f32 :=
  level4 (probs4 (extractStridedSlice S96x4x16 ![0, 0, 0] L slices_S96x7x16_S96x4x16_0_0_0)) (evens4 u) (odds4 u)
    (mulf (evens4 u) (odds4 u))
    (low4 (probs4 (extractStridedSlice S96x4x16 ![0, 0, 0] L slices_S96x7x16_S96x4x16_0_0_0)) (evens4 u) (odds4 u)
      (mulf (evens4 u) (odds4 u)))

theorem at4_apply (L : FVec Ideal S96x7x16 .f32) (u : FVec Ideal S4x96x8x12544 .f32) (b : Fin 4) (oc : Fin 96) (n : Fin 4) (s : Fin 12544) :
    at4 L u (ix4 b oc n s) = mix (soft (rowOf L oc (⟨0 + n.val, by omega⟩ : Fin 7)))
      (u (ix4 b oc (⟨2 * n.val, by omega⟩ : Fin 8) s)) (u (ix4 b oc (⟨2 * n.val + 1, by omega⟩ : Fin 8) s)) := by
  unfold at4
  rw [level4_apply, evens4_apply, odds4_apply]
  have e : (fun k => extractStridedSlice S96x4x16 ![0, 0, 0] L slices_S96x7x16_S96x4x16_0_0_0 (ix3 oc n k))
      = rowOf L oc (⟨0 + n.val, by omega⟩ : Fin 7) := funext fun k => cut4_apply _ 0 (by decide) rfl L _ oc n k
  rw [e]

/-- The level of two, -/
def at2 (L : FVec Ideal S96x7x16 .f32) (u : FVec Ideal S4x96x4x12544 .f32) : FVec Ideal S4x96x2x12544 .f32 :=
  level2 (probs2 (extractStridedSlice S96x2x16 ![0, 4, 0] L slices_S96x7x16_S96x2x16_0_4_0)) (evens2 u) (odds2 u)
    (mulf (evens2 u) (odds2 u))
    (low2 (probs2 (extractStridedSlice S96x2x16 ![0, 4, 0] L slices_S96x7x16_S96x2x16_0_4_0)) (evens2 u) (odds2 u)
      (mulf (evens2 u) (odds2 u)))

theorem at2_apply (L : FVec Ideal S96x7x16 .f32) (u : FVec Ideal S4x96x4x12544 .f32) (b : Fin 4) (oc : Fin 96) (n : Fin 2) (s : Fin 12544) :
    at2 L u (ix4 b oc n s) = mix (soft (rowOf L oc (⟨4 + n.val, by omega⟩ : Fin 7)))
      (u (ix4 b oc (⟨2 * n.val, by omega⟩ : Fin 4) s)) (u (ix4 b oc (⟨2 * n.val + 1, by omega⟩ : Fin 4) s)) := by
  unfold at2
  rw [level2_apply, evens2_apply, odds2_apply]
  have e : (fun k => extractStridedSlice S96x2x16 ![0, 4, 0] L slices_S96x7x16_S96x2x16_0_4_0 (ix3 oc n k))
      = rowOf L oc (⟨4 + n.val, by omega⟩ : Fin 7) := funext fun k => cut2_apply _ 4 (by decide) rfl L _ oc n k
  rw [e]

/-- The level of one, -/
def at1 (L : FVec Ideal S96x7x16 .f32) (u : FVec Ideal S4x96x2x12544 .f32) : FVec Ideal S4x96x1x12544 .f32 :=
  level1 (probs1 (extractStridedSlice S96x1x16 ![0, 6, 0] L slices_S96x7x16_S96x1x16_0_6_0)) (evens1 u) (odds1 u)
    (mulf (evens1 u) (odds1 u))
    (low1 (probs1 (extractStridedSlice S96x1x16 ![0, 6, 0] L slices_S96x7x16_S96x1x16_0_6_0)) (evens1 u) (odds1 u)
      (mulf (evens1 u) (odds1 u)))

theorem at1_apply (L : FVec Ideal S96x7x16 .f32) (u : FVec Ideal S4x96x2x12544 .f32) (b : Fin 4) (oc : Fin 96) (n : Fin 1) (s : Fin 12544) :
    at1 L u (ix4 b oc n s) = mix (soft (rowOf L oc (⟨6 + n.val, by omega⟩ : Fin 7)))
      (u (ix4 b oc (⟨2 * n.val, by omega⟩ : Fin 2) s)) (u (ix4 b oc (⟨2 * n.val + 1, by omega⟩ : Fin 2) s)) := by
  unfold at1
  rw [level1_apply, evens1_apply, odds1_apply]
  have e : (fun k => extractStridedSlice S96x1x16 ![0, 6, 0] L slices_S96x7x16_S96x1x16_0_6_0 (ix3 oc n k))
      = rowOf L oc (⟨6 + n.val, by omega⟩ : Fin 7) := funext fun k => cut1_apply _ 6 (by decide) rfl L _ oc n k
  rw [e]

/-- and the whole tree. -/
theorem whole_apply (x : FVec Ideal S4x96x224x224 .f32) (L : FVec Ideal S96x7x16 .f32) (I : IVec S96x8 32) (hI : InRange I) (b : Fin 4) (oc : Fin 96) (h w : Fin 112) :
    at1 L (at2 L (at4 L (leaves x I))) (ix4 b oc (0 : Fin 1) (⟨h.val * 112 + w.val, by omega⟩ : Fin 12544)) = value x L I b oc h w := by
  rw [at1_apply, at2_apply, at2_apply, at4_apply, at4_apply, at4_apply, at4_apply]
  simp only [leaves_apply x I hI]
  rfl

/-- The result, laid out as an image. -/
def image (u : FVec Ideal S4x96x1x12544 .f32) : FVec Ideal S4x96x112x112 .f32 :=
  shapeCast S4x96x112x112 (shapeCast S4x96x12544 u shapeCasts_S4x96x1x12544_S4x96x12544) shapeCasts_S4x96x12544_S4x96x112x112

theorem image_apply (u : FVec Ideal S4x96x1x12544 .f32) (b : Fin 4) (oc : Fin 96) (h w : Fin 112) :
    image u (ix4 b oc h w) = u (ix4 b oc (0 : Fin 1) (⟨h.val * 112 + w.val, by omega⟩ : Fin 12544)) := by
  unfold image
  refine (shapeCast_apply _ _ _ (ix3 b oc (⟨h.val * 112 + w.val, by omega⟩ : Fin 12544)) ?_).trans ?_
  · rw [Shape.rowMajor_val_three, Shape.rowMajor_val_four]
    show (b.val * 96 + oc.val) * 12544 + (h.val * 112 + w.val) = ((b.val * 96 + oc.val) * 112 + h.val) * 112 + w.val
    omega
  · refine shapeCast_apply _ _ _ _ ?_
    rw [Shape.rowMajor_val_four, Shape.rowMajor_val_three]
    show ((b.val * 96 + oc.val) * 1 + 0) * 12544 + (h.val * 112 + w.val) = (b.val * 96 + oc.val) * 12544 + (h.val * 112 + w.val)
    omega

/-! ## The run's terms -/

section
variable (V : Valuation τ sig (Elt Ideal))

theorem v27_eq : res_main_v27 V = leaves (V (Proc.devRef .tc main_arg0)) (V (Proc.devRef .tc main_arg2)) := rfl

theorem v28_eq : res_main_v28 V = evens4 (res_main_v27 V) := rfl
theorem v29_eq : res_main_v29 V = odds4 (res_main_v27 V) := rfl
theorem v42_eq : res_main_v42 V = probs4 (extractStridedSlice S96x4x16 ![0, 0, 0] (V (Proc.devRef .tc main_arg1)) slices_S96x7x16_S96x4x16_0_0_0) := rfl
theorem v136_eq : res_main_v136 V = low4 (res_main_v42 V) (res_main_v28 V) (res_main_v29 V) (res_main_v43 V) := rfl
theorem v156_level : res_main_v156 V = level4 (res_main_v42 V) (res_main_v28 V) (res_main_v29 V) (res_main_v43 V) (res_main_v136 V) := rfl

theorem v156_eq : res_main_v156 V = at4 (V (Proc.devRef .tc main_arg1)) (res_main_v27 V) := by
  rw [v156_level, v136_eq, v42_eq]
  unfold res_main_v43
  rw [v28_eq, v29_eq]
  rfl

theorem v157_eq : res_main_v157 V = evens2 (res_main_v156 V) := rfl
theorem v158_eq : res_main_v158 V = odds2 (res_main_v156 V) := rfl
theorem v171_eq : res_main_v171 V = probs2 (extractStridedSlice S96x2x16 ![0, 4, 0] (V (Proc.devRef .tc main_arg1)) slices_S96x7x16_S96x2x16_0_4_0) := rfl
theorem v265_eq : res_main_v265 V = low2 (res_main_v171 V) (res_main_v157 V) (res_main_v158 V) (res_main_v172 V) := rfl
theorem v285_level : res_main_v285 V = level2 (res_main_v171 V) (res_main_v157 V) (res_main_v158 V) (res_main_v172 V) (res_main_v265 V) := rfl

theorem v285_eq : res_main_v285 V = at2 (V (Proc.devRef .tc main_arg1)) (res_main_v156 V) := by
  rw [v285_level, v265_eq, v171_eq]
  unfold res_main_v172
  rw [v157_eq, v158_eq]
  rfl

theorem v286_eq : res_main_v286 V = evens1 (res_main_v285 V) := rfl
theorem v287_eq : res_main_v287 V = odds1 (res_main_v285 V) := rfl
theorem v300_eq : res_main_v300 V = probs1 (extractStridedSlice S96x1x16 ![0, 6, 0] (V (Proc.devRef .tc main_arg1)) slices_S96x7x16_S96x1x16_0_6_0) := rfl
theorem v394_eq : res_main_v394 V = low1 (res_main_v300 V) (res_main_v286 V) (res_main_v287 V) (res_main_v301 V) := rfl

theorem root_eq : level1 (res_main_v300 V) (res_main_v286 V) (res_main_v287 V) (res_main_v301 V) (res_main_v394 V)
    = at1 (V (Proc.devRef .tc main_arg1)) (res_main_v285 V) := by
  rw [v394_eq, v300_eq]
  unfold res_main_v301
  rw [v286_eq, v287_eq]
  rfl

end

variable (m : (ℓ : Loc nD τ sig) → Buf (Elt Ideal) ℓ) (ρ : Dev nD → PrngReg)

/-- The reference's run leaves the tree's value at every place, and its arguments as they were. -/
theorem run_value (hI : ∀ c : Dev nD, InRange (m (c, Proc.tc.devRef main_arg2))) :
    θ_run defs (onTc (τ := τ) (main (F := Ideal))) ⟨m, fun _ => 0, ρ⟩ fun r => ∀ c : Dev nD,
      r.2.mem ((c.tc : Thread nD τ).loc main_v416) = (fun y : S4x96x112x112.Idx =>
        value (m (c, Proc.tc.devRef main_arg0)) (m (c, Proc.tc.devRef main_arg1)) (m (c, Proc.tc.devRef main_arg2)) (y 0) (y 1) (y 2) (y 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run (F := Ideal) m ρ)
  show image (level1 (res_main_v300 (launchContents m c)) (res_main_v286 (launchContents m c)) (res_main_v287 (launchContents m c))
    (res_main_v301 (launchContents m c)) (res_main_v394 (launchContents m c))) = _
  rw [root_eq, v285_eq, v156_eq, v27_eq]
  funext y
  obtain ⟨b, oc, h, w, rfl⟩ : ∃ (a : Fin 4) (b : Fin 96) (d e : Fin 112), y = (ix4 a b d e : S4x96x112x112.Idx) :=
    ⟨y 0, y 1, y 2, y 3, eq_ix4 (n0 := 4) (n1 := 96) (n2 := 112) (n3 := 112) y⟩
  rw [image_apply]
  exact whole_apply _ _ _ (hI c) b oc h w

end Cert.ReferenceIdeal.Tree

end

end
-- ==== Proof.lean ====
module

public import proofs.«01_k».proof.Defs
public import proofs.«01_k».proof.Proof.Host
public import proofs.«01_k».proof.Proof.Bits.Host
public import proofs.«01_k».proof.Proof.Gen.Kernel
public import proofs.«01_k».proof.Proof.Gen.ReferenceIdeal
public import proofs.«01_k».proof.Proof.Gen.ReferenceIdeal.Run
public import proofs.«01_k».proof.Proof.Gen.Pre_indices_in_range
public import proofs.«01_k».proof.Proof.Gen.Pre_finite_in_range
public import proofs.«01_k».proof.Proof.Pre
public import proofs.«01_k».proof.Proof.RefValue

@[expose] public section

noncomputable section

namespace Cert.Proof

open Idealize.ShloMosaic Idealize.ShloMosaic.TcCoe Idealize.SL Idealize.SL.Sem

/-- The kernel on words runs, and leaves its arguments as they were. -/
theorem frame_kernel : Cert.quiescent_Kernel := fun m g h =>
  Cert.Kernel.Tree.frame_run (F := Bits) m g (Cert.Kernel.Tree.lidOk m fun c => Cert.Kernel.Tree.inRange_of_pre (h c))

/-- The kernel on extended reals runs, and leaves its arguments as they were. -/
theorem frame_ideal : Cert.quiescent_KernelIdeal := fun m g h =>
  Cert.KernelIdeal.Tree.frame_run (F := Ideal) m g (Cert.KernelIdeal.Tree.lidOk m fun c => Cert.KernelIdeal.Tree.inRange_of_pre (h c))

/-- The reference runs, and leaves its arguments as they were. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- What the precondition of the values gives on every device. -/
theorem good {m : (ℓ : Loc Cert.KernelIdeal.nD Cert.KernelIdeal.τ Cert.KernelIdeal.sig) → Buf (Elt Ideal) ℓ} (h : Cert.Pre_KernelIdeal_finite_in_range m)
    (c : Dev Cert.KernelIdeal.nD) : Cert.KernelIdeal.Tree.Good m c :=
  have e := of_pre (h c)
  ⟨e.1, e.2.1, e.2.2⟩

/-- The kernel on extended reals runs under the precondition of the values. -/
theorem frame_ideal_finite : Cert.quiescent_KernelIdeal_pre_finite_in_range := fun m g h =>
  Cert.KernelIdeal.Tree.frame_run (F := Ideal) m g (Cert.KernelIdeal.Tree.lidOk m fun c => (good h c).index)

/-- The reference runs under the precondition of the values. -/
theorem frame_reference_finite : Cert.quiescent_ReferenceIdeal_pre_finite_in_range := fun m g _ => frame_reference m g True.intro

/-- Kernel and reference leave the same result: the tree's value at every place. -/
theorem values : Cert.algebraic_KernelIdeal_ReferenceIdeal_pre_finite_in_range := by
  intro m g m' g' h e
  have hg := good h
  have hI : ∀ c : Dev Cert.ReferenceIdeal.nD, Cert.KernelIdeal.Tree.InRange (m' (c, Proc.tc.devRef Cert.ReferenceIdeal.main_arg2)) := fun c i =>
    (congrArg BitVec.toNat (congrFun (e c).2.2 i)).trans_lt ((hg c).index i)
  refine ⟨Cert.KernelIdeal.Tree.result m, Cert.KernelIdeal.Tree.run_value m g hg, ?_⟩
  refine (θ_run Cert.ReferenceIdeal.defs _ _).mono (fun r hr c => ⟨(hr c).1.trans ?_, (hr c).2⟩) (Cert.ReferenceIdeal.Tree.run_value m' g' hI)
  obtain ⟨e0, e1, e2⟩ := e c
  funext y
  have both : ∀ {u u' : Cert.KernelIdeal.S4x96x224x224.Idx → EReal} {L L' : FVec Ideal Cert.KernelIdeal.S96x7x16 .f32} {I I' : IVec Cert.KernelIdeal.S96x8 32},
      u = u' → L = L' → I = I' → ∀ b oc p q, Cert.Gate.value u L I b oc p q = Cert.Gate.value u' L' I' b oc p q := by
    rintro u _ L _ I _ rfl rfl rfl b oc p q
    rfl
  exact both e0 e1 e2 (y 0) (y 1) (y 2) (y 3)

theorem claim : Cert.Claim :=
  ⟨Cert.Kernel.Gen.facts, Cert.KernelIdeal.Gen.facts, Cert.ReferenceIdeal.Gen.facts, Cert.Pre_indices_in_range.Gen.facts, Cert.Pre_finite_in_range.Gen.facts,
    frame_kernel, frame_ideal, frame_ideal_finite, frame_reference, frame_reference_finite, trivial, values⟩

end Cert.Proof

end
